-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite [hPre_finite : Cert.Pre_finite.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite [hPre_finite : Cert.Pre_finite.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_all_finite [hPre_all_finite : Cert.Pre_all_finite.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_all_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9)) (m ((c.tc : Thread Cert.Kernel6Ideal.nD Cert.Kernel6Ideal.τ).loc Cert.Kernel6Ideal.main_arg10)) (m ((c.tc : Thread Cert.Kernel6Ideal.nD Cert.Kernel6Ideal.τ).loc Cert.Kernel6Ideal.main_arg11)) (m ((c.tc : Thread Cert.Kernel6Ideal.nD Cert.Kernel6Ideal.τ).loc Cert.Kernel6Ideal.main_arg12)) (m ((c.tc : Thread Cert.Kernel6Ideal.nD Cert.Kernel6Ideal.τ).loc Cert.Kernel6Ideal.main_arg13)) (m ((c.tc : Thread Cert.Kernel6Ideal.nD Cert.Kernel6Ideal.τ).loc Cert.Kernel6Ideal.main_arg14)) (m ((c.tc : Thread Cert.Kernel6Ideal.nD Cert.Kernel6Ideal.τ).loc Cert.Kernel6Ideal.main_arg15)) (m ((c.tc : Thread Cert.Kernel6Ideal.nD Cert.Kernel6Ideal.τ).loc Cert.Kernel6Ideal.main_arg16)) (m ((c.tc : Thread Cert.Kernel6Ideal.nD Cert.Kernel6Ideal.τ).loc Cert.Kernel6Ideal.main_arg17))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_all_finite [hPre_all_finite : Cert.Pre_all_finite.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_all_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9)) (m ((c.tc : Thread Cert.Reference6Ideal.nD Cert.Reference6Ideal.τ).loc Cert.Reference6Ideal.main_arg10)) (m ((c.tc : Thread Cert.Reference6Ideal.nD Cert.Reference6Ideal.τ).loc Cert.Reference6Ideal.main_arg11)) (m ((c.tc : Thread Cert.Reference6Ideal.nD Cert.Reference6Ideal.τ).loc Cert.Reference6Ideal.main_arg12)) (m ((c.tc : Thread Cert.Reference6Ideal.nD Cert.Reference6Ideal.τ).loc Cert.Reference6Ideal.main_arg13)) (m ((c.tc : Thread Cert.Reference6Ideal.nD Cert.Reference6Ideal.τ).loc Cert.Reference6Ideal.main_arg14)) (m ((c.tc : Thread Cert.Reference6Ideal.nD Cert.Reference6Ideal.τ).loc Cert.Reference6Ideal.main_arg15)) (m ((c.tc : Thread Cert.Reference6Ideal.nD Cert.Reference6Ideal.τ).loc Cert.Reference6Ideal.main_arg16)) (m ((c.tc : Thread Cert.Reference6Ideal.nD Cert.Reference6Ideal.τ).loc Cert.Reference6Ideal.main_arg17))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite_rates [hPre_finite_rates : Cert.Pre_finite_rates.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite_rates.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite_rates [hPre_finite_rates : Cert.Pre_finite_rates.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite_rates.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13)
      ∧ r.2.mem ((c.tc : Thread Cert.Kernel3.nD Cert.Kernel3.τ).loc Cert.Kernel3.main_arg14) = m ((c.tc : Thread Cert.Kernel3.nD Cert.Kernel3.τ).loc Cert.Kernel3.main_arg14)
      ∧ r.2.mem ((c.tc : Thread Cert.Kernel3.nD Cert.Kernel3.τ).loc Cert.Kernel3.main_arg15) = m ((c.tc : Thread Cert.Kernel3.nD Cert.Kernel3.τ).loc Cert.Kernel3.main_arg15)
      ∧ r.2.mem ((c.tc : Thread Cert.Kernel3.nD Cert.Kernel3.τ).loc Cert.Kernel3.main_arg16) = m ((c.tc : Thread Cert.Kernel3.nD Cert.Kernel3.τ).loc Cert.Kernel3.main_arg16)
      ∧ r.2.mem ((c.tc : Thread Cert.Kernel3.nD Cert.Kernel3.τ).loc Cert.Kernel3.main_arg17) = m ((c.tc : Thread Cert.Kernel3.nD Cert.Kernel3.τ).loc Cert.Kernel3.main_arg17))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
      ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15)
      ∧ r.2.mem ((c.tc : Thread Cert.Kernel3Ideal.nD Cert.Kernel3Ideal.τ).loc Cert.Kernel3Ideal.main_arg16) = m ((c.tc : Thread Cert.Kernel3Ideal.nD Cert.Kernel3Ideal.τ).loc Cert.Kernel3Ideal.main_arg16)
      ∧ r.2.mem ((c.tc : Thread Cert.Kernel3Ideal.nD Cert.Kernel3Ideal.τ).loc Cert.Kernel3Ideal.main_arg17) = m ((c.tc : Thread Cert.Kernel3Ideal.nD Cert.Kernel3Ideal.τ).loc Cert.Kernel3Ideal.main_arg17))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14)
      ∧ r.2.mem ((c.tc : Thread Cert.Reference3Ideal.nD Cert.Reference3Ideal.τ).loc Cert.Reference3Ideal.main_arg15) = m ((c.tc : Thread Cert.Reference3Ideal.nD Cert.Reference3Ideal.τ).loc Cert.Reference3Ideal.main_arg15)
      ∧ r.2.mem ((c.tc : Thread Cert.Reference3Ideal.nD Cert.Reference3Ideal.τ).loc Cert.Reference3Ideal.main_arg16) = m ((c.tc : Thread Cert.Reference3Ideal.nD Cert.Reference3Ideal.τ).loc Cert.Reference3Ideal.main_arg16)
      ∧ r.2.mem ((c.tc : Thread Cert.Reference3Ideal.nD Cert.Reference3Ideal.τ).loc Cert.Reference3Ideal.main_arg17) = m ((c.tc : Thread Cert.Reference3Ideal.nD Cert.Reference3Ideal.τ).loc Cert.Reference3Ideal.main_arg17))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Kernel5Ideal_pre_finite [hKernel5Ideal : Cert.Kernel5Ideal.Facts] [hPre_finite : Cert.Pre_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Reference5Ideal_pre_finite [hReference5Ideal : Cert.Reference5Ideal.Facts] [hPre_finite : Cert.Pre_finite.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10)
      ∧ r.2.mem ((c.tc : Thread Cert.Kernel6.nD Cert.Kernel6.τ).loc Cert.Kernel6.main_arg11) = m ((c.tc : Thread Cert.Kernel6.nD Cert.Kernel6.τ).loc Cert.Kernel6.main_arg11)
      ∧ r.2.mem ((c.tc : Thread Cert.Kernel6.nD Cert.Kernel6.τ).loc Cert.Kernel6.main_arg12) = m ((c.tc : Thread Cert.Kernel6.nD Cert.Kernel6.τ).loc Cert.Kernel6.main_arg12)
      ∧ r.2.mem ((c.tc : Thread Cert.Kernel6.nD Cert.Kernel6.τ).loc Cert.Kernel6.main_arg13) = m ((c.tc : Thread Cert.Kernel6.nD Cert.Kernel6.τ).loc Cert.Kernel6.main_arg13)
      ∧ r.2.mem ((c.tc : Thread Cert.Kernel6.nD Cert.Kernel6.τ).loc Cert.Kernel6.main_arg14) = m ((c.tc : Thread Cert.Kernel6.nD Cert.Kernel6.τ).loc Cert.Kernel6.main_arg14)
      ∧ r.2.mem ((c.tc : Thread Cert.Kernel6.nD Cert.Kernel6.τ).loc Cert.Kernel6.main_arg15) = m ((c.tc : Thread Cert.Kernel6.nD Cert.Kernel6.τ).loc Cert.Kernel6.main_arg15)
      ∧ r.2.mem ((c.tc : Thread Cert.Kernel6.nD Cert.Kernel6.τ).loc Cert.Kernel6.main_arg16) = m ((c.tc : Thread Cert.Kernel6.nD Cert.Kernel6.τ).loc Cert.Kernel6.main_arg16)
      ∧ r.2.mem ((c.tc : Thread Cert.Kernel6.nD Cert.Kernel6.τ).loc Cert.Kernel6.main_arg17) = m ((c.tc : Thread Cert.Kernel6.nD Cert.Kernel6.τ).loc Cert.Kernel6.main_arg17))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
      ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
      ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12)
      ∧ r.2.mem ((c.tc : Thread Cert.Kernel6Ideal.nD Cert.Kernel6Ideal.τ).loc Cert.Kernel6Ideal.main_arg13) = m ((c.tc : Thread Cert.Kernel6Ideal.nD Cert.Kernel6Ideal.τ).loc Cert.Kernel6Ideal.main_arg13)
      ∧ r.2.mem ((c.tc : Thread Cert.Kernel6Ideal.nD Cert.Kernel6Ideal.τ).loc Cert.Kernel6Ideal.main_arg14) = m ((c.tc : Thread Cert.Kernel6Ideal.nD Cert.Kernel6Ideal.τ).loc Cert.Kernel6Ideal.main_arg14)
      ∧ r.2.mem ((c.tc : Thread Cert.Kernel6Ideal.nD Cert.Kernel6Ideal.τ).loc Cert.Kernel6Ideal.main_arg15) = m ((c.tc : Thread Cert.Kernel6Ideal.nD Cert.Kernel6Ideal.τ).loc Cert.Kernel6Ideal.main_arg15)
      ∧ r.2.mem ((c.tc : Thread Cert.Kernel6Ideal.nD Cert.Kernel6Ideal.τ).loc Cert.Kernel6Ideal.main_arg16) = m ((c.tc : Thread Cert.Kernel6Ideal.nD Cert.Kernel6Ideal.τ).loc Cert.Kernel6Ideal.main_arg16)
      ∧ r.2.mem ((c.tc : Thread Cert.Kernel6Ideal.nD Cert.Kernel6Ideal.τ).loc Cert.Kernel6Ideal.main_arg17) = m ((c.tc : Thread Cert.Kernel6Ideal.nD Cert.Kernel6Ideal.τ).loc Cert.Kernel6Ideal.main_arg17))
      ∧ r.2.sem = fun _ => 0)

def quiescent_Kernel6Ideal_pre_all_finite [hKernel6Ideal : Cert.Kernel6Ideal.Facts] [hPre_all_finite : Cert.Pre_all_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_all_finite m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
      ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
      ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12)
      ∧ r.2.mem ((c.tc : Thread Cert.Kernel6Ideal.nD Cert.Kernel6Ideal.τ).loc Cert.Kernel6Ideal.main_arg13) = m ((c.tc : Thread Cert.Kernel6Ideal.nD Cert.Kernel6Ideal.τ).loc Cert.Kernel6Ideal.main_arg13)
      ∧ r.2.mem ((c.tc : Thread Cert.Kernel6Ideal.nD Cert.Kernel6Ideal.τ).loc Cert.Kernel6Ideal.main_arg14) = m ((c.tc : Thread Cert.Kernel6Ideal.nD Cert.Kernel6Ideal.τ).loc Cert.Kernel6Ideal.main_arg14)
      ∧ r.2.mem ((c.tc : Thread Cert.Kernel6Ideal.nD Cert.Kernel6Ideal.τ).loc Cert.Kernel6Ideal.main_arg15) = m ((c.tc : Thread Cert.Kernel6Ideal.nD Cert.Kernel6Ideal.τ).loc Cert.Kernel6Ideal.main_arg15)
      ∧ r.2.mem ((c.tc : Thread Cert.Kernel6Ideal.nD Cert.Kernel6Ideal.τ).loc Cert.Kernel6Ideal.main_arg16) = m ((c.tc : Thread Cert.Kernel6Ideal.nD Cert.Kernel6Ideal.τ).loc Cert.Kernel6Ideal.main_arg16)
      ∧ r.2.mem ((c.tc : Thread Cert.Kernel6Ideal.nD Cert.Kernel6Ideal.τ).loc Cert.Kernel6Ideal.main_arg17) = m ((c.tc : Thread Cert.Kernel6Ideal.nD Cert.Kernel6Ideal.τ).loc Cert.Kernel6Ideal.main_arg17))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10)
      ∧ r.2.mem ((c.tc : Thread Cert.Reference6Ideal.nD Cert.Reference6Ideal.τ).loc Cert.Reference6Ideal.main_arg11) = m ((c.tc : Thread Cert.Reference6Ideal.nD Cert.Reference6Ideal.τ).loc Cert.Reference6Ideal.main_arg11)
      ∧ r.2.mem ((c.tc : Thread Cert.Reference6Ideal.nD Cert.Reference6Ideal.τ).loc Cert.Reference6Ideal.main_arg12) = m ((c.tc : Thread Cert.Reference6Ideal.nD Cert.Reference6Ideal.τ).loc Cert.Reference6Ideal.main_arg12)
      ∧ r.2.mem ((c.tc : Thread Cert.Reference6Ideal.nD Cert.Reference6Ideal.τ).loc Cert.Reference6Ideal.main_arg13) = m ((c.tc : Thread Cert.Reference6Ideal.nD Cert.Reference6Ideal.τ).loc Cert.Reference6Ideal.main_arg13)
      ∧ r.2.mem ((c.tc : Thread Cert.Reference6Ideal.nD Cert.Reference6Ideal.τ).loc Cert.Reference6Ideal.main_arg14) = m ((c.tc : Thread Cert.Reference6Ideal.nD Cert.Reference6Ideal.τ).loc Cert.Reference6Ideal.main_arg14)
      ∧ r.2.mem ((c.tc : Thread Cert.Reference6Ideal.nD Cert.Reference6Ideal.τ).loc Cert.Reference6Ideal.main_arg15) = m ((c.tc : Thread Cert.Reference6Ideal.nD Cert.Reference6Ideal.τ).loc Cert.Reference6Ideal.main_arg15)
      ∧ r.2.mem ((c.tc : Thread Cert.Reference6Ideal.nD Cert.Reference6Ideal.τ).loc Cert.Reference6Ideal.main_arg16) = m ((c.tc : Thread Cert.Reference6Ideal.nD Cert.Reference6Ideal.τ).loc Cert.Reference6Ideal.main_arg16)
      ∧ r.2.mem ((c.tc : Thread Cert.Reference6Ideal.nD Cert.Reference6Ideal.τ).loc Cert.Reference6Ideal.main_arg17) = m ((c.tc : Thread Cert.Reference6Ideal.nD Cert.Reference6Ideal.τ).loc Cert.Reference6Ideal.main_arg17))
      ∧ r.2.sem = fun _ => 0)

def quiescent_Reference6Ideal_pre_all_finite [hReference6Ideal : Cert.Reference6Ideal.Facts] [hPre_all_finite : Cert.Pre_all_finite.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_all_finite m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10)
      ∧ r.2.mem ((c.tc : Thread Cert.Reference6Ideal.nD Cert.Reference6Ideal.τ).loc Cert.Reference6Ideal.main_arg11) = m ((c.tc : Thread Cert.Reference6Ideal.nD Cert.Reference6Ideal.τ).loc Cert.Reference6Ideal.main_arg11)
      ∧ r.2.mem ((c.tc : Thread Cert.Reference6Ideal.nD Cert.Reference6Ideal.τ).loc Cert.Reference6Ideal.main_arg12) = m ((c.tc : Thread Cert.Reference6Ideal.nD Cert.Reference6Ideal.τ).loc Cert.Reference6Ideal.main_arg12)
      ∧ r.2.mem ((c.tc : Thread Cert.Reference6Ideal.nD Cert.Reference6Ideal.τ).loc Cert.Reference6Ideal.main_arg13) = m ((c.tc : Thread Cert.Reference6Ideal.nD Cert.Reference6Ideal.τ).loc Cert.Reference6Ideal.main_arg13)
      ∧ r.2.mem ((c.tc : Thread Cert.Reference6Ideal.nD Cert.Reference6Ideal.τ).loc Cert.Reference6Ideal.main_arg14) = m ((c.tc : Thread Cert.Reference6Ideal.nD Cert.Reference6Ideal.τ).loc Cert.Reference6Ideal.main_arg14)
      ∧ r.2.mem ((c.tc : Thread Cert.Reference6Ideal.nD Cert.Reference6Ideal.τ).loc Cert.Reference6Ideal.main_arg15) = m ((c.tc : Thread Cert.Reference6Ideal.nD Cert.Reference6Ideal.τ).loc Cert.Reference6Ideal.main_arg15)
      ∧ r.2.mem ((c.tc : Thread Cert.Reference6Ideal.nD Cert.Reference6Ideal.τ).loc Cert.Reference6Ideal.main_arg16) = m ((c.tc : Thread Cert.Reference6Ideal.nD Cert.Reference6Ideal.τ).loc Cert.Reference6Ideal.main_arg16)
      ∧ r.2.mem ((c.tc : Thread Cert.Reference6Ideal.nD Cert.Reference6Ideal.τ).loc Cert.Reference6Ideal.main_arg17) = m ((c.tc : Thread Cert.Reference6Ideal.nD Cert.Reference6Ideal.τ).loc Cert.Reference6Ideal.main_arg17))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ r.2.sem = fun _ => 0)

def quiescent_Kernel7Ideal_pre_finite_rates [hKernel7Ideal : Cert.Kernel7Ideal.Facts] [hPre_finite_rates : Cert.Pre_finite_rates.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite_rates m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7))
      ∧ r.2.sem = fun _ => 0)

def quiescent_Reference7Ideal_pre_finite_rates [hReference7Ideal : Cert.Reference7Ideal.Facts] [hPre_finite_rates : Cert.Pre_finite_rates.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite_rates m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v32) = v0 c
          ∧ r.2.mem ((c.tc : Thread Cert.Reference2Ideal.nD Cert.Reference2Ideal.τ).loc Cert.Reference2Ideal.main_v33) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)
      ∧ m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)
      ∧ m' ((c.tc : Thread Cert.Reference3Ideal.nD Cert.Reference3Ideal.τ).loc Cert.Reference3Ideal.main_arg15) = m ((c.tc : Thread Cert.Kernel3Ideal.nD Cert.Kernel3Ideal.τ).loc Cert.Kernel3Ideal.main_arg15)
      ∧ m' ((c.tc : Thread Cert.Reference3Ideal.nD Cert.Reference3Ideal.τ).loc Cert.Reference3Ideal.main_arg16) = m ((c.tc : Thread Cert.Kernel3Ideal.nD Cert.Kernel3Ideal.τ).loc Cert.Kernel3Ideal.main_arg16)
      ∧ m' ((c.tc : Thread Cert.Reference3Ideal.nD Cert.Reference3Ideal.τ).loc Cert.Reference3Ideal.main_arg17) = m ((c.tc : Thread Cert.Kernel3Ideal.nD Cert.Kernel3Ideal.τ).loc Cert.Kernel3Ideal.main_arg17)) →
    ∃ (v0 : (c : Dev Cert.Kernel3Ideal.nD) → Buf (Elt Ideal) ((c.tc : Thread Cert.Kernel3Ideal.nD Cert.Kernel3Ideal.τ).loc Cert.Kernel3Ideal.main_v21_0)) (v1 : (c : Dev Cert.Kernel3Ideal.nD) → Buf (Elt Ideal) ((c.tc : Thread Cert.Kernel3Ideal.nD Cert.Kernel3Ideal.τ).loc Cert.Kernel3Ideal.main_v21_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v21_0) = v0 c
          ∧ r.2.mem ((c.tc : Thread Cert.Kernel3Ideal.nD Cert.Kernel3Ideal.τ).loc Cert.Kernel3Ideal.main_v21_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
          ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
          ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15)
          ∧ r.2.mem ((c.tc : Thread Cert.Kernel3Ideal.nD Cert.Kernel3Ideal.τ).loc Cert.Kernel3Ideal.main_arg16) = m ((c.tc : Thread Cert.Kernel3Ideal.nD Cert.Kernel3Ideal.τ).loc Cert.Kernel3Ideal.main_arg16)
          ∧ r.2.mem ((c.tc : Thread Cert.Kernel3Ideal.nD Cert.Kernel3Ideal.τ).loc Cert.Kernel3Ideal.main_arg17) = m ((c.tc : Thread Cert.Kernel3Ideal.nD Cert.Kernel3Ideal.τ).loc Cert.Kernel3Ideal.main_arg17))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v94) = v0 c
          ∧ r.2.mem ((c.tc : Thread Cert.Reference3Ideal.nD Cert.Reference3Ideal.τ).loc Cert.Reference3Ideal.main_v115) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13)
          ∧ r.2.mem ((c.tc : Thread Cert.Reference3Ideal.nD Cert.Reference3Ideal.τ).loc Cert.Reference3Ideal.main_arg14) = m' ((c.tc : Thread Cert.Reference3Ideal.nD Cert.Reference3Ideal.τ).loc Cert.Reference3Ideal.main_arg14)
          ∧ r.2.mem ((c.tc : Thread Cert.Reference3Ideal.nD Cert.Reference3Ideal.τ).loc Cert.Reference3Ideal.main_arg15) = m' ((c.tc : Thread Cert.Reference3Ideal.nD Cert.Reference3Ideal.τ).loc Cert.Reference3Ideal.main_arg15)
          ∧ r.2.mem ((c.tc : Thread Cert.Reference3Ideal.nD Cert.Reference3Ideal.τ).loc Cert.Reference3Ideal.main_arg16) = m' ((c.tc : Thread Cert.Reference3Ideal.nD Cert.Reference3Ideal.τ).loc Cert.Reference3Ideal.main_arg16)
          ∧ r.2.mem ((c.tc : Thread Cert.Reference3Ideal.nD Cert.Reference3Ideal.τ).loc Cert.Reference3Ideal.main_arg17) = m' ((c.tc : Thread Cert.Reference3Ideal.nD Cert.Reference3Ideal.τ).loc Cert.Reference3Ideal.main_arg17))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v29) = v0 c
          ∧ r.2.mem ((c.tc : Thread Cert.Reference4Ideal.nD Cert.Reference4Ideal.τ).loc Cert.Reference4Ideal.main_v30) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal_pre_finite [hKernel5Ideal : Cert.Kernel5Ideal.Facts] [hReference5Ideal : Cert.Reference5Ideal.Facts] [hPre_finite : Cert.Pre_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal_pre_all_finite [hKernel6Ideal : Cert.Kernel6Ideal.Facts] [hReference6Ideal : Cert.Reference6Ideal.Facts] [hPre_all_finite : Cert.Pre_all_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_all_finite m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)
      ∧ m' ((c.tc : Thread Cert.Reference6Ideal.nD Cert.Reference6Ideal.τ).loc Cert.Reference6Ideal.main_arg11) = m ((c.tc : Thread Cert.Kernel6Ideal.nD Cert.Kernel6Ideal.τ).loc Cert.Kernel6Ideal.main_arg11)
      ∧ m' ((c.tc : Thread Cert.Reference6Ideal.nD Cert.Reference6Ideal.τ).loc Cert.Reference6Ideal.main_arg12) = m ((c.tc : Thread Cert.Kernel6Ideal.nD Cert.Kernel6Ideal.τ).loc Cert.Kernel6Ideal.main_arg12)
      ∧ m' ((c.tc : Thread Cert.Reference6Ideal.nD Cert.Reference6Ideal.τ).loc Cert.Reference6Ideal.main_arg13) = m ((c.tc : Thread Cert.Kernel6Ideal.nD Cert.Kernel6Ideal.τ).loc Cert.Kernel6Ideal.main_arg13)
      ∧ m' ((c.tc : Thread Cert.Reference6Ideal.nD Cert.Reference6Ideal.τ).loc Cert.Reference6Ideal.main_arg14) = m ((c.tc : Thread Cert.Kernel6Ideal.nD Cert.Kernel6Ideal.τ).loc Cert.Kernel6Ideal.main_arg14)
      ∧ m' ((c.tc : Thread Cert.Reference6Ideal.nD Cert.Reference6Ideal.τ).loc Cert.Reference6Ideal.main_arg15) = m ((c.tc : Thread Cert.Kernel6Ideal.nD Cert.Kernel6Ideal.τ).loc Cert.Kernel6Ideal.main_arg15)
      ∧ m' ((c.tc : Thread Cert.Reference6Ideal.nD Cert.Reference6Ideal.τ).loc Cert.Reference6Ideal.main_arg16) = m ((c.tc : Thread Cert.Kernel6Ideal.nD Cert.Kernel6Ideal.τ).loc Cert.Kernel6Ideal.main_arg16)
      ∧ m' ((c.tc : Thread Cert.Reference6Ideal.nD Cert.Reference6Ideal.τ).loc Cert.Reference6Ideal.main_arg17) = m ((c.tc : Thread Cert.Kernel6Ideal.nD Cert.Kernel6Ideal.τ).loc Cert.Kernel6Ideal.main_arg17)) →
    ∃ (v0 : (c : Dev Cert.Kernel6Ideal.nD) → Buf (Elt Ideal) ((c.tc : Thread Cert.Kernel6Ideal.nD Cert.Kernel6Ideal.τ).loc Cert.Kernel6Ideal.main_v21_2)) (v1 : (c : Dev Cert.Kernel6Ideal.nD) → Buf (Elt Ideal) ((c.tc : Thread Cert.Kernel6Ideal.nD Cert.Kernel6Ideal.τ).loc Cert.Kernel6Ideal.main_v21_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v21_2) = v0 c
          ∧ r.2.mem ((c.tc : Thread Cert.Kernel6Ideal.nD Cert.Kernel6Ideal.τ).loc Cert.Kernel6Ideal.main_v21_3) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
          ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
          ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12)
          ∧ r.2.mem ((c.tc : Thread Cert.Kernel6Ideal.nD Cert.Kernel6Ideal.τ).loc Cert.Kernel6Ideal.main_arg13) = m ((c.tc : Thread Cert.Kernel6Ideal.nD Cert.Kernel6Ideal.τ).loc Cert.Kernel6Ideal.main_arg13)
          ∧ r.2.mem ((c.tc : Thread Cert.Kernel6Ideal.nD Cert.Kernel6Ideal.τ).loc Cert.Kernel6Ideal.main_arg14) = m ((c.tc : Thread Cert.Kernel6Ideal.nD Cert.Kernel6Ideal.τ).loc Cert.Kernel6Ideal.main_arg14)
          ∧ r.2.mem ((c.tc : Thread Cert.Kernel6Ideal.nD Cert.Kernel6Ideal.τ).loc Cert.Kernel6Ideal.main_arg15) = m ((c.tc : Thread Cert.Kernel6Ideal.nD Cert.Kernel6Ideal.τ).loc Cert.Kernel6Ideal.main_arg15)
          ∧ r.2.mem ((c.tc : Thread Cert.Kernel6Ideal.nD Cert.Kernel6Ideal.τ).loc Cert.Kernel6Ideal.main_arg16) = m ((c.tc : Thread Cert.Kernel6Ideal.nD Cert.Kernel6Ideal.τ).loc Cert.Kernel6Ideal.main_arg16)
          ∧ r.2.mem ((c.tc : Thread Cert.Kernel6Ideal.nD Cert.Kernel6Ideal.τ).loc Cert.Kernel6Ideal.main_arg17) = m ((c.tc : Thread Cert.Kernel6Ideal.nD Cert.Kernel6Ideal.τ).loc Cert.Kernel6Ideal.main_arg17))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v190) = v0 c
          ∧ r.2.mem ((c.tc : Thread Cert.Reference6Ideal.nD Cert.Reference6Ideal.τ).loc Cert.Reference6Ideal.main_v192) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10)
          ∧ r.2.mem ((c.tc : Thread Cert.Reference6Ideal.nD Cert.Reference6Ideal.τ).loc Cert.Reference6Ideal.main_arg11) = m' ((c.tc : Thread Cert.Reference6Ideal.nD Cert.Reference6Ideal.τ).loc Cert.Reference6Ideal.main_arg11)
          ∧ r.2.mem ((c.tc : Thread Cert.Reference6Ideal.nD Cert.Reference6Ideal.τ).loc Cert.Reference6Ideal.main_arg12) = m' ((c.tc : Thread Cert.Reference6Ideal.nD Cert.Reference6Ideal.τ).loc Cert.Reference6Ideal.main_arg12)
          ∧ r.2.mem ((c.tc : Thread Cert.Reference6Ideal.nD Cert.Reference6Ideal.τ).loc Cert.Reference6Ideal.main_arg13) = m' ((c.tc : Thread Cert.Reference6Ideal.nD Cert.Reference6Ideal.τ).loc Cert.Reference6Ideal.main_arg13)
          ∧ r.2.mem ((c.tc : Thread Cert.Reference6Ideal.nD Cert.Reference6Ideal.τ).loc Cert.Reference6Ideal.main_arg14) = m' ((c.tc : Thread Cert.Reference6Ideal.nD Cert.Reference6Ideal.τ).loc Cert.Reference6Ideal.main_arg14)
          ∧ r.2.mem ((c.tc : Thread Cert.Reference6Ideal.nD Cert.Reference6Ideal.τ).loc Cert.Reference6Ideal.main_arg15) = m' ((c.tc : Thread Cert.Reference6Ideal.nD Cert.Reference6Ideal.τ).loc Cert.Reference6Ideal.main_arg15)
          ∧ r.2.mem ((c.tc : Thread Cert.Reference6Ideal.nD Cert.Reference6Ideal.τ).loc Cert.Reference6Ideal.main_arg16) = m' ((c.tc : Thread Cert.Reference6Ideal.nD Cert.Reference6Ideal.τ).loc Cert.Reference6Ideal.main_arg16)
          ∧ r.2.mem ((c.tc : Thread Cert.Reference6Ideal.nD Cert.Reference6Ideal.τ).loc Cert.Reference6Ideal.main_arg17) = m' ((c.tc : Thread Cert.Reference6Ideal.nD Cert.Reference6Ideal.τ).loc Cert.Reference6Ideal.main_arg17))

def preserves_Kernel7_Kernel7Ideal : Prop :=
  True

def algebraic_Kernel7Ideal_Reference7Ideal_pre_finite_rates [hKernel7Ideal : Cert.Kernel7Ideal.Facts] [hReference7Ideal : Cert.Reference7Ideal.Facts] [hPre_finite_rates : Cert.Pre_finite_rates.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite_rates m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)) →
    ∃ (v0 : (c : Dev Cert.Kernel7Ideal.nD) → Buf (Elt Ideal) ((c.tc : Thread Cert.Kernel7Ideal.nD Cert.Kernel7Ideal.τ).loc Cert.Kernel7Ideal.main_v38_2)) (v1 : (c : Dev Cert.Kernel7Ideal.nD) → Buf (Elt Ideal) ((c.tc : Thread Cert.Kernel7Ideal.nD Cert.Kernel7Ideal.τ).loc Cert.Kernel7Ideal.main_v38_3)) (v2 : (c : Dev Cert.Kernel7Ideal.nD) → Buf (Elt Ideal) ((c.tc : Thread Cert.Kernel7Ideal.nD Cert.Kernel7Ideal.τ).loc Cert.Kernel7Ideal.main_v38_4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v38_2) = v0 c
          ∧ r.2.mem ((c.tc : Thread Cert.Kernel7Ideal.nD Cert.Kernel7Ideal.τ).loc Cert.Kernel7Ideal.main_v38_3) = v1 c
          ∧ r.2.mem ((c.tc : Thread Cert.Kernel7Ideal.nD Cert.Kernel7Ideal.τ).loc Cert.Kernel7Ideal.main_v38_4) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v67) = v0 c
          ∧ r.2.mem ((c.tc : Thread Cert.Reference7Ideal.nD Cert.Reference7Ideal.τ).loc Cert.Reference7Ideal.main_v73) = v1 c
          ∧ r.2.mem ((c.tc : Thread Cert.Reference7Ideal.nD Cert.Reference7Ideal.τ).loc Cert.Reference7Ideal.main_v79) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_in_range : Cert.Pre_in_range.Facts) (hPre_finite : Cert.Pre_finite.Facts) (hPre_all_finite : Cert.Pre_all_finite.Facts) (hPre_finite_rates : Cert.Pre_finite_rates.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal) (hPre_in_range := hPre_in_range)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite (hKernel5Ideal := hKernel5Ideal) (hPre_finite := hPre_finite)
    ∧ quiescent_Reference5Ideal (hReference5Ideal := hReference5Ideal)
    ∧ quiescent_Reference5Ideal_pre_finite (hReference5Ideal := hReference5Ideal) (hPre_finite := hPre_finite)
    ∧ quiescent_Kernel6 (hKernel6 := hKernel6)
    ∧ quiescent_Kernel6Ideal (hKernel6Ideal := hKernel6Ideal)
    ∧ quiescent_Kernel6Ideal_pre_all_finite (hKernel6Ideal := hKernel6Ideal) (hPre_all_finite := hPre_all_finite)
    ∧ quiescent_Reference6Ideal (hReference6Ideal := hReference6Ideal)
    ∧ quiescent_Reference6Ideal_pre_all_finite (hReference6Ideal := hReference6Ideal) (hPre_all_finite := hPre_all_finite)
    ∧ quiescent_Kernel7 (hKernel7 := hKernel7)
    ∧ quiescent_Kernel7Ideal (hKernel7Ideal := hKernel7Ideal)
    ∧ quiescent_Kernel7Ideal_pre_finite_rates (hKernel7Ideal := hKernel7Ideal) (hPre_finite_rates := hPre_finite_rates)
    ∧ quiescent_Reference7Ideal (hReference7Ideal := hReference7Ideal)
    ∧ quiescent_Reference7Ideal_pre_finite_rates (hReference7Ideal := hReference7Ideal) (hPre_finite_rates := hPre_finite_rates)
    ∧ preserves_Kernel_KernelIdeal
    ∧ algebraic_KernelIdeal_ReferenceIdeal (hKernelIdeal := hKernelIdeal) (hReferenceIdeal := hReferenceIdeal) (hPre_in_range := hPre_in_range)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite (hKernel5Ideal := hKernel5Ideal) (hReference5Ideal := hReference5Ideal) (hPre_finite := hPre_finite)
    ∧ preserves_Kernel6_Kernel6Ideal
    ∧ algebraic_Kernel6Ideal_Reference6Ideal_pre_all_finite (hKernel6Ideal := hKernel6Ideal) (hReference6Ideal := hReference6Ideal) (hPre_all_finite := hPre_all_finite)
    ∧ preserves_Kernel7_Kernel7Ideal
    ∧ algebraic_Kernel7Ideal_Reference7Ideal_pre_finite_rates (hKernel7Ideal := hKernel7Ideal) (hReference7Ideal := hReference7Ideal) (hPre_finite_rates := hPre_finite_rates)
-- ==== Pre_all_finite.lean ====
abbrev S16x256x1024 : Shape := ⟨3, ![16, 256, 1024]⟩
abbrev S8x1024x1024 : Shape := ⟨3, ![8, 1024, 1024]⟩
abbrev S1024x1024 : Shape := ⟨2, ![1024, 1024]⟩
abbrev S4096x512 : Shape := ⟨2, ![4096, 512]⟩
abbrev S8192x512 : Shape := ⟨2, ![8192, 512]⟩
abbrev S16x6144 : Shape := ⟨2, ![16, 6144]⟩
abbrev S512x512 : Shape := ⟨2, ![512, 512]⟩
abbrev S512 : Shape := ⟨1, ![512]⟩
abbrev S1024 : Shape := ⟨1, ![1024]⟩
abbrev S1024x4 : Shape := ⟨2, ![1024, 4]⟩
abbrev S4 : Shape := ⟨1, ![4]⟩
abbrev S4x1024x4 : Shape := ⟨3, ![4, 1024, 4]⟩
abbrev S4x4 : Shape := ⟨2, ![4, 4]⟩
abbrev S_ : Shape := ⟨0, ![]⟩

class Facts : Prop where
  bcast_S_S16x256x1024 : S_.BroadcastsInDim S16x256x1024 (![] : Fin 0 → Fin S16x256x1024.rank)
  reducesTo_S16x256x1024_S_d0_1_2 : S16x256x1024.ReducesTo [0, 1, 2] S_
  h_S_ : 0 < S_.numel
  bcast_S_S8x1024x1024 : S_.BroadcastsInDim S8x1024x1024 (![] : Fin 0 → Fin S8x1024x1024.rank)
  reducesTo_S8x1024x1024_S_d0_1_2 : S8x1024x1024.ReducesTo [0, 1, 2] S_
  bcast_S_S1024x1024 : S_.BroadcastsInDim S1024x1024 (![] : Fin 0 → Fin S1024x1024.rank)
  reducesTo_S1024x1024_S_d0_1 : S1024x1024.ReducesTo [0, 1] S_
  bcast_S_S4096x512 : S_.BroadcastsInDim S4096x512 (![] : Fin 0 → Fin S4096x512.rank)
  reducesTo_S4096x512_S_d0_1 : S4096x512.ReducesTo [0, 1] S_
  bcast_S_S8192x512 : S_.BroadcastsInDim S8192x512 (![] : Fin 0 → Fin S8192x512.rank)
  reducesTo_S8192x512_S_d0_1 : S8192x512.ReducesTo [0, 1] S_
  bcast_S_S16x6144 : S_.BroadcastsInDim S16x6144 (![] : Fin 0 → Fin S16x6144.rank)
  reducesTo_S16x6144_S_d0_1 : S16x6144.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S1024 : S_.BroadcastsInDim S1024 (![] : Fin 0 → Fin S1024.rank)
  reducesTo_S1024_S_d0 : S1024.ReducesTo [0] S_
  bcast_S_S1024x4 : S_.BroadcastsInDim S1024x4 (![] : Fin 0 → Fin S1024x4.rank)
  reducesTo_S1024x4_S_d0_1 : S1024x4.ReducesTo [0, 1] S_
  bcast_S_S4 : S_.BroadcastsInDim S4 (![] : Fin 0 → Fin S4.rank)
  reducesTo_S4_S_d0 : S4.ReducesTo [0] S_
  bcast_S_S4x1024x4 : S_.BroadcastsInDim S4x1024x4 (![] : Fin 0 → Fin S4x1024x4.rank)
  reducesTo_S4x1024x4_S_d0_1_2 : S4x1024x4.ReducesTo [0, 1, 2] S_
  bcast_S_S4x4 : S_.BroadcastsInDim S4x4 (![] : Fin 0 → Fin S4x4.rank)
  reducesTo_S4x4_S_d0_1 : S4x4.ReducesTo [0, 1] S_

variable [Facts]

def fn_part5 {F : FTy → Type} [FloatOps F] (main_v13 : IVec S_ 1) (main_v32 : IVec S_ 1) (main_v46 : IVec S_ 1) (main_v65 : IVec S_ 1) (main_v79 : IVec S_ 1) (main_v83 : IVec S_ 1) : IVec S_ 1 :=
  let main_v84 : IVec S_ 1 := andi main_v79 main_v83
  let main_v85 : IVec S_ 1 := andi main_v13 main_v32
  let main_v86 : IVec S_ 1 := andi main_v85 main_v46
  let main_v87 : IVec S_ 1 := andi main_v86 main_v65
  let main_v88 : IVec S_ 1 := andi main_v87 main_v84
  main_v88

def fn_part4 {F : FTy → Type} [FloatOps F] (main_arg15 : FVec F S4 .f32) (main_arg16 : FVec F S4x1024x4 .f32) (main_arg17 : FVec F S4x4 .f32) (main_v13 : IVec S_ 1) (main_v32 : IVec S_ 1) (main_v46 : IVec S_ 1) (main_v65 : IVec S_ 1) (main_v66 : FVec F S1024x4 .f32) (main_cst_26 : FVec F S_ .f32) : IVec S_ 1 :=
  let main_v67 : FVec F S1024x4 .f32 := broadcastInDim S1024x4 ![] bcast_S_S1024x4 main_cst_26
  let main_v68 : IVec S1024x4 1 := cmpf .olt main_v66 main_v67
  let main_c_27 : IVec S_ 1 := constantI S_ 1 1#1
  let main_v69 : IVec S_ 1 := (fun x v => Host.reduce IntOp.andi x v reducesTo_S1024x4_S_d0_1 h_S_) main_v68 main_c_27
  let main_v70 : FVec F S4 .f32 := Host.absf main_arg15
  let main_cst_28 : FVec F S_ .f32 := constant S_ .f32 0x7F800000#32
  let main_v71 : FVec F S4 .f32 := broadcastInDim S4 ![] bcast_S_S4 main_cst_28
  let main_v72 : IVec S4 1 := cmpf .olt main_v70 main_v71
  let main_c_29 : IVec S_ 1 := constantI S_ 1 1#1
  let main_v73 : IVec S_ 1 := (fun x v => Host.reduce IntOp.andi x v reducesTo_S4_S_d0 h_S_) main_v72 main_c_29
  let main_v74 : IVec S_ 1 := andi main_v69 main_v73
  let main_v75 : FVec F S4x1024x4 .f32 := Host.absf main_arg16
  let main_cst_30 : FVec F S_ .f32 := constant S_ .f32 0x7F800000#32
  let main_v76 : FVec F S4x1024x4 .f32 := broadcastInDim S4x1024x4 ![] bcast_S_S4x1024x4 main_cst_30
  let main_v77 : IVec S4x1024x4 1 := cmpf .olt main_v75 main_v76
  let main_c_31 : IVec S_ 1 := constantI S_ 1 1#1
  let main_v78 : IVec S_ 1 := (fun x v => Host.reduce IntOp.andi x v reducesTo_S4x1024x4_S_d0_1_2 h_S_) main_v77 main_c_31
  let main_v79 : IVec S_ 1 := andi main_v74 main_v78
  let main_v80 : FVec F S4x4 .f32 := Host.absf main_arg17
  let main_cst_32 : FVec F S_ .f32 := constant S_ .f32 0x7F800000#32
  let main_v81 : FVec F S4x4 .f32 := broadcastInDim S4x4 ![] bcast_S_S4x4 main_cst_32
  let main_v82 : IVec S4x4 1 := cmpf .olt main_v80 main_v81
  let main_c_33 : IVec S_ 1 := constantI S_ 1 1#1
  let main_v83 : IVec S_ 1 := (fun x v => Host.reduce IntOp.andi x v reducesTo_S4x4_S_d0_1 h_S_) main_v82 main_c_33
  fn_part5 (F := F) main_v13 main_v32 main_v46 main_v65 main_v79 main_v83

def fn_part3 {F : FTy → Type} [FloatOps F] (main_arg11 : FVec F S1024x1024 .f32) (main_arg12 : FVec F S1024 .f32) (main_arg13 : FVec F S1024 .f32) (main_arg14 : FVec F S1024x4 .f32) (main_arg15 : FVec F S4 .f32) (main_arg16 : FVec F S4x1024x4 .f32) (main_arg17 : FVec F S4x4 .f32) (main_v13 : IVec S_ 1) (main_v32 : IVec S_ 1) (main_v46 : IVec S_ 1) (main_v49 : IVec S1024 1) (main_c_19 : IVec S_ 1) : IVec S_ 1 :=
  let main_v50 : IVec S_ 1 := (fun x v => Host.reduce IntOp.andi x v reducesTo_S1024_S_d0 h_S_) main_v49 main_c_19
  let main_v51 : FVec F S1024x1024 .f32 := Host.absf main_arg11
  let main_cst_20 : FVec F S_ .f32 := constant S_ .f32 0x7F800000#32
  let main_v52 : FVec F S1024x1024 .f32 := broadcastInDim S1024x1024 ![] bcast_S_S1024x1024 main_cst_20
  let main_v53 : IVec S1024x1024 1 := cmpf .olt main_v51 main_v52
  let main_c_21 : IVec S_ 1 := constantI S_ 1 1#1
  let main_v54 : IVec S_ 1 := (fun x v => Host.reduce IntOp.andi x v reducesTo_S1024x1024_S_d0_1 h_S_) main_v53 main_c_21
  let main_v55 : IVec S_ 1 := andi main_v50 main_v54
  let main_v56 : FVec F S1024 .f32 := Host.absf main_arg12
  let main_cst_22 : FVec F S_ .f32 := constant S_ .f32 0x7F800000#32
  let main_v57 : FVec F S1024 .f32 := broadcastInDim S1024 ![] bcast_S_S1024 main_cst_22
  let main_v58 : IVec S1024 1 := cmpf .olt main_v56 main_v57
  let main_c_23 : IVec S_ 1 := constantI S_ 1 1#1
  let main_v59 : IVec S_ 1 := (fun x v => Host.reduce IntOp.andi x v reducesTo_S1024_S_d0 h_S_) main_v58 main_c_23
  let main_v60 : IVec S_ 1 := andi main_v55 main_v59
  let main_v61 : FVec F S1024 .f32 := Host.absf main_arg13
  let main_cst_24 : FVec F S_ .f32 := constant S_ .f32 0x7F800000#32
  let main_v62 : FVec F S1024 .f32 := broadcastInDim S1024 ![] bcast_S_S1024 main_cst_24
  let main_v63 : IVec S1024 1 := cmpf .olt main_v61 main_v62
  let main_c_25 : IVec S_ 1 := constantI S_ 1 1#1
  let main_v64 : IVec S_ 1 := (fun x v => Host.reduce IntOp.andi x v reducesTo_S1024_S_d0 h_S_) main_v63 main_c_25
  let main_v65 : IVec S_ 1 := andi main_v60 main_v64
  let main_v66 : FVec F S1024x4 .f32 := Host.absf main_arg14
  let main_cst_26 : FVec F S_ .f32 := constant S_ .f32 0x7F800000#32
  fn_part4 (F := F) main_arg15 main_arg16 main_arg17 main_v13 main_v32 main_v46 main_v65 main_v66 main_cst_26

def fn_part2 {F : FTy → Type} [FloatOps F] (main_arg8 : FVec F S512x512 .f32) (main_arg9 : FVec F S512 .f32) (main_arg10 : FVec F S1024 .f32) (main_arg11 : FVec F S1024x1024 .f32) (main_arg12 : FVec F S1024 .f32) (main_arg13 : FVec F S1024 .f32) (main_arg14 : FVec F S1024x4 .f32) (main_arg15 : FVec F S4 .f32) (main_arg16 : FVec F S4x1024x4 .f32) (main_arg17 : FVec F S4x4 .f32) (main_v13 : IVec S_ 1) (main_v32 : IVec S_ 1) (main_v33 : FVec F S16x6144 .f32) : IVec S_ 1 :=
  let main_cst_12 : FVec F S_ .f32 := constant S_ .f32 0x7F800000#32
  let main_v34 : FVec F S16x6144 .f32 := broadcastInDim S16x6144 ![] bcast_S_S16x6144 main_cst_12
  let main_v35 : IVec S16x6144 1 := cmpf .olt main_v33 main_v34
  let main_c_13 : IVec S_ 1 := constantI S_ 1 1#1
  let main_v36 : IVec S_ 1 := (fun x v => Host.reduce IntOp.andi x v reducesTo_S16x6144_S_d0_1 h_S_) main_v35 main_c_13
  let main_v37 : FVec F S512x512 .f32 := Host.absf main_arg8
  let main_cst_14 : FVec F S_ .f32 := constant S_ .f32 0x7F800000#32
  let main_v38 : FVec F S512x512 .f32 := broadcastInDim S512x512 ![] bcast_S_S512x512 main_cst_14
  let main_v39 : IVec S512x512 1 := cmpf .olt main_v37 main_v38
  let main_c_15 : IVec S_ 1 := constantI S_ 1 1#1
  let main_v40 : IVec S_ 1 := (fun x v => Host.reduce IntOp.andi x v reducesTo_S512x512_S_d0_1 h_S_) main_v39 main_c_15
  let main_v41 : IVec S_ 1 := andi main_v36 main_v40
  let main_v42 : FVec F S512 .f32 := Host.absf main_arg9
  let main_cst_16 : FVec F S_ .f32 := constant S_ .f32 0x7F800000#32
  let main_v43 : FVec F S512 .f32 := broadcastInDim S512 ![] bcast_S_S512 main_cst_16
  let main_v44 : IVec S512 1 := cmpf .olt main_v42 main_v43
  let main_c_17 : IVec S_ 1 := constantI S_ 1 1#1
  let main_v45 : IVec S_ 1 := (fun x v => Host.reduce IntOp.andi x v reducesTo_S512_S_d0 h_S_) main_v44 main_c_17
  let main_v46 : IVec S_ 1 := andi main_v41 main_v45
  let main_v47 : FVec F S1024 .f32 := Host.absf main_arg10
  let main_cst_18 : FVec F S_ .f32 := constant S_ .f32 0x7F800000#32
  let main_v48 : FVec F S1024 .f32 := broadcastInDim S1024 ![] bcast_S_S1024 main_cst_18
  let main_v49 : IVec S1024 1 := cmpf .olt main_v47 main_v48
  let main_c_19 : IVec S_ 1 := constantI S_ 1 1#1
  fn_part3 (F := F) main_arg11 main_arg12 main_arg13 main_arg14 main_arg15 main_arg16 main_arg17 main_v13 main_v32 main_v46 main_v49 main_c_19

def fn_part1 {F : FTy → Type} [FloatOps F] (main_arg4 : FVec F S8192x512 .f32) (main_arg5 : FVec F S4096x512 .f32) (main_arg6 : FVec F S8192x512 .f32) (main_arg7 : FVec F S16x6144 .f32) (main_arg8 : FVec F S512x512 .f32) (main_arg9 : FVec F S512 .f32) (main_arg10 : FVec F S1024 .f32) (main_arg11 : FVec F S1024x1024 .f32) (main_arg12 : FVec F S1024 .f32) (main_arg13 : FVec F S1024 .f32) (main_arg14 : FVec F S1024x4 .f32) (main_arg15 : FVec F S4 .f32) (main_arg16 : FVec F S4x1024x4 .f32) (main_arg17 : FVec F S4x4 .f32) (main_v13 : IVec S_ 1) (main_v16 : IVec S4096x512 1) : IVec S_ 1 :=
  let main_c_5 : IVec S_ 1 := constantI S_ 1 1#1
  let main_v17 : IVec S_ 1 := (fun x v => Host.reduce IntOp.andi x v reducesTo_S4096x512_S_d0_1 h_S_) main_v16 main_c_5
  let main_v18 : FVec F S8192x512 .f32 := Host.absf main_arg4
  let main_cst_6 : FVec F S_ .f32 := constant S_ .f32 0x7F800000#32
  let main_v19 : FVec F S8192x512 .f32 := broadcastInDim S8192x512 ![] bcast_S_S8192x512 main_cst_6
  let main_v20 : IVec S8192x512 1 := cmpf .olt main_v18 main_v19
  let main_c_7 : IVec S_ 1 := constantI S_ 1 1#1
  let main_v21 : IVec S_ 1 := (fun x v => Host.reduce IntOp.andi x v reducesTo_S8192x512_S_d0_1 h_S_) main_v20 main_c_7
  let main_v22 : IVec S_ 1 := andi main_v17 main_v21
  let main_v23 : FVec F S4096x512 .f32 := Host.absf main_arg5
  let main_cst_8 : FVec F S_ .f32 := constant S_ .f32 0x7F800000#32
  let main_v24 : FVec F S4096x512 .f32 := broadcastInDim S4096x512 ![] bcast_S_S4096x512 main_cst_8
  let main_v25 : IVec S4096x512 1 := cmpf .olt main_v23 main_v24
  let main_c_9 : IVec S_ 1 := constantI S_ 1 1#1
  let main_v26 : IVec S_ 1 := (fun x v => Host.reduce IntOp.andi x v reducesTo_S4096x512_S_d0_1 h_S_) main_v25 main_c_9
  let main_v27 : IVec S_ 1 := andi main_v22 main_v26
  let main_v28 : FVec F S8192x512 .f32 := Host.absf main_arg6
  let main_cst_10 : FVec F S_ .f32 := constant S_ .f32 0x7F800000#32
  let main_v29 : FVec F S8192x512 .f32 := broadcastInDim S8192x512 ![] bcast_S_S8192x512 main_cst_10
  let main_v30 : IVec S8192x512 1 := cmpf .olt main_v28 main_v29
  let main_c_11 : IVec S_ 1 := constantI S_ 1 1#1
  let main_v31 : IVec S_ 1 := (fun x v => Host.reduce IntOp.andi x v reducesTo_S8192x512_S_d0_1 h_S_) main_v30 main_c_11
  let main_v32 : IVec S_ 1 := andi main_v27 main_v31
  let main_v33 : FVec F S16x6144 .f32 := Host.absf main_arg7
  fn_part2 (F := F) main_arg8 main_arg9 main_arg10 main_arg11 main_arg12 main_arg13 main_arg14 main_arg15 main_arg16 main_arg17 main_v13 main_v32 main_v33

def fn {F : FTy → Type} [FloatOps F] (main_arg0 : FVec F S16x256x1024 .f32) (main_arg1 : FVec F S8x1024x1024 .f32) (main_arg2 : FVec F S1024x1024 .f32) (main_arg3 : FVec F S4096x512 .f32) (main_arg4 : FVec F S8192x512 .f32) (main_arg5 : FVec F S4096x512 .f32) (main_arg6 : FVec F S8192x512 .f32) (main_arg7 : FVec F S16x6144 .f32) (main_arg8 : FVec F S512x512 .f32) (main_arg9 : FVec F S512 .f32) (main_arg10 : FVec F S1024 .f32) (main_arg11 : FVec F S1024x1024 .f32) (main_arg12 : FVec F S1024 .f32) (main_arg13 : FVec F S1024 .f32) (main_arg14 : FVec F S1024x4 .f32) (main_arg15 : FVec F S4 .f32) (main_arg16 : FVec F S4x1024x4 .f32) (main_arg17 : FVec F S4x4 .f32) : IVec S_ 1 :=
  let main_v0 : FVec F S16x256x1024 .f32 := Host.absf main_arg0
  let main_cst : FVec F S_ .f32 := constant S_ .f32 0x7F800000#32
  let main_v1 : FVec F S16x256x1024 .f32 := broadcastInDim S16x256x1024 ![] bcast_S_S16x256x1024 main_cst
  let main_v2 : IVec S16x256x1024 1 := cmpf .olt main_v0 main_v1
  let main_c : IVec S_ 1 := constantI S_ 1 1#1
  let main_v3 : IVec S_ 1 := (fun x v => Host.reduce IntOp.andi x v reducesTo_S16x256x1024_S_d0_1_2 h_S_) main_v2 main_c
  let main_v4 : FVec F S8x1024x1024 .f32 := Host.absf main_arg1
  let main_cst_0 : FVec F S_ .f32 := constant S_ .f32 0x7F800000#32
  let main_v5 : FVec F S8x1024x1024 .f32 := broadcastInDim S8x1024x1024 ![] bcast_S_S8x1024x1024 main_cst_0
  let main_v6 : IVec S8x1024x1024 1 := cmpf .olt main_v4 main_v5
  let main_c_1 : IVec S_ 1 := constantI S_ 1 1#1
  let main_v7 : IVec S_ 1 := (fun x v => Host.reduce IntOp.andi x v reducesTo_S8x1024x1024_S_d0_1_2 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S4096x512 .f32 := Host.absf main_arg3
  let main_cst_4 : FVec F S_ .f32 := constant S_ .f32 0x7F800000#32
  let main_v15 : FVec F S4096x512 .f32 := broadcastInDim S4096x512 ![] bcast_S_S4096x512 main_cst_4
  let main_v16 : IVec S4096x512 1 := cmpf .olt main_v14 main_v15
  fn_part1 (F := F) main_arg4 main_arg5 main_arg6 main_arg7 main_arg8 main_arg9 main_arg10 main_arg11 main_arg12 main_arg13 main_arg14 main_arg15 main_arg16 main_arg17 main_v13 main_v16
-- ==== Pre_finite.lean ====
abbrev S16x1024 : Shape := ⟨2, ![16, 1024]⟩
abbrev S1024x6144 : Shape := ⟨2, ![1024, 6144]⟩
abbrev S6144 : Shape := ⟨1, ![6144]⟩
abbrev S_ : Shape := ⟨0, ![]⟩

class Facts : Prop where
  bcast_S_S16x1024 : S_.BroadcastsInDim S16x1024 (![] : Fin 0 → Fin S16x1024.rank)
  reducesTo_S16x1024_S_d0_1 : S16x1024.ReducesTo [0, 1] S_
  h_S_ : 0 < S_.numel
  bcast_S_S1024x6144 : S_.BroadcastsInDim S1024x6144 (![] : Fin 0 → Fin S1024x6144.rank)
  reducesTo_S1024x6144_S_d0_1 : S1024x6144.ReducesTo [0, 1] S_

variable [Facts]

def fn {F : FTy → Type} [FloatOps F] (main_arg0 : FVec F S16x1024 .f32) (main_arg1 : FVec F S1024x6144 .f32) (main_arg2 : FVec F S6144 .f32) : IVec S_ 1 :=
  let main_v0 : FVec F S16x1024 .f32 := Host.absf main_arg0
  let main_cst : FVec F S_ .f32 := constant S_ .f32 0x7F800000#32
  let main_v1 : FVec F S16x1024 .f32 := broadcastInDim S16x1024 ![] bcast_S_S16x1024 main_cst
  let main_v2 : IVec S16x1024 1 := cmpf .olt main_v0 main_v1
  let main_c : IVec S_ 1 := constantI S_ 1 1#1
  let main_v3 : IVec S_ 1 := (fun x v => Host.reduce IntOp.andi x v reducesTo_S16x1024_S_d0_1 h_S_) main_v2 main_c
  let main_v4 : FVec F S1024x6144 .f32 := Host.absf main_arg1
  let main_cst_0 : FVec F S_ .f32 := constant S_ .f32 0x7F800000#32
  let main_v5 : FVec F S1024x6144 .f32 := broadcastInDim S1024x6144 ![] bcast_S_S1024x6144 main_cst_0
  let main_v6 : IVec S1024x6144 1 := cmpf .olt main_v4 main_v5
  let main_c_1 : IVec S_ 1 := constantI S_ 1 1#1
  let main_v7 : IVec S_ 1 := (fun x v => Host.reduce IntOp.andi x v reducesTo_S1024x6144_S_d0_1 h_S_) main_v6 main_c_1
  let main_v8 : IVec S_ 1 := andi main_v3 main_v7
  main_v8
-- ==== Pre_finite_rates.lean ====
abbrev S2x32x64 : Shape := ⟨3, ![2, 32, 64]⟩
abbrev S2x32 : Shape := ⟨2, ![2, 32]⟩
abbrev S2x32x64x16 : Shape := ⟨4, ![2, 32, 64, 16]⟩
abbrev S32x16x64 : Shape := ⟨3, ![32, 16, 64]⟩
abbrev S512 : Shape := ⟨1, ![512]⟩
abbrev S_ : Shape := ⟨0, ![]⟩

class Facts : Prop where
  bcast_S_S2x32x64 : S_.BroadcastsInDim S2x32x64 (![] : Fin 0 → Fin S2x32x64.rank)
  reducesTo_S2x32x64_S_d0_1_2 : S2x32x64.ReducesTo [0, 1, 2] S_
  h_S_ : 0 < S_.numel
  bcast_S_S2x32 : S_.BroadcastsInDim S2x32 (![] : Fin 0 → Fin S2x32.rank)
  reducesTo_S2x32_S_d0_1 : S2x32.ReducesTo [0, 1] S_

variable [Facts]

def fn {F : FTy → Type} [FloatOps F] (main_arg0 : FVec F S2x32x64 .f32) (main_arg1 : FVec F S2x32x64 .f32) (main_arg2 : FVec F S2x32 .f32) (main_arg3 : FVec F S2x32x64x16 .f32) (main_arg4 : FVec F S2x32x64x16 .f32) (main_arg5 : FVec F S32x16x64 .f32) (main_arg6 : FVec F S32x16x64 .f32) (main_arg7 : FVec F S512 .f32) : IVec S_ 1 :=
  let main_v0 : FVec F S2x32x64 .f32 := Host.absf main_arg0
  let main_cst : FVec F S_ .f32 := constant S_ .f32 0x7F800000#32
  let main_v1 : FVec F S2x32x64 .f32 := broadcastInDim S2x32x64 ![] bcast_S_S2x32x64 main_cst
  let main_v2 : IVec S2x32x64 1 := cmpf .olt main_v0 main_v1
  let main_c : IVec S_ 1 := constantI S_ 1 1#1
  let main_v3 : IVec S_ 1 := (fun x v => Host.reduce IntOp.andi x v reducesTo_S2x32x64_S_d0_1_2 h_S_) main_v2 main_c
  let main_v4 : FVec F S2x32x64 .f32 := Host.absf main_arg1
  let main_cst_0 : FVec F S_ .f32 := constant S_ .f32 0x7F800000#32
  let main_v5 : FVec F S2x32x64 .f32 := broadcastInDim S2x32x64 ![] bcast_S_S2x32x64 main_cst_0
  let main_v6 : IVec S2x32x64 1 := cmpf .olt main_v4 main_v5
  let main_c_1 : IVec S_ 1 := constantI S_ 1 1#1
  let main_v7 : IVec S_ 1 := (fun x v => Host.reduce IntOp.andi x v reducesTo_S2x32x64_S_d0_1_2 h_S_) main_v6 main_c_1
  let main_v8 : IVec S_ 1 := andi main_v3 main_v7
  let main_v9 : FVec F S2x32 .f32 := Host.absf main_arg2
  let main_cst_2 : FVec F S_ .f32 := constant S_ .f32 0x7F800000#32
  let main_v10 : FVec F S2x32 .f32 := broadcastInDim S2x32 ![] bcast_S_S2x32 main_cst_2
  let main_v11 : IVec S2x32 1 := cmpf .olt main_v9 main_v10
  let main_c_3 : IVec S_ 1 := constantI S_ 1 1#1
  let main_v12 : IVec S_ 1 := (fun x v => Host.reduce IntOp.andi x v reducesTo_S2x32_S_d0_1 h_S_) main_v11 main_c_3
  let main_v13 : IVec S_ 1 := andi main_v8 main_v12
  main_v13
-- ==== Pre_in_range.lean ====
abbrev S31 : Shape := ⟨1, ![31]⟩
abbrev S1 : Shape := ⟨1, ![1]⟩
abbrev S15872x1024 : Shape := ⟨2, ![15872, 1024]⟩
abbrev S15872x128 : Shape := ⟨2, ![15872, 128]⟩
abbrev S16x1024x512 : Shape := ⟨3, ![16, 1024, 512]⟩
abbrev S16x512x1024 : Shape := ⟨3, ![16, 512, 1024]⟩
abbrev S_ : Shape := ⟨0, ![]⟩

class Facts : Prop where
  bcast_S_S31 : S_.BroadcastsInDim S31 (![] : Fin 0 → Fin S31.rank)
  reducesTo_S31_S_d0 : S31.ReducesTo [0] S_
  h_S_ : 0 < S_.numel
  shapeCasts_S1_S_ : S1.ShapeCasts S_

variable [Facts]

def fn {F : FTy → Type} [FloatOps F] (main_arg0 : IVec S31 32) (main_arg1 : IVec S1 32) (main_arg2 : FVec F S15872x1024 .bf16) (main_arg3 : FVec F S15872x128 .f32) (main_arg4 : FVec F S16x1024x512 .f32) (main_arg5 : FVec F S16x1024x512 .f32) (main_arg6 : FVec F S16x512x1024 .f32) : IVec S_ 1 :=
  let main_c : IVec S_ 32 := constantI S_ 32 0#32
  let main_v0 : IVec S31 32 := broadcastInDim S31 ![] bcast_S_S31 main_c
  let main_v1 : IVec S31 1 := cmpi .sge main_arg0 main_v0
  let main_c_0 : IVec S_ 1 := constantI S_ 1 1#1
  let main_v2 : IVec S_ 1 := (fun x v => Host.reduce IntOp.andi x v reducesTo_S31_S_d0 h_S_) main_v1 main_c_0
  let main_c_1 : IVec S_ 32 := constantI S_ 32 4#32
  let main_v3 : IVec S31 32 := broadcastInDim S31 ![] bcast_S_S31 main_c_1
  let main_v4 : IVec S31 1 := cmpi .slt main_arg0 main_v3
  let main_c_2 : IVec S_ 1 := constantI S_ 1 1#1
  let main_v5 : IVec S_ 1 := (fun x v => Host.reduce IntOp.andi x v reducesTo_S31_S_d0 h_S_) main_v4 main_c_2
  let main_v6 : IVec S_ 1 := andi main_v2 main_v5
  let main_v7 : IVec S_ 32 := shapeCast S_ main_arg1 shapeCasts_S1_S_
  let main_c_3 : IVec S_ 32 := constantI S_ 32 1#32
  let main_v8 : IVec S_ 1 := cmpi .sge main_v7 main_c_3
  let main_v9 : IVec S_ 1 := andi main_v6 main_v8
  let main_v10 : IVec S_ 32 := shapeCast S_ main_arg1 shapeCasts_S1_S_
  let main_c_4 : IVec S_ 32 := constantI S_ 32 31#32
  let main_v11 : IVec S_ 1 := cmpi .sle main_v10 main_c_4
  let main_v12 : IVec S_ 1 := andi main_v9 main_v11
  main_v12
-- ==== Kernel.lean ====
abbrev S31 : Shape := ⟨1, ![31]⟩
abbrev S1 : Shape := ⟨1, ![1]⟩
abbrev S15872x1024 : Shape := ⟨2, ![15872, 1024]⟩
abbrev S15872x128 : Shape := ⟨2, ![15872, 128]⟩
abbrev S16x1024x512 : Shape := ⟨3, ![16, 1024, 512]⟩
abbrev S16x512x1024 : Shape := ⟨3, ![16, 512, 1024]⟩
abbrev S512x1024 : Shape := ⟨2, ![512, 1024]⟩
abbrev S512x128 : Shape := ⟨2, ![512, 128]⟩
abbrev S4x1024x512 : Shape := ⟨3, ![4, 1024, 512]⟩
abbrev S4x512x1024 : Shape := ⟨3, ![4, 512, 1024]⟩
abbrev S1x1024x512 : Shape := ⟨3, ![1, 1024, 512]⟩
abbrev S1024x512 : Shape := ⟨2, ![1024, 512]⟩
abbrev S512x512 : Shape := ⟨2, ![512, 512]⟩
abbrev S512 : Shape := ⟨1, ![512]⟩
abbrev S512x1 : Shape := ⟨2, ![512, 1]⟩
abbrev S1x512x1024 : Shape := ⟨3, ![1, 512, 1024]⟩

abbrev nBuf : Space → Nat
  | .hbm => 6
  | .vmem => 12
  | .smem => 2
  | _ => 0

abbrev bufTy : (tb : Table) → Fin (tcTables nBuf tb) → BufTy
  | .hbm, ⟨0, _⟩ => ⟨S15872x1024, .bf16⟩
  | .hbm, ⟨1, _⟩ => ⟨S15872x128, .f32⟩
  | .hbm, ⟨2, _⟩ => ⟨S16x1024x512, .f32⟩
  | .hbm, ⟨3, _⟩ => ⟨S16x1024x512, .f32⟩
  | .hbm, ⟨4, _⟩ => ⟨S16x512x1024, .f32⟩
  | .hbm, ⟨5, _⟩ => ⟨S15872x1024, .bf16⟩
  | .local _ .vmem, ⟨0, _⟩ => ⟨S512x1024, .bf16⟩
  | .local _ .vmem, ⟨1, _⟩ => ⟨S512x1024, .bf16⟩
  | .local _ .vmem, ⟨2, _⟩ => ⟨S512x128, .f32⟩
  | .local _ .vmem, ⟨3, _⟩ => ⟨S512x128, .f32⟩
  | .local _ .vmem, ⟨4, _⟩ => ⟨S4x1024x512, .f32⟩
  | .local _ .vmem, ⟨5, _⟩ => ⟨S4x1024x512, .f32⟩
  | .local _ .vmem, ⟨6, _⟩ => ⟨S4x1024x512, .f32⟩
  | .local _ .vmem, ⟨7, _⟩ => ⟨S4x1024x512, .f32⟩
  | .local _ .vmem, ⟨8, _⟩ => ⟨S4x512x1024, .f32⟩
  | .local _ .vmem, ⟨9, _⟩ => ⟨S4x512x1024, .f32⟩
  | .local _ .vmem, ⟨10, _⟩ => ⟨S512x1024, .bf16⟩
  | .local _ .vmem, ⟨11, _⟩ => ⟨S512x1024, .bf16⟩
  | .local _ .smem, ⟨0, _⟩ => ⟨S31, .i32⟩
  | .local _ .smem, ⟨1, _⟩ => ⟨S1, .i32⟩
  | _, _ => ⟨S15872x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![31], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v8 : Index := Scalar.indexCast arg0
  ![v8.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_2 (k0_off1_inb : ∀ i : grid0.Coords, ∀ a, (k0_off1 i) a + S1.size a ≤ S31.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S31) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S31.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S31) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S31.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S31) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S31 : Shape := ⟨1, ![31]⟩
abbrev S1 : Shape := ⟨1, ![1]⟩
abbrev S15872x1024 : Shape := ⟨2, ![15872, 1024]⟩
abbrev S15872x128 : Shape := ⟨2, ![15872, 128]⟩
abbrev S16x1024x512 : Shape := ⟨3, ![16, 1024, 512]⟩
abbrev S16x512x1024 : Shape := ⟨3, ![16, 512, 1024]⟩
abbrev S15872 : Shape := ⟨1, ![15872]⟩
abbrev S31x512 : Shape := ⟨2, ![31, 512]⟩
abbrev S_ : Shape := ⟨0, ![]⟩
abbrev S16 : Shape := ⟨1, ![16]⟩
abbrev S1x16 : Shape := ⟨2, ![1, 16]⟩
abbrev S15872x1 : Shape := ⟨2, ![15872, 1]⟩
abbrev S15872x16 : Shape := ⟨2, ![15872, 16]⟩
abbrev S15872x16x512 : Shape := ⟨3, ![15872, 16, 512]⟩
abbrev S15872x16x1 : Shape := ⟨3, ![15872, 16, 1]⟩

abbrev nBuf : Space → Nat
  | .hbm => 65
  | .vmem => 0
  | .smem => 0
  | _ => 0

abbrev bufTy : (tb : Table) → Fin (tcTables nBuf tb) → BufTy
  | .hbm, ⟨0, _⟩ => ⟨S31, .i32⟩
  | .hbm, ⟨1, _⟩ => ⟨S1, .i32⟩
  | .hbm, ⟨2, _⟩ => ⟨S15872x1024, .bf16⟩
  | .hbm, ⟨3, _⟩ => ⟨S15872x128, .f32⟩
  | .hbm, ⟨4, _⟩ => ⟨S16x1024x512, .f32⟩
  | .hbm, ⟨5, _⟩ => ⟨S16x1024x512, .f32⟩
  | .hbm, ⟨6, _⟩ => ⟨S16x512x1024, .f32⟩
  | .hbm, ⟨7, _⟩ => ⟨S15872x1024, .f32⟩
  | .hbm, ⟨8, _⟩ => ⟨S15872, .i32⟩
  | .hbm, ⟨9, _⟩ => ⟨S31x512, .i32⟩
  | .hbm, ⟨10, _⟩ => ⟨S15872, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S15872, .i32⟩
  | .hbm, ⟨15, _⟩ => ⟨S15872, .i1⟩
  | .hbm, ⟨16, _⟩ => ⟨S16, .i32⟩
  | .hbm, ⟨17, _⟩ => ⟨S1x16, .i32⟩
  | .hbm, ⟨18, _⟩ => ⟨S_, .i32⟩
  | .hbm, ⟨19, _⟩ => ⟨S_, .i32⟩
  | .hbm, ⟨20, _⟩ => ⟨S1x16, .i32⟩
  | .hbm, ⟨21, _⟩ => ⟨S1x16, .i32⟩
  | .hbm, ⟨22, _⟩ => ⟨S1x16, .i32⟩
  | .hbm, ⟨23, _⟩ => ⟨S_, .i32⟩
  | .hbm, ⟨24, _⟩ => ⟨S1x16, .i32⟩
  | .hbm, ⟨25, _⟩ => ⟨S1x16, .i1⟩
  | .hbm, ⟨26, _⟩ => ⟨S1x16, .i32⟩
  | .hbm, ⟨27, _⟩ => ⟨S1x16, .i32⟩
  | .hbm, ⟨28, _⟩ => ⟨S_, .i32⟩
  | .hbm, ⟨29, _⟩ => ⟨S1x16, .i32⟩
  | .hbm, ⟨30, _⟩ => ⟨S1x16, .i1⟩
  | .hbm, ⟨31, _⟩ => ⟨S1x16, .i1⟩
  | .hbm, ⟨32, _⟩ => ⟨S_, .i32⟩
  | .hbm, ⟨33, _⟩ => ⟨S1x16, .i32⟩
  | .hbm, ⟨34, _⟩ => ⟨S1x16, .i32⟩
  | .hbm, ⟨35, _⟩ => ⟨S1x16, .i32⟩
  | .hbm, ⟨36, _⟩ => ⟨S15872x1, .i32⟩
  | .hbm, ⟨37, _⟩ => ⟨S15872x16, .i32⟩
  | .hbm, ⟨38, _⟩ => ⟨S15872x16, .i32⟩
  | .hbm, ⟨39, _⟩ => ⟨S15872x16, .i1⟩
  | .hbm, ⟨40, _⟩ => ⟨S15872x1, .i1⟩
  | .hbm, ⟨41, _⟩ => ⟨S15872x16, .i1⟩
  | .hbm, ⟨42, _⟩ => ⟨S15872x16, .i1⟩
  | .hbm, ⟨43, _⟩ => ⟨S15872x16, .f32⟩
  | .hbm, ⟨44, _⟩ => ⟨S_, .f32⟩
  | .hbm, ⟨45, _⟩ => ⟨S_, .f32⟩
  | .hbm, ⟨46, _⟩ => ⟨S15872x16, .f32⟩
  | .hbm, ⟨47, _⟩ => ⟨S15872x16, .f32⟩
  | .hbm, ⟨48, _⟩ => ⟨S15872x16x512, .f32⟩
  | .hbm, ⟨49, _⟩ => ⟨S15872x16x512, .f32⟩
  | .hbm, ⟨50, _⟩ => ⟨S15872x16x512, .f32⟩
  | .hbm, ⟨51, _⟩ => ⟨S15872x16x512, .f32⟩
  | .hbm, ⟨52, _⟩ => ⟨S_, .f32⟩
  | .hbm, ⟨53, _⟩ => ⟨S15872x16x512, .f32⟩
  | .hbm, ⟨54, _⟩ => ⟨S15872x16x512, .f32⟩
  | .hbm, ⟨55, _⟩ => ⟨S_, .f32⟩
  | .hbm, ⟨56, _⟩ => ⟨S15872x16x512, .f32⟩
  | .hbm, ⟨57, _⟩ => ⟨S15872x16x512, .f32⟩
  | .hbm, ⟨58, _⟩ => ⟨S15872x16x512, .f32⟩
  | .hbm, ⟨59, _⟩ => ⟨S15872x16x512, .f32⟩
  | .hbm, ⟨60, _⟩ => ⟨S15872x16x1, .f32⟩
  | .hbm, ⟨61, _⟩ => ⟨S15872x16x512, .f32⟩
  | .hbm, ⟨62, _⟩ => ⟨S15872x16x512, .f32⟩
  | .hbm, ⟨63, _⟩ => ⟨S15872x1024, .f32⟩
  | .hbm, ⟨64, _⟩ => ⟨S15872x1024, .bf16⟩
  | _, _ => ⟨S31, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_0 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_c : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_0 : Ref sig .tc := ⟨.hbm, 32, rfl⟩
abbrev main_call0_v12 : Ref sig .tc := ⟨.hbm, 33, rfl⟩
abbrev main_call0_v13 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_cst : Ref sig .tc := ⟨.hbm, 44, rfl⟩
abbrev main_call1_v0 : Ref sig .tc := ⟨.hbm, 45, rfl⟩
abbrev main_call1_v1 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_call2_v0 : Ref sig .tc := ⟨.hbm, 50, rfl⟩
abbrev main_call2_v1 : Ref sig .tc := ⟨.hbm, 51, rfl⟩
abbrev main_call2_cst : Ref sig .tc := ⟨.hbm, 52, rfl⟩
abbrev main_call2_v2 : Ref sig .tc := ⟨.hbm, 53, rfl⟩
abbrev main_call2_v3 : Ref sig .tc := ⟨.hbm, 54, rfl⟩
abbrev main_call2_cst_0 : Ref sig .tc := ⟨.hbm, 55, rfl⟩
abbrev main_call2_v4 : Ref sig .tc := ⟨.hbm, 56, rfl⟩
abbrev main_call2_v5 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩

abbrev nD : Nat := 1
abbrev τ : Topo := Topo.v7x

variable {F : FTy → Type} [FloatOps F]
-- ==== Kernel2.lean ====
abbrev S8x1024x1024 : Shape := ⟨3, ![8, 1024, 1024]⟩
abbrev S1024x1024 : Shape := ⟨2, ![1024, 1024]⟩
abbrev S8x1x6144 : Shape := ⟨3, ![8, 1, 6144]⟩
abbrev S1024x2048 : Shape := ⟨2, ![1024, 2048]⟩
abbrev S8x1024x1536 : Shape := ⟨3, ![8, 1024, 1536]⟩
abbrev S8x1024x512 : Shape := ⟨3, ![8, 1024, 512]⟩
abbrev S1x1024x1024 : Shape := ⟨3, ![1, 1024, 1024]⟩
abbrev S1x1x6144 : Shape := ⟨3, ![1, 1, 6144]⟩
abbrev S1x1024x1536 : Shape := ⟨3, ![1, 1024, 1536]⟩
abbrev S1x1024x512 : Shape := ⟨3, ![1, 1024, 512]⟩
abbrev S1x1x1024 : Shape := ⟨3, ![1, 1, 1024]⟩
abbrev S1x1024 : Shape := ⟨2, ![1, 1024]⟩
abbrev S1024 : Shape := ⟨1, ![1024]⟩
abbrev S1024x1 : Shape := ⟨2, ![1024, 1]⟩
abbrev S1024x1536 : Shape := ⟨2, ![1024, 1536]⟩
abbrev S1024x512 : Shape := ⟨2, ![1024, 512]⟩

abbrev nBuf : Space → Nat
  | .hbm => 6
  | .vmem => 10
  | .smem => 0
  | _ => 0

abbrev bufTy : (tb : Table) → Fin (tcTables nBuf tb) → BufTy
  | .hbm, ⟨0, _⟩ => ⟨S8x1024x1024, .f32⟩
  | .hbm, ⟨1, _⟩ => ⟨S1024x1024, .f32⟩
  | .hbm, ⟨2, _⟩ => ⟨S8x1x6144, .f32⟩
  | .hbm, ⟨3, _⟩ => ⟨S1024x2048, .f32⟩
  | .hbm, ⟨4, _⟩ => ⟨S8x1024x1536, .f32⟩
  | .hbm, ⟨5, _⟩ => ⟨S8x1024x512, .f32⟩
  | .local _ .vmem, ⟨0, _⟩ => ⟨S1x1024x1024, .f32⟩
  | .local _ .vmem, ⟨1, _⟩ => ⟨S1x1024x1024, .f32⟩
  | .local _ .vmem, ⟨2, _⟩ => ⟨S1024x1024, .f32⟩
  | .local _ .vmem, ⟨3, _⟩ => ⟨S1x1x6144, .f32⟩
  | .local _ .vmem, ⟨4, _⟩ => ⟨S1x1x6144, .f32⟩
  | .local _ .vmem, ⟨5, _⟩ => ⟨S1024x2048, .f32⟩
  | .local _ .vmem, ⟨6, _⟩ => ⟨S1x1024x1536, .f32⟩
  | .local _ .vmem, ⟨7, _⟩ => ⟨S1x1024x1536, .f32⟩
  | .local _ .vmem, ⟨8, _⟩ => ⟨S1x1024x512, .f32⟩
  | .local _ .vmem, ⟨9, _⟩ => ⟨S1x1024x512, .f32⟩
  | _, _ => ⟨S8x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1x1x6144 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S8x1024x1024 : Shape := ⟨3, ![8, 1024, 1024]⟩
abbrev S1024x1024 : Shape := ⟨2, ![1024, 1024]⟩
abbrev S8x1x6144 : Shape := ⟨3, ![8, 1, 6144]⟩
abbrev S1024x2048 : Shape := ⟨2, ![1024, 2048]⟩
abbrev S1x1024x1024 : Shape := ⟨3, ![1, 1024, 1024]⟩
abbrev S8x1x1024 : Shape := ⟨3, ![8, 1, 1024]⟩
abbrev S_ : Shape := ⟨0, ![]⟩
abbrev S8x1024 : Shape := ⟨2, ![8, 1024]⟩
abbrev S8x1024x1 : Shape := ⟨3, ![8, 1024, 1]⟩
abbrev S8x1024x2048 : Shape := ⟨3, ![8, 1024, 2048]⟩
abbrev S8x1024x1536 : Shape := ⟨3, ![8, 1024, 1536]⟩
abbrev S8x1024x512 : Shape := ⟨3, ![8, 1024, 512]⟩

abbrev nBuf : Space → Nat
  | .hbm => 44
  | .vmem => 0
  | .smem => 0
  | _ => 0

abbrev bufTy : (tb : Table) → Fin (tcTables nBuf tb) → BufTy
  | .hbm, ⟨0, _⟩ => ⟨S8x1024x1024, .f32⟩
  | .hbm, ⟨1, _⟩ => ⟨S1024x1024, .f32⟩
  | .hbm, ⟨2, _⟩ => ⟨S8x1x6144, .f32⟩
  | .hbm, ⟨3, _⟩ => ⟨S1024x2048, .f32⟩
  | .hbm, ⟨4, _⟩ => ⟨S1x1024x1024, .f32⟩
  | .hbm, ⟨5, _⟩ => ⟨S8x1024x1024, .f32⟩
  | .hbm, ⟨6, _⟩ => ⟨S8x1024x1024, .f32⟩
  | .hbm, ⟨7, _⟩ => ⟨S8x1x1024, .f32⟩
  | .hbm, ⟨8, _⟩ => ⟨S8x1x1024, .f32⟩
  | .hbm, ⟨9, _⟩ => ⟨S8x1x1024, .f32⟩
  | .hbm, ⟨10, _⟩ => ⟨S8x1x1024, .f32⟩
  | .hbm, ⟨11, _⟩ => ⟨S8x1x1024, .f32⟩
  | .hbm, ⟨12, _⟩ => ⟨S8x1x1024, .f32⟩
  | .hbm, ⟨13, _⟩ => ⟨S_, .f32⟩
  | .hbm, ⟨14, _⟩ => ⟨S8x1024, .f32⟩
  | .hbm, ⟨15, _⟩ => ⟨S8x1024x1, .f32⟩
  | .hbm, ⟨16, _⟩ => ⟨S_, .f32⟩
  | .hbm, ⟨17, _⟩ => ⟨S8x1024x1, .f32⟩
  | .hbm, ⟨18, _⟩ => ⟨S8x1024x1, .f32⟩
  | .hbm, ⟨19, _⟩ => ⟨S8x1024x1024, .f32⟩
  | .hbm, ⟨20, _⟩ => ⟨S8x1024x1024, .f32⟩
  | .hbm, ⟨21, _⟩ => ⟨S8x1024x1024, .f32⟩
  | .hbm, ⟨22, _⟩ => ⟨S_, .f32⟩
  | .hbm, ⟨23, _⟩ => ⟨S8x1024, .f32⟩
  | .hbm, ⟨24, _⟩ => ⟨S8x1024x1, .f32⟩
  | .hbm, ⟨25, _⟩ => ⟨S_, .f32⟩
  | .hbm, ⟨26, _⟩ => ⟨S8x1024x1, .f32⟩
  | .hbm, ⟨27, _⟩ => ⟨S8x1024x1, .f32⟩
  | .hbm, ⟨28, _⟩ => ⟨S_, .f32⟩
  | .hbm, ⟨29, _⟩ => ⟨S8x1024x1, .f32⟩
  | .hbm, ⟨30, _⟩ => ⟨S8x1024x1, .f32⟩
  | .hbm, ⟨31, _⟩ => ⟨S8x1024x1, .f32⟩
  | .hbm, ⟨32, _⟩ => ⟨S8x1024x1024, .f32⟩
  | .hbm, ⟨33, _⟩ => ⟨S8x1024x1024, .f32⟩
  | .hbm, ⟨34, _⟩ => ⟨S_, .f32⟩
  | .hbm, ⟨35, _⟩ => ⟨S8x1x1024, .f32⟩
  | .hbm, ⟨36, _⟩ => ⟨S8x1x1024, .f32⟩
  | .hbm, ⟨37, _⟩ => ⟨S8x1024x1024, .f32⟩
  | .hbm, ⟨38, _⟩ => ⟨S8x1024x1024, .f32⟩
  | .hbm, ⟨39, _⟩ => ⟨S8x1024x1024, .f32⟩
  | .hbm, ⟨40, _⟩ => ⟨S8x1024x1024, .f32⟩
  | .hbm, ⟨41, _⟩ => ⟨S8x1024x2048, .f32⟩
  | .hbm, ⟨42, _⟩ => ⟨S8x1024x1536, .f32⟩
  | .hbm, ⟨43, _⟩ => ⟨S8x1024x512, .f32⟩
  | _, _ => ⟨S8x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩

abbrev nD : Nat := 1
abbrev τ : Topo := Topo.v7x

variable {F : FTy → Type} [FloatOps F]
-- ==== Kernel3.lean ====
abbrev S16x256x1024 : Shape := ⟨3, ![16, 256, 1024]⟩
abbrev S8x1024x1024 : Shape := ⟨3, ![8, 1024, 1024]⟩
abbrev S1024x1024 : Shape := ⟨2, ![1024, 1024]⟩
abbrev S4096x512 : Shape := ⟨2, ![4096, 512]⟩
abbrev S8192x512 : Shape := ⟨2, ![8192, 512]⟩
abbrev S16x6144 : Shape := ⟨2, ![16, 6144]⟩
abbrev S512x512 : Shape := ⟨2, ![512, 512]⟩
abbrev S512 : Shape := ⟨1, ![512]⟩
abbrev S1024 : Shape := ⟨1, ![1024]⟩
abbrev S1024x4 : Shape := ⟨2, ![1024, 4]⟩
abbrev S4 : Shape := ⟨1, ![4]⟩
abbrev S4x1024x4 : Shape := ⟨3, ![4, 1024, 4]⟩
abbrev S4x4 : Shape := ⟨2, ![4, 4]⟩
abbrev S1024x4x4 : Shape := ⟨3, ![1024, 4, 4]⟩
abbrev S1024x16 : Shape := ⟨2, ![1024, 16]⟩
abbrev S1024x20 : Shape := ⟨2, ![1024, 20]⟩
abbrev S_ : Shape := ⟨0, ![]⟩
abbrev S1024x128 : Shape := ⟨2, ![1024, 128]⟩
abbrev S16 : Shape := ⟨1, ![16]⟩
abbrev S20 : Shape := ⟨1, ![20]⟩
abbrev S128 : Shape := ⟨1, ![128]⟩
abbrev S1x128 : Shape := ⟨2, ![1, 128]⟩
abbrev S4096x1024 : Shape := ⟨2, ![4096, 1024]⟩
abbrev S8192x1024 : Shape := ⟨2, ![8192, 1024]⟩
abbrev S1x512 : Shape := ⟨2, ![1, 512]⟩
abbrev S1x1024 : Shape := ⟨2, ![1, 1024]⟩
abbrev S16x1x6144 : Shape := ⟨3, ![16, 1, 6144]⟩
abbrev S12288x1024 : Shape := ⟨2, ![12288, 1024]⟩
abbrev S12288x128 : Shape := ⟨2, ![12288, 128]⟩
abbrev S24x1x128 : Shape := ⟨3, ![24, 1, 128]⟩
abbrev S512x1024 : Shape := ⟨2, ![512, 1024]⟩
abbrev S1x1x6144 : Shape := ⟨3, ![1, 1, 6144]⟩
abbrev S512x128 : Shape := ⟨2, ![512, 128]⟩
abbrev S1x1x128 : Shape := ⟨3, ![1, 1, 128]⟩
abbrev S512x1 : Shape := ⟨2, ![512, 1]⟩
abbrev S1x1x1024 : Shape := ⟨3, ![1, 1, 1024]⟩

abbrev nBuf : Space → Nat
  | .hbm => 47
  | .vmem => 33
  | .smem => 0
  | _ => 0

abbrev bufTy : (tb : Table) → Fin (tcTables nBuf tb) → BufTy
  | .hbm, ⟨0, _⟩ => ⟨S16x256x1024, .f32⟩
  | .hbm, ⟨1, _⟩ => ⟨S8x1024x1024, .f32⟩
  | .hbm, ⟨2, _⟩ => ⟨S1024x1024, .f32⟩
  | .hbm, ⟨3, _⟩ => ⟨S4096x512, .f32⟩
  | .hbm, ⟨4, _⟩ => ⟨S8192x512, .f32⟩
  | .hbm, ⟨5, _⟩ => ⟨S4096x512, .f32⟩
  | .hbm, ⟨6, _⟩ => ⟨S8192x512, .f32⟩
  | .hbm, ⟨7, _⟩ => ⟨S16x6144, .f32⟩
  | .hbm, ⟨8, _⟩ => ⟨S512x512, .f32⟩
  | .hbm, ⟨9, _⟩ => ⟨S512, .f32⟩
  | .hbm, ⟨10, _⟩ => ⟨S1024, .f32⟩
  | .hbm, ⟨11, _⟩ => ⟨S1024x1024, .f32⟩
  | .hbm, ⟨12, _⟩ => ⟨S1024, .f32⟩
  | .hbm, ⟨13, _⟩ => ⟨S1024, .f32⟩
  | .hbm, ⟨14, _⟩ => ⟨S1024x4, .f32⟩
  | .hbm, ⟨15, _⟩ => ⟨S4, .f32⟩
  | .hbm, ⟨16, _⟩ => ⟨S4x1024x4, .f32⟩
  | .hbm, ⟨17, _⟩ => ⟨S4x4, .f32⟩
  | .hbm, ⟨18, _⟩ => ⟨S1024x4x4, .f32⟩
  | .hbm, ⟨19, _⟩ => ⟨S1024x16, .f32⟩
  | .hbm, ⟨20, _⟩ => ⟨S1024x20, .f32⟩
  | .hbm, ⟨21, _⟩ => ⟨S_, .i32⟩
  | .hbm, ⟨22, _⟩ => ⟨S_, .f32⟩
  | .hbm, ⟨23, _⟩ => ⟨S1024x128, .f32⟩
  | .hbm, ⟨24, _⟩ => ⟨S16, .f32⟩
  | .hbm, ⟨25, _⟩ => ⟨S20, .f32⟩
  | .hbm, ⟨26, _⟩ => ⟨S_, .i32⟩
  | .hbm, ⟨27, _⟩ => ⟨S_, .f32⟩
  | .hbm, ⟨28, _⟩ => ⟨S128, .f32⟩
  | .hbm, ⟨29, _⟩ => ⟨S1x128, .f32⟩
  | .hbm, ⟨30, _⟩ => ⟨S1024x128, .bf16⟩
  | .hbm, ⟨31, _⟩ => ⟨S1024x128, .f32⟩
  | .hbm, ⟨32, _⟩ => ⟨S1024x128, .f32⟩
  | .hbm, ⟨33, _⟩ => ⟨S1024x128, .bf16⟩
  | .hbm, ⟨34, _⟩ => ⟨S4096x1024, .f32⟩
  | .hbm, ⟨35, _⟩ => ⟨S8192x1024, .f32⟩
  | .hbm, ⟨36, _⟩ => ⟨S512x512, .bf16⟩
  | .hbm, ⟨37, _⟩ => ⟨S1x512, .f32⟩
  | .hbm, ⟨38, _⟩ => ⟨S1x1024, .f32⟩
  | .hbm, ⟨39, _⟩ => ⟨S1024x1024, .bf16⟩
  | .hbm, ⟨40, _⟩ => ⟨S1x1024, .f32⟩
  | .hbm, ⟨41, _⟩ => ⟨S1x1024, .f32⟩
  | .hbm, ⟨42, _⟩ => ⟨S16x1x6144, .f32⟩
  | .hbm, ⟨43, _⟩ => ⟨S12288x1024, .f32⟩
  | .hbm, ⟨44, _⟩ => ⟨S12288x1024, .bf16⟩
  | .hbm, ⟨45, _⟩ => ⟨S12288x128, .f32⟩
  | .hbm, ⟨46, _⟩ => ⟨S24x1x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S1x1x6144, .f32⟩
  | .local _ .vmem, ⟨15, _⟩ => ⟨S1x1x6144, .f32⟩
  | .local _ .vmem, ⟨16, _⟩ => ⟨S512x512, .bf16⟩
  | .local _ .vmem, ⟨17, _⟩ => ⟨S1x512, .f32⟩
  | .local _ .vmem, ⟨18, _⟩ => ⟨S1x1024, .f32⟩
  | .local _ .vmem, ⟨19, _⟩ => ⟨S1024x1024, .bf16⟩
  | .local _ .vmem, ⟨20, _⟩ => ⟨S1x1024, .f32⟩
  | .local _ .vmem, ⟨21, _⟩ => ⟨S1x1024, .f32⟩
  | .local _ .vmem, ⟨22, _⟩ => ⟨S1024x128, .bf16⟩
  | .local _ .vmem, ⟨23, _⟩ => ⟨S1024x128, .bf16⟩
  | .local _ .vmem, ⟨24, _⟩ => ⟨S1x128, .f32⟩
  | .local _ .vmem, ⟨25, _⟩ => ⟨S512x1024, .f32⟩
  | .local _ .vmem, ⟨26, _⟩ => ⟨S512x1024, .f32⟩
  | .local _ .vmem, ⟨27, _⟩ => ⟨S512x1024, .bf16⟩
  | .local _ .vmem, ⟨28, _⟩ => ⟨S512x1024, .bf16⟩
  | .local _ .vmem, ⟨29, _⟩ => ⟨S512x128, .f32⟩
  | .local _ .vmem, ⟨30, _⟩ => ⟨S512x128, .f32⟩
  | .local _ .vmem, ⟨31, _⟩ => ⟨S1x1x128, .f32⟩
  | .local _ .vmem, ⟨32, _⟩ => ⟨S1x1x128, .f32⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_c : Ref sig .tc := ⟨.hbm, 21, rfl⟩
abbrev main_call0_v0 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_c_0 : Ref sig .tc := ⟨.hbm, 26, rfl⟩
abbrev main_call1_v0 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21_0 : Ref sig .tc := ⟨.hbm, 43, rfl⟩
abbrev main_v21_1 : Ref sig .tc := ⟨.hbm, 44, rfl⟩
abbrev main_v21_2 : Ref sig .tc := ⟨.hbm, 45, rfl⟩
abbrev main_v21_3 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_stg19_0 : Ref sig .tc := ⟨.vmem, 29, rfl⟩
abbrev cc0_stg19_1 : Ref sig .tc := ⟨.vmem, 30, rfl⟩
abbrev cc0_stg20_0 : Ref sig .tc := ⟨.vmem, 31, rfl⟩
abbrev cc0_stg20_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem16_0 : DmaSem sig := 24
abbrev cc0_sem17_0 : DmaSem sig := 25
abbrev cc0_sem17_1 : DmaSem sig := 26
abbrev cc0_sem18_0 : DmaSem sig := 27
abbrev cc0_sem18_1 : DmaSem sig := 28
abbrev cc0_sem19_0 : DmaSem sig := 29
abbrev cc0_sem19_1 : DmaSem sig := 30
abbrev cc0_sem20_0 : DmaSem sig := 31
abbrev cc0_sem20_1 : DmaSem sig := 32

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c2_i32 : BitVec 32 := 2#32
  let c0_i32_0 : BitVec 32 := 0#32
  let v2 : BitVec 1 := Scalar.cmpi .eq c2_i32 c0_i32_0
  let c1_i32 : BitVec 32 := 1#32
  let v3 : BitVec 32 := Scalar.select v2 c1_i32 c2_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c0_i32_4 : BitVec 32 := 0#32
  let c0_i32_5 : BitVec 32 := 0#32
  ![v11.toNat, c0_i32_4.toNat]

def cc0_transform_3 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_7 (i : grid0.Coords) : Fin 3 → Nat :=
  let arg0 : BitVec 32 := BitVec.ofNat 32 (i 0).val
  let c8_i32 : BitVec 32 := 8#32
  let v0 : BitVec 1 := Scalar.cmpi .slt arg0 c8_i32
  let c8_i32_0 : BitVec 32 := 8#32
  let v1 : BitVec 32 := Scalar.subi arg0 c8_i32_0
  let c0_i32 : BitVec 32 := 0#32
  let v2 : BitVec 32 := Scalar.maxsi v1 c0_i32
  let c2_i32 : BitVec 32 := 2#32
  let v3 : BitVec 32 := Scalar.divsi v2 c2_i32
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c2_i32 c0_i32_3
  let v10 : BitVec 32 := Scalar.extui v9
  let c0_i32_4 : BitVec 32 := 0#32
  let v11 : BitVec 1 := Scalar.cmpi .slt c2_i32 c0_i32_4
  let v12 : BitVec 32 := Scalar.extui v11
  let v13 : BitVec 32 := Scalar.subi v10 v12
  let v14 : BitVec 1 := Scalar.cmpi .ne v8 v13
  let v15 : BitVec 32 := Scalar.remsi v2 c2_i32
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c1_i32_6 : BitVec 32 := 1#32
  let v20 : BitVec 32 := Scalar.addi c1_i32_6 v19
  let c0_i32_7 : BitVec 32 := 0#32
  let v21 : BitVec 32 := Scalar.select v0 c0_i32_7 v20
  let c0_i32_8 : BitVec 32 := 0#32
  let c0_i32_9 : BitVec 32 := 0#32
  let c0_i32_10 : BitVec 32 := 0#32
  ![v21.toNat, c0_i32_8.toNat, c0_i32_9.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x6144 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x128 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1024x128 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S512x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1x1x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== Reference3Ideal.lean ====
abbrev S16x256x1024 : Shape := ⟨3, ![16, 256, 1024]⟩
abbrev S8x1024x1024 : Shape := ⟨3, ![8, 1024, 1024]⟩
abbrev S1024x1024 : Shape := ⟨2, ![1024, 1024]⟩
abbrev S4096x512 : Shape := ⟨2, ![4096, 512]⟩
abbrev S8192x512 : Shape := ⟨2, ![8192, 512]⟩
abbrev S16x6144 : Shape := ⟨2, ![16, 6144]⟩
abbrev S512x512 : Shape := ⟨2, ![512, 512]⟩
abbrev S512 : Shape := ⟨1, ![512]⟩
abbrev S1024 : Shape := ⟨1, ![1024]⟩
abbrev S1024x4 : Shape := ⟨2, ![1024, 4]⟩
abbrev S4 : Shape := ⟨1, ![4]⟩
abbrev S4x1024x4 : Shape := ⟨3, ![4, 1024, 4]⟩
abbrev S4x4 : Shape := ⟨2, ![4, 4]⟩
abbrev S4096x1024 : Shape := ⟨2, ![4096, 1024]⟩
abbrev S1x1024x1024 : Shape := ⟨3, ![1, 1024, 1024]⟩
abbrev S8192x1024 : Shape := ⟨2, ![8192, 1024]⟩
abbrev S12288x1024 : Shape := ⟨2, ![12288, 1024]⟩
abbrev S12288x512 : Shape := ⟨2, ![12288, 512]⟩
abbrev S1x6144 : Shape := ⟨2, ![1, 6144]⟩
abbrev S4096x6144 : Shape := ⟨2, ![4096, 6144]⟩
abbrev S8x6144 : Shape := ⟨2, ![8, 6144]⟩
abbrev S8x1024x6144 : Shape := ⟨3, ![8, 1024, 6144]⟩
abbrev S8192x6144 : Shape := ⟨2, ![8192, 6144]⟩
abbrev S12288x6144 : Shape := ⟨2, ![12288, 6144]⟩
abbrev S_ : Shape := ⟨0, ![]⟩
abbrev S1x512 : Shape := ⟨2, ![1, 512]⟩
abbrev S12288 : Shape := ⟨1, ![12288]⟩
abbrev S12288x1 : Shape := ⟨2, ![12288, 1]⟩
abbrev S1x1024 : Shape := ⟨2, ![1, 1024]⟩

abbrev nBuf : Space → Nat
  | .hbm => 158
  | .vmem => 0
  | .smem => 0
  | _ => 0

abbrev hbmTy0_0 (i : Nat) : BufTy := match i % 128 with
  | 0 => ⟨S16x256x1024, .f32⟩
  | 1 => ⟨S8x1024x1024, .f32⟩
  | 2 => ⟨S1024x1024, .f32⟩
  | 3 => ⟨S4096x512, .f32⟩
  | 4 => ⟨S8192x512, .f32⟩
  | 5 => ⟨S4096x512, .f32⟩
  | 6 => ⟨S8192x512, .f32⟩
  | 7 => ⟨S16x6144, .f32⟩
  | 8 => ⟨S512x512, .f32⟩
  | 9 => ⟨S512, .f32⟩
  | 10 => ⟨S1024, .f32⟩
  | 11 => ⟨S1024x1024, .f32⟩
  | 12 => ⟨S1024, .f32⟩
  | 13 => ⟨S1024, .f32⟩
  | 14 => ⟨S1024x4, .f32⟩
  | 15 => ⟨S4, .f32⟩
  | 16 => ⟨S4x1024x4, .f32⟩
  | 17 => ⟨S4x4, .f32⟩
  | 18 => ⟨S4096x1024, .f32⟩
  | 19 => ⟨S1x1024x1024, .f32⟩
  | 20 => ⟨S8x1024x1024, .f32⟩
  | 21 => ⟨S8x1024x1024, .f32⟩
  | 22 => ⟨S8192x1024, .f32⟩
  | 23 => ⟨S12288x1024, .f32⟩
  | 24 => ⟨S12288x512, .f32⟩
  | 25 => ⟨S12288x512, .f32⟩
  | 26 => ⟨S1x6144, .f32⟩
  | 27 => ⟨S4096x6144, .f32⟩
  | 28 => ⟨S8x6144, .f32⟩
  | 29 => ⟨S8x1024x6144, .f32⟩
  | 30 => ⟨S8192x6144, .f32⟩
  | 31 => ⟨S12288x6144, .f32⟩
  | 32 => ⟨S12288x1024, .f32⟩
  | 33 => ⟨S12288x1024, .f32⟩
  | 34 => ⟨S12288x1024, .f32⟩
  | 35 => ⟨S12288x1024, .f32⟩
  | 36 => ⟨S12288x1024, .f32⟩
  | 37 => ⟨S12288x1024, .f32⟩
  | 38 => ⟨S12288x512, .f32⟩
  | 39 => ⟨S12288x512, .f32⟩
  | 40 => ⟨S_, .f32⟩
  | 41 => ⟨S12288x512, .f32⟩
  | 42 => ⟨S12288x512, .f32⟩
  | 43 => ⟨S12288x512, .f32⟩
  | 44 => ⟨S_, .f32⟩
  | 45 => ⟨S12288x512, .f32⟩
  | 46 => ⟨S12288x512, .f32⟩
  | 47 => ⟨S12288x512, .f32⟩
  | 48 => ⟨S_, .f32⟩
  | 49 => ⟨S12288x512, .f32⟩
  | 50 => ⟨S12288x512, .f32⟩
  | 51 => ⟨S_, .f32⟩
  | 52 => ⟨S12288x512, .f32⟩
  | 53 => ⟨S12288x512, .f32⟩
  | 54 => ⟨S12288x512, .f32⟩
  | 55 => ⟨S12288x512, .f32⟩
  | 56 => ⟨S1x512, .f32⟩
  | 57 => ⟨S12288x512, .f32⟩
  | 58 => ⟨S12288x512, .f32⟩
  | 59 => ⟨S12288x512, .f32⟩
  | 60 => ⟨S12288x512, .f32⟩
  | 61 => ⟨S_, .f32⟩
  | 62 => ⟨S12288x512, .f32⟩
  | 63 => ⟨S12288x512, .f32⟩
  | 64 => ⟨S_, .f32⟩
  | 65 => ⟨S12288x512, .f32⟩
  | 66 => ⟨S12288x512, .f32⟩
  | 67 => ⟨S12288x512, .f32⟩
  | 68 => ⟨S12288x512, .f32⟩
  | 69 => ⟨S_, .f32⟩
  | 70 => ⟨S12288, .f32⟩
  | 71 => ⟨S12288x1, .f32⟩
  | 72 => ⟨S_, .f32⟩
  | 73 => ⟨S12288x1, .f32⟩
  | 74 => ⟨S12288x1, .f32⟩
  | 75 => ⟨S_, .f32⟩
  | 76 => ⟨S12288x1, .f32⟩
  | 77 => ⟨S12288x1, .f32⟩
  | 78 => ⟨S12288x1, .f32⟩
  | 79 => ⟨S12288x512, .f32⟩
  | 80 => ⟨S12288x512, .f32⟩
  | 81 => ⟨S12288x512, .f32⟩
  | 82 => ⟨S_, .f32⟩
  | 83 => ⟨S12288, .f32⟩
  | 84 => ⟨S12288x1, .f32⟩
  | 85 => ⟨S_, .f32⟩
  | 86 => ⟨S12288x1, .f32⟩
  | 87 => ⟨S12288x1, .f32⟩
  | 88 => ⟨S_, .f32⟩
  | 89 => ⟨S12288x1, .f32⟩
  | 90 => ⟨S12288x1, .f32⟩
  | 91 => ⟨S12288x1, .f32⟩
  | 92 => ⟨S12288x512, .f32⟩
  | 93 => ⟨S12288x512, .f32⟩
  | 94 => ⟨S12288x1024, .f32⟩
  | 95 => ⟨S1x1024, .f32⟩
  | 96 => ⟨S12288x1024, .f32⟩
  | 97 => ⟨S12288x1024, .f32⟩
  | 98 => ⟨S12288x1024, .f32⟩
  | 99 => ⟨S_, .f32⟩
  | 100 => ⟨S12288x1024, .f32⟩
  | 101 => ⟨S12288x1024, .f32⟩
  | 102 => ⟨S12288x1024, .f32⟩
  | 103 => ⟨S12288x1024, .f32⟩
  | 104 => ⟨S_, .f32⟩
  | 105 => ⟨S12288, .f32⟩
  | 106 => ⟨S12288x1, .f32⟩
  | 107 => ⟨S_, .f32⟩
  | 108 => ⟨S12288x1, .f32⟩
  | 109 => ⟨S12288x1, .f32⟩
  | 110 => ⟨S12288x1024, .f32⟩
  | 111 => ⟨S12288x1024, .f32⟩
  | 112 => ⟨S12288x1024, .f32⟩
  | 113 => ⟨S_, .f32⟩
  | 114 => ⟨S12288, .f32⟩
  | 115 => ⟨S12288x1, .f32⟩
  | 116 => ⟨S_, .f32⟩
  | 117 => ⟨S12288x1, .f32⟩
  | 118 => ⟨S12288x1, .f32⟩
  | 119 => ⟨S_, .f32⟩
  | 120 => ⟨S12288x1, .f32⟩
  | 121 => ⟨S12288x1, .f32⟩
  | 122 => ⟨S12288x1, .f32⟩
  | 123 => ⟨S12288x1024, .f32⟩
  | 124 => ⟨S12288x1024, .f32⟩
  | 125 => ⟨S1x1024, .f32⟩
  | 126 => ⟨S12288x1024, .f32⟩
  | 127 => ⟨S12288x1024, .f32⟩
  | _ => ⟨S16x256x1024, .f32⟩

abbrev hbmTy0_1 (i : Nat) : BufTy := match i % 128 with
  | 0 => ⟨S1x1024, .f32⟩
  | 1 => ⟨S12288x1024, .f32⟩
  | 2 => ⟨S12288x1024, .f32⟩
  | 3 => ⟨S_, .f32⟩
  | 4 => ⟨S12288, .f32⟩
  | 5 => ⟨S12288x1, .f32⟩
  | 6 => ⟨S_, .f32⟩
  | 7 => ⟨S12288x1, .f32⟩
  | 8 => ⟨S12288x1, .f32⟩
  | 9 => ⟨S12288x1024, .f32⟩
  | 10 => ⟨S12288x1024, .f32⟩
  | 11 => ⟨S12288x1024, .f32⟩
  | 12 => ⟨S_, .f32⟩
  | 13 => ⟨S12288, .f32⟩
  | 14 => ⟨S12288x1, .f32⟩
  | 15 => ⟨S_, .f32⟩
  | 16 => ⟨S12288x1, .f32⟩
  | 17 => ⟨S12288x1, .f32⟩
  | 18 => ⟨S_, .f32⟩
  | 19 => ⟨S12288x1, .f32⟩
  | 20 => ⟨S12288x1, .f32⟩
  | 21 => ⟨S12288x1, .f32⟩
  | 22 => ⟨S12288x1024, .f32⟩
  | 23 => ⟨S12288x1024, .f32⟩
  | 24 => ⟨S_, .f32⟩
  | 25 => ⟨S12288x1024, .f32⟩
  | 26 => ⟨S12288x1024, .f32⟩
  | 27 => ⟨S12288x1024, .f32⟩
  | 28 => ⟨S12288x1024, .f32⟩
  | 29 => ⟨S12288x1024, .bf16⟩
  | _ => ⟨S16x256x1024, .f32⟩

abbrev hbmTy (i : Nat) : BufTy := match i / 128 with
  | 0 => hbmTy0_0 i
  | 1 => hbmTy0_1 i
  | _ => ⟨S16x256x1024, .f32⟩

abbrev bufTy : (tb : Table) → Fin (tcTables nBuf tb) → BufTy
  | .hbm, ⟨i, _⟩ => hbmTy i
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_0 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_1 : Ref sig .tc := ⟨.hbm, 48, rfl⟩
abbrev main_v28 : Ref sig .tc := ⟨.hbm, 49, rfl⟩
abbrev main_v29 : Ref sig .tc := ⟨.hbm, 50, rfl⟩
abbrev main_cst_2 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_3 : Ref sig .tc := ⟨.hbm, 61, rfl⟩
abbrev main_v39 : Ref sig .tc := ⟨.hbm, 62, rfl⟩
abbrev main_v40 : Ref sig .tc := ⟨.hbm, 63, rfl⟩
abbrev main_cst_4 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_5 : Ref sig .tc := ⟨.hbm, 69, rfl⟩
abbrev main_v45 : Ref sig .tc := ⟨.hbm, 70, rfl⟩
abbrev main_v46 : Ref sig .tc := ⟨.hbm, 71, rfl⟩
abbrev main_cst_6 : Ref sig .tc := ⟨.hbm, 72, rfl⟩
abbrev main_v47 : Ref sig .tc := ⟨.hbm, 73, rfl⟩
abbrev main_v48 : Ref sig .tc := ⟨.hbm, 74, rfl⟩
abbrev main_cst_7 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_cst_8 : Ref sig .tc := ⟨.hbm, 82, rfl⟩
abbrev main_v55 : Ref sig .tc := ⟨.hbm, 83, rfl⟩
abbrev main_v56 : Ref sig .tc := ⟨.hbm, 84, rfl⟩
abbrev main_cst_9 : Ref sig .tc := ⟨.hbm, 85, rfl⟩
abbrev main_v57 : Ref sig .tc := ⟨.hbm, 86, rfl⟩
abbrev main_v58 : Ref sig .tc := ⟨.hbm, 87, rfl⟩
abbrev main_cst_10 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_cst_11 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_cst_12 : Ref sig .tc := ⟨.hbm, 104, rfl⟩
abbrev main_v73 : Ref sig .tc := ⟨.hbm, 105, rfl⟩
abbrev main_v74 : Ref sig .tc := ⟨.hbm, 106, rfl⟩
abbrev main_cst_13 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_cst_14 : Ref sig .tc := ⟨.hbm, 113, rfl⟩
abbrev main_v80 : Ref sig .tc := ⟨.hbm, 114, rfl⟩
abbrev main_v81 : Ref sig .tc := ⟨.hbm, 115, rfl⟩
abbrev main_cst_15 : Ref sig .tc := ⟨.hbm, 116, rfl⟩
abbrev main_v82 : Ref sig .tc := ⟨.hbm, 117, rfl⟩
abbrev main_v83 : Ref sig .tc := ⟨.hbm, 118, rfl⟩
abbrev main_cst_16 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_cst_17 : Ref sig .tc := ⟨.hbm, 131, rfl⟩
abbrev main_v95 : Ref sig .tc := ⟨.hbm, 132, rfl⟩
abbrev main_v96 : Ref sig .tc := ⟨.hbm, 133, rfl⟩
abbrev main_cst_18 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_cst_19 : Ref sig .tc := ⟨.hbm, 140, rfl⟩
abbrev main_v102 : Ref sig .tc := ⟨.hbm, 141, rfl⟩
abbrev main_v103 : Ref sig .tc := ⟨.hbm, 142, rfl⟩
abbrev main_cst_20 : Ref sig .tc := ⟨.hbm, 143, rfl⟩
abbrev main_v104 : Ref sig .tc := ⟨.hbm, 144, rfl⟩
abbrev main_v105 : Ref sig .tc := ⟨.hbm, 145, rfl⟩
abbrev main_cst_21 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_cst_22 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩

abbrev nD : Nat := 1
abbrev τ : Topo := Topo.v7x

variable {F : FTy → Type} [FloatOps F]
-- ==== Kernel4.lean ====
abbrev S1x4096x1024 : Shape := ⟨3, ![1, 4096, 1024]⟩
abbrev S1x1x6144 : Shape := ⟨3, ![1, 1, 6144]⟩
abbrev S1024x2048 : Shape := ⟨2, ![1024, 2048]⟩
abbrev S1x4096x1536 : Shape := ⟨3, ![1, 4096, 1536]⟩
abbrev S1x4096x512 : Shape := ⟨3, ![1, 4096, 512]⟩
abbrev S1x1024x1024 : Shape := ⟨3, ![1, 1024, 1024]⟩
abbrev S1x1024x1536 : Shape := ⟨3, ![1, 1024, 1536]⟩
abbrev S1x1024x512 : Shape := ⟨3, ![1, 1024, 512]⟩
abbrev S1024x1024 : Shape := ⟨2, ![1024, 1024]⟩
abbrev S1x1x1024 : Shape := ⟨3, ![1, 1, 1024]⟩
abbrev S1x1024 : Shape := ⟨2, ![1, 1024]⟩
abbrev S1024 : Shape := ⟨1, ![1024]⟩
abbrev S1024x1 : Shape := ⟨2, ![1024, 1]⟩
abbrev S1024x1536 : Shape := ⟨2, ![1024, 1536]⟩
abbrev S1024x512 : Shape := ⟨2, ![1024, 512]⟩

abbrev nBuf : Space → Nat
  | .hbm => 5
  | .vmem => 8
  | .smem => 0
  | _ => 0

abbrev bufTy : (tb : Table) → Fin (tcTables nBuf tb) → BufTy
  | .hbm, ⟨0, _⟩ => ⟨S1x4096x1024, .f32⟩
  | .hbm, ⟨1, _⟩ => ⟨S1x1x6144, .f32⟩
  | .hbm, ⟨2, _⟩ => ⟨S1024x2048, .f32⟩
  | .hbm, ⟨3, _⟩ => ⟨S1x4096x1536, .f32⟩
  | .hbm, ⟨4, _⟩ => ⟨S1x4096x512, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1x6144, .f32⟩
  | .local _ .vmem, ⟨3, _⟩ => ⟨S1024x2048, .f32⟩
  | .local _ .vmem, ⟨4, _⟩ => ⟨S1x1024x1536, .f32⟩
  | .local _ .vmem, ⟨5, _⟩ => ⟨S1x1024x1536, .f32⟩
  | .local _ .vmem, ⟨6, _⟩ => ⟨S1x1024x512, .f32⟩
  | .local _ .vmem, ⟨7, _⟩ => ⟨S1x1024x512, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![1, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference4Ideal.lean ====
abbrev S1x4096x1024 : Shape := ⟨3, ![1, 4096, 1024]⟩
abbrev S1x1x6144 : Shape := ⟨3, ![1, 1, 6144]⟩
abbrev S1024x2048 : Shape := ⟨2, ![1024, 2048]⟩
abbrev S1x1x1024 : Shape := ⟨3, ![1, 1, 1024]⟩
abbrev S_ : Shape := ⟨0, ![]⟩
abbrev S1x4096 : Shape := ⟨2, ![1, 4096]⟩
abbrev S1x4096x1 : Shape := ⟨3, ![1, 4096, 1]⟩
abbrev S1x4096x2048 : Shape := ⟨3, ![1, 4096, 2048]⟩
abbrev S1x4096x1536 : Shape := ⟨3, ![1, 4096, 1536]⟩
abbrev S1x4096x512 : Shape := ⟨3, ![1, 4096, 512]⟩

abbrev nBuf : Space → Nat
  | .hbm => 40
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x1x6144, .f32⟩
  | .hbm, ⟨2, _⟩ => ⟨S1024x2048, .f32⟩
  | .hbm, ⟨3, _⟩ => ⟨S1x1x1024, .f32⟩
  | .hbm, ⟨4, _⟩ => ⟨S1x1x1024, .f32⟩
  | .hbm, ⟨5, _⟩ => ⟨S1x1x1024, .f32⟩
  | .hbm, ⟨6, _⟩ => ⟨S1x1x1024, .f32⟩
  | .hbm, ⟨7, _⟩ => ⟨S1x1x1024, .f32⟩
  | .hbm, ⟨8, _⟩ => ⟨S1x1x1024, .f32⟩
  | .hbm, ⟨9, _⟩ => ⟨S_, .f32⟩
  | .hbm, ⟨10, _⟩ => ⟨S1x4096, .f32⟩
  | .hbm, ⟨11, _⟩ => ⟨S1x4096x1, .f32⟩
  | .hbm, ⟨12, _⟩ => ⟨S_, .f32⟩
  | .hbm, ⟨13, _⟩ => ⟨S1x4096x1, .f32⟩
  | .hbm, ⟨14, _⟩ => ⟨S1x4096x1, .f32⟩
  | .hbm, ⟨15, _⟩ => ⟨S1x4096x1024, .f32⟩
  | .hbm, ⟨16, _⟩ => ⟨S1x4096x1024, .f32⟩
  | .hbm, ⟨17, _⟩ => ⟨S1x4096x1024, .f32⟩
  | .hbm, ⟨18, _⟩ => ⟨S_, .f32⟩
  | .hbm, ⟨19, _⟩ => ⟨S1x4096, .f32⟩
  | .hbm, ⟨20, _⟩ => ⟨S1x4096x1, .f32⟩
  | .hbm, ⟨21, _⟩ => ⟨S_, .f32⟩
  | .hbm, ⟨22, _⟩ => ⟨S1x4096x1, .f32⟩
  | .hbm, ⟨23, _⟩ => ⟨S1x4096x1, .f32⟩
  | .hbm, ⟨24, _⟩ => ⟨S_, .f32⟩
  | .hbm, ⟨25, _⟩ => ⟨S1x4096x1, .f32⟩
  | .hbm, ⟨26, _⟩ => ⟨S1x4096x1, .f32⟩
  | .hbm, ⟨27, _⟩ => ⟨S1x4096x1, .f32⟩
  | .hbm, ⟨28, _⟩ => ⟨S1x4096x1024, .f32⟩
  | .hbm, ⟨29, _⟩ => ⟨S1x4096x1024, .f32⟩
  | .hbm, ⟨30, _⟩ => ⟨S_, .f32⟩
  | .hbm, ⟨31, _⟩ => ⟨S1x1x1024, .f32⟩
  | .hbm, ⟨32, _⟩ => ⟨S1x1x1024, .f32⟩
  | .hbm, ⟨33, _⟩ => ⟨S1x4096x1024, .f32⟩
  | .hbm, ⟨34, _⟩ => ⟨S1x4096x1024, .f32⟩
  | .hbm, ⟨35, _⟩ => ⟨S1x4096x1024, .f32⟩
  | .hbm, ⟨36, _⟩ => ⟨S1x4096x1024, .f32⟩
  | .hbm, ⟨37, _⟩ => ⟨S1x4096x2048, .f32⟩
  | .hbm, ⟨38, _⟩ => ⟨S1x4096x1536, .f32⟩
  | .hbm, ⟨39, _⟩ => ⟨S1x4096x512, .f32⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩

abbrev nD : Nat := 1
abbrev τ : Topo := Topo.v7x

variable {F : FTy → Type} [FloatOps F]
-- ==== Kernel5.lean ====
abbrev S16x1024 : Shape := ⟨2, ![16, 1024]⟩
abbrev S1024x6144 : Shape := ⟨2, ![1024, 6144]⟩
abbrev S6144 : Shape := ⟨1, ![6144]⟩
abbrev S1x6144 : Shape := ⟨2, ![1, 6144]⟩
abbrev S16x6144 : Shape := ⟨2, ![16, 6144]⟩
abbrev S1024x1024 : Shape := ⟨2, ![1024, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S1024x6144, .f32⟩
  | .hbm, ⟨2, _⟩ => ⟨S6144, .f32⟩
  | .hbm, ⟨3, _⟩ => ⟨S1x6144, .f32⟩
  | .hbm, ⟨4, _⟩ => ⟨S16x6144, .f32⟩
  | .local _ .vmem, ⟨0, _⟩ => ⟨S16x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S16x1024, .f32⟩
  | .local _ .vmem, ⟨6, _⟩ => ⟨S16x1024, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference5Ideal.lean ====
abbrev S16x1024 : Shape := ⟨2, ![16, 1024]⟩
abbrev S1024x6144 : Shape := ⟨2, ![1024, 6144]⟩
abbrev S6144 : Shape := ⟨1, ![6144]⟩
abbrev S_ : Shape := ⟨0, ![]⟩
abbrev S16x6144 : Shape := ⟨2, ![16, 6144]⟩
abbrev S1x6144 : Shape := ⟨2, ![1, 6144]⟩

abbrev nBuf : Space → Nat
  | .hbm => 16
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S1024x6144, .f32⟩
  | .hbm, ⟨2, _⟩ => ⟨S6144, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S16x6144, .f32⟩
  | .hbm, ⟨13, _⟩ => ⟨S1x6144, .f32⟩
  | .hbm, ⟨14, _⟩ => ⟨S16x6144, .f32⟩
  | .hbm, ⟨15, _⟩ => ⟨S16x6144, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Kernel6.lean ====
abbrev S16x256x1024 : Shape := ⟨3, ![16, 256, 1024]⟩
abbrev S8x1024x1024 : Shape := ⟨3, ![8, 1024, 1024]⟩
abbrev S1024x1024 : Shape := ⟨2, ![1024, 1024]⟩
abbrev S4096x512 : Shape := ⟨2, ![4096, 512]⟩
abbrev S8192x512 : Shape := ⟨2, ![8192, 512]⟩
abbrev S16x6144 : Shape := ⟨2, ![16, 6144]⟩
abbrev S512x512 : Shape := ⟨2, ![512, 512]⟩
abbrev S512 : Shape := ⟨1, ![512]⟩
abbrev S1024 : Shape := ⟨1, ![1024]⟩
abbrev S1024x4 : Shape := ⟨2, ![1024, 4]⟩
abbrev S4 : Shape := ⟨1, ![4]⟩
abbrev S4x1024x4 : Shape := ⟨3, ![4, 1024, 4]⟩
abbrev S4x4 : Shape := ⟨2, ![4, 4]⟩
abbrev S1024x4x4 : Shape := ⟨3, ![1024, 4, 4]⟩
abbrev S1024x16 : Shape := ⟨2, ![1024, 16]⟩
abbrev S1024x20 : Shape := ⟨2, ![1024, 20]⟩
abbrev S_ : Shape := ⟨0, ![]⟩
abbrev S1024x128 : Shape := ⟨2, ![1024, 128]⟩
abbrev S16 : Shape := ⟨1, ![16]⟩
abbrev S20 : Shape := ⟨1, ![20]⟩
abbrev S128 : Shape := ⟨1, ![128]⟩
abbrev S1x128 : Shape := ⟨2, ![1, 128]⟩
abbrev S4096x1024 : Shape := ⟨2, ![4096, 1024]⟩
abbrev S8192x1024 : Shape := ⟨2, ![8192, 1024]⟩
abbrev S1x512 : Shape := ⟨2, ![1, 512]⟩
abbrev S1x1024 : Shape := ⟨2, ![1, 1024]⟩
abbrev S16x1x6144 : Shape := ⟨3, ![16, 1, 6144]⟩
abbrev S12288x1024 : Shape := ⟨2, ![12288, 1024]⟩
abbrev S12288x128 : Shape := ⟨2, ![12288, 128]⟩
abbrev S24x1x128 : Shape := ⟨3, ![24, 1, 128]⟩
abbrev S512x1024 : Shape := ⟨2, ![512, 1024]⟩
abbrev S1x1x6144 : Shape := ⟨3, ![1, 1, 6144]⟩
abbrev S512x128 : Shape := ⟨2, ![512, 128]⟩
abbrev S1x1x128 : Shape := ⟨3, ![1, 1, 128]⟩
abbrev S512x1 : Shape := ⟨2, ![512, 1]⟩
abbrev S1x1x1024 : Shape := ⟨3, ![1, 1, 1024]⟩

abbrev nBuf : Space → Nat
  | .hbm => 47
  | .vmem => 33
  | .smem => 0
  | _ => 0

abbrev bufTy : (tb : Table) → Fin (tcTables nBuf tb) → BufTy
  | .hbm, ⟨0, _⟩ => ⟨S16x256x1024, .f32⟩
  | .hbm, ⟨1, _⟩ => ⟨S8x1024x1024, .f32⟩
  | .hbm, ⟨2, _⟩ => ⟨S1024x1024, .f32⟩
  | .hbm, ⟨3, _⟩ => ⟨S4096x512, .f32⟩
  | .hbm, ⟨4, _⟩ => ⟨S8192x512, .f32⟩
  | .hbm, ⟨5, _⟩ => ⟨S4096x512, .f32⟩
  | .hbm, ⟨6, _⟩ => ⟨S8192x512, .f32⟩
  | .hbm, ⟨7, _⟩ => ⟨S16x6144, .f32⟩
  | .hbm, ⟨8, _⟩ => ⟨S512x512, .f32⟩
  | .hbm, ⟨9, _⟩ => ⟨S512, .f32⟩
  | .hbm, ⟨10, _⟩ => ⟨S1024, .f32⟩
  | .hbm, ⟨11, _⟩ => ⟨S1024x1024, .f32⟩
  | .hbm, ⟨12, _⟩ => ⟨S1024, .f32⟩
  | .hbm, ⟨13, _⟩ => ⟨S1024, .f32⟩
  | .hbm, ⟨14, _⟩ => ⟨S1024x4, .f32⟩
  | .hbm, ⟨15, _⟩ => ⟨S4, .f32⟩
  | .hbm, ⟨16, _⟩ => ⟨S4x1024x4, .f32⟩
  | .hbm, ⟨17, _⟩ => ⟨S4x4, .f32⟩
  | .hbm, ⟨18, _⟩ => ⟨S1024x4x4, .f32⟩
  | .hbm, ⟨19, _⟩ => ⟨S1024x16, .f32⟩
  | .hbm, ⟨20, _⟩ => ⟨S1024x20, .f32⟩
  | .hbm, ⟨21, _⟩ => ⟨S_, .i32⟩
  | .hbm, ⟨22, _⟩ => ⟨S_, .f32⟩
  | .hbm, ⟨23, _⟩ => ⟨S1024x128, .f32⟩
  | .hbm, ⟨24, _⟩ => ⟨S16, .f32⟩
  | .hbm, ⟨25, _⟩ => ⟨S20, .f32⟩
  | .hbm, ⟨26, _⟩ => ⟨S_, .i32⟩
  | .hbm, ⟨27, _⟩ => ⟨S_, .f32⟩
  | .hbm, ⟨28, _⟩ => ⟨S128, .f32⟩
  | .hbm, ⟨29, _⟩ => ⟨S1x128, .f32⟩
  | .hbm, ⟨30, _⟩ => ⟨S1024x128, .bf16⟩
  | .hbm, ⟨31, _⟩ => ⟨S1024x128, .f32⟩
  | .hbm, ⟨32, _⟩ => ⟨S1024x128, .f32⟩
  | .hbm, ⟨33, _⟩ => ⟨S1024x128, .bf16⟩
  | .hbm, ⟨34, _⟩ => ⟨S4096x1024, .f32⟩
  | .hbm, ⟨35, _⟩ => ⟨S8192x1024, .f32⟩
  | .hbm, ⟨36, _⟩ => ⟨S512x512, .bf16⟩
  | .hbm, ⟨37, _⟩ => ⟨S1x512, .f32⟩
  | .hbm, ⟨38, _⟩ => ⟨S1x1024, .f32⟩
  | .hbm, ⟨39, _⟩ => ⟨S1024x1024, .bf16⟩
  | .hbm, ⟨40, _⟩ => ⟨S1x1024, .f32⟩
  | .hbm, ⟨41, _⟩ => ⟨S1x1024, .f32⟩
  | .hbm, ⟨42, _⟩ => ⟨S16x1x6144, .f32⟩
  | .hbm, ⟨43, _⟩ => ⟨S12288x1024, .f32⟩
  | .hbm, ⟨44, _⟩ => ⟨S12288x1024, .bf16⟩
  | .hbm, ⟨45, _⟩ => ⟨S12288x128, .f32⟩
  | .hbm, ⟨46, _⟩ => ⟨S24x1x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S1x1x6144, .f32⟩
  | .local _ .vmem, ⟨15, _⟩ => ⟨S1x1x6144, .f32⟩
  | .local _ .vmem, ⟨16, _⟩ => ⟨S512x512, .bf16⟩
  | .local _ .vmem, ⟨17, _⟩ => ⟨S1x512, .f32⟩
  | .local _ .vmem, ⟨18, _⟩ => ⟨S1x1024, .f32⟩
  | .local _ .vmem, ⟨19, _⟩ => ⟨S1024x1024, .bf16⟩
  | .local _ .vmem, ⟨20, _⟩ => ⟨S1x1024, .f32⟩
  | .local _ .vmem, ⟨21, _⟩ => ⟨S1x1024, .f32⟩
  | .local _ .vmem, ⟨22, _⟩ => ⟨S1024x128, .bf16⟩
  | .local _ .vmem, ⟨23, _⟩ => ⟨S1024x128, .bf16⟩
  | .local _ .vmem, ⟨24, _⟩ => ⟨S1x128, .f32⟩
  | .local _ .vmem, ⟨25, _⟩ => ⟨S512x1024, .f32⟩
  | .local _ .vmem, ⟨26, _⟩ => ⟨S512x1024, .f32⟩
  | .local _ .vmem, ⟨27, _⟩ => ⟨S512x1024, .bf16⟩
  | .local _ .vmem, ⟨28, _⟩ => ⟨S512x1024, .bf16⟩
  | .local _ .vmem, ⟨29, _⟩ => ⟨S512x128, .f32⟩
  | .local _ .vmem, ⟨30, _⟩ => ⟨S512x128, .f32⟩
  | .local _ .vmem, ⟨31, _⟩ => ⟨S1x1x128, .f32⟩
  | .local _ .vmem, ⟨32, _⟩ => ⟨S1x1x128, .f32⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_c : Ref sig .tc := ⟨.hbm, 21, rfl⟩
abbrev main_call0_v0 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_c_0 : Ref sig .tc := ⟨.hbm, 26, rfl⟩
abbrev main_call1_v0 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21_0 : Ref sig .tc := ⟨.hbm, 43, rfl⟩
abbrev main_v21_1 : Ref sig .tc := ⟨.hbm, 44, rfl⟩
abbrev main_v21_2 : Ref sig .tc := ⟨.hbm, 45, rfl⟩
abbrev main_v21_3 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_stg19_0 : Ref sig .tc := ⟨.vmem, 29, rfl⟩
abbrev cc0_stg19_1 : Ref sig .tc := ⟨.vmem, 30, rfl⟩
abbrev cc0_stg20_0 : Ref sig .tc := ⟨.vmem, 31, rfl⟩
abbrev cc0_stg20_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem16_0 : DmaSem sig := 24
abbrev cc0_sem17_0 : DmaSem sig := 25
abbrev cc0_sem17_1 : DmaSem sig := 26
abbrev cc0_sem18_0 : DmaSem sig := 27
abbrev cc0_sem18_1 : DmaSem sig := 28
abbrev cc0_sem19_0 : DmaSem sig := 29
abbrev cc0_sem19_1 : DmaSem sig := 30
abbrev cc0_sem20_0 : DmaSem sig := 31
abbrev cc0_sem20_1 : DmaSem sig := 32

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c2_i32 : BitVec 32 := 2#32
  let c0_i32_0 : BitVec 32 := 0#32
  let v2 : BitVec 1 := Scalar.cmpi .eq c2_i32 c0_i32_0
  let c1_i32 : BitVec 32 := 1#32
  let v3 : BitVec 32 := Scalar.select v2 c1_i32 c2_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c0_i32_4 : BitVec 32 := 0#32
  let c0_i32_5 : BitVec 32 := 0#32
  ![v11.toNat, c0_i32_4.toNat]

def cc0_transform_3 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_7 (i : grid0.Coords) : Fin 3 → Nat :=
  let arg0 : BitVec 32 := BitVec.ofNat 32 (i 0).val
  let c8_i32 : BitVec 32 := 8#32
  let v0 : BitVec 1 := Scalar.cmpi .slt arg0 c8_i32
  let c8_i32_0 : BitVec 32 := 8#32
  let v1 : BitVec 32 := Scalar.subi arg0 c8_i32_0
  let c0_i32 : BitVec 32 := 0#32
  let v2 : BitVec 32 := Scalar.maxsi v1 c0_i32
  let c2_i32 : BitVec 32 := 2#32
  let v3 : BitVec 32 := Scalar.divsi v2 c2_i32
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c2_i32 c0_i32_3
  let v10 : BitVec 32 := Scalar.extui v9
  let c0_i32_4 : BitVec 32 := 0#32
  let v11 : BitVec 1 := Scalar.cmpi .slt c2_i32 c0_i32_4
  let v12 : BitVec 32 := Scalar.extui v11
  let v13 : BitVec 32 := Scalar.subi v10 v12
  let v14 : BitVec 1 := Scalar.cmpi .ne v8 v13
  let v15 : BitVec 32 := Scalar.remsi v2 c2_i32
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c1_i32_6 : BitVec 32 := 1#32
  let v20 : BitVec 32 := Scalar.addi c1_i32_6 v19
  let c0_i32_7 : BitVec 32 := 0#32
  let v21 : BitVec 32 := Scalar.select v0 c0_i32_7 v20
  let c0_i32_8 : BitVec 32 := 0#32
  let c0_i32_9 : BitVec 32 := 0#32
  let c0_i32_10 : BitVec 32 := 0#32
  ![v21.toNat, c0_i32_8.toNat, c0_i32_9.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x6144 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x128 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1024x128 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S512x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1x1x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== Reference6Ideal.lean ====
abbrev S16x256x1024 : Shape := ⟨3, ![16, 256, 1024]⟩
abbrev S8x1024x1024 : Shape := ⟨3, ![8, 1024, 1024]⟩
abbrev S1024x1024 : Shape := ⟨2, ![1024, 1024]⟩
abbrev S4096x512 : Shape := ⟨2, ![4096, 512]⟩
abbrev S8192x512 : Shape := ⟨2, ![8192, 512]⟩
abbrev S16x6144 : Shape := ⟨2, ![16, 6144]⟩
abbrev S512x512 : Shape := ⟨2, ![512, 512]⟩
abbrev S512 : Shape := ⟨1, ![512]⟩
abbrev S1024 : Shape := ⟨1, ![1024]⟩
abbrev S1024x4 : Shape := ⟨2, ![1024, 4]⟩
abbrev S4 : Shape := ⟨1, ![4]⟩
abbrev S4x1024x4 : Shape := ⟨3, ![4, 1024, 4]⟩
abbrev S4x4 : Shape := ⟨2, ![4, 4]⟩
abbrev S4096x1024 : Shape := ⟨2, ![4096, 1024]⟩
abbrev S1x1024x1024 : Shape := ⟨3, ![1, 1024, 1024]⟩
abbrev S8192x1024 : Shape := ⟨2, ![8192, 1024]⟩
abbrev S12288x1024 : Shape := ⟨2, ![12288, 1024]⟩
abbrev S12288x512 : Shape := ⟨2, ![12288, 512]⟩
abbrev S1x6144 : Shape := ⟨2, ![1, 6144]⟩
abbrev S4096x6144 : Shape := ⟨2, ![4096, 6144]⟩
abbrev S8x6144 : Shape := ⟨2, ![8, 6144]⟩
abbrev S8x1024x6144 : Shape := ⟨3, ![8, 1024, 6144]⟩
abbrev S8192x6144 : Shape := ⟨2, ![8192, 6144]⟩
abbrev S12288x6144 : Shape := ⟨2, ![12288, 6144]⟩
abbrev S_ : Shape := ⟨0, ![]⟩
abbrev S1x512 : Shape := ⟨2, ![1, 512]⟩
abbrev S12288 : Shape := ⟨1, ![12288]⟩
abbrev S12288x1 : Shape := ⟨2, ![12288, 1]⟩
abbrev S1x1024 : Shape := ⟨2, ![1, 1024]⟩
abbrev S12288x4 : Shape := ⟨2, ![12288, 4]⟩
abbrev S1x4 : Shape := ⟨2, ![1, 4]⟩
abbrev S12288x2 : Shape := ⟨2, ![12288, 2]⟩
abbrev S12288x4x4 : Shape := ⟨3, ![12288, 4, 4]⟩
abbrev S1x4x4 : Shape := ⟨3, ![1, 4, 4]⟩
abbrev S12288x2x1 : Shape := ⟨3, ![12288, 2, 1]⟩
abbrev S1x1x16 : Shape := ⟨3, ![1, 1, 16]⟩
abbrev S12288x2x16 : Shape := ⟨3, ![12288, 2, 16]⟩
abbrev S12288x16 : Shape := ⟨2, ![12288, 16]⟩
abbrev S12288x108 : Shape := ⟨2, ![12288, 108]⟩
abbrev S12288x128 : Shape := ⟨2, ![12288, 128]⟩
abbrev S24x1x512x128 : Shape := ⟨4, ![24, 1, 512, 128]⟩
abbrev S24x1x128 : Shape := ⟨3, ![24, 1, 128]⟩

abbrev nBuf : Space → Nat
  | .hbm => 267
  | .vmem => 0
  | .smem => 0
  | _ => 0

abbrev hbmTy0_0 (i : Nat) : BufTy := match i % 128 with
  | 0 => ⟨S16x256x1024, .f32⟩
  | 1 => ⟨S8x1024x1024, .f32⟩
  | 2 => ⟨S1024x1024, .f32⟩
  | 3 => ⟨S4096x512, .f32⟩
  | 4 => ⟨S8192x512, .f32⟩
  | 5 => ⟨S4096x512, .f32⟩
  | 6 => ⟨S8192x512, .f32⟩
  | 7 => ⟨S16x6144, .f32⟩
  | 8 => ⟨S512x512, .f32⟩
  | 9 => ⟨S512, .f32⟩
  | 10 => ⟨S1024, .f32⟩
  | 11 => ⟨S1024x1024, .f32⟩
  | 12 => ⟨S1024, .f32⟩
  | 13 => ⟨S1024, .f32⟩
  | 14 => ⟨S1024x4, .f32⟩
  | 15 => ⟨S4, .f32⟩
  | 16 => ⟨S4x1024x4, .f32⟩
  | 17 => ⟨S4x4, .f32⟩
  | 18 => ⟨S4096x1024, .f32⟩
  | 19 => ⟨S1x1024x1024, .f32⟩
  | 20 => ⟨S8x1024x1024, .f32⟩
  | 21 => ⟨S8x1024x1024, .f32⟩
  | 22 => ⟨S8192x1024, .f32⟩
  | 23 => ⟨S12288x1024, .f32⟩
  | 24 => ⟨S12288x512, .f32⟩
  | 25 => ⟨S12288x512, .f32⟩
  | 26 => ⟨S1x6144, .f32⟩
  | 27 => ⟨S4096x6144, .f32⟩
  | 28 => ⟨S8x6144, .f32⟩
  | 29 => ⟨S8x1024x6144, .f32⟩
  | 30 => ⟨S8192x6144, .f32⟩
  | 31 => ⟨S12288x6144, .f32⟩
  | 32 => ⟨S12288x1024, .f32⟩
  | 33 => ⟨S12288x1024, .f32⟩
  | 34 => ⟨S12288x1024, .f32⟩
  | 35 => ⟨S12288x1024, .f32⟩
  | 36 => ⟨S12288x1024, .f32⟩
  | 37 => ⟨S12288x1024, .f32⟩
  | 38 => ⟨S12288x512, .f32⟩
  | 39 => ⟨S12288x512, .f32⟩
  | 40 => ⟨S_, .f32⟩
  | 41 => ⟨S12288x512, .f32⟩
  | 42 => ⟨S12288x512, .f32⟩
  | 43 => ⟨S12288x512, .f32⟩
  | 44 => ⟨S_, .f32⟩
  | 45 => ⟨S12288x512, .f32⟩
  | 46 => ⟨S12288x512, .f32⟩
  | 47 => ⟨S12288x512, .f32⟩
  | 48 => ⟨S_, .f32⟩
  | 49 => ⟨S12288x512, .f32⟩
  | 50 => ⟨S12288x512, .f32⟩
  | 51 => ⟨S_, .f32⟩
  | 52 => ⟨S12288x512, .f32⟩
  | 53 => ⟨S12288x512, .f32⟩
  | 54 => ⟨S12288x512, .f32⟩
  | 55 => ⟨S12288x512, .f32⟩
  | 56 => ⟨S1x512, .f32⟩
  | 57 => ⟨S12288x512, .f32⟩
  | 58 => ⟨S12288x512, .f32⟩
  | 59 => ⟨S12288x512, .f32⟩
  | 60 => ⟨S12288x512, .f32⟩
  | 61 => ⟨S_, .f32⟩
  | 62 => ⟨S12288x512, .f32⟩
  | 63 => ⟨S12288x512, .f32⟩
  | 64 => ⟨S_, .f32⟩
  | 65 => ⟨S12288x512, .f32⟩
  | 66 => ⟨S12288x512, .f32⟩
  | 67 => ⟨S12288x512, .f32⟩
  | 68 => ⟨S12288x512, .f32⟩
  | 69 => ⟨S_, .f32⟩
  | 70 => ⟨S12288, .f32⟩
  | 71 => ⟨S12288x1, .f32⟩
  | 72 => ⟨S_, .f32⟩
  | 73 => ⟨S12288x1, .f32⟩
  | 74 => ⟨S12288x1, .f32⟩
  | 75 => ⟨S_, .f32⟩
  | 76 => ⟨S12288x1, .f32⟩
  | 77 => ⟨S12288x1, .f32⟩
  | 78 => ⟨S12288x1, .f32⟩
  | 79 => ⟨S12288x512, .f32⟩
  | 80 => ⟨S12288x512, .f32⟩
  | 81 => ⟨S12288x512, .f32⟩
  | 82 => ⟨S_, .f32⟩
  | 83 => ⟨S12288, .f32⟩
  | 84 => ⟨S12288x1, .f32⟩
  | 85 => ⟨S_, .f32⟩
  | 86 => ⟨S12288x1, .f32⟩
  | 87 => ⟨S12288x1, .f32⟩
  | 88 => ⟨S_, .f32⟩
  | 89 => ⟨S12288x1, .f32⟩
  | 90 => ⟨S12288x1, .f32⟩
  | 91 => ⟨S12288x1, .f32⟩
  | 92 => ⟨S12288x512, .f32⟩
  | 93 => ⟨S12288x512, .f32⟩
  | 94 => ⟨S12288x1024, .f32⟩
  | 95 => ⟨S1x1024, .f32⟩
  | 96 => ⟨S12288x1024, .f32⟩
  | 97 => ⟨S12288x1024, .f32⟩
  | 98 => ⟨S12288x1024, .f32⟩
  | 99 => ⟨S_, .f32⟩
  | 100 => ⟨S12288x1024, .f32⟩
  | 101 => ⟨S12288x1024, .f32⟩
  | 102 => ⟨S12288x1024, .f32⟩
  | 103 => ⟨S12288x1024, .f32⟩
  | 104 => ⟨S_, .f32⟩
  | 105 => ⟨S12288, .f32⟩
  | 106 => ⟨S12288x1, .f32⟩
  | 107 => ⟨S_, .f32⟩
  | 108 => ⟨S12288x1, .f32⟩
  | 109 => ⟨S12288x1, .f32⟩
  | 110 => ⟨S12288x1024, .f32⟩
  | 111 => ⟨S12288x1024, .f32⟩
  | 112 => ⟨S12288x1024, .f32⟩
  | 113 => ⟨S_, .f32⟩
  | 114 => ⟨S12288, .f32⟩
  | 115 => ⟨S12288x1, .f32⟩
  | 116 => ⟨S_, .f32⟩
  | 117 => ⟨S12288x1, .f32⟩
  | 118 => ⟨S12288x1, .f32⟩
  | 119 => ⟨S_, .f32⟩
  | 120 => ⟨S12288x1, .f32⟩
  | 121 => ⟨S12288x1, .f32⟩
  | 122 => ⟨S12288x1, .f32⟩
  | 123 => ⟨S12288x1024, .f32⟩
  | 124 => ⟨S12288x1024, .f32⟩
  | 125 => ⟨S1x1024, .f32⟩
  | 126 => ⟨S12288x1024, .f32⟩
  | 127 => ⟨S12288x1024, .f32⟩
  | _ => ⟨S16x256x1024, .f32⟩

abbrev hbmTy0_1 (i : Nat) : BufTy := match i % 128 with
  | 0 => ⟨S1x1024, .f32⟩
  | 1 => ⟨S12288x1024, .f32⟩
  | 2 => ⟨S12288x1024, .f32⟩
  | 3 => ⟨S_, .f32⟩
  | 4 => ⟨S12288, .f32⟩
  | 5 => ⟨S12288x1, .f32⟩
  | 6 => ⟨S_, .f32⟩
  | 7 => ⟨S12288x1, .f32⟩
  | 8 => ⟨S12288x1, .f32⟩
  | 9 => ⟨S12288x1024, .f32⟩
  | 10 => ⟨S12288x1024, .f32⟩
  | 11 => ⟨S12288x1024, .f32⟩
  | 12 => ⟨S_, .f32⟩
  | 13 => ⟨S12288, .f32⟩
  | 14 => ⟨S12288x1, .f32⟩
  | 15 => ⟨S_, .f32⟩
  | 16 => ⟨S12288x1, .f32⟩
  | 17 => ⟨S12288x1, .f32⟩
  | 18 => ⟨S_, .f32⟩
  | 19 => ⟨S12288x1, .f32⟩
  | 20 => ⟨S12288x1, .f32⟩
  | 21 => ⟨S12288x1, .f32⟩
  | 22 => ⟨S12288x1024, .f32⟩
  | 23 => ⟨S12288x1024, .f32⟩
  | 24 => ⟨S_, .f32⟩
  | 25 => ⟨S12288x1024, .f32⟩
  | 26 => ⟨S12288x1024, .f32⟩
  | 27 => ⟨S12288x1024, .f32⟩
  | 28 => ⟨S12288x1024, .f32⟩
  | 29 => ⟨S12288x4, .f32⟩
  | 30 => ⟨S1x4, .f32⟩
  | 31 => ⟨S12288x4, .f32⟩
  | 32 => ⟨S12288x4, .f32⟩
  | 33 => ⟨S_, .f32⟩
  | 34 => ⟨S12288, .f32⟩
  | 35 => ⟨S_, .f32⟩
  | 36 => ⟨S12288, .f32⟩
  | 37 => ⟨S12288, .f32⟩
  | 38 => ⟨S12288x1, .f32⟩
  | 39 => ⟨S12288x4, .f32⟩
  | 40 => ⟨S12288x4, .f32⟩
  | 41 => ⟨S12288x4, .f32⟩
  | 42 => ⟨S_, .f32⟩
  | 43 => ⟨S12288, .f32⟩
  | 44 => ⟨S12288x1, .f32⟩
  | 45 => ⟨S12288x4, .f32⟩
  | 46 => ⟨S12288x4, .f32⟩
  | 47 => ⟨S12288x1, .f32⟩
  | 48 => ⟨S12288x1, .i32⟩
  | 49 => ⟨S12288, .i32⟩
  | 50 => ⟨S12288, .i32⟩
  | 51 => ⟨S_, .i32⟩
  | 52 => ⟨S12288, .i32⟩
  | 53 => ⟨S12288, .i1⟩
  | 54 => ⟨S_, .i32⟩
  | 55 => ⟨S12288, .i32⟩
  | 56 => ⟨S12288, .i32⟩
  | 57 => ⟨S12288, .i32⟩
  | 58 => ⟨S_, .i32⟩
  | 59 => ⟨S12288, .i32⟩
  | 60 => ⟨S12288, .i1⟩
  | 61 => ⟨S_, .i32⟩
  | 62 => ⟨S12288, .i32⟩
  | 63 => ⟨S12288, .i32⟩
  | 64 => ⟨S12288, .i32⟩
  | 65 => ⟨S12288x1, .i32⟩
  | 66 => ⟨S12288x1, .i32⟩
  | 67 => ⟨S12288x2, .i32⟩
  | 68 => ⟨S12288, .f32⟩
  | 69 => ⟨S12288x1, .f32⟩
  | 70 => ⟨S12288x4x4, .f32⟩
  | 71 => ⟨S1x4x4, .f32⟩
  | 72 => ⟨S12288x4x4, .f32⟩
  | 73 => ⟨S12288x4x4, .f32⟩
  | 74 => ⟨S_, .i32⟩
  | 75 => ⟨S12288, .i32⟩
  | 76 => ⟨S12288, .i1⟩
  | 77 => ⟨S_, .i32⟩
  | 78 => ⟨S12288, .i32⟩
  | 79 => ⟨S12288, .i32⟩
  | 80 => ⟨S12288, .i32⟩
  | 81 => ⟨S_, .i32⟩
  | 82 => ⟨S12288, .i32⟩
  | 83 => ⟨S12288, .i1⟩
  | 84 => ⟨S_, .i32⟩
  | 85 => ⟨S12288, .i32⟩
  | 86 => ⟨S12288, .i32⟩
  | 87 => ⟨S12288, .i32⟩
  | 88 => ⟨S12288x1, .i32⟩
  | 89 => ⟨S12288x1, .i32⟩
  | 90 => ⟨S12288x2, .i32⟩
  | 91 => ⟨S12288x4, .f32⟩
  | 92 => ⟨S12288x2, .f32⟩
  | 93 => ⟨S12288x2, .i32⟩
  | 94 => ⟨S_, .f32⟩
  | 95 => ⟨S12288, .f32⟩
  | 96 => ⟨S_, .f32⟩
  | 97 => ⟨S12288, .f32⟩
  | 98 => ⟨S12288, .f32⟩
  | 99 => ⟨S12288x1, .f32⟩
  | 100 => ⟨S12288x2, .f32⟩
  | 101 => ⟨S12288x2, .f32⟩
  | 102 => ⟨S12288x2, .f32⟩
  | 103 => ⟨S_, .f32⟩
  | 104 => ⟨S12288, .f32⟩
  | 105 => ⟨S12288x1, .f32⟩
  | 106 => ⟨S12288x2, .f32⟩
  | 107 => ⟨S12288x2, .f32⟩
  | 108 => ⟨S12288x2, .f32⟩
  | 109 => ⟨S12288x2, .f32⟩
  | 110 => ⟨S12288x1, .i32⟩
  | 111 => ⟨S_, .i32⟩
  | 112 => ⟨S12288x1, .i32⟩
  | 113 => ⟨S12288x1, .i32⟩
  | 114 => ⟨S12288x2, .i32⟩
  | 115 => ⟨S12288x2, .i32⟩
  | 116 => ⟨S12288x2x1, .i32⟩
  | 117 => ⟨S1x1x16, .i32⟩
  | 118 => ⟨S12288x2x16, .i32⟩
  | 119 => ⟨S12288x2x16, .i32⟩
  | 120 => ⟨S12288x2x16, .i1⟩
  | 121 => ⟨S12288x2x16, .f32⟩
  | 122 => ⟨S12288x2x1, .f32⟩
  | 123 => ⟨S12288x2x16, .f32⟩
  | 124 => ⟨S12288x2x16, .f32⟩
  | 125 => ⟨S_, .f32⟩
  | 126 => ⟨S12288x16, .f32⟩
  | 127 => ⟨S12288x1, .i32⟩
  | _ => ⟨S16x256x1024, .f32⟩

abbrev hbmTy0_2 (i : Nat) : BufTy := match i % 128 with
  | 0 => ⟨S1x4, .i32⟩
  | 1 => ⟨S12288x4, .i32⟩
  | 2 => ⟨S12288x4, .i32⟩
  | 3 => ⟨S12288x4, .i1⟩
  | 4 => ⟨S12288x4, .f32⟩
  | 5 => ⟨S_, .f32⟩
  | 6 => ⟨S12288x108, .f32⟩
  | 7 => ⟨S12288x128, .f32⟩
  | 8 => ⟨S24x1x512x128, .f32⟩
  | 9 => ⟨S_, .f32⟩
  | 10 => ⟨S24x1x128, .f32⟩
  | _ => ⟨S16x256x1024, .f32⟩

abbrev hbmTy (i : Nat) : BufTy := match i / 128 with
  | 0 => hbmTy0_0 i
  | 1 => hbmTy0_1 i
  | 2 => hbmTy0_2 i
  | _ => ⟨S16x256x1024, .f32⟩

abbrev bufTy : (tb : Table) → Fin (tcTables nBuf tb) → BufTy
  | .hbm, ⟨i, _⟩ => hbmTy i
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_0 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_1 : Ref sig .tc := ⟨.hbm, 48, rfl⟩
abbrev main_v28 : Ref sig .tc := ⟨.hbm, 49, rfl⟩
abbrev main_v29 : Ref sig .tc := ⟨.hbm, 50, rfl⟩
abbrev main_cst_2 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_3 : Ref sig .tc := ⟨.hbm, 61, rfl⟩
abbrev main_v39 : Ref sig .tc := ⟨.hbm, 62, rfl⟩
abbrev main_v40 : Ref sig .tc := ⟨.hbm, 63, rfl⟩
abbrev main_cst_4 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_5 : Ref sig .tc := ⟨.hbm, 69, rfl⟩
abbrev main_v45 : Ref sig .tc := ⟨.hbm, 70, rfl⟩
abbrev main_v46 : Ref sig .tc := ⟨.hbm, 71, rfl⟩
abbrev main_cst_6 : Ref sig .tc := ⟨.hbm, 72, rfl⟩
abbrev main_v47 : Ref sig .tc := ⟨.hbm, 73, rfl⟩
abbrev main_v48 : Ref sig .tc := ⟨.hbm, 74, rfl⟩
abbrev main_cst_7 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_cst_8 : Ref sig .tc := ⟨.hbm, 82, rfl⟩
abbrev main_v55 : Ref sig .tc := ⟨.hbm, 83, rfl⟩
abbrev main_v56 : Ref sig .tc := ⟨.hbm, 84, rfl⟩
abbrev main_cst_9 : Ref sig .tc := ⟨.hbm, 85, rfl⟩
abbrev main_v57 : Ref sig .tc := ⟨.hbm, 86, rfl⟩
abbrev main_v58 : Ref sig .tc := ⟨.hbm, 87, rfl⟩
abbrev main_cst_10 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_cst_11 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_cst_12 : Ref sig .tc := ⟨.hbm, 104, rfl⟩
abbrev main_v73 : Ref sig .tc := ⟨.hbm, 105, rfl⟩
abbrev main_v74 : Ref sig .tc := ⟨.hbm, 106, rfl⟩
abbrev main_cst_13 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_cst_14 : Ref sig .tc := ⟨.hbm, 113, rfl⟩
abbrev main_v80 : Ref sig .tc := ⟨.hbm, 114, rfl⟩
abbrev main_v81 : Ref sig .tc := ⟨.hbm, 115, rfl⟩
abbrev main_cst_15 : Ref sig .tc := ⟨.hbm, 116, rfl⟩
abbrev main_v82 : Ref sig .tc := ⟨.hbm, 117, rfl⟩
abbrev main_v83 : Ref sig .tc := ⟨.hbm, 118, rfl⟩
abbrev main_cst_16 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_cst_17 : Ref sig .tc := ⟨.hbm, 131, rfl⟩
abbrev main_v95 : Ref sig .tc := ⟨.hbm, 132, rfl⟩
abbrev main_v96 : Ref sig .tc := ⟨.hbm, 133, rfl⟩
abbrev main_cst_18 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_cst_19 : Ref sig .tc := ⟨.hbm, 140, rfl⟩
abbrev main_v102 : Ref sig .tc := ⟨.hbm, 141, rfl⟩
abbrev main_v103 : Ref sig .tc := ⟨.hbm, 142, rfl⟩
abbrev main_cst_20 : Ref sig .tc := ⟨.hbm, 143, rfl⟩
abbrev main_v104 : Ref sig .tc := ⟨.hbm, 144, rfl⟩
abbrev main_v105 : Ref sig .tc := ⟨.hbm, 145, rfl⟩
abbrev main_cst_21 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_cst_22 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_cst_23 : Ref sig .tc := ⟨.hbm, 161, rfl⟩
abbrev main_v119 : Ref sig .tc := ⟨.hbm, 162, rfl⟩
abbrev main_cst_24 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_cst_25 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_values : Ref sig .tc := ⟨.hbm, 175, rfl⟩
abbrev main_indices : Ref sig .tc := ⟨.hbm, 176, rfl⟩
abbrev main_v130 : Ref sig .tc := ⟨.hbm, 177, rfl⟩
abbrev main_v131 : Ref sig .tc := ⟨.hbm, 178, rfl⟩
abbrev main_c : Ref sig .tc := ⟨.hbm, 179, rfl⟩
abbrev main_v132 : Ref sig .tc := ⟨.hbm, 180, rfl⟩
abbrev main_v133 : Ref sig .tc := ⟨.hbm, 181, rfl⟩
abbrev main_c_26 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_c_27 : Ref sig .tc := ⟨.hbm, 186, rfl⟩
abbrev main_v137 : Ref sig .tc := ⟨.hbm, 187, rfl⟩
abbrev main_v138 : Ref sig .tc := ⟨.hbm, 188, rfl⟩
abbrev main_c_28 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩
abbrev main_v143 : Ref sig .tc := ⟨.hbm, 194, rfl⟩
abbrev main_v144 : Ref sig .tc := ⟨.hbm, 195, rfl⟩
abbrev main_v145 : Ref sig .tc := ⟨.hbm, 196, rfl⟩
abbrev main_v146 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev main_v150 : Ref sig .tc := ⟨.hbm, 201, rfl⟩
abbrev main_c_29 : Ref sig .tc := ⟨.hbm, 202, rfl⟩
abbrev main_v151 : Ref sig .tc := ⟨.hbm, 203, rfl⟩
abbrev main_v152 : Ref sig .tc := ⟨.hbm, 204, rfl⟩
abbrev main_c_30 : Ref sig .tc := ⟨.hbm, 205, rfl⟩
abbrev main_v153 : Ref sig .tc := ⟨.hbm, 206, rfl⟩
abbrev main_v154 : Ref sig .tc := ⟨.hbm, 207, rfl⟩
abbrev main_v155 : Ref sig .tc := ⟨.hbm, 208, rfl⟩
abbrev main_c_31 : Ref sig .tc := ⟨.hbm, 209, rfl⟩
abbrev main_v156 : Ref sig .tc := ⟨.hbm, 210, rfl⟩
abbrev main_v157 : Ref sig .tc := ⟨.hbm, 211, rfl⟩
abbrev main_c_32 : Ref sig .tc := ⟨.hbm, 212, rfl⟩
abbrev main_v158 : Ref sig .tc := ⟨.hbm, 213, rfl⟩
abbrev main_v159 : Ref sig .tc := ⟨.hbm, 214, rfl⟩
abbrev main_v160 : Ref sig .tc := ⟨.hbm, 215, rfl⟩
abbrev main_v161 : Ref sig .tc := ⟨.hbm, 216, rfl⟩
abbrev main_v162 : Ref sig .tc := ⟨.hbm, 217, rfl⟩
abbrev main_v163 : Ref sig .tc := ⟨.hbm, 218, rfl⟩
abbrev main_v164 : Ref sig .tc := ⟨.hbm, 219, rfl⟩
abbrev main_values_33 : Ref sig .tc := ⟨.hbm, 220, rfl⟩
abbrev main_indices_34 : Ref sig .tc := ⟨.hbm, 221, rfl⟩
abbrev main_cst_35 : Ref sig .tc := ⟨.hbm, 222, rfl⟩
abbrev main_v165 : Ref sig .tc := ⟨.hbm, 223, rfl⟩
abbrev main_cst_36 : Ref sig .tc := ⟨.hbm, 224, rfl⟩
abbrev main_v166 : Ref sig .tc := ⟨.hbm, 225, rfl⟩
abbrev main_v167 : Ref sig .tc := ⟨.hbm, 226, rfl⟩
abbrev main_v168 : Ref sig .tc := ⟨.hbm, 227, rfl⟩
abbrev main_v169 : Ref sig .tc := ⟨.hbm, 228, rfl⟩
abbrev main_v170 : Ref sig .tc := ⟨.hbm, 229, rfl⟩
abbrev main_v171 : Ref sig .tc := ⟨.hbm, 230, rfl⟩
abbrev main_cst_37 : Ref sig .tc := ⟨.hbm, 231, rfl⟩
abbrev main_v172 : Ref sig .tc := ⟨.hbm, 232, rfl⟩
abbrev main_v173 : Ref sig .tc := ⟨.hbm, 233, rfl⟩
abbrev main_v174 : Ref sig .tc := ⟨.hbm, 234, rfl⟩
abbrev main_v175 : Ref sig .tc := ⟨.hbm, 235, rfl⟩
abbrev main_v176 : Ref sig .tc := ⟨.hbm, 236, rfl⟩
abbrev main_v177 : Ref sig .tc := ⟨.hbm, 237, rfl⟩
abbrev main_v178 : Ref sig .tc := ⟨.hbm, 238, rfl⟩
abbrev main_c_38 : Ref sig .tc := ⟨.hbm, 239, rfl⟩
abbrev main_v179 : Ref sig .tc := ⟨.hbm, 240, rfl⟩
abbrev main_v180 : Ref sig .tc := ⟨.hbm, 241, rfl⟩
abbrev main_v181 : Ref sig .tc := ⟨.hbm, 242, rfl⟩
abbrev main_v182 : Ref sig .tc := ⟨.hbm, 243, rfl⟩
abbrev main_call0_v0 : Ref sig .tc := ⟨.hbm, 244, rfl⟩
abbrev main_call0_v1 : Ref sig .tc := ⟨.hbm, 245, rfl⟩
abbrev main_call0_v2 : Ref sig .tc := ⟨.hbm, 246, rfl⟩
abbrev main_call0_v3 : Ref sig .tc := ⟨.hbm, 247, rfl⟩
abbrev main_call0_v4 : Ref sig .tc := ⟨.hbm, 248, rfl⟩
abbrev main_v183 : Ref sig .tc := ⟨.hbm, 249, rfl⟩
abbrev main_v184 : Ref sig .tc := ⟨.hbm, 250, rfl⟩
abbrev main_v185 : Ref sig .tc := ⟨.hbm, 251, rfl⟩
abbrev main_v186 : Ref sig .tc := ⟨.hbm, 252, rfl⟩
abbrev main_cst_39 : Ref sig .tc := ⟨.hbm, 253, rfl⟩
abbrev main_v187 : Ref sig .tc := ⟨.hbm, 254, rfl⟩
abbrev main_call1_v0 : Ref sig .tc := ⟨.hbm, 255, rfl⟩
abbrev main_call1_v1 : Ref sig .tc := ⟨.hbm, 256, rfl⟩
abbrev main_call1_v2 : Ref sig .tc := ⟨.hbm, 257, rfl⟩
abbrev main_call1_v3 : Ref sig .tc := ⟨.hbm, 258, rfl⟩
abbrev main_call1_v4 : Ref sig .tc := ⟨.hbm, 259, rfl⟩
abbrev main_v188 : Ref sig .tc := ⟨.hbm, 260, rfl⟩
abbrev main_cst_40 : Ref sig .tc := ⟨.hbm, 261, rfl⟩
abbrev main_v189 : Ref sig .tc := ⟨.hbm, 262, rfl⟩
abbrev main_v190 : Ref sig .tc := ⟨.hbm, 263, rfl⟩
abbrev main_v191 : Ref sig .tc := ⟨.hbm, 264, rfl⟩
abbrev main_cst_41 : Ref sig .tc := ⟨.hbm, 265, rfl⟩
abbrev main_v192 : Ref sig .tc := ⟨.hbm, 266, rfl⟩

abbrev nD : Nat := 1
abbrev τ : Topo := Topo.v7x

variable {F : FTy → Type} [FloatOps F]
-- ==== Kernel7.lean ====
abbrev S2x32x64 : Shape := ⟨3, ![2, 32, 64]⟩
abbrev S2x32 : Shape := ⟨2, ![2, 32]⟩
abbrev S2x32x64x16 : Shape := ⟨4, ![2, 32, 64, 16]⟩
abbrev S32x16x64 : Shape := ⟨3, ![32, 16, 64]⟩
abbrev S512 : Shape := ⟨1, ![512]⟩
abbrev S1x32x64 : Shape := ⟨3, ![1, 32, 64]⟩
abbrev S32x64 : Shape := ⟨2, ![32, 64]⟩
abbrev S32x128 : Shape := ⟨2, ![32, 128]⟩
abbrev S32x1x128 : Shape := ⟨3, ![32, 1, 128]⟩
abbrev S2x32x1 : Shape := ⟨3, ![2, 32, 1]⟩
abbrev S2x32x16x64 : Shape := ⟨4, ![2, 32, 16, 64]⟩
abbrev S1x32x16x64 : Shape := ⟨4, ![1, 32, 16, 64]⟩
abbrev S32x16x128 : Shape := ⟨3, ![32, 16, 128]⟩
abbrev S_ : Shape := ⟨0, ![]⟩
abbrev S32x128x128 : Shape := ⟨3, ![32, 128, 128]⟩
abbrev S32x1x16 : Shape := ⟨3, ![32, 1, 16]⟩
abbrev S32x256x512 : Shape := ⟨3, ![32, 256, 512]⟩
abbrev S32x256x256 : Shape := ⟨3, ![32, 256, 256]⟩
abbrev S4x1x128 : Shape := ⟨3, ![4, 1, 128]⟩
abbrev S4x16x128 : Shape := ⟨3, ![4, 16, 128]⟩
abbrev S4x128x128 : Shape := ⟨3, ![4, 128, 128]⟩
abbrev S4x256x512 : Shape := ⟨3, ![4, 256, 512]⟩
abbrev S4x256x256 : Shape := ⟨3, ![4, 256, 256]⟩
abbrev S4x256x128 : Shape := ⟨3, ![4, 256, 128]⟩
abbrev S1x1x128 : Shape := ⟨3, ![1, 1, 128]⟩
abbrev S1x128 : Shape := ⟨2, ![1, 128]⟩
abbrev S1x16x128 : Shape := ⟨3, ![1, 16, 128]⟩
abbrev S16x128 : Shape := ⟨2, ![16, 128]⟩
abbrev S1x256x128 : Shape := ⟨3, ![1, 256, 128]⟩
abbrev S256x128 : Shape := ⟨2, ![256, 128]⟩
abbrev S1x128x128 : Shape := ⟨3, ![1, 128, 128]⟩
abbrev S128x128 : Shape := ⟨2, ![128, 128]⟩
abbrev S240x128 : Shape := ⟨2, ![240, 128]⟩
abbrev S224x128 : Shape := ⟨2, ![224, 128]⟩
abbrev S48x128 : Shape := ⟨2, ![48, 128]⟩
abbrev S208x128 : Shape := ⟨2, ![208, 128]⟩
abbrev S64x128 : Shape := ⟨2, ![64, 128]⟩
abbrev S192x128 : Shape := ⟨2, ![192, 128]⟩
abbrev S80x128 : Shape := ⟨2, ![80, 128]⟩
abbrev S176x128 : Shape := ⟨2, ![176, 128]⟩
abbrev S96x128 : Shape := ⟨2, ![96, 128]⟩
abbrev S160x128 : Shape := ⟨2, ![160, 128]⟩
abbrev S112x128 : Shape := ⟨2, ![112, 128]⟩
abbrev S144x128 : Shape := ⟨2, ![144, 128]⟩

abbrev nBuf : Space → Nat
  | .hbm => 57
  | .vmem => 28
  | .smem => 0
  | _ => 0

abbrev bufTy : (tb : Table) → Fin (tcTables nBuf tb) → BufTy
  | .hbm, ⟨0, _⟩ => ⟨S2x32x64, .f32⟩
  | .hbm, ⟨1, _⟩ => ⟨S2x32x64, .f32⟩
  | .hbm, ⟨2, _⟩ => ⟨S2x32, .f32⟩
  | .hbm, ⟨3, _⟩ => ⟨S2x32x64x16, .f32⟩
  | .hbm, ⟨4, _⟩ => ⟨S2x32x64x16, .f32⟩
  | .hbm, ⟨5, _⟩ => ⟨S32x16x64, .f32⟩
  | .hbm, ⟨6, _⟩ => ⟨S32x16x64, .f32⟩
  | .hbm, ⟨7, _⟩ => ⟨S512, .f32⟩
  | .hbm, ⟨8, _⟩ => ⟨S1x32x64, .f32⟩
  | .hbm, ⟨9, _⟩ => ⟨S32x64, .f32⟩
  | .hbm, ⟨10, _⟩ => ⟨S1x32x64, .f32⟩
  | .hbm, ⟨11, _⟩ => ⟨S32x64, .f32⟩
  | .hbm, ⟨12, _⟩ => ⟨S32x128, .f32⟩
  | .hbm, ⟨13, _⟩ => ⟨S32x1x128, .f32⟩
  | .hbm, ⟨14, _⟩ => ⟨S1x32x64, .f32⟩
  | .hbm, ⟨15, _⟩ => ⟨S32x64, .f32⟩
  | .hbm, ⟨16, _⟩ => ⟨S1x32x64, .f32⟩
  | .hbm, ⟨17, _⟩ => ⟨S32x64, .f32⟩
  | .hbm, ⟨18, _⟩ => ⟨S32x128, .f32⟩
  | .hbm, ⟨19, _⟩ => ⟨S32x1x128, .f32⟩
  | .hbm, ⟨20, _⟩ => ⟨S2x32x1, .f32⟩
  | .hbm, ⟨21, _⟩ => ⟨S2x32x64, .f32⟩
  | .hbm, ⟨22, _⟩ => ⟨S1x32x64, .f32⟩
  | .hbm, ⟨23, _⟩ => ⟨S32x64, .f32⟩
  | .hbm, ⟨24, _⟩ => ⟨S1x32x64, .f32⟩
  | .hbm, ⟨25, _⟩ => ⟨S32x64, .f32⟩
  | .hbm, ⟨26, _⟩ => ⟨S32x128, .f32⟩
  | .hbm, ⟨27, _⟩ => ⟨S32x1x128, .f32⟩
  | .hbm, ⟨28, _⟩ => ⟨S2x32x16x64, .f32⟩
  | .hbm, ⟨29, _⟩ => ⟨S1x32x16x64, .f32⟩
  | .hbm, ⟨30, _⟩ => ⟨S32x16x64, .f32⟩
  | .hbm, ⟨31, _⟩ => ⟨S1x32x16x64, .f32⟩
  | .hbm, ⟨32, _⟩ => ⟨S32x16x64, .f32⟩
  | .hbm, ⟨33, _⟩ => ⟨S32x16x128, .f32⟩
  | .hbm, ⟨34, _⟩ => ⟨S2x32x16x64, .f32⟩
  | .hbm, ⟨35, _⟩ => ⟨S1x32x16x64, .f32⟩
  | .hbm, ⟨36, _⟩ => ⟨S32x16x64, .f32⟩
  | .hbm, ⟨37, _⟩ => ⟨S1x32x16x64, .f32⟩
  | .hbm, ⟨38, _⟩ => ⟨S32x16x64, .f32⟩
  | .hbm, ⟨39, _⟩ => ⟨S32x16x128, .f32⟩
  | .hbm, ⟨40, _⟩ => ⟨S32x16x128, .f32⟩
  | .hbm, ⟨41, _⟩ => ⟨S_, .i32⟩
  | .hbm, ⟨42, _⟩ => ⟨S_, .f32⟩
  | .hbm, ⟨43, _⟩ => ⟨S32x128x128, .f32⟩
  | .hbm, ⟨44, _⟩ => ⟨S32x16x128, .f32⟩
  | .hbm, ⟨45, _⟩ => ⟨S_, .i32⟩
  | .hbm, ⟨46, _⟩ => ⟨S_, .f32⟩
  | .hbm, ⟨47, _⟩ => ⟨S32x128x128, .f32⟩
  | .hbm, ⟨48, _⟩ => ⟨S32x1x16, .f32⟩
  | .hbm, ⟨49, _⟩ => ⟨S_, .i32⟩
  | .hbm, ⟨50, _⟩ => ⟨S_, .f32⟩
  | .hbm, ⟨51, _⟩ => ⟨S32x1x128, .f32⟩
  | .hbm, ⟨52, _⟩ => ⟨S32x256x512, .bf16⟩
  | .hbm, ⟨53, _⟩ => ⟨S32x256x256, .bf16⟩
  | .hbm, ⟨54, _⟩ => ⟨S32x256x256, .bf16⟩
  | .hbm, ⟨55, _⟩ => ⟨S32x1x128, .f32⟩
  | .hbm, ⟨56, _⟩ => ⟨S32x1x128, .f32⟩
  | .local _ .vmem, ⟨0, _⟩ => ⟨S4x1x128, .f32⟩
  | .local _ .vmem, ⟨1, _⟩ => ⟨S4x1x128, .f32⟩
  | .local _ .vmem, ⟨2, _⟩ => ⟨S4x1x128, .f32⟩
  | .local _ .vmem, ⟨3, _⟩ => ⟨S4x1x128, .f32⟩
  | .local _ .vmem, ⟨4, _⟩ => ⟨S4x1x128, .f32⟩
  | .local _ .vmem, ⟨5, _⟩ => ⟨S4x1x128, .f32⟩
  | .local _ .vmem, ⟨6, _⟩ => ⟨S4x16x128, .f32⟩
  | .local _ .vmem, ⟨7, _⟩ => ⟨S4x16x128, .f32⟩
  | .local _ .vmem, ⟨8, _⟩ => ⟨S4x16x128, .f32⟩
  | .local _ .vmem, ⟨9, _⟩ => ⟨S4x16x128, .f32⟩
  | .local _ .vmem, ⟨10, _⟩ => ⟨S4x128x128, .f32⟩
  | .local _ .vmem, ⟨11, _⟩ => ⟨S4x128x128, .f32⟩
  | .local _ .vmem, ⟨12, _⟩ => ⟨S4x128x128, .f32⟩
  | .local _ .vmem, ⟨13, _⟩ => ⟨S4x128x128, .f32⟩
  | .local _ .vmem, ⟨14, _⟩ => ⟨S4x1x128, .f32⟩
  | .local _ .vmem, ⟨15, _⟩ => ⟨S4x1x128, .f32⟩
  | .local _ .vmem, ⟨16, _⟩ => ⟨S4x256x512, .bf16⟩
  | .local _ .vmem, ⟨17, _⟩ => ⟨S4x256x512, .bf16⟩
  | .local _ .vmem, ⟨18, _⟩ => ⟨S4x256x256, .bf16⟩
  | .local _ .vmem, ⟨19, _⟩ => ⟨S4x256x256, .bf16⟩
  | .local _ .vmem, ⟨20, _⟩ => ⟨S4x256x256, .bf16⟩
  | .local _ .vmem, ⟨21, _⟩ => ⟨S4x256x256, .bf16⟩
  | .local _ .vmem, ⟨22, _⟩ => ⟨S4x1x128, .f32⟩
  | .local _ .vmem, ⟨23, _⟩ => ⟨S4x1x128, .f32⟩
  | .local _ .vmem, ⟨24, _⟩ => ⟨S4x1x128, .f32⟩
  | .local _ .vmem, ⟨25, _⟩ => ⟨S4x1x128, .f32⟩
  | .local _ .vmem, ⟨26, _⟩ => ⟨S4x256x128, .f32⟩
  | .local _ .vmem, ⟨27, _⟩ => ⟨S4x256x128, .f32⟩
  | _, _ => ⟨S2x32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_c : Ref sig .tc := ⟨.hbm, 41, rfl⟩
abbrev main_call0_v0 : Ref sig .tc := ⟨.hbm, 42, rfl⟩
abbrev main_v33 : Ref sig .tc := ⟨.hbm, 43, rfl⟩
abbrev main_v34 : Ref sig .tc := ⟨.hbm, 44, rfl⟩
abbrev main_c_0 : Ref sig .tc := ⟨.hbm, 45, rfl⟩
abbrev main_call1_v0 : Ref sig .tc := ⟨.hbm, 46, rfl⟩
abbrev main_v35 : Ref sig .tc := ⟨.hbm, 47, rfl⟩
abbrev main_v36 : Ref sig .tc := ⟨.hbm, 48, rfl⟩
abbrev main_c_1 : Ref sig .tc := ⟨.hbm, 49, rfl⟩
abbrev main_call2_v0 : Ref sig .tc := ⟨.hbm, 50, rfl⟩
abbrev main_v37 : Ref sig .tc := ⟨.hbm, 51, rfl⟩
abbrev main_v38_0 : Ref sig .tc := ⟨.hbm, 52, rfl⟩
abbrev main_v38_1 : Ref sig .tc := ⟨.hbm, 53, rfl⟩
abbrev main_v38_2 : Ref sig .tc := ⟨.hbm, 54, rfl⟩
abbrev main_v38_3 : Ref sig .tc := ⟨.hbm, 55, rfl⟩
abbrev main_v38_4 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_scratch1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x1x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x16x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x16x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x256x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x256x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4x1x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4x1x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference7Ideal.lean ====
abbrev S2x32x64 : Shape := ⟨3, ![2, 32, 64]⟩
abbrev S2x32 : Shape := ⟨2, ![2, 32]⟩
abbrev S2x32x64x16 : Shape := ⟨4, ![2, 32, 64, 16]⟩
abbrev S32x16x64 : Shape := ⟨3, ![32, 16, 64]⟩
abbrev S512 : Shape := ⟨1, ![512]⟩
abbrev S2x32x1 : Shape := ⟨3, ![2, 32, 1]⟩
abbrev S16 : Shape := ⟨1, ![16]⟩
abbrev S_ : Shape := ⟨0, ![]⟩
abbrev S16x1x1x1 : Shape := ⟨4, ![16, 1, 1, 1]⟩
abbrev S1x2x32x64 : Shape := ⟨4, ![1, 2, 32, 64]⟩
abbrev S16x2x32x64 : Shape := ⟨4, ![16, 2, 32, 64]⟩
abbrev S16x2x32x1x64 : Shape := ⟨5, ![16, 2, 32, 1, 64]⟩
abbrev S1x1x32x16x64 : Shape := ⟨5, ![1, 1, 32, 16, 64]⟩
abbrev S16x2x32x16x64 : Shape := ⟨5, ![16, 2, 32, 16, 64]⟩
abbrev S16x1x32x16x64 : Shape := ⟨5, ![16, 1, 32, 16, 64]⟩
abbrev S16x32x16x64 : Shape := ⟨4, ![16, 32, 16, 64]⟩
abbrev S16x32x16x128 : Shape := ⟨4, ![16, 32, 16, 128]⟩
abbrev S32x16x16x128 : Shape := ⟨4, ![32, 16, 16, 128]⟩
abbrev S32x256x128 : Shape := ⟨3, ![32, 256, 128]⟩
abbrev S32x256x256 : Shape := ⟨3, ![32, 256, 256]⟩
abbrev S1x1x32x64 : Shape := ⟨4, ![1, 1, 32, 64]⟩
abbrev S32x64 : Shape := ⟨2, ![32, 64]⟩
abbrev S32x128 : Shape := ⟨2, ![32, 128]⟩
abbrev S32x1x128 : Shape := ⟨3, ![32, 1, 128]⟩

abbrev nBuf : Space → Nat
  | .hbm => 89
  | .vmem => 0
  | .smem => 0
  | _ => 0

abbrev bufTy : (tb : Table) → Fin (tcTables nBuf tb) → BufTy
  | .hbm, ⟨0, _⟩ => ⟨S2x32x64, .f32⟩
  | .hbm, ⟨1, _⟩ => ⟨S2x32x64, .f32⟩
  | .hbm, ⟨2, _⟩ => ⟨S2x32, .f32⟩
  | .hbm, ⟨3, _⟩ => ⟨S2x32x64x16, .f32⟩
  | .hbm, ⟨4, _⟩ => ⟨S2x32x64x16, .f32⟩
  | .hbm, ⟨5, _⟩ => ⟨S32x16x64, .f32⟩
  | .hbm, ⟨6, _⟩ => ⟨S32x16x64, .f32⟩
  | .hbm, ⟨7, _⟩ => ⟨S512, .f32⟩
  | .hbm, ⟨8, _⟩ => ⟨S2x32, .f32⟩
  | .hbm, ⟨9, _⟩ => ⟨S2x32x1, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S16x1x1x1, .f32⟩
  | .hbm, ⟨15, _⟩ => ⟨S2x32x64, .f32⟩
  | .hbm, ⟨16, _⟩ => ⟨S2x32x64, .f32⟩
  | .hbm, ⟨17, _⟩ => ⟨S1x2x32x64, .f32⟩
  | .hbm, ⟨18, _⟩ => ⟨S16x2x32x64, .f32⟩
  | .hbm, ⟨19, _⟩ => ⟨S16x2x32x64, .f32⟩
  | .hbm, ⟨20, _⟩ => ⟨S16x2x32x64, .f32⟩
  | .hbm, ⟨21, _⟩ => ⟨S16x2x32x64, .f32⟩
  | .hbm, ⟨22, _⟩ => ⟨S2x32x64, .f32⟩
  | .hbm, ⟨23, _⟩ => ⟨S2x32x64, .f32⟩
  | .hbm, ⟨24, _⟩ => ⟨S1x2x32x64, .f32⟩
  | .hbm, ⟨25, _⟩ => ⟨S16x2x32x64, .f32⟩
  | .hbm, ⟨26, _⟩ => ⟨S16x2x32x64, .f32⟩
  | .hbm, ⟨27, _⟩ => ⟨S16x2x32x64, .f32⟩
  | .hbm, ⟨28, _⟩ => ⟨S16x2x32x64, .f32⟩
  | .hbm, ⟨29, _⟩ => ⟨S16x2x32x64, .f32⟩
  | .hbm, ⟨30, _⟩ => ⟨S2x32x64, .f32⟩
  | .hbm, ⟨31, _⟩ => ⟨S2x32x64, .f32⟩
  | .hbm, ⟨32, _⟩ => ⟨S1x2x32x64, .f32⟩
  | .hbm, ⟨33, _⟩ => ⟨S16x2x32x64, .f32⟩
  | .hbm, ⟨34, _⟩ => ⟨S16x2x32x64, .f32⟩
  | .hbm, ⟨35, _⟩ => ⟨S16x2x32x64, .f32⟩
  | .hbm, ⟨36, _⟩ => ⟨S16x2x32x64, .f32⟩
  | .hbm, ⟨37, _⟩ => ⟨S16x2x32x64, .f32⟩
  | .hbm, ⟨38, _⟩ => ⟨S16x2x32x1x64, .f32⟩
  | .hbm, ⟨39, _⟩ => ⟨S16x2x32x1x64, .f32⟩
  | .hbm, ⟨40, _⟩ => ⟨S1x1x32x16x64, .f32⟩
  | .hbm, ⟨41, _⟩ => ⟨S16x2x32x16x64, .f32⟩
  | .hbm, ⟨42, _⟩ => ⟨S16x2x32x16x64, .f32⟩
  | .hbm, ⟨43, _⟩ => ⟨S16x2x32x16x64, .f32⟩
  | .hbm, ⟨44, _⟩ => ⟨S1x1x32x16x64, .f32⟩
  | .hbm, ⟨45, _⟩ => ⟨S16x2x32x16x64, .f32⟩
  | .hbm, ⟨46, _⟩ => ⟨S16x2x32x16x64, .f32⟩
  | .hbm, ⟨47, _⟩ => ⟨S16x2x32x16x64, .f32⟩
  | .hbm, ⟨48, _⟩ => ⟨S16x2x32x16x64, .f32⟩
  | .hbm, ⟨49, _⟩ => ⟨S1x1x32x16x64, .f32⟩
  | .hbm, ⟨50, _⟩ => ⟨S16x2x32x16x64, .f32⟩
  | .hbm, ⟨51, _⟩ => ⟨S16x2x32x16x64, .f32⟩
  | .hbm, ⟨52, _⟩ => ⟨S16x2x32x16x64, .f32⟩
  | .hbm, ⟨53, _⟩ => ⟨S1x1x32x16x64, .f32⟩
  | .hbm, ⟨54, _⟩ => ⟨S16x2x32x16x64, .f32⟩
  | .hbm, ⟨55, _⟩ => ⟨S16x2x32x16x64, .f32⟩
  | .hbm, ⟨56, _⟩ => ⟨S16x2x32x16x64, .f32⟩
  | .hbm, ⟨57, _⟩ => ⟨S16x2x32x16x64, .f32⟩
  | .hbm, ⟨58, _⟩ => ⟨S16x1x32x16x64, .f32⟩
  | .hbm, ⟨59, _⟩ => ⟨S16x32x16x64, .f32⟩
  | .hbm, ⟨60, _⟩ => ⟨S16x1x32x16x64, .f32⟩
  | .hbm, ⟨61, _⟩ => ⟨S16x1x32x16x64, .f32⟩
  | .hbm, ⟨62, _⟩ => ⟨S16x32x16x64, .f32⟩
  | .hbm, ⟨63, _⟩ => ⟨S16x32x16x128, .f32⟩
  | .hbm, ⟨64, _⟩ => ⟨S32x16x16x128, .f32⟩
  | .hbm, ⟨65, _⟩ => ⟨S32x256x128, .f32⟩
  | .hbm, ⟨66, _⟩ => ⟨S16x1x32x16x64, .f32⟩
  | .hbm, ⟨67, _⟩ => ⟨S16x32x16x64, .f32⟩
  | .hbm, ⟨68, _⟩ => ⟨S16x1x32x16x64, .f32⟩
  | .hbm, ⟨69, _⟩ => ⟨S16x1x32x16x64, .f32⟩
  | .hbm, ⟨70, _⟩ => ⟨S16x32x16x64, .f32⟩
  | .hbm, ⟨71, _⟩ => ⟨S16x32x16x128, .f32⟩
  | .hbm, ⟨72, _⟩ => ⟨S32x16x16x128, .f32⟩
  | .hbm, ⟨73, _⟩ => ⟨S32x256x128, .f32⟩
  | .hbm, ⟨74, _⟩ => ⟨S32x256x128, .f32⟩
  | .hbm, ⟨75, _⟩ => ⟨S32x256x256, .f32⟩
  | .hbm, ⟨76, _⟩ => ⟨S32x256x256, .bf16⟩
  | .hbm, ⟨77, _⟩ => ⟨S1x1x32x64, .f32⟩
  | .hbm, ⟨78, _⟩ => ⟨S32x64, .f32⟩
  | .hbm, ⟨79, _⟩ => ⟨S1x1x32x64, .f32⟩
  | .hbm, ⟨80, _⟩ => ⟨S32x64, .f32⟩
  | .hbm, ⟨81, _⟩ => ⟨S32x128, .f32⟩
  | .hbm, ⟨82, _⟩ => ⟨S32x1x128, .f32⟩
  | .hbm, ⟨83, _⟩ => ⟨S1x1x32x64, .f32⟩
  | .hbm, ⟨84, _⟩ => ⟨S32x64, .f32⟩
  | .hbm, ⟨85, _⟩ => ⟨S1x1x32x64, .f32⟩
  | .hbm, ⟨86, _⟩ => ⟨S32x64, .f32⟩
  | .hbm, ⟨87, _⟩ => ⟨S32x128, .f32⟩
  | .hbm, ⟨88, _⟩ => ⟨S32x1x128, .f32⟩
  | _, _ => ⟨S2x32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩

abbrev nD : Nat := 1
abbrev τ : Topo := Topo.v7x

variable {F : FTy → Type} [FloatOps F]
-- ==== Proof.Range.lean ====
module

public import proofs.«01_k».proof.Proof.Gen.Pre_in_range
public import Idealize.ShloMosaic.Lib.StableHlo.Predicate
public import Idealize.ShloMosaic.Lib.ReduceAll

@[expose] public section

noncomputable section

namespace Cert.Range

open Idealize.ShloMosaic

/-- The conjunction of two decided bits is the bit of the conjunction. -/
theorem andi_ofBool (p q : Bool) : IntOp.andi (BitVec.ofBool p) (BitVec.ofBool q) = BitVec.ofBool (p && q) := by
  cases p <;> cases q <;> decide

/-- A bit is one exactly when what it decides is true. -/
theorem ofBool_eq_one (p : Bool) : (BitVec.ofBool p = 1#1) ↔ p = true := by cases p <;> decide

/-- A conjunction of two bits is one exactly when both are. -/
theorem andi_eq_one (p q : BitVec 1) : IntOp.andi p q = 1#1 ↔ p = 1#1 ∧ q = 1#1 := by
  revert p q; decide

/-- What the precondition says in words: every entry of the block→group table is one of the four groups, and the number
    of blocks in use is at least one and at most the thirty-one there are. -/
theorem bounds {F : FTy → Type} [FloatOps F] [Pre_in_range.Facts] (a0 : IVec Pre_in_range.S31 32) (a1 : IVec Pre_in_range.S1 32)
    (a2 : FVec F Pre_in_range.S15872x1024 .bf16) (a3 : FVec F Pre_in_range.S15872x128 .f32)
    (a4 a5 : FVec F Pre_in_range.S16x1024x512 .f32) (a6 : FVec F Pre_in_range.S16x512x1024 .f32)
    (h : Pre_in_range.fn (F := F) a0 a1 a2 a3 a4 a5 a6 = fun _ => 1#1) :
    (∀ y, (a0 y).toNat < 4) ∧ ∀ y, 1 ≤ (a1 y).toNat ∧ (a1 y).toNat ≤ 31 := by
  have e := congrFun h (Shape.Idx.first (s := Pre_in_range.S_) (by decide))
  simp only [Pre_in_range.fn, andi, andi_eq_one] at e
  obtain ⟨⟨⟨h1, h2⟩, h3⟩, h4⟩ := e
  haveI : Subsingleton Pre_in_range.S_.Idx := ⟨fun x y => funext fun a => a.elim0⟩
  refine ⟨fun y => ?_, fun y => ?_⟩
  · have g1 := Host.reduce_andi_all _ _ _ _ _ h1 y
    have g2 := Host.reduce_andi_all _ _ _ _ _ h2 y
    simp only [cmpi, broadcastInDim, constantI, IntOp.cmpi, ofBool_eq_one, BitVec.sle, BitVec.slt, decide_eq_true_eq,
      BitVec.toInt, BitVec.toNat_ofNat] at g1 g2
    omega
  · have hs : ∀ z : Pre_in_range.S1.Idx, z = y := fun z => funext fun a => by
      match a with
      | ⟨0, _⟩ => exact Subsingleton.elim (α := Fin 1) _ _
    obtain ⟨w, rfl⟩ : ∃ w : BitVec 32, a1 = fun _ => w := ⟨a1 y, funext fun z => congrArg a1 (hs z)⟩
    simp only [cmpi, shapeCast, constantI, IntOp.cmpi, ofBool_eq_one, BitVec.sle, BitVec.slt, decide_eq_true_eq,
      BitVec.toInt, BitVec.toNat_ofNat] at h3 h4
    show 1 ≤ w.toNat ∧ w.toNat ≤ 31
    omega

end Cert.Range

end
-- ==== Proof.KernelIdealBase.lean ====
module

public import proofs.«01_k».proof.Proof.Gen.KernelIdeal.Launch
public import proofs.«01_k».proof.Proof.Gen.KernelIdeal.Skeleton
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents recurses once per coordinate of the long axes
set_option maxRecDepth 16384

noncomputable section

namespace Cert.KernelIdeal.Moe

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! What the runs of the expert kernel's body share: the arrays and tables as the call finds them, the windows' blocks at a
    point, and the two complementary conditions of the body. -/

variable {F : FTy → Type} [FloatOps F]

local notation "𝕄" => MT nD τ sig Unit (Elt F) ℕ (UR sig nD τ) ℕ

/-- Window 5 (result 0 (%0)) is written back at every point, at any contents of the tables (its index map reads none). -/
theorem flush0_5 (a : (pcfg0 (F := F)).Adm) : ∀ t : Fin (cfg0 a).N, ((cfg0 a).win 5).flush t = true :=
  (fun t => (Pipeline.Window.flushOf_reads cc0_transform_5 reads0_5 hreads0_5 0 (by decide) (by decide) (Pipeline.Window.sep_of_coord cc0_transform_5 0 0 (fun _ => rfl) (by decide)) (P := 1) (m := 0) (by decide) rfl t).mpr (Nat.mod_one _) : ∀ t : Fin grid0.N, Pipeline.Window.flushOf grid0 true cc0_transform_5 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_moe_experts (grid0.coords t) (Memref.whole main_arg0) (Memref.isWhole_whole _) (Memref.whole main_arg1) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5))

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 2) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S31 .i32 := Memref.whole main_arg0
abbrev htbM0_0 : tbM0_0.IsWhole := Memref.isWhole_whole _
abbrev tbM0_1 : Memref sig .tc .smem S1 .i32 := Memref.whole main_arg1
abbrev htbM0_1 : tbM0_1.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_KernelIdeal`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).1 0).trans (((dats 0 c).arrAt_in 0 rfl _).trans ((hA c 0).trans (V_main_arg2 m c))),
      ((h c).1 1).trans (((dats 0 c).arrAt_in 1 rfl _).trans ((hA c 1).trans (V_main_arg3 m c))),
      ((h c).1 2).trans (((dats 0 c).arrAt_in 2 rfl _).trans ((hA c 2).trans (V_main_arg4 m c))),
      ((h c).1 3).trans (((dats 0 c).arrAt_in 3 rfl _).trans ((hA c 3).trans (V_main_arg5 m c))),
      ((h c).1 4).trans (((dats 0 c).arrAt_in 4 rfl _).trans ((hA c 4).trans (V_main_arg6 m c)))⟩) h

/-! ## The body's branch conditions -/

/-- The first condition of the body at point `i`, over the word `v` it reads from the second table (how many blocks
    are in use): point `i`'s block is in use. Where it holds the body computes the experts. -/
abbrev cond0_0 (i : grid0.Coords) (v : BitVec 32) : Prop := k0_cond1 i v = 1#1

/-- The body's two conditions are complementary: the second holds exactly where the first does not, whatever the word
    read. -/
theorem cond2_iff (i : grid0.Coords) (v : BitVec 32) : k0_cond2 i v = 1#1 ↔ ¬cond0_0 i v := by
  unfold cond0_0 k0_cond1 k0_cond2
  have e : v.sle (BitVec.ofNat 32 (i 0).val) = !(BitVec.ofNat 32 (i 0).val).slt v := BitVec.sle_eq_not_slt
  simp only [Scalar.cmpi, Scalar.extui, IntOp.cmpi, e]
  cases (BitVec.ofNat 32 (i 0).val).slt v <;> simp

/-! ## The kernel body on any staging memrefs: a subtype the run finds -/

/-- One staging buffer of output window 5, through which its contents are stated (`View.read_writes_of_cover`: the
    choice does not matter). -/
abbrev VO0_5 : View sig .tc .vmem S512x1024 .bf16 := (Memref.whole cc0_stg5_0 : Memref sig .tc .vmem S512x1024 .bf16).view
/-- Each window's current staging memref at point `t`, spelled as the pipeline passes it (`bodyAt0`), and its wholeness. -/
abbrev ms0_0 (hO : Ok m) (t : Fin (cfgM m hO).N) : Memref sig .tc .vmem S512x1024 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S512x128 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S4x1024x512 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S4x1024x512 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S4x512x1024 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S512x1024 .bf16 := spec0_5.stage ((cfgM m hO).slots t 5)
abbrev hs0_5 (hO : Ok m) (t : Fin (cfgM m hO).N) : (ms0_5 m hO t).IsWhole := hstage0_5 (((cfgM m hO).slots t 5).cast nbuf0_5)

end Cert.KernelIdeal.Moe

end
-- ==== Proof.KernelIdealRunA.lean ====
module

public import proofs.«01_k».proof.Proof.KernelIdealBase

@[expose] public section

-- membership in a rectangle of production extents recurses once per coordinate of the long axes
set_option maxRecDepth 16384

noncomputable section

namespace Cert.KernelIdeal.Moe

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! The body run at a point whose block is in use. -/

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken: points all), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg3 : Memref sig .tc .vmem S512x1024 .bf16) (harg3 : arg3.IsWhole) (arg4 : Memref sig .tc .vmem S512x128 .f32) (harg4 : arg4.IsWhole) (arg5 : Memref sig .tc .vmem S4x1024x512 .f32) (harg5 : arg5.IsWhole) (arg6 : Memref sig .tc .vmem S4x1024x512 .f32) (harg6 : arg6.IsWhole) (arg7 : Memref sig .tc .vmem S4x512x1024 .f32) (harg7 : arg7.IsWhole) (arg8 : Memref sig .tc .vmem S512x1024 .bf16) (harg8 : arg8.IsWhole)
    (x0 : Vec F S512x1024 .bf16) (x1 : Vec F S512x128 .f32) (x2 : Vec F S4x1024x512 .f32) (x3 : Vec F S4x1024x512 .f32) (x4 : Vec F S4x512x1024 .f32) (xt0 : TbBuf0 (F := F) c tbM0_0) (xt1 : TbBuf0 (F := F) c tbM0_1) (hc0 : cond0_0 i (tbM0_1.view.readAt (Elt F) (Rect.unit (s := S1) ![0] S1.size inb_S1_S1_0).toLoadRect xt1 (Shape.Idx.first (numel1_S1.symm ▸ Nat.one_pos)))) :
    { L5 : List (View.Piece (Elt F) S512x1024 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ tbPt0 c tbM0_0 xt0 ∗ tbPt0 c tbM0_1 xt1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ tbPt0 c tbM0_0 xt0 ∗ tbPt0 c tbM0_1 xt1) -∗ K ⟨⟩))
          ⊢ wp frame (wpE (defs₀ (F := F)) Variants.none c none) E (cc0_moe_experts i tbM0_0 htbM0_0 tbM0_1 htbM0_1 arg3 harg3 arg4 harg4 arg5 harg5 arg6 harg6 arg7 harg7 arg8 harg8) K } := by
  refine ⟨?_, fun E K => ?run⟩
  case run =>
    simp only [cc0_moe_experts_eq_skeleton]; unfold cc0_moe_experts_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, HT0, HT1, Hk⟩
    obtain rfl := harg3.eq_unread hf0; obtain rfl := harg4.eq_unread hf1; obtain rfl := harg5.eq_unread hf2; obtain rfl := harg6.eq_unread hf3; obtain rfl := harg7.eq_unread hf4
    have hc1 := fun h => (cond2_iff i _).mp h hc0
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [HT0]; · iexact HT0
    iexact HT1

end Cert.KernelIdeal.Moe

end
-- ==== Proof.KernelIdealRunB.lean ====
module

public import proofs.«01_k».proof.Proof.KernelIdealRunA

@[expose] public section

-- membership in a rectangle of production extents recurses once per coordinate of the long axes
set_option maxRecDepth 16384

noncomputable section

namespace Cert.KernelIdeal.Moe

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! The body run at a point past the blocks in use. -/

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken: points all), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg3 : Memref sig .tc .vmem S512x1024 .bf16) (harg3 : arg3.IsWhole) (arg4 : Memref sig .tc .vmem S512x128 .f32) (harg4 : arg4.IsWhole) (arg5 : Memref sig .tc .vmem S4x1024x512 .f32) (harg5 : arg5.IsWhole) (arg6 : Memref sig .tc .vmem S4x1024x512 .f32) (harg6 : arg6.IsWhole) (arg7 : Memref sig .tc .vmem S4x512x1024 .f32) (harg7 : arg7.IsWhole) (arg8 : Memref sig .tc .vmem S512x1024 .bf16) (harg8 : arg8.IsWhole)
    (x0 : Vec F S512x1024 .bf16) (x1 : Vec F S512x128 .f32) (x2 : Vec F S4x1024x512 .f32) (x3 : Vec F S4x1024x512 .f32) (x4 : Vec F S4x512x1024 .f32) (xt0 : TbBuf0 (F := F) c tbM0_0) (xt1 : TbBuf0 (F := F) c tbM0_1) (hc0 : ¬cond0_0 i (tbM0_1.view.readAt (Elt F) (Rect.unit (s := S1) ![0] S1.size inb_S1_S1_0).toLoadRect xt1 (Shape.Idx.first (numel1_S1.symm ▸ Nat.one_pos)))) :
    { L5 : List (View.Piece (Elt F) S512x1024 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ tbPt0 c tbM0_0 xt0 ∗ tbPt0 c tbM0_1 xt1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ tbPt0 c tbM0_0 xt0 ∗ tbPt0 c tbM0_1 xt1) -∗ K ⟨⟩))
          ⊢ wp frame (wpE (defs₀ (F := F)) Variants.none c none) E (cc0_moe_experts i tbM0_0 htbM0_0 tbM0_1 htbM0_1 arg3 harg3 arg4 harg4 arg5 harg5 arg6 harg6 arg7 harg7 arg8 harg8) K } := by
  refine ⟨?_, fun E K => ?run⟩
  case run =>
    simp only [cc0_moe_experts_eq_skeleton]; unfold cc0_moe_experts_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, HT0, HT1, Hk⟩
    obtain rfl := harg3.eq_unread hf0; obtain rfl := harg4.eq_unread hf1; obtain rfl := harg5.eq_unread hf2; obtain rfl := harg6.eq_unread hf3; obtain rfl := harg7.eq_unread hf4
    have hc1 := (cond2_iff i _).mpr hc0
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [HT0]; · iexact HT0
    iexact HT1

end Cert.KernelIdeal.Moe

end
-- ==== Proof.KernelIdealFrame.lean ====
module

public import proofs.«01_k».proof.Proof.KernelIdealRunB
public import Idealize.ShloMosaic.Lib.Claim

@[expose] public section

-- membership in a rectangle of production extents recurses once per coordinate of the long axes
set_option maxRecDepth 16384

noncomputable section

namespace Cert.KernelIdeal.Moe

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! The frame of the expert kernel for every contents of its two tables: what the output holds per case and point by
    point, the pipeline's proof data, the body obligation, the run and the frame. -/

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 5 tile its block (1 store of `S512x1024`, checked by the kernel's evaluation: Lib/Ring.lean `Piece.tiledL`, linear in the pieces, through a loop's `@[irreducible]` trip theorem too), so they cover it. -/
theorem cover0_A_5 (c : Dev nD) (i : grid0.Coords) (arg3 : Memref sig .tc .vmem S512x1024 .bf16) (harg3 : arg3.IsWhole) (arg4 : Memref sig .tc .vmem S512x128 .f32) (harg4 : arg4.IsWhole) (arg5 : Memref sig .tc .vmem S4x1024x512 .f32) (harg5 : arg5.IsWhole) (arg6 : Memref sig .tc .vmem S4x1024x512 .f32) (harg6 : arg6.IsWhole) (arg7 : Memref sig .tc .vmem S4x512x1024 .f32) (harg7 : arg7.IsWhole) (arg8 : Memref sig .tc .vmem S512x1024 .bf16) (harg8 : arg8.IsWhole)
    (x0 : Vec F S512x1024 .bf16) (x1 : Vec F S512x128 .f32) (x2 : Vec F S4x1024x512 .f32) (x3 : Vec F S4x1024x512 .f32) (x4 : Vec F S4x512x1024 .f32) (xt0 : TbBuf0 (F := F) c tbM0_0) (xt1 : TbBuf0 (F := F) c tbM0_1) (hc0 : cond0_0 i (tbM0_1.view.readAt (Elt F) (Rect.unit (s := S1) ![0] S1.size inb_S1_S1_0).toLoadRect xt1 (Shape.Idx.first (numel1_S1.symm ▸ Nat.one_pos)))) (y : S512x1024.Idx) :
    ∃ pc ∈ (kernelRun0_A c i arg3 harg3 arg4 harg4 arg5 harg5 arg6 harg6 arg7 harg7 arg8 harg8 x0 x1 x2 x3 x4 xt0 xt1 hc0).1, y ∈ pc.1.set :=
  View.cover_of_tiledL (kernelRun0_A c i arg3 harg3 arg4 harg4 arg5 harg5 arg6 harg6 arg7 harg7 arg8 harg8 x0 x1 x2 x3 x4 xt0 xt1 hc0).1 S512x1024.size (by sl_kernel_rfl) y

/-- What case A leaves in output 5's staging buffer: its pieces read back over junk. -/
def out0_A_5 (c : Dev nD) (i : grid0.Coords) (arg3 : Memref sig .tc .vmem S512x1024 .bf16) (harg3 : arg3.IsWhole) (arg4 : Memref sig .tc .vmem S512x128 .f32) (harg4 : arg4.IsWhole) (arg5 : Memref sig .tc .vmem S4x1024x512 .f32) (harg5 : arg5.IsWhole) (arg6 : Memref sig .tc .vmem S4x1024x512 .f32) (harg6 : arg6.IsWhole) (arg7 : Memref sig .tc .vmem S4x512x1024 .f32) (harg7 : arg7.IsWhole) (arg8 : Memref sig .tc .vmem S512x1024 .bf16) (harg8 : arg8.IsWhole)
    (x0 : Vec F S512x1024 .bf16) (x1 : Vec F S512x128 .f32) (x2 : Vec F S4x1024x512 .f32) (x3 : Vec F S4x1024x512 .f32) (x4 : Vec F S4x512x1024 .f32) (xt0 : TbBuf0 (F := F) c tbM0_0) (xt1 : TbBuf0 (F := F) c tbM0_1) (hc0 : cond0_0 i (tbM0_1.view.readAt (Elt F) (Rect.unit (s := S1) ![0] S1.size inb_S1_S1_0).toLoadRect xt1 (Shape.Idx.first (numel1_S1.symm ▸ Nat.one_pos)))) : Vec F S512x1024 .bf16 :=
  VO0_5.read (Elt F) (VO0_5.writes (Elt F) VO0_5.junk (kernelRun0_A c i arg3 harg3 arg4 harg4 arg5 harg5 arg6 harg6 arg7 harg7 arg8 harg8 x0 x1 x2 x3 x4 xt0 xt1 hc0).1)

/-- Case B's pieces for output 5 tile its block (1 store of `S512x1024`, checked by the kernel's evaluation: Lib/Ring.lean `Piece.tiledL`, linear in the pieces, through a loop's `@[irreducible]` trip theorem too), so they cover it. -/
theorem cover0_B_5 (c : Dev nD) (i : grid0.Coords) (arg3 : Memref sig .tc .vmem S512x1024 .bf16) (harg3 : arg3.IsWhole) (arg4 : Memref sig .tc .vmem S512x128 .f32) (harg4 : arg4.IsWhole) (arg5 : Memref sig .tc .vmem S4x1024x512 .f32) (harg5 : arg5.IsWhole) (arg6 : Memref sig .tc .vmem S4x1024x512 .f32) (harg6 : arg6.IsWhole) (arg7 : Memref sig .tc .vmem S4x512x1024 .f32) (harg7 : arg7.IsWhole) (arg8 : Memref sig .tc .vmem S512x1024 .bf16) (harg8 : arg8.IsWhole)
    (x0 : Vec F S512x1024 .bf16) (x1 : Vec F S512x128 .f32) (x2 : Vec F S4x1024x512 .f32) (x3 : Vec F S4x1024x512 .f32) (x4 : Vec F S4x512x1024 .f32) (xt0 : TbBuf0 (F := F) c tbM0_0) (xt1 : TbBuf0 (F := F) c tbM0_1) (hc0 : ¬cond0_0 i (tbM0_1.view.readAt (Elt F) (Rect.unit (s := S1) ![0] S1.size inb_S1_S1_0).toLoadRect xt1 (Shape.Idx.first (numel1_S1.symm ▸ Nat.one_pos)))) (y : S512x1024.Idx) :
    ∃ pc ∈ (kernelRun0_B c i arg3 harg3 arg4 harg4 arg5 harg5 arg6 harg6 arg7 harg7 arg8 harg8 x0 x1 x2 x3 x4 xt0 xt1 hc0).1, y ∈ pc.1.set :=
  View.cover_of_tiledL (kernelRun0_B c i arg3 harg3 arg4 harg4 arg5 harg5 arg6 harg6 arg7 harg7 arg8 harg8 x0 x1 x2 x3 x4 xt0 xt1 hc0).1 S512x1024.size (by sl_kernel_rfl) y

/-- What case B leaves in output 5's staging buffer: its pieces read back over junk. -/
def out0_B_5 (c : Dev nD) (i : grid0.Coords) (arg3 : Memref sig .tc .vmem S512x1024 .bf16) (harg3 : arg3.IsWhole) (arg4 : Memref sig .tc .vmem S512x128 .f32) (harg4 : arg4.IsWhole) (arg5 : Memref sig .tc .vmem S4x1024x512 .f32) (harg5 : arg5.IsWhole) (arg6 : Memref sig .tc .vmem S4x1024x512 .f32) (harg6 : arg6.IsWhole) (arg7 : Memref sig .tc .vmem S4x512x1024 .f32) (harg7 : arg7.IsWhole) (arg8 : Memref sig .tc .vmem S512x1024 .bf16) (harg8 : arg8.IsWhole)
    (x0 : Vec F S512x1024 .bf16) (x1 : Vec F S512x128 .f32) (x2 : Vec F S4x1024x512 .f32) (x3 : Vec F S4x1024x512 .f32) (x4 : Vec F S4x512x1024 .f32) (xt0 : TbBuf0 (F := F) c tbM0_0) (xt1 : TbBuf0 (F := F) c tbM0_1) (hc0 : ¬cond0_0 i (tbM0_1.view.readAt (Elt F) (Rect.unit (s := S1) ![0] S1.size inb_S1_S1_0).toLoadRect xt1 (Shape.Idx.first (numel1_S1.symm ▸ Nat.one_pos)))) : Vec F S512x1024 .bf16 :=
  VO0_5.read (Elt F) (VO0_5.writes (Elt F) VO0_5.junk (kernelRun0_B c i arg3 harg3 arg4 harg4 arg5 harg5 arg6 harg6 arg7 harg7 arg8 harg8 x0 x1 x2 x3 x4 xt0 xt1 hc0).1)

/-! ## What the outputs hold after each point -/

/-- What the outputs' staging buffers hold after the body at point `t`: the run's contents at
    the point's memrefs and input blocks, the case its WORD conditions select there. -/
def outsAt0 (hO : Ok m) (c : Dev nD) (t : Fin (cfgM m hO).N) : Vec F S512x1024 .bf16 :=
  if h0 : cond0_0 (grid0.coords t) (tbM0_1.view.readAt (Elt F) (Rect.unit (s := S1) ![0] S1.size inb_S1_S1_0).toLoadRect (tbl m 1) (Shape.Idx.first (numel1_S1.symm ▸ Nat.one_pos))) then
    out0_A_5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (iblk m hO c 0 t) (iblk m hO c 1 t) (iblk m hO c 2 t) (iblk m hO c 3 t) (iblk m hO c 4 t) (tbl m 0) (tbl m 1) h0
  else
    out0_B_5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (iblk m hO c 0 t) (iblk m hO c 1 t) (iblk m hO c 2 t) (iblk m hO c 3 t) (iblk m hO c 4 t) (tbl m 0) (tbl m 1) h0

/-- `outsAt0` at a point of case A: that case's contents. -/
theorem outsAt0_A (hO : Ok m) (c : Dev nD) (t : Fin (cfgM m hO).N) (h0 : cond0_0 (grid0.coords t) (tbM0_1.view.readAt (Elt F) (Rect.unit (s := S1) ![0] S1.size inb_S1_S1_0).toLoadRect (tbl m 1) (Shape.Idx.first (numel1_S1.symm ▸ Nat.one_pos)))) :
    outsAt0 m hO c t = out0_A_5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (iblk m hO c 0 t) (iblk m hO c 1 t) (iblk m hO c 2 t) (iblk m hO c 3 t) (iblk m hO c 4 t) (tbl m 0) (tbl m 1) h0 := by
  unfold outsAt0; exact (dif_pos h0).trans rfl

/-- `outsAt0` at a point of case B: that case's contents. -/
theorem outsAt0_B (hO : Ok m) (c : Dev nD) (t : Fin (cfgM m hO).N) (h0 : ¬cond0_0 (grid0.coords t) (tbM0_1.view.readAt (Elt F) (Rect.unit (s := S1) ![0] S1.size inb_S1_S1_0).toLoadRect (tbl m 1) (Shape.Idx.first (numel1_S1.symm ▸ Nat.one_pos)))) :
    outsAt0 m hO c t = out0_B_5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (iblk m hO c 0 t) (iblk m hO c 1 t) (iblk m hO c 2 t) (iblk m hO c 3 t) (iblk m hO c 4 t) (tbl m 0) (tbl m 1) h0 := by
  unfold outsAt0; exact (dif_neg h0).trans rfl

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => (outsAt0 m hO c t)
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = (outsAt0 m hO c t) := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t))

set_option maxHeartbeats 800000 in
/-- The body at any point: the inputs' memrefs hold their blocks (`before0_W`); so the
    run applies; the invariant passes through unread; the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5]
  rw [show (dats m hO 0 c).Φ t.castSucc = iprop(Pipeline.ΦA spec0 c ∗ Pipeline.ΦT pre0 (tbl m) c) from rfl, PhiT0_eq]
  by_cases h0 : cond0_0 (grid0.coords t) (tbM0_1.view.readAt (Elt F) (Rect.unit (s := S1) ![0] S1.size inb_S1_S1_0).toLoadRect (tbl m 1) (Shape.Idx.first (numel1_S1.symm ▸ Nat.one_pos)))
  · rw [outsAt0_A m hO c t h0]
    unfold out0_A_5
    iintro ⟨⟨HΦ, ⟨HT0, HT1⟩⟩, Ho, ⟨%d0, H0⟩, ⟨%d1, H1⟩, ⟨%d2, H2⟩, ⟨%d3, H3⟩, ⟨%d4, H4⟩, ⟨%d5, H5⟩⟩
    iapply ((kernelRun0_A c (grid0.coords t) _ _ _ _ _ _ _ _ _ _ _ _ (iblk m hO c 0 t) (iblk m hO c 1 t) (iblk m hO c 2 t) (iblk m hO c 3 t) (iblk m hO c 4 t) (tbl m 0) (tbl m 1) h0).2 Set.univ _)
    isplitl [H0]; · iexact H0
    isplitl [H1]; · iexact H1
    isplitl [H2]; · iexact H2
    isplitl [H3]; · iexact H3
    isplitl [H4]; · iexact H4
    isplitl [H5]; · iexists _; iexact H5
    isplitl [HT0]; · iexact HT0
    isplitl [HT1]; · iexact HT1
    iintro ⟨H0, H1, H2, H3, H4, ⟨%e5, H5⟩, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover0_A_5 c _ _ _ _ _ _ _ _ _ _ _ _ _ _ _ _ _ _ _ _ _)
  · rw [outsAt0_B m hO c t h0]
    unfold out0_B_5
    iintro ⟨⟨HΦ, ⟨HT0, HT1⟩⟩, Ho, ⟨%d0, H0⟩, ⟨%d1, H1⟩, ⟨%d2, H2⟩, ⟨%d3, H3⟩, ⟨%d4, H4⟩, ⟨%d5, H5⟩⟩
    iapply ((kernelRun0_B c (grid0.coords t) _ _ _ _ _ _ _ _ _ _ _ _ (iblk m hO c 0 t) (iblk m hO c 1 t) (iblk m hO c 2 t) (iblk m hO c 3 t) (iblk m hO c 4 t) (tbl m 0) (tbl m 1) h0).2 Set.univ _)
    isplitl [H0]; · iexact H0
    isplitl [H1]; · iexact H1
    isplitl [H2]; · iexact H2
    isplitl [H3]; · iexact H3
    isplitl [H4]; · iexact H4
    isplitl [H5]; · iexists _; iexact H5
    isplitl [HT0]; · iexact HT0
    isplitl [HT1]; · iexact HT1
    iintro ⟨H0, H1, H2, H3, H4, ⟨%e5, H5⟩, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover0_B_5 c _ _ _ _ _ _ _ _ _ _ _ _ _ _ _ _ _ _ _ _ _)

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The output window is idle at no point: one of the two conditions holds, whatever the tables hold. -/
theorem live5 (hO : Ok m) (i : (cfgM m hO).grid.Coords) : (cfgM m hO).idle 5 i = false := by
  show (!(k0_cond1 i ((tbl m).atD 1 ![0]) == 1#1) && !(k0_cond2 i ((tbl m).atD 1 ![0]) == 1#1)) = false
  by_cases h : cond0_0 i ((tbl m).atD 1 ![0])
  · rw [show k0_cond1 i ((tbl m).atD 1 ![0]) = 1#1 from h]; rfl
  · rw [(cond2_iff i _).mpr h]; simp

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => by
    rw [live5 m hO]
    exact .rfl

/-! ## The run and the frame -/

-- `θ_run_frameP`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ hO (dats m hO) (A_eq m hO) (run_main m ρ hO)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`; here for every contents of the PREFETCHED TABLES, UNDER `Gen.Ok m` (the pipeline's side condition of
    them), which Proof.lean proves from the precondition: `⟨…, fun m ρ h => Cert.KernelIdeal.Gen.frame m ρ (ok_of_pre m h)⟩`. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ hO) ((θ_run defs _ _).mono (fun _ h => h.2) (run_main_quiescent m ρ hO))

end Cert.KernelIdeal.Moe

end
-- ==== Proof.Spec.lean ====
module

public import Idealize.ShloMosaic.Lib.Pointwise
public import Mathlib.Algebra.BigOperators.Fin

@[expose] public section

noncomputable section

namespace Cert.Moe

open Idealize.ShloMosaic

/-- One hidden unit of an expert on a row: the gated product of the two projections of the row onto column `f` (the gate
    projection through x · σ(x)), scaled by the row's routing weight for this expert. -/
def hidden (x : Fin 1024 → EReal) (wg wu : Fin 1024 → Fin 512 → EReal) (gate : EReal) (f : Fin 512) : EReal :=
  (∑ k, x k * wg k f) * Ideal.logistic (∑ k, x k * wg k f) * (∑ k, x k * wu k f) * gate

/-- What one expert contributes to output column `d` of a row. -/
def expertOut (x : Fin 1024 → EReal) (wg wu : Fin 1024 → Fin 512 → EReal) (wd : Fin 512 → Fin 1024 → EReal)
    (gate : EReal) (d : Fin 1024) : EReal :=
  ∑ f, hidden x wg wu gate f * wd f d

/-- An expert whose routing weight is zero contributes nothing, whatever the row and the weights hold. -/
theorem expertOut_zero (x : Fin 1024 → EReal) (wg wu : Fin 1024 → Fin 512 → EReal) (wd : Fin 512 → Fin 1024 → EReal)
    (d : Fin 1024) : expertOut x wg wu wd 0 d = 0 := by
  unfold expertOut hidden
  simp only [mul_zero, zero_mul, Finset.sum_const_zero]

/-- The expert of group `g` at place `e` within its group: groups are four consecutive experts. -/
def expertOf (g e : Fin 4) : Fin 16 := ⟨4 * g.val + e.val, by omega⟩

/-- A sum over the sixteen experts in which only one group's four are live is the sum over those four. -/
theorem sum_group (g : Fin 4) (h : Fin 16 → EReal) (hz : ∀ e : Fin 16, e.val / 4 ≠ g.val → h e = 0) :
    ∑ e, h e = ∑ e : Fin 4, h (expertOf g e) := by
  have hs : ∑ e, h e = ∑ p : Fin 4 × Fin 4, h (expertOf p.1 p.2) := by
    rw [← Equiv.sum_comp (finProdFinEquiv (m := 4) (n := 4))]
    exact Finset.sum_congr rfl fun p _ => congrArg h (Fin.ext (by
      simp only [finProdFinEquiv_apply_val, expertOf]; omega))
  rw [hs, Fintype.sum_prod_type, Finset.sum_eq_single g]
  · intro b _ hb
    refine Finset.sum_eq_zero fun e _ => hz _ fun h4 => hb (Fin.ext ?_)
    simp only [expertOf] at h4; omega
  · intro hg; exact absurd (Finset.mem_univ g) hg

/-- What the layer's expert stage leaves at row `t` and column `d`: rows come in blocks of 512, block `t / 512` belongs to
    the group its table word names, and the row gets the four experts of that group, each with the row's own routing
    weight for it; a row of a block past the `n` in use gets zero. -/
def groupOut (bg : (⟨⟨1, ![31]⟩, .i32⟩ : BufTy).Contents (Elt Ideal)) (n : (⟨⟨1, ![1]⟩, .i32⟩ : BufTy).Contents (Elt Ideal))
    (xs : (⟨⟨2, ![15872, 1024]⟩, .bf16⟩ : BufTy).Contents (Elt Ideal)) (gs : (⟨⟨2, ![15872, 128]⟩, .f32⟩ : BufTy).Contents (Elt Ideal))
    (wg wu : (⟨⟨3, ![16, 1024, 512]⟩, .f32⟩ : BufTy).Contents (Elt Ideal)) (wd : (⟨⟨3, ![16, 512, 1024]⟩, .f32⟩ : BufTy).Contents (Elt Ideal))
    (t : Fin 15872) (d : Fin 1024) (h : (bg (ix1 ⟨t.val / 512, by omega⟩) : BitVec 32).toNat < 4) : EReal :=
  if t.val / 512 < (n (ix1 0) : BitVec 32).toNat then
    ∑ e : Fin 4, expertOut (fun k => xs (ix2 t k)) (fun k f => wg (ix3 (expertOf ⟨_, h⟩ e) k f)) (fun k f => wu (ix3 (expertOf ⟨_, h⟩ e) k f))
      (fun f d => wd (ix3 (expertOf ⟨_, h⟩ e) f d)) (gs (ix2 t ⟨(expertOf ⟨_, h⟩ e).val, by omega⟩)) d
  else 0

end Cert.Moe

end
-- ==== Proof.KernelIdealBlock.lean ====
module

public import proofs.«01_k».proof.Proof.KernelIdealFrame
public import proofs.«01_k».proof.Proof.Spec
public import Idealize.ShloMosaic.Lib.Pipeline.ValueKit
public import Idealize.ShloMosaic.Lib.Pointwise
public import Idealize.ShloMosaic.Lib.WordArith
public import Idealize.ShloMosaic.Lib.WordCmp

@[expose] public section

set_option maxRecDepth 16384

noncomputable section

namespace Cert.KernelIdeal.Moe

open Cert.KernelIdeal.Gen Cert.Moe
open Idealize.ShloMosaic Idealize.ShloMosaic.TcCoe Idealize.ShloMosaic.Tactic
open Idealize.SL Idealize.SL.RA Idealize.SL.BI Idealize.SL.Sem

/-- The routing weight the kernel draws out of a row: the sum over the lanes of the row's weights, all but the lane that
    names the expert replaced by zero, is that lane's weight. -/
theorem lane_sum (w : BitVec 32) (hw : w.toNat < 4) (e : Fin 4) (h : Fin 128 → EReal) :
    ∑ l : Fin 128, Scalar.select (IntOp.cmpi CmpIPredicate.eq (BitVec.ofNat 32 l.val) (Scalar.addi (Scalar.muli 4#32 w) (BitVec.ofNat 32 e.val))) (h l) 0
      = h ⟨4 * w.toNat + e.val, by omega⟩ := by
  have hk : ∀ l : Fin 128, (IntOp.cmpi CmpIPredicate.eq (BitVec.ofNat 32 l.val) (Scalar.addi (Scalar.muli 4#32 w) (BitVec.ofNat 32 e.val)) = 1#1) ↔ l = ⟨4 * w.toNat + e.val, by omega⟩ := by
    intro l
    have hl := l.isLt
    have he := e.isLt
    rw [Fin.ext_iff]
    have hv : (Scalar.addi (Scalar.muli 4#32 w) (BitVec.ofNat 32 e.val)).toNat = 4 * w.toNat + e.val := by
      simp only [Scalar.addi, Scalar.muli, IntOp.addi, IntOp.muli, BitVec.toNat_add, BitVec.toNat_mul, BitVec.toNat_ofNat]
      omega
    have hl' : (BitVec.ofNat 32 l.val).toNat = l.val := by simp only [BitVec.toNat_ofNat]; omega
    rw [WordCmp.cmpi_eq_eq, WordArith.ofBool_eq_one_iff, decide_eq_true_eq, ← BitVec.toNat_inj, hv, hl']
  rw [Finset.sum_eq_single ⟨4 * w.toNat + e.val, by omega⟩]
  · unfold Scalar.select; exact if_pos ((hk _).mpr rfl)
  · intro b _ hb; unfold Scalar.select; exact if_neg fun hc => hb ((hk b).mp hc)
  · intro hg; exact absurd (Finset.mem_univ _) hg

/-- What a grid point past the blocks in use leaves in the output block: zeros. -/
theorem out0_B_apply (c : Dev nD) (i : grid0.Coords) (arg3 : Memref sig .tc .vmem S512x1024 .bf16) (harg3 : arg3.IsWhole) (arg4 : Memref sig .tc .vmem S512x128 .f32) (harg4 : arg4.IsWhole) (arg5 : Memref sig .tc .vmem S4x1024x512 .f32) (harg5 : arg5.IsWhole) (arg6 : Memref sig .tc .vmem S4x1024x512 .f32) (harg6 : arg6.IsWhole) (arg7 : Memref sig .tc .vmem S4x512x1024 .f32) (harg7 : arg7.IsWhole) (arg8 : Memref sig .tc .vmem S512x1024 .bf16) (harg8 : arg8.IsWhole)
    (x0 : Vec Ideal S512x1024 .bf16) (x1 : Vec Ideal S512x128 .f32) (x2 : Vec Ideal S4x1024x512 .f32) (x3 : Vec Ideal S4x1024x512 .f32) (x4 : Vec Ideal S4x512x1024 .f32) (xt0 : TbBuf0 (F := Ideal) c tbM0_0) (xt1 : TbBuf0 (F := Ideal) c tbM0_1) (hc0 : ¬ cond0_0 i (tbM0_1.view.readAt (Elt Ideal) (Rect.unit (s := S1) ![0] S1.size inb_S1_S1_0).toLoadRect xt1 (Shape.Idx.first (numel1_S1.symm ▸ Nat.one_pos)))) (y : S512x1024.Idx) :
    out0_B_5 c i arg3 harg3 arg4 harg4 arg5 harg5 arg6 harg6 arg7 harg7 arg8 harg8 x0 x1 x2 x3 x4 xt0 xt1 hc0 y = (0 : EReal) := by
  frame_out
  pointwise [k0_pay2]

/-- What a grid point on a block in use leaves in the output block: at row `r` and column `d` the sum of the four
    experts of the block's group, each with the routing weight the row holds at that expert. -/
theorem out0_A_apply (c : Dev nD) (i : grid0.Coords) (arg3 : Memref sig .tc .vmem S512x1024 .bf16) (harg3 : arg3.IsWhole) (arg4 : Memref sig .tc .vmem S512x128 .f32) (harg4 : arg4.IsWhole) (arg5 : Memref sig .tc .vmem S4x1024x512 .f32) (harg5 : arg5.IsWhole) (arg6 : Memref sig .tc .vmem S4x1024x512 .f32) (harg6 : arg6.IsWhole) (arg7 : Memref sig .tc .vmem S4x512x1024 .f32) (harg7 : arg7.IsWhole) (arg8 : Memref sig .tc .vmem S512x1024 .bf16) (harg8 : arg8.IsWhole)
    (x0 : Vec Ideal S512x1024 .bf16) (x1 : Vec Ideal S512x128 .f32) (x2 : Vec Ideal S4x1024x512 .f32) (x3 : Vec Ideal S4x1024x512 .f32) (x4 : Vec Ideal S4x512x1024 .f32) (xt0 : TbBuf0 (F := Ideal) c tbM0_0) (xt1 : TbBuf0 (F := Ideal) c tbM0_1) (hc0 : cond0_0 i (tbM0_1.view.readAt (Elt Ideal) (Rect.unit (s := S1) ![0] S1.size inb_S1_S1_0).toLoadRect xt1 (Shape.Idx.first (numel1_S1.symm ▸ Nat.one_pos)))) (w : BitVec 32)
    (hw : View.ld (View.read (Elt Ideal) (View.whole main_arg0) xt0) (Rect.unit (s := S31) (k0_off2 i) S1.size (k0_off2_inb i)) (Shape.Idx.first (numel1_S1.symm ▸ Nat.one_pos)) = w)
    (h4 : w.toNat < 4) (r : Fin 512) (d : Fin 1024) :
    out0_A_5 c i arg3 harg3 arg4 harg4 arg5 harg5 arg6 harg6 arg7 harg7 arg8 harg8 x0 x1 x2 x3 x4 xt0 xt1 hc0 (ix2 r d)
      = ∑ e : Fin 4, expertOut (fun k => x0 (ix2 r k)) (fun k f => x2 (ix3 e k f)) (fun k f => x3 (ix3 e k f)) (fun f d => x4 (ix3 e f d))
          (x1 (ix2 r ⟨4 * w.toNat + e.val, by omega⟩)) d := by
  have l0 := lane_sum w h4 0; have l1 := lane_sum w h4 1; have l2 := lane_sum w h4 2; have l3 := lane_sum w h4 3
  frame_out
  rw [hw]
  pointwise [k0_pay1, k0_pay3, k0_pay4, k0_pay5, k0_pay6, k0_pay7, k0_pay8, k0_pay9, k0_pay10, k0_pay11]
  rw [Fin.sum_univ_four]
  unfold expertOut Moe.hidden
  rw [← l0 fun l => x1 (ix2 r l), ← l1 fun l => x1 (ix2 r l), ← l2 fun l => x1 (ix2 r l), ← l3 fun l => x1 (ix2 r l)]
  rfl

end Cert.KernelIdeal.Moe

end
-- ==== Proof.KernelIdealOk.lean ====
module

public import proofs.«01_k».proof.Defs
public import proofs.«01_k».proof.Proof.KernelIdealBase
public import proofs.«01_k».proof.Proof.Range

@[expose] public section

noncomputable section

namespace Cert.KernelIdeal.Moe

open Cert.KernelIdeal.Gen
open Idealize.ShloMosaic Idealize.ShloMosaic.TcCoe

variable {F : FTy → Type} [FloatOps F]

/-- The block of rows a grid point reads: the point itself, held at the last block in use. -/
theorem row_word (i : grid0.Coords) (w : BitVec 32) (h1 : 1 ≤ w.toNat) (h2 : w.toNat ≤ 31) :
    (Scalar.minsi (BitVec.ofNat 32 (i 0).val) (Scalar.subi w 1#32)).toNat = min (i 0).val (w.toNat - 1) := by
  have hi : (i 0).val < 31 := (i 0).isLt
  simp only [Scalar.minsi, Scalar.subi, IntOp.minsi, IntOp.subi]
  have e1 : (w - 1#32).toNat = w.toNat - 1 := by
    rw [BitVec.toNat_sub]; simp only [BitVec.toNat_ofNat]; omega
  have e0 : (BitVec.ofNat 32 (i 0).val).toNat = (i 0).val := by simp only [BitVec.toNat_ofNat]; omega
  have d0 : (BitVec.ofNat 32 (i 0).val).toInt = (i 0).val := by
    rw [BitVec.toInt_eq_toNat_of_lt (by omega), e0]
  have d1 : (w - 1#32).toInt = ((w.toNat - 1 : ℕ) : ℤ) := by
    rw [BitVec.toInt_eq_toNat_of_lt (by omega), e1]
  simp only [BitVec.sle, BitVec.slt, d0, d1, decide_eq_true_eq]
  split_ifs with h <;> omega

/-- The pipeline's side condition holds of every pair of tables in range: each window's block lies inside its array at
    every grid point. -/
theorem ok_of_bounds (pf : pre0.Contents (Elt F)) (h0 : ∀ y, (pf 0 y : BitVec 32).toNat < 4)
    (h1 : ∀ y, 1 ≤ (pf 1 y : BitVec 32).toNat ∧ (pf 1 y : BitVec 32).toNat ≤ 31) : ok0 (F := F) pf := by
  have hr (w : BitVec 32) (hw : 1 ≤ w.toNat ∧ w.toNat ≤ 31) (i : grid0.Coords) :
      (Scalar.minsi (BitVec.ofNat 32 (i 0).val) (Scalar.subi w 1#32)).toNat ≤ 30 := by
    rw [row_word i w hw.1 hw.2]; omega
  refine ⟨fun i => ⟨?_, .inr (Affine.block_words_dvd (s := S15872x1024) (p := EltTy.packing .bf16) (by decide) (by decide))⟩,
    fun i => ⟨?_, .inl rfl⟩, fun i => ⟨?_, .inl rfl⟩, fun i => ⟨?_, .inl rfl⟩, fun i => ⟨?_, .inl rfl⟩⟩
  · intro a
    match a with
    | ⟨0, _⟩ =>
      have := hr _ (h1 ((Rect.unit (s := S1) ![0] S1.size inb_S1_S1_0).emb (Shape.Idx.first (numel1_S1.symm ▸ Nat.one_pos)))) i
      show (_ + 1) * 512 ≤ 15872
      simp only [cc0_transform_0, Matrix.cons_val_zero]
      exact le_trans (Nat.mul_le_mul_right _ (Nat.succ_le_succ this)) (by decide)
    | ⟨1, _⟩ => show (0 + 1) * 1024 ≤ 1024; decide
  · intro a
    match a with
    | ⟨0, _⟩ =>
      have := hr _ (h1 ((Rect.unit (s := S1) ![0] S1.size inb_S1_S1_0).emb (Shape.Idx.first (numel1_S1.symm ▸ Nat.one_pos)))) i
      show (_ + 1) * 512 ≤ 15872
      exact le_trans (Nat.mul_le_mul_right _ (Nat.succ_le_succ this)) (by decide)
    | ⟨1, _⟩ => show (0 + 1) * 128 ≤ 128; decide
  · intro a
    match a with
    | ⟨0, _⟩ =>
      have := h0 ((Rect.unit (s := S31) (k0_off1 i) S1.size (k0_off1_inb i)).emb (Shape.Idx.first (numel1_S1.symm ▸ Nat.one_pos)))
      show (_ + 1) * 4 ≤ 16
      exact Nat.mul_le_mul_right 4 (m := 4) this
    | ⟨1, _⟩ => show (0 + 1) * 1024 ≤ 1024; decide
    | ⟨2, _⟩ => show (0 + 1) * 512 ≤ 512; decide
  · intro a
    match a with
    | ⟨0, _⟩ =>
      have := h0 ((Rect.unit (s := S31) (k0_off1 i) S1.size (k0_off1_inb i)).emb (Shape.Idx.first (numel1_S1.symm ▸ Nat.one_pos)))
      show (_ + 1) * 4 ≤ 16
      exact Nat.mul_le_mul_right 4 (m := 4) this
    | ⟨1, _⟩ => show (0 + 1) * 1024 ≤ 1024; decide
    | ⟨2, _⟩ => show (0 + 1) * 512 ≤ 512; decide
  · intro a
    match a with
    | ⟨0, _⟩ =>
      have := h0 ((Rect.unit (s := S31) (k0_off1 i) S1.size (k0_off1_inb i)).emb (Shape.Idx.first (numel1_S1.symm ▸ Nat.one_pos)))
      show (_ + 1) * 4 ≤ 16
      exact Nat.mul_le_mul_right 4 (m := 4) this
    | ⟨1, _⟩ => show (0 + 1) * 512 ≤ 512; decide
    | ⟨2, _⟩ => show (0 + 1) * 1024 ≤ 1024; decide

/-- The two tables a launch memory holds are in range, under the precondition. -/
theorem tbl_bounds (m : (ℓ : Loc nD τ sig) → Buf (Elt Ideal) ℓ) (h : Cert.Pre_KernelIdeal m) :
    (∀ y, (tbl m 0 y : BitVec 32).toNat < 4) ∧ ∀ y, 1 ≤ (tbl m 1 y : BitVec 32).toNat ∧ (tbl m 1 y : BitVec 32).toNat ≤ 31 :=
  Range.bounds _ _ _ _ _ _ _ (h 0)

/-- The pipeline's side condition of a launch memory, from the precondition. -/
theorem ok_of_pre (m : (ℓ : Loc nD τ sig) → Buf (Elt Ideal) ℓ) (h : Cert.Pre_KernelIdeal m) : Ok (F := Ideal) m :=
  ok_of_bounds _ (tbl_bounds m h).1 (tbl_bounds m h).2

end Cert.KernelIdeal.Moe

end
-- ==== Proof.KernelIdealValue.lean ====
module

public import proofs.«01_k».proof.Proof.KernelIdealBlock
public import proofs.«01_k».proof.Proof.KernelIdealOk
public import Idealize.ShloMosaic.Lib.WordArith
public import Idealize.ShloMosaic.Lib.WordCmp

@[expose] public section

set_option maxRecDepth 16384

noncomputable section

namespace Cert.KernelIdeal.Moe

open Cert.KernelIdeal.Gen Cert.Moe
open Idealize.ShloMosaic Idealize.ShloMosaic.TcCoe Idealize.ShloMosaic.Tactic
open Idealize.SL Idealize.SL.RA Idealize.SL.BI Idealize.SL.Sem

variable (m : (ℓ : Loc nD τ sig) → Buf (Elt Ideal) ℓ)

/-- The grid has one axis: a point's coordinate is the point. -/
theorem coords_val (t : Fin grid0.N) : (grid0.coords t 0).val = t.val := by
  revert t; decide

/-- The number of blocks in use, as the kernel's second table holds it. -/
abbrev inUse : BitVec 32 := tbl m 1 (ix1 0)

/-- The group of block `b`, as the kernel's first table holds it. -/
abbrev groupAt (b : Fin 31) : BitVec 32 := tbl m 0 (ix1 b)

/-- The word the kernel's body reads for the number of blocks in use. -/
theorem inUse_read : tbM0_1.view.readAt (Elt Ideal) (Rect.unit (s := S1) ![0] S1.size inb_S1_S1_0).toLoadRect (tbl m 1) (Shape.Idx.first (numel1_S1.symm ▸ Nat.one_pos)) = inUse m := by
  refine congrArg (tbl m 1) (funext fun a => ?_)
  match a with
  | ⟨0, _⟩ => rfl

/-- The word the kernel's body reads for its block's group. -/
theorem group_read (t : Fin grid0.N) (b : Fin 31) (hb : b.val = t.val) :
    View.ld (View.read (Elt Ideal) (View.whole main_arg0) (tbl m 0)) (Rect.unit (s := S31) (k0_off2 (grid0.coords t)) S1.size (k0_off2_inb (grid0.coords t))) (Shape.Idx.first (numel1_S1.symm ▸ Nat.one_pos)) = groupAt m b := by
  refine congrArg (tbl m 0) (funext fun a => Fin.ext ?_)
  have ht : t.val < 31 := t.isLt
  match a with
  | ⟨0, _⟩ =>
    show (BitVec.ofNat 32 (grid0.coords t 0).val).toNat + 1 * 0 = b.val
    rw [coords_val, hb, BitVec.toNat_ofNat]; omega

/-- A grid point works on its block exactly when the block is in use. -/
theorem cond_iff (t : Fin grid0.N) (h : (inUse m).toNat ≤ 31) : cond0_0 (grid0.coords t) (inUse m) ↔ t.val < (inUse m).toNat := by
  have ht : t.val < 31 := t.isLt
  have e0 : (BitVec.ofNat 32 t.val).toNat = t.val := by rw [BitVec.toNat_ofNat]; omega
  unfold cond0_0 k0_cond1
  rw [coords_val]
  have hs : Scalar.cmpi .slt (BitVec.ofNat 32 t.val) (inUse m) = BitVec.ofBool (decide (t.val < (inUse m).toNat)) := by
    refine (WordCmp.cmpi_slt_eq _ _).trans ?_
    rw [BitVec.toInt_eq_toNat_of_lt (by rw [e0]; omega), BitVec.toInt_eq_toNat_of_lt (by omega), e0]
    simp only [Int.ofNat_lt]
  simp only [hs]
  by_cases hc : t.val < (inUse m).toNat
  · simp only [hc, decide_true]; decide
  · simp only [hc, decide_false]; decide

variable (hO : Ok m)

/-- The block of rows point `t` reads. -/
theorem row_index (t : Fin (cfgM m hO).N) (h1 : 1 ≤ (inUse m).toNat) (h2 : (inUse m).toNat ≤ 31) :
    (Scalar.minsi (BitVec.ofNat 32 (grid0.coords t 0).val) (Scalar.subi (inUse m) 1#32)).toNat = min t.val ((inUse m).toNat - 1) := by
  rw [row_word _ _ h1 h2, coords_val]

/-- The one word of the second table that a step reads is the number of blocks in use. -/
theorem at_1 : (tbl m).at 1 (Rect.unit (s := S1) ![0] S1.size inb_S1_S1_0) numel1_S1 = inUse m := by
  refine congrArg (tbl m 1) (funext fun a => ?_)
  match a with
  | ⟨0, _⟩ => rfl

/-- The tokens window of step `t` is block `t`, or the last block in use where `t` lies past it. -/
theorem index_0 (t : Fin (cfgM m hO).N) (h1 : 1 ≤ (inUse m).toNat) (h2 : (inUse m).toNat ≤ 31) :
    ((cfgM m hO).win 0).index t = ![min t.val ((inUse m).toNat - 1), 0] := by
  show cc0_transform_0 inb_S1_S1_0 numel1_S1 (tbl m) (grid0.coords t) = _
  rw [← row_index m hO t h1 h2, ← at_1 m]
  rfl

/-- The gates window of step `t` is the same block as the tokens window. -/
theorem index_1 (t : Fin (cfgM m hO).N) (h1 : 1 ≤ (inUse m).toNat) (h2 : (inUse m).toNat ≤ 31) :
    ((cfgM m hO).win 1).index t = ![min t.val ((inUse m).toNat - 1), 0] := by
  show cc0_transform_1 inb_S1_S1_0 numel1_S1 (tbl m) (grid0.coords t) = _
  rw [← row_index m hO t h1 h2, ← at_1 m]
  rfl

/-- The word of the first table that step `t` reads is the group of block `t`. -/
theorem at_0 (t : Fin grid0.N) (b : Fin 31) (hb : b.val = t.val) :
    (tbl m).at 0 (Rect.unit (s := S31) (k0_off1 (grid0.coords t)) S1.size (k0_off1_inb (grid0.coords t))) numel1_S1 = groupAt m b := by
  refine congrArg (tbl m 0) (funext fun a => Fin.ext ?_)
  have ht : t.val < 31 := t.isLt
  match a with
  | ⟨0, _⟩ =>
    show (BitVec.ofNat 32 (grid0.coords t 0).val).toNat + 1 * 0 = b.val
    rw [coords_val, hb, BitVec.toNat_ofNat]; omega

/-- The weights' block of point `t`: that of the group its table word names. -/
theorem index_2 (t : Fin (cfgM m hO).N) (b : Fin 31) (hb : b.val = t.val) :
    ((cfgM m hO).win 2).index t = ![(groupAt m b).toNat, 0, 0] := by
  show cc0_transform_2 k0_off1_inb numel1_S1 (tbl m) (grid0.coords t) = _
  rw [← at_0 m t b hb]; rfl

/-- The up-projection window of step `t` is the four experts of the group of block `t`. -/
theorem index_3 (t : Fin (cfgM m hO).N) (b : Fin 31) (hb : b.val = t.val) :
    ((cfgM m hO).win 3).index t = ![(groupAt m b).toNat, 0, 0] := by
  show cc0_transform_3 k0_off1_inb numel1_S1 (tbl m) (grid0.coords t) = _
  rw [← at_0 m t b hb]; rfl

/-- The down-projection window of step `t` is the four experts of the group of block `t`. -/
theorem index_4 (t : Fin (cfgM m hO).N) (b : Fin 31) (hb : b.val = t.val) :
    ((cfgM m hO).win 4).index t = ![(groupAt m b).toNat, 0, 0] := by
  show cc0_transform_4 k0_off1_inb numel1_S1 (tbl m) (grid0.coords t) = _
  rw [← at_0 m t b hb]; rfl

/-- The block of rows point `t` writes is its own. -/
theorem index_5 (t : Fin (cfgM m hO).N) : ((cfgM m hO).win 5).index t = ![t.val, 0] := by
  show cc0_transform_5 (grid0.coords t) = _
  have ht : t.val < 31 := t.isLt
  unfold cc0_transform_5
  rw [coords_val]
  have : (BitVec.ofNat 32 t.val).toNat = t.val := by rw [BitVec.toNat_ofNat]; omega
  simp only [this]
  rfl

/-- On a block in use the rows a point reads are its own. -/
theorem iblk_0 (c : Dev nD) (t : Fin (cfgM m hO).N) (h1 : t.val < (inUse m).toNat) (h2 : (inUse m).toNat ≤ 31) (r : Fin 512) (k : Fin 1024) (q : Fin 15872) (hq : q.val = t.val * 512 + r.val) :
    iblk m hO c 0 t (ix2 r k) = m ((c.tc : Thread nD τ).loc main_arg2) (ix2 q k) := by
  have h := index_0 m hO t (by omega) h2
  rw [Nat.min_eq_left (by omega)] at h
  blk_ext [iblk, h]

/-- … and so are the routing weights. -/
theorem iblk_1 (c : Dev nD) (t : Fin (cfgM m hO).N) (h1 : t.val < (inUse m).toNat) (h2 : (inUse m).toNat ≤ 31) (r : Fin 512) (k : Fin 128) (q : Fin 15872) (hq : q.val = t.val * 512 + r.val) :
    iblk m hO c 1 t (ix2 r k) = m ((c.tc : Thread nD τ).loc main_arg3) (ix2 q k) := by
  have h := index_1 m hO t (by omega) h2
  rw [Nat.min_eq_left (by omega)] at h
  blk_ext [iblk, h]

/-- The weights a point reads at place `e` are those of expert `e` of its block's group. -/
theorem iblk_2 (c : Dev nD) (t : Fin (cfgM m hO).N) (b : Fin 31) (hb : b.val = t.val) (g e : Fin 4) (hg : (groupAt m b).toNat = g.val) (k : Fin 1024) (f : Fin 512) :
    iblk m hO c 2 t (ix3 e k f) = m ((c.tc : Thread nD τ).loc main_arg4) (ix3 (expertOf g e) k f) := by
  have h := index_2 m hO t b hb
  rw [hg] at h
  blk_ext [iblk, h, expertOf]

/-- What the up-projection window of step `t` holds: expert `e` of the group of block `t`. -/
theorem iblk_3 (c : Dev nD) (t : Fin (cfgM m hO).N) (b : Fin 31) (hb : b.val = t.val) (g e : Fin 4) (hg : (groupAt m b).toNat = g.val) (k : Fin 1024) (f : Fin 512) :
    iblk m hO c 3 t (ix3 e k f) = m ((c.tc : Thread nD τ).loc main_arg5) (ix3 (expertOf g e) k f) := by
  have h := index_3 m hO t b hb
  rw [hg] at h
  blk_ext [iblk, h, expertOf]

/-- What the down-projection window of step `t` holds: expert `e` of the group of block `t`. -/
theorem iblk_4 (c : Dev nD) (t : Fin (cfgM m hO).N) (b : Fin 31) (hb : b.val = t.val) (g e : Fin 4) (hg : (groupAt m b).toNat = g.val) (f : Fin 512) (d : Fin 1024) :
    iblk m hO c 4 t (ix3 e f d) = m ((c.tc : Thread nD τ).loc main_arg6) (ix3 (expertOf g e) f d) := by
  have h := index_4 m hO t b hb
  rw [hg] at h
  blk_ext [iblk, h, expertOf]

/-- The blocks of the output window, one a point, cover its array. -/
theorem covers_5 : ((cfgM m hO).win 5).Covers := by
  refine ⟨fun a => ?_, fun β => ?_⟩
  · match a with
    | ⟨0, _⟩ => exact (by decide : 0 < 512)
    | ⟨1, _⟩ => exact (by decide : 0 < 1024)
  · let β' : (a : Fin 2) → Fin ((![31, 1] : Fin 2 → ℕ) a) := fun a => ⟨(β a).val, match a with
      | ⟨0, h⟩ => (show (β ⟨0, h⟩).val < (15872 + 512 - 1) / 512 from (β ⟨0, h⟩).isLt)
      | ⟨1, h⟩ => (show (β ⟨1, h⟩).val < (1024 + 1024 - 1) / 1024 from (β ⟨1, h⟩).isLt)⟩
    refine ⟨⟨(β' 0).val, (β' 0).isLt⟩, flush0_5 (adm m hO) _, fun a => ⟨?_, .inl rfl⟩⟩
    rw [index_5]
    match a with
    | ⟨0, _⟩ => rfl
    | ⟨1, _⟩ =>
      have h1 : (β' 1).val < 1 := (β' 1).isLt
      show 0 = (β' 1).val
      omega

/-- What the kernel's array holds after the run, on core `c`: at each row and column the group's four experts of the row,
    or zero past the blocks in use. -/
def experts (c : Dev nD) (h0 : ∀ y, (m ((c.tc : Thread nD τ).loc main_arg0) y : BitVec 32).toNat < 4) : Buf (Elt Ideal) ((c.tc : Thread nD τ).loc main_v0) :=
  fun y => groupOut (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6)) (y 0) (y 1) (h0 _)

/-- The kernel's output array after the run is `experts`. -/
theorem arrAt_5 (c : Dev nD) (h0 : ∀ y, (m ((c.tc : Thread nD τ).loc main_arg0) y : BitVec 32).toNat < 4)
    (h1 : ∀ y, 1 ≤ (m ((c.tc : Thread nD τ).loc main_arg1) y : BitVec 32).toNat ∧ (m ((c.tc : Thread nD τ).loc main_arg1) y : BitVec 32).toNat ≤ 31) :
    (dats m hO 0 c).arrAt 5 (cfgM m hO).N = experts m c h0 := by
  obtain rfl : c = 0 := Subsingleton.elim _ _
  refine (dats m hO 0 0).arrAt_eq_of_covers 5 _ (covers_5 m hO) fun t _ y => ?_
  have ht : t.val < 31 := t.isLt
  have hn := h1 (ix1 0)
  have hi := index_5 m hO t
  change S512x1024.Idx at y
  idx_vars y
  obtain ⟨q, hq⟩ : ∃ q : Fin 15872, q.val = t.val * 512 + y0.val := ⟨⟨t.val * 512 + y0.val, by omega⟩, rfl⟩
  have he : (((cfgM m hO).win 5).blk t).view.emb (ix2 y0 y1) = ix2 q y1 := by blk_ext [hi]
  rw [he]
  show (dats m hO 0 0).after 5 t (ix2 y0 y1) = groupOut _ _ _ _ _ _ _ q y1 _
  rw [after0_5]
  have hb : q.val / 512 = t.val := by omega
  unfold groupOut
  by_cases hc : t.val < (inUse m).toNat
  · have hc0 := (cond_iff m t hn.2).mpr hc
    rw [← inUse_read m] at hc0
    rw [outsAt0_A m hO 0 t hc0]
    refine (out0_A_apply 0 (grid0.coords t) _ _ _ _ _ _ _ _ _ _ _ _ _ _ _ _ _ _ _ hc0 (groupAt m ⟨q.val / 512, by omega⟩) (group_read m t _ hb) (h0 _) y0 y1).trans ?_
    rw [if_pos (by rw [hb]; exact hc)]
    refine Finset.sum_congr rfl fun e _ => ?_
    simp only [iblk_0 m hO 0 t hc hn.2 y0 _ q hq, iblk_1 m hO 0 t hc hn.2 y0 _ q hq, iblk_2 m hO 0 t ⟨q.val / 512, by omega⟩ hb ⟨_, h0 _⟩ e rfl, iblk_3 m hO 0 t ⟨q.val / 512, by omega⟩ hb ⟨_, h0 _⟩ e rfl, iblk_4 m hO 0 t ⟨q.val / 512, by omega⟩ hb ⟨_, h0 _⟩ e rfl]
    rfl
  · have hc0 : ¬ cond0_0 (grid0.coords t) (inUse m) := fun h => hc ((cond_iff m t hn.2).mp h)
    rw [← inUse_read m] at hc0
    rw [outsAt0_B m hO 0 t hc0]
    refine (out0_B_apply 0 (grid0.coords t) _ _ _ _ _ _ _ _ _ _ _ _ _ _ _ _ _ _ _ hc0 (ix2 y0 y1)).trans ?_
    rw [if_neg (by rw [hb]; exact hc)]

/-- The kernel's run: its result array ends at `experts`, its arguments as launched. -/
theorem run_experts (ρ : Dev nD → PrngReg)
    (h0 : ∀ c y, (m (((c : Dev nD).tc : Thread nD τ).loc main_arg0) y : BitVec 32).toNat < 4)
    (h1 : ∀ c y, 1 ≤ (m (((c : Dev nD).tc : Thread nD τ).loc main_arg1) y : BitVec 32).toNat ∧ (m (((c : Dev nD).tc : Thread nD τ).loc main_arg1) y : BitVec 32).toNat ≤ 31) :
    θ_run defs (onTc (τ := τ) (main (F := Ideal))) ⟨m, fun _ => 0, ρ⟩ (fun r => ∀ c : Dev nD,
      r.2.mem ((c.tc : Thread nD τ).loc main_v0) = experts m c (h0 c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  have hO : Ok m := ok_of_bounds _ (h0 0) (h1 0)
  exact (θ_run defs _ _).mono (fun r h c => ⟨(h.out_eq c 5).trans (arrAt_5 m hO c (h0 c) (h1 c)),
      (h.rest_eq c main_arg0 (by decide : main_arg0 ∈ Pipeline.restRefs sig spec0)).trans (V_main_arg0 m c),
      (h.rest_eq c main_arg1 (by decide : main_arg1 ∈ Pipeline.restRefs sig spec0)).trans (V_main_arg1 m c),
      (h.in_eq c 0 rfl).trans ((A_eq m hO c 0).trans (V_main_arg2 m c)),
      (h.in_eq c 1 rfl).trans ((A_eq m hO c 1).trans (V_main_arg3 m c)),
      (h.in_eq c 2 rfl).trans ((A_eq m hO c 2).trans (V_main_arg4 m c)),
      (h.in_eq c 3 rfl).trans ((A_eq m hO c 3).trans (V_main_arg5 m c)),
      (h.in_eq c 4 rfl).trans ((A_eq m hO c 4).trans (V_main_arg6 m c))⟩) (run_main m ρ hO)

end Cert.KernelIdeal.Moe

end
-- ==== Proof.ReferenceValue.lean ====
module

public import proofs.«01_k».proof.Proof.Gen.ReferenceIdeal.Read
public import proofs.«01_k».proof.Proof.Spec
public import Idealize.ShloMosaic.Lib.Pointwise
public import Idealize.ShloMosaic.Lib.WordArith
public import Idealize.ShloMosaic.Lib.WordCmp

@[expose] public section

set_option maxRecDepth 16384

noncomputable section

namespace Cert.ReferenceIdeal.Read

open Cert.ReferenceIdeal Cert.ReferenceIdeal.Gen Cert.Moe
open Idealize.ShloMosaic Idealize.ShloMosaic.TcCoe

/-- The reference's group number of expert `e` (a floor division of the expert's number by four, as the host prints it)
    is the whole part of `e / 4`. -/
theorem group_apply (e : Fin 16) : val_main_v10 (F := Ideal) (ix2 0 e) = BitVec.ofNat 32 (e.val / 4) := by
  pointwise [val_main_v10, val_main_call0_v13, val_main_call0_v12, val_main_call0_c_0, val_main_call0_v11, val_main_call0_v10, val_main_call0_v9, val_main_call0_c, val_main_call0_v8, val_main_call0_v7, val_main_call0_v6, val_main_call0_v5, val_main_call0_v4, val_main_call0_v3, val_main_call0_v2, val_main_call0_v1, val_main_call0_v0, val_main_c_0, val_main_v9, val_main_v8]
  revert e
  decide

/-- The routing weight the reference gives row `t` at expert `e`: the row's weight when `e` lies in the group of the
    row's block and the block is among the `n` in use, zero otherwise. -/
theorem gate_apply (x0 : (⟨S31, .i32⟩ : BufTy).Contents (Elt Ideal)) (x1 : (⟨S1, .i32⟩ : BufTy).Contents (Elt Ideal))
    (x3 : (⟨S15872x128, .f32⟩ : BufTy).Contents (Elt Ideal)) (t : Fin 15872) (e : Fin 16)
    (h0 : ((x0 (ix1 ⟨t.val / 512, by omega⟩) : BitVec 32)).toNat < 4) (h1 : (x1 (ix1 0) : BitVec 32).toNat ≤ 31) :
    val_main_v19 (F := Ideal) x0 x1 x3 (ix2 t e)
      = if e.val / 4 = (x0 (ix1 ⟨t.val / 512, by omega⟩) : BitVec 32).toNat ∧ t.val / 512 < (x1 (ix1 0) : BitVec 32).toNat
        then x3 (ix2 t ⟨e.val, by omega⟩) else (0 : EReal) := by
  have hg := group_apply e
  pointwise [val_main_v19, val_main_call1_v1, val_main_call1_v0, val_main_cst, val_main_v18, val_main_v17, val_main_v16, val_main_v15, val_main_v14, val_main_v13, val_main_v12, val_main_v11, val_main_v7, val_main_v6, val_main_v5, val_main_v4, val_main_c, val_main_v1, val_main_v3, val_main_v2]
  rw [hg]
  generalize x0 (ix1 ⟨t.val / 512, _⟩) = g at *
  generalize x1 (ix1 0) = n at *
  have ht := t.isLt
  have he := e.isLt
  have hz : (id (constant (F := Ideal) S_ FTy.f32 0#32) ix0 : EReal) = 0 := Ideal.ofBits_zero_f32
  rw [hz]
  have hm : (IntOp.andi (IntOp.cmpi CmpIPredicate.eq (BitVec.ofNat 32 (e.val / 4)) g) (IntOp.cmpi CmpIPredicate.slt (BitVec.ofNat 32 t.val) (IntOp.muli n 512#32)) = 1#1)
      ↔ (e.val / 4 = g.toNat ∧ t.val / 512 < n.toNat) := by
    rw [WordCmp.cmpi_eq_eq, WordCmp.cmpi_slt_eq, WordArith.andi_ofBool, WordArith.ofBool_eq_one_iff, Bool.and_eq_true, decide_eq_true_eq, decide_eq_true_eq, ← BitVec.toNat_inj]
    have hv : (IntOp.muli n 512#32).toNat = n.toNat * 512 := by
      simp only [IntOp.muli, BitVec.toNat_mul, BitVec.toNat_ofNat]; omega
    have ht' : (BitVec.ofNat 32 t.val).toNat = t.val := by simp only [BitVec.toNat_ofNat]; omega
    rw [BitVec.toInt_eq_toNat_of_lt (by rw [ht']; omega), BitVec.toInt_eq_toNat_of_lt (by rw [hv]; omega), hv, ht']
    simp only [BitVec.toNat_ofNat]
    omega
  unfold Scalar.select
  by_cases hc : e.val / 4 = g.toNat ∧ t.val / 512 < n.toNat
  · rw [if_pos hc]; exact if_pos (hm.mpr hc)
  · rw [if_neg hc]; exact if_neg fun h => hc (hm.mp h)

/-- What the reference computes at row `t` and column `d`: the four experts of the block's group, each weighed by the
    row's routing weight, when the block is in use, and zero when it is not. The twelve experts of the other groups
    carry the weight zero and contribute nothing. -/
theorem out_apply (x0 : (⟨S31, .i32⟩ : BufTy).Contents (Elt Ideal)) (x1 : (⟨S1, .i32⟩ : BufTy).Contents (Elt Ideal)) (x2 : (⟨S15872x1024, .bf16⟩ : BufTy).Contents (Elt Ideal))
    (x3 : (⟨S15872x128, .f32⟩ : BufTy).Contents (Elt Ideal)) (x4 x5 : (⟨S16x1024x512, .f32⟩ : BufTy).Contents (Elt Ideal)) (x6 : (⟨S16x512x1024, .f32⟩ : BufTy).Contents (Elt Ideal))
    (t : Fin 15872) (d : Fin 1024)
    (h0 : ((x0 (ix1 ⟨t.val / 512, by omega⟩) : BitVec 32)).toNat < 4) (h1 : (x1 (ix1 0) : BitVec 32).toNat ≤ 31) :
    val_main_v28 (F := Ideal) x0 x1 x2 x3 x4 x5 x6 (ix2 t d)
      = groupOut x0 x1 x2 x3 x4 x5 x6 t d h0 := by
  have hg := fun e => gate_apply x0 x1 x3 t e h0 h1
  pointwise [val_main_v28, val_main_v27, val_main_v26, val_main_v25, val_main_v24, val_main_v23, val_main_v22, val_main_call2_v5, val_main_call2_v4, val_main_call2_v3, val_main_call2_v2, val_main_call2_v1, val_main_call2_v0, val_main_call2_cst, val_main_call2_cst_0, val_main_v21, val_main_v20, val_main_v0]
  simp only [hg]
  have hs : ∀ e : Fin 16, (∑ f : Fin 512, ((∑ k : Fin 1024, x2 (ix2 t k) * x4 (ix3 e k f)) * Ideal.div 1 (1 + Ideal.exp (-∑ k : Fin 1024, x2 (ix2 t k) * x4 (ix3 e k f))) * (∑ k : Fin 1024, x2 (ix2 t k) * x5 (ix3 e k f)))
      * (if e.val / 4 = (x0 (ix1 ⟨t.val / 512, by omega⟩) : BitVec 32).toNat ∧ t.val / 512 < (x1 (ix1 0) : BitVec 32).toNat then x3 (ix2 t ⟨e.val, by omega⟩) else (0 : EReal)) * x6 (ix3 e f d) : EReal)
      = expertOut (fun k => x2 (ix2 t k)) (fun k f => x4 (ix3 e k f)) (fun k f => x5 (ix3 e k f)) (fun f d => x6 (ix3 e f d))
        (if e.val / 4 = (x0 (ix1 ⟨t.val / 512, by omega⟩) : BitVec 32).toNat ∧ t.val / 512 < (x1 (ix1 0) : BitVec 32).toNat then x3 (ix2 t ⟨e.val, by omega⟩) else 0) d := fun e => rfl
  refine (Finset.sum_congr rfl fun e _ => hs e).trans ?_
  unfold groupOut
  by_cases hn : t.val / 512 < (x1 (ix1 0) : BitVec 32).toNat
  · rw [if_pos hn, sum_group ⟨_, h0⟩ _ fun e he => by rw [if_neg fun h => he h.1, expertOut_zero]]
    refine Finset.sum_congr rfl fun e _ => ?_
    have h4 : (expertOf ⟨_, h0⟩ e).val / 4 = (x0 (ix1 ⟨t.val / 512, by omega⟩) : BitVec 32).toNat := by
      simp only [expertOf]; omega
    rw [if_pos ⟨h4, hn⟩]
  · rw [if_neg hn]
    exact Finset.sum_eq_zero fun e _ => by rw [if_neg fun h => hn h.2, expertOut_zero]

end Cert.ReferenceIdeal.Read

end
-- ==== Proof.Layer.lean ====
/- The layer's row-wise formulas over the extended reals: the normalisation, the modulation, and a projection of a
   modulated row. -/
module

public import Idealize.ShloMosaic.Lib.Pointwise

@[expose] public section

noncomputable section

namespace Cert.Layer

open Idealize.ShloMosaic

/-- The number of entries of a row of width 1024, as the programs hold it (the float of this word). -/
def width : EReal := Ideal.ofBits .f32 1149239296#32

/-- The small number added under the root, as the programs hold it (the float nearest to 0.00001). -/
def eps : EReal := Ideal.ofBits .f32 925353388#32

/-- Entry `k` of a row, less the row's mean. -/
def centred (x : Fin 1024 → EReal) (k : Fin 1024) : EReal := x k - Ideal.div (∑ j, x j) width

/-- Entry `k` of the normalised row: centred, and divided by the root of the mean square of the centred row. -/
def norm (x : Fin 1024 → EReal) (k : Fin 1024) : EReal :=
  centred x k * Ideal.rsqrt (Ideal.div (∑ j, centred x j * centred x j) width + eps)

/-- Entry `k` of the normalised row, scaled by one plus `sc` and shifted by `sh`. -/
def modulated (x sc sh : Fin 1024 → EReal) (k : Fin 1024) : EReal := norm x k * (1 + sc k) + sh k

/-- Column `d` of the input projection of a row: the modulated normalised row against the weights. -/
def project (x sc sh : Fin 1024 → EReal) (w : Fin 1024 → EReal) : EReal := ∑ k, modulated x sc sh k * w k

end Cert.Layer

end
-- ==== Proof.InProj.lean ====
/- The input projection: what the kernel's two arrays hold after its run, what the reference computes, and that the
   two are the same. -/
module

public import proofs.«01_k».proof.Proof.Gen.Kernel2Ideal.Value
public import proofs.«01_k».proof.Proof.Gen.Reference2Ideal.Run
public import proofs.«01_k».proof.Proof.Gen.Reference2Ideal.Read
public import proofs.«01_k».proof.Proof.Layer
public import Idealize.ShloMosaic.Lib.Pipeline.ValueKit
public import Idealize.ShloMosaic.Lib.Pointwise

@[expose] public section

set_option maxRecDepth 16384

noncomputable section

namespace Cert.InProj

open Idealize.ShloMosaic Cert.Layer

/-- Column `d` of the projection of token `r` of request `b`: the token with its position code added, normalised,
    modulated by the request's scale (columns 1024 to 2047 of its modulation row) and shift (columns 0 to 1023), against
    column `d` of the weights. -/
def column (x : (⟨3, ![8, 1024, 1024]⟩ : Shape).Idx → EReal) (pos : (⟨2, ![1024, 1024]⟩ : Shape).Idx → EReal)
    (mods : (⟨3, ![8, 1, 6144]⟩ : Shape).Idx → EReal) (w : (⟨2, ![1024, 2048]⟩ : Shape).Idx → EReal)
    (b : Fin 8) (r : Fin 1024) (d : Fin 2048) : EReal :=
  project (fun k => x (ix3 b r k) + pos (ix2 r k)) (fun k => mods (ix3 b 0 ⟨1024 + k.val, by omega⟩))
    (fun k => mods (ix3 b 0 ⟨k.val, by omega⟩)) (fun k => w (ix2 k d))

end Cert.InProj

namespace Cert.Kernel2Ideal.Value

open Cert.Kernel2Ideal Cert.Kernel2Ideal.Gen Cert.Layer Cert.InProj
open Idealize.ShloMosaic Idealize.ShloMosaic.TcCoe Idealize.ShloMosaic.Tactic Idealize.SL.Sem

/-- What one step leaves in the first output block: the first 1536 columns of the projections of the block's tokens. -/
theorem block_4 (P0 : Vec Ideal S1x1024x1024 .f32) (P1 : Vec Ideal S1024x1024 .f32) (P2 : Vec Ideal S1x1x6144 .f32) (P3 : Vec Ideal S1024x2048 .f32)
    (r : Fin 1024) (d : Fin 1536) :
    out0_4 (F := Ideal) P0 P1 P2 P3 (ix3 0 r d)
      = project (fun k => P0 (ix3 0 r k) + P1 (ix2 r k)) (fun k => P2 (ix3 0 0 ⟨1024 + k.val, by omega⟩)) (fun k => P2 (ix3 0 0 ⟨k.val, by omega⟩))
          (fun k => P3 (ix2 k ⟨d.val, by omega⟩)) := by
  frame_out
  pointwise [k0_pay1, k0_pay4, k0_pay3]
  rfl

/-- What one step leaves in the second output block: the last 512 columns. -/
theorem block_5 (P0 : Vec Ideal S1x1024x1024 .f32) (P1 : Vec Ideal S1024x1024 .f32) (P2 : Vec Ideal S1x1x6144 .f32) (P3 : Vec Ideal S1024x2048 .f32)
    (r : Fin 1024) (d : Fin 512) :
    out0_5 (F := Ideal) P0 P1 P2 P3 (ix3 0 r d)
      = project (fun k => P0 (ix3 0 r k) + P1 (ix2 r k)) (fun k => P2 (ix3 0 0 ⟨1024 + k.val, by omega⟩)) (fun k => P2 (ix3 0 0 ⟨k.val, by omega⟩))
          (fun k => P3 (ix2 k ⟨1536 + d.val, by omega⟩)) := by
  frame_out
  pointwise [k0_pay2, k0_pay3]
  rfl

/-- Step `t` works on request `t`: the blocks' indices. -/
theorem index_0 : ∀ t : Fin grid0.N, win0_0.index t = ![t.val, 0, 0] := by decide +kernel
/-- The position codes are one block. -/
theorem index_1 : ∀ t : Fin grid0.N, win0_1.index t = ![0, 0] := by decide +kernel
/-- The modulation rows go with the request. -/
theorem index_2 : ∀ t : Fin grid0.N, win0_2.index t = ![t.val, 0, 0] := by decide +kernel
/-- The weights are one block. -/
theorem index_3 : ∀ t : Fin grid0.N, win0_3.index t = ![0, 0] := by decide +kernel
/-- The first result's block goes with the request. -/
theorem index_4 : ∀ t : Fin grid0.N, win0_4.index t = ![t.val, 0, 0] := by decide +kernel
/-- The second result's block goes with the request. -/
theorem index_5 : ∀ t : Fin grid0.N, win0_5.index t = ![t.val, 0, 0] := by decide +kernel

variable (m : (ℓ : Loc nD τ sig) → Buf (Elt Ideal) ℓ)

/-- The tokens that step `t` reads. -/
theorem read_0 (c : Dev nD) (t : Fin cfg0.N) (b : Fin 8) (hb : b.val = t.val) (r k : Fin 1024) :
    iblk m c 0 t (ix3 0 r k) = m ((c.tc : Thread nD τ).loc main_arg0) (ix3 b r k) := by
  have h := index_0 t
  blk_ext [iblk, V, h]

/-- The position codes that step `t` reads. -/
theorem read_1 (c : Dev nD) (t : Fin cfg0.N) (r k : Fin 1024) :
    iblk m c 1 t (ix2 r k) = m ((c.tc : Thread nD τ).loc main_arg1) (ix2 r k) := by
  have h := index_1 t
  blk_ext [iblk, V, h]

/-- The modulation row that step `t` reads. -/
theorem read_2 (c : Dev nD) (t : Fin cfg0.N) (b : Fin 8) (hb : b.val = t.val) (k : Fin 6144) :
    iblk m c 2 t (ix3 0 0 k) = m ((c.tc : Thread nD τ).loc main_arg2) (ix3 b 0 k) := by
  have h := index_2 t
  blk_ext [iblk, V, h]

/-- The weights that step `t` reads. -/
theorem read_3 (c : Dev nD) (t : Fin cfg0.N) (k : Fin 1024) (d : Fin 2048) :
    iblk m c 3 t (ix2 k d) = m ((c.tc : Thread nD τ).loc main_arg3) (ix2 k d) := by
  have h := index_3 t
  blk_ext [iblk, V, h]

/-- The first result: columns 0 to 1535 of every token's projection. -/
def first (c : Dev nD) : Buf (Elt Ideal) ((c.tc : Thread nD τ).loc main_v0_0) :=
  fun y => column (m ((c.tc : Thread nD τ).loc main_arg0)) (m ((c.tc : Thread nD τ).loc main_arg1)) (m ((c.tc : Thread nD τ).loc main_arg2))
    (m ((c.tc : Thread nD τ).loc main_arg3)) (y 0) (y 1) ⟨(y 2).val, (show (y 2).val < 1536 from (y 2).isLt).trans (by decide)⟩

/-- The second result: columns 1536 to 2047. -/
def second (c : Dev nD) : Buf (Elt Ideal) ((c.tc : Thread nD τ).loc main_v0_1) :=
  fun y => column (m ((c.tc : Thread nD τ).loc main_arg0)) (m ((c.tc : Thread nD τ).loc main_arg1)) (m ((c.tc : Thread nD τ).loc main_arg2))
    (m ((c.tc : Thread nD τ).loc main_arg3)) (y 0) (y 1) ⟨1536 + (y 2).val, Nat.add_lt_add_left (show (y 2).val < 512 from (y 2).isLt) 1536⟩

/-- The first result's blocks, one a step, cover its array. -/
theorem covers_4 : (cfg0.win 4).Covers := by
  refine ⟨by decide, fun β => ⟨⟨(β 0).val, (β 0).isLt⟩, flush0_4 _, fun a => ⟨?_, .inl rfl⟩⟩⟩
  show win0_4.index _ a = _
  rw [index_4]
  match a with
  | ⟨0, _⟩ => rfl
  | ⟨1, _⟩ => exact (Nat.lt_one_iff.mp (β 1).isLt).symm
  | ⟨2, _⟩ => exact (Nat.lt_one_iff.mp (β 2).isLt).symm

/-- The second result's blocks cover its array. -/
theorem covers_5 : (cfg0.win 5).Covers := by
  refine ⟨by decide, fun β => ⟨⟨(β 0).val, (β 0).isLt⟩, flush0_5 _, fun a => ⟨?_, .inl rfl⟩⟩⟩
  show win0_5.index _ a = _
  rw [index_5]
  match a with
  | ⟨0, _⟩ => rfl
  | ⟨1, _⟩ => exact (Nat.lt_one_iff.mp (β 1).isLt).symm
  | ⟨2, _⟩ => exact (Nat.lt_one_iff.mp (β 2).isLt).symm

/-- The first result's array after the run. -/
theorem arr_4 (c : Dev nD) : (dats m 0 c).arrAt 4 cfg0.N = first m c := by
  refine (dats m 0 c).arrAt_eq_of_covers 4 _ covers_4 fun t _ y => ?_
  have hi := index_4 t
  change S1x1024x1536.Idx at y
  idx_vars y
  obtain rfl : y0 = 0 := Subsingleton.elim _ _
  obtain ⟨b, hb⟩ : ∃ b : Fin 8, b.val = t.val := ⟨⟨t.val, t.isLt⟩, rfl⟩
  have he : ((cfg0.win 4).blk t).view.emb (ix3 0 y1 y2) = ix3 b y1 y2 := by blk_ext [hi]
  rw [he]
  show (dats m 0 c).after 4 t (ix3 0 y1 y2) = column _ _ _ _ b y1 ⟨y2.val, _⟩
  rw [after0_4, block_4]
  simp only [read_0 m c t b hb, read_1, read_2 m c t b hb, read_3]
  rfl

/-- The second result's array after the run. -/
theorem arr_5 (c : Dev nD) : (dats m 0 c).arrAt 5 cfg0.N = second m c := by
  refine (dats m 0 c).arrAt_eq_of_covers 5 _ covers_5 fun t _ y => ?_
  have hi := index_5 t
  change S1x1024x512.Idx at y
  idx_vars y
  obtain rfl : y0 = 0 := Subsingleton.elim _ _
  obtain ⟨b, hb⟩ : ∃ b : Fin 8, b.val = t.val := ⟨⟨t.val, t.isLt⟩, rfl⟩
  have he : ((cfg0.win 5).blk t).view.emb (ix3 0 y1 y2) = ix3 b y1 y2 := by blk_ext [hi]
  rw [he]
  show (dats m 0 c).after 5 t (ix3 0 y1 y2) = column _ _ _ _ b y1 ⟨1536 + y2.val, _⟩
  rw [after0_5, block_5]
  simp only [read_0 m c t b hb, read_1, read_2 m c t b hb, read_3]
  rfl

end Cert.Kernel2Ideal.Value

namespace Cert.Reference2Ideal.Read

open Cert.Reference2Ideal Cert.Reference2Ideal.Gen Cert.Layer Cert.InProj
open Idealize.ShloMosaic Idealize.ShloMosaic.TcCoe

/-- What the reference computes before it splits the columns. -/
theorem column_apply (x0 : (⟨S8x1024x1024, .f32⟩ : BufTy).Contents (Elt Ideal)) (x1 : (⟨S1024x1024, .f32⟩ : BufTy).Contents (Elt Ideal))
    (x2 : (⟨S8x1x6144, .f32⟩ : BufTy).Contents (Elt Ideal)) (x3 : (⟨S1024x2048, .f32⟩ : BufTy).Contents (Elt Ideal)) (b : Fin 8) (r : Fin 1024) (d : Fin 2048) :
    val_main_v31 (F := Ideal) x0 x1 x2 x3 (ix3 b r d) = column x0 x1 x2 x3 b r d := by
  pointwise [val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4]
  rfl

/-- The reference's first result: columns 0 to 1535. -/
theorem first_apply (x0 : (⟨S8x1024x1024, .f32⟩ : BufTy).Contents (Elt Ideal)) (x1 : (⟨S1024x1024, .f32⟩ : BufTy).Contents (Elt Ideal))
    (x2 : (⟨S8x1x6144, .f32⟩ : BufTy).Contents (Elt Ideal)) (x3 : (⟨S1024x2048, .f32⟩ : BufTy).Contents (Elt Ideal)) (b : Fin 8) (r : Fin 1024) (d : Fin 1536) :
    val_main_v32 (F := Ideal) x0 x1 x2 x3 (ix3 b r d) = column x0 x1 x2 x3 b r ⟨d.val, by omega⟩ := by
  have h := column_apply x0 x1 x2 x3 b r ⟨d.val, by omega⟩
  pointwise [val_main_v32]
  exact h

/-- The reference's second result: columns 1536 to 2047. -/
theorem second_apply (x0 : (⟨S8x1024x1024, .f32⟩ : BufTy).Contents (Elt Ideal)) (x1 : (⟨S1024x1024, .f32⟩ : BufTy).Contents (Elt Ideal))
    (x2 : (⟨S8x1x6144, .f32⟩ : BufTy).Contents (Elt Ideal)) (x3 : (⟨S1024x2048, .f32⟩ : BufTy).Contents (Elt Ideal)) (b : Fin 8) (r : Fin 1024) (d : Fin 512) :
    val_main_v33 (F := Ideal) x0 x1 x2 x3 (ix3 b r d) = column x0 x1 x2 x3 b r ⟨1536 + d.val, by omega⟩ := by
  have h := column_apply x0 x1 x2 x3 b r ⟨1536 + d.val, by omega⟩
  pointwise [val_main_v33]
  exact h

end Cert.Reference2Ideal.Read

end
-- ==== Proof.InProjPrompt.lean ====
/- The input projection of the prompt: what the kernel's two arrays hold after its run, what the reference computes, and that the
   two are the same. -/
module

public import proofs.«01_k».proof.Proof.Gen.Kernel4Ideal.Value
public import proofs.«01_k».proof.Proof.Gen.Reference4Ideal.Run
public import proofs.«01_k».proof.Proof.Gen.Reference4Ideal.Read
public import proofs.«01_k».proof.Proof.Layer
public import Idealize.ShloMosaic.Lib.Pipeline.ValueKit
public import Idealize.ShloMosaic.Lib.Pointwise

@[expose] public section

set_option maxRecDepth 16384

noncomputable section

namespace Cert.InProjPrompt

open Idealize.ShloMosaic Cert.Layer

/-- Column `d` of the projection of token `r` of the prompt: the token normalised, modulated by the scale (columns 1024
    to 2047 of the prompt's modulation row) and the shift (columns 0 to 1023), against column `d` of the weights. -/
def column (x : (⟨3, ![1, 4096, 1024]⟩ : Shape).Idx → EReal) (mods : (⟨3, ![1, 1, 6144]⟩ : Shape).Idx → EReal)
    (w : (⟨2, ![1024, 2048]⟩ : Shape).Idx → EReal) (r : Fin 4096) (d : Fin 2048) : EReal :=
  project (fun k => x (ix3 0 r k)) (fun k => mods (ix3 0 0 ⟨1024 + k.val, by omega⟩))
    (fun k => mods (ix3 0 0 ⟨k.val, by omega⟩)) (fun k => w (ix2 k d))

end Cert.InProjPrompt

namespace Cert.Kernel4Ideal.Value

open Cert.Kernel4Ideal Cert.Kernel4Ideal.Gen Cert.Layer Cert.InProjPrompt
open Idealize.ShloMosaic Idealize.ShloMosaic.TcCoe Idealize.ShloMosaic.Tactic Idealize.SL.Sem

/-- What one step leaves in the first output block: the first 1536 columns of the projections of the block's tokens. -/
theorem block_3 (P0 : Vec Ideal S1x1024x1024 .f32) (P1 : Vec Ideal S1x1x6144 .f32) (P2 : Vec Ideal S1024x2048 .f32)
    (r : Fin 1024) (d : Fin 1536) :
    out0_3 (F := Ideal) P0 P1 P2 (ix3 0 r d)
      = project (fun k => P0 (ix3 0 r k)) (fun k => P1 (ix3 0 0 ⟨1024 + k.val, by omega⟩)) (fun k => P1 (ix3 0 0 ⟨k.val, by omega⟩))
          (fun k => P2 (ix2 k ⟨d.val, by omega⟩)) := by
  frame_out
  pointwise [k0_pay3, k0_pay2]
  rfl

/-- What one step leaves in the second output block: the last 512 columns. -/
theorem block_4 (P0 : Vec Ideal S1x1024x1024 .f32) (P1 : Vec Ideal S1x1x6144 .f32) (P2 : Vec Ideal S1024x2048 .f32)
    (r : Fin 1024) (d : Fin 512) :
    out0_4 (F := Ideal) P0 P1 P2 (ix3 0 r d)
      = project (fun k => P0 (ix3 0 r k)) (fun k => P1 (ix3 0 0 ⟨1024 + k.val, by omega⟩)) (fun k => P1 (ix3 0 0 ⟨k.val, by omega⟩))
          (fun k => P2 (ix2 k ⟨1536 + d.val, by omega⟩)) := by
  frame_out
  pointwise [k0_pay1, k0_pay2]
  rfl

/-- Step `t` works on the `t`-th block of 1024 tokens. -/
theorem index_0 : ∀ t : Fin grid0.N, win0_0.index t = ![0, t.val, 0] := by decide +kernel
/-- The modulation row is one block. -/
theorem index_1 : ∀ t : Fin grid0.N, win0_1.index t = ![0, 0, 0] := by decide +kernel
/-- The weights are one block. -/
theorem index_2 : ∀ t : Fin grid0.N, win0_2.index t = ![0, 0] := by decide +kernel
/-- The first result's block goes with the tokens. -/
theorem index_3 : ∀ t : Fin grid0.N, win0_3.index t = ![0, t.val, 0] := by decide +kernel
/-- The second result's block goes with the tokens. -/
theorem index_4 : ∀ t : Fin grid0.N, win0_4.index t = ![0, t.val, 0] := by decide +kernel

variable (m : (ℓ : Loc nD τ sig) → Buf (Elt Ideal) ℓ)

/-- The tokens that step `t` reads. -/
theorem read_0 (c : Dev nD) (t : Fin cfg0.N) (r : Fin 1024) (g : Fin 4096) (hg : g.val = 1024 * t.val + r.val) (k : Fin 1024) :
    iblk m c 0 t (ix3 0 r k) = m ((c.tc : Thread nD τ).loc main_arg0) (ix3 0 g k) := by
  have h := index_0 t
  blk_ext [iblk, V, h]

/-- The modulation row that step `t` reads. -/
theorem read_1 (c : Dev nD) (t : Fin cfg0.N) (k : Fin 6144) :
    iblk m c 1 t (ix3 0 0 k) = m ((c.tc : Thread nD τ).loc main_arg1) (ix3 0 0 k) := by
  have h := index_1 t
  blk_ext [iblk, V, h]

/-- The weights that step `t` reads. -/
theorem read_2 (c : Dev nD) (t : Fin cfg0.N) (k : Fin 1024) (d : Fin 2048) :
    iblk m c 2 t (ix2 k d) = m ((c.tc : Thread nD τ).loc main_arg2) (ix2 k d) := by
  have h := index_2 t
  blk_ext [iblk, V, h]

/-- The first result: columns 0 to 1535 of every token's projection. -/
def first (c : Dev nD) : Buf (Elt Ideal) ((c.tc : Thread nD τ).loc main_v0_0) :=
  fun y => column (m ((c.tc : Thread nD τ).loc main_arg0)) (m ((c.tc : Thread nD τ).loc main_arg1)) (m ((c.tc : Thread nD τ).loc main_arg2))
    (y 1) ⟨(y 2).val, (show (y 2).val < 1536 from (y 2).isLt).trans (by decide)⟩

/-- The second result: columns 1536 to 2047. -/
def second (c : Dev nD) : Buf (Elt Ideal) ((c.tc : Thread nD τ).loc main_v0_1) :=
  fun y => column (m ((c.tc : Thread nD τ).loc main_arg0)) (m ((c.tc : Thread nD τ).loc main_arg1)) (m ((c.tc : Thread nD τ).loc main_arg2))
    (y 1) ⟨1536 + (y 2).val, Nat.add_lt_add_left (show (y 2).val < 512 from (y 2).isLt) 1536⟩

/-- The first result's blocks, one a step, cover its array. -/
theorem covers_3 : (cfg0.win 3).Covers := by
  refine ⟨by decide, fun β => ⟨⟨(β 1).val, (β 1).isLt⟩, flush0_3 _, fun a => ⟨?_, .inl rfl⟩⟩⟩
  show win0_3.index _ a = _
  rw [index_3]
  match a with
  | ⟨0, _⟩ => exact (Nat.lt_one_iff.mp (β 0).isLt).symm
  | ⟨1, _⟩ => rfl
  | ⟨2, _⟩ => exact (Nat.lt_one_iff.mp (β 2).isLt).symm

/-- The second result's blocks, one a step, cover its array. -/
theorem covers_4 : (cfg0.win 4).Covers := by
  refine ⟨by decide, fun β => ⟨⟨(β 1).val, (β 1).isLt⟩, flush0_4 _, fun a => ⟨?_, .inl rfl⟩⟩⟩
  show win0_4.index _ a = _
  rw [index_4]
  match a with
  | ⟨0, _⟩ => exact (Nat.lt_one_iff.mp (β 0).isLt).symm
  | ⟨1, _⟩ => rfl
  | ⟨2, _⟩ => exact (Nat.lt_one_iff.mp (β 2).isLt).symm

/-- The first result's array after the run. -/
theorem arr_3 (c : Dev nD) : (dats m 0 c).arrAt 3 cfg0.N = first m c := by
  refine (dats m 0 c).arrAt_eq_of_covers 3 _ covers_3 fun t _ y => ?_
  have hi := index_3 t
  change S1x1024x1536.Idx at y
  idx_vars y
  obtain rfl : y0 = 0 := Subsingleton.elim _ _
  have ht : t.val < 4 := t.isLt
  obtain ⟨g, hg⟩ : ∃ g : Fin 4096, g.val = 1024 * t.val + y1.val := ⟨⟨1024 * t.val + y1.val, by omega⟩, rfl⟩
  have he : ((cfg0.win 3).blk t).view.emb (ix3 0 y1 y2) = ix3 0 g y2 := by blk_ext [hi]
  rw [he]
  show (dats m 0 c).after 3 t (ix3 0 y1 y2) = column _ _ _ g ⟨y2.val, _⟩
  rw [after0_3, block_3]
  simp only [read_0 m c t y1 g hg, read_1, read_2]
  rfl

/-- The second result's array after the run. -/
theorem arr_4 (c : Dev nD) : (dats m 0 c).arrAt 4 cfg0.N = second m c := by
  refine (dats m 0 c).arrAt_eq_of_covers 4 _ covers_4 fun t _ y => ?_
  have hi := index_4 t
  change S1x1024x512.Idx at y
  idx_vars y
  obtain rfl : y0 = 0 := Subsingleton.elim _ _
  have ht : t.val < 4 := t.isLt
  obtain ⟨g, hg⟩ : ∃ g : Fin 4096, g.val = 1024 * t.val + y1.val := ⟨⟨1024 * t.val + y1.val, by omega⟩, rfl⟩
  have he : ((cfg0.win 4).blk t).view.emb (ix3 0 y1 y2) = ix3 0 g y2 := by blk_ext [hi]
  rw [he]
  show (dats m 0 c).after 4 t (ix3 0 y1 y2) = column _ _ _ g ⟨1536 + y2.val, _⟩
  rw [after0_4, block_4]
  simp only [read_0 m c t y1 g hg, read_1, read_2]
  rfl

end Cert.Kernel4Ideal.Value

namespace Cert.Reference4Ideal.Read

open Cert.Reference4Ideal Cert.Reference4Ideal.Gen Cert.Layer Cert.InProjPrompt
open Idealize.ShloMosaic Idealize.ShloMosaic.TcCoe

/-- What the reference computes before it splits the columns. -/
theorem column_apply (x0 : (⟨S1x4096x1024, .f32⟩ : BufTy).Contents (Elt Ideal)) (x1 : (⟨S1x1x6144, .f32⟩ : BufTy).Contents (Elt Ideal)) (x2 : (⟨S1024x2048, .f32⟩ : BufTy).Contents (Elt Ideal)) (r : Fin 4096) (d : Fin 2048) :
    val_main_v28 (F := Ideal) x0 x1 x2 (ix3 0 r d) = column x0 x1 x2 r d := by
  pointwise [val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4]
  rfl

/-- The reference's first result: columns 0 to 1535. -/
theorem first_apply (x0 : (⟨S1x4096x1024, .f32⟩ : BufTy).Contents (Elt Ideal)) (x1 : (⟨S1x1x6144, .f32⟩ : BufTy).Contents (Elt Ideal)) (x2 : (⟨S1024x2048, .f32⟩ : BufTy).Contents (Elt Ideal)) (r : Fin 4096) (d : Fin 1536) :
    val_main_v29 (F := Ideal) x0 x1 x2 (ix3 0 r d) = column x0 x1 x2 r ⟨d.val, by omega⟩ := by
  have h := column_apply x0 x1 x2 r ⟨d.val, by omega⟩
  pointwise [val_main_v29]
  exact h

/-- The reference's second result: columns 1536 to 2047. -/
theorem second_apply (x0 : (⟨S1x4096x1024, .f32⟩ : BufTy).Contents (Elt Ideal)) (x1 : (⟨S1x1x6144, .f32⟩ : BufTy).Contents (Elt Ideal)) (x2 : (⟨S1024x2048, .f32⟩ : BufTy).Contents (Elt Ideal)) (r : Fin 4096) (d : Fin 512) :
    val_main_v30 (F := Ideal) x0 x1 x2 (ix3 0 r d) = column x0 x1 x2 r ⟨1536 + d.val, by omega⟩ := by
  have h := column_apply x0 x1 x2 r ⟨1536 + d.val, by omega⟩
  pointwise [val_main_v30]
  exact h

end Cert.Reference4Ideal.Read

end
-- ==== Proof.Finite.lean ====
/- Arithmetic on real entries: what the precondition of the modulation rows says, and why the low part of a split vanishes. -/
module

public import proofs.«01_k».proof.Proof.Gen.Pre_finite
public import proofs.«01_k».proof.Proof.Range
public import Idealize.ShloMosaic.Lib.StableHlo.Predicate
public import Idealize.ShloMosaic.Lib.ReduceAll
public import Idealize.ShloMosaic.Lib.Pointwise

@[expose] public section

noncomputable section

namespace Cert.Finite

open Idealize.ShloMosaic

/-- The pattern that the precondition compares against denotes plus infinity. -/
theorem top_bits : Ideal.ofBits .f32 0x7F800000#32 = ⊤ := by simp [Ideal.ofBits, Ideal.ieee]

/-- The pattern of one denotes one. -/
theorem one_bits : Ideal.ofBits .f32 0x3F800000#32 = 1 := by simp [Ideal.ofBits, Ideal.ieee, -EReal.coe_mul]; norm_num

/-- An entry whose absolute value lies below infinity is a real number. -/
theorem real_of_abs_lt {x : EReal} (h : max x (-x) < ⊤) : ∃ r : ℝ, x = r := by
  induction x using EReal.rec with
  | bot => simp at h
  | top => simp at h
  | coe r => exact ⟨r, rfl⟩

/-- What the precondition says in words: every entry of the conditioning vectors and of the weights is a real number. -/
theorem reals [Pre_finite.Facts] (a0 : FVec Ideal Pre_finite.S16x1024 .f32) (a1 : FVec Ideal Pre_finite.S1024x6144 .f32) (a2 : FVec Ideal Pre_finite.S6144 .f32)
    (h : Pre_finite.fn (F := Ideal) a0 a1 a2 = fun _ => 1#1) :
    (∀ y, ∃ r : ℝ, (a0 y : EReal) = r) ∧ ∀ y, ∃ r : ℝ, (a1 y : EReal) = r := by
  have e := congrFun h (Shape.Idx.first (s := Pre_finite.S_) (by decide))
  simp only [Pre_finite.fn, andi, Cert.Range.andi_eq_one] at e
  obtain ⟨h1, h2⟩ := e
  haveI : Subsingleton Pre_finite.S_.Idx := ⟨fun x y => funext fun a => a.elim0⟩
  refine ⟨fun y => ?_, fun y => ?_⟩
  · have g := Host.reduce_andi_all _ _ _ _ _ h1 y
    change BitVec.ofBool (decide (max (a0 y : EReal) (-(a0 y)) < Ideal.ofBits .f32 0x7F800000#32)) = 1#1 at g
    rw [Cert.Range.ofBool_eq_one, decide_eq_true_eq, top_bits] at g
    exact real_of_abs_lt g
  · have g := Host.reduce_andi_all _ _ _ _ _ h2 y
    change BitVec.ofBool (decide (max (a1 y : EReal) (-(a1 y)) < Ideal.ofBits .f32 0x7F800000#32)) = 1#1 at g
    rw [Cert.Range.ofBool_eq_one, decide_eq_true_eq, top_bits] at g
    exact real_of_abs_lt g

/-- A real number less itself is zero. -/
theorem sub_self_of_real {x : EReal} (h : ∃ r : ℝ, x = r) : x - x = 0 := by
  obtain ⟨r, rfl⟩ := h
  rw [← EReal.coe_sub, sub_self]; rfl

/-- The product of a real number and its logistic is a real number. -/
theorem silu_real {x : EReal} (h : ∃ r : ℝ, x = r) : ∃ r : ℝ, x * Ideal.logistic x = r := by
  obtain ⟨r, rfl⟩ := h
  exact ⟨r * (1 + Real.exp (-r))⁻¹, by rw [Ideal.logistic_coe, EReal.coe_mul]⟩

/-- A product in three parts, high by high, low by high and high by low, is the plain product when all entries are real:
    the low parts are then zero. -/
theorem split_sum {n : ℕ} (c w : Fin n → EReal) (hc : ∀ k, ∃ r : ℝ, c k = r) (hw : ∀ k, ∃ r : ℝ, w k = r) :
    (∑ k, c k * w k) + (∑ k, (c k - c k) * w k) + ∑ k, c k * (w k - w k) = ∑ k, c k * w k := by
  have h1 : ∀ k, (c k - c k) * w k = 0 := fun k => by rw [sub_self_of_real (hc k), zero_mul]
  have h2 : ∀ k, c k * (w k - w k) = 0 := fun k => by rw [sub_self_of_real (hw k), mul_zero]
  simp only [h1, h2, Finset.sum_const_zero, add_zero]

end Cert.Finite

end
-- ==== Proof.Ada.lean ====
/- The modulation rows: what the kernel's array holds after its run, what the reference computes, and that the two are the
   same when the conditioning vectors and the weights are real. -/
module

public import proofs.«01_k».proof.Proof.Gen.Kernel5Ideal.Value
public import proofs.«01_k».proof.Proof.Gen.Reference5Ideal.Run
public import proofs.«01_k».proof.Proof.Gen.Reference5Ideal.Read
public import proofs.«01_k».proof.Proof.Finite
public import Idealize.ShloMosaic.Lib.StableHlo.ReadAt
public import Idealize.ShloMosaic.Lib.Pipeline.ValueKit
public import Idealize.ShloMosaic.Lib.Pointwise

@[expose] public section

set_option maxRecDepth 16384

noncomputable section

namespace Cert.Ada

open Idealize.ShloMosaic

/-- Column `d` of the modulation row of vector `r`: each entry of the vector times its logistic, against column `d` of the
    weights, plus the bias. -/
def row (x : (⟨2, ![16, 1024]⟩ : Shape).Idx → EReal) (w : (⟨2, ![1024, 6144]⟩ : Shape).Idx → EReal)
    (b : (⟨1, ![6144]⟩ : Shape).Idx → EReal) (r : Fin 16) (d : Fin 6144) : EReal :=
  (∑ k, x (ix2 r k) * Ideal.logistic (x (ix2 r k)) * w (ix2 k d)) + b (ix1 d)

end Cert.Ada

namespace Cert.Kernel5Ideal.Value

open Cert.Kernel5Ideal Cert.Kernel5Ideal.Gen Idealize.ShloMosaic Idealize.ShloMosaic.TcCoe Idealize.SL.Sem Cert.Ada
open Idealize.ShloMosaic.Pipeline (Dat)

/-- What one step leaves in its block: the three parts of the product and the bias. -/
theorem block_3 (x0 : Vec Ideal S16x1024 .f32) (x1 : Vec Ideal S1024x1024 .f32) (x2 : Vec Ideal S1x1024 .f32) (r : Fin 16) (d : Fin 1024) :
    out0_3 (F := Ideal) x0 x1 x2 (ix2 r d)
      = (∑ k, x0 (ix2 r k) * Ideal.logistic (x0 (ix2 r k)) * x1 (ix2 k d))
        + (∑ k, (x0 (ix2 r k) * Ideal.logistic (x0 (ix2 r k)) - x0 (ix2 r k) * Ideal.logistic (x0 (ix2 r k))) * x1 (ix2 k d))
        + (∑ k, x0 (ix2 r k) * Ideal.logistic (x0 (ix2 r k)) * (x1 (ix2 k d) - x1 (ix2 k d)))
        + x2 (ix2 0 d) := by
  frame_out
  pointwise [k0_pay1]

/-- One block. -/
theorem index_0 : ∀ t : Fin grid0.N, win0_0.index t = ![0, 0] := by decide +kernel
/-- The weights' columns go with the step. -/
theorem index_1 : ∀ t : Fin grid0.N, win0_1.index t = ![0, t.val] := by decide +kernel
/-- The bias goes with the step. -/
theorem index_2 : ∀ t : Fin grid0.N, win0_2.index t = ![0, t.val] := by decide +kernel
/-- The result's columns go with the step. -/
theorem index_3 : ∀ t : Fin grid0.N, win0_3.index t = ![0, t.val] := by decide +kernel

variable (m : (ℓ : Loc nD τ sig) → Buf (Elt Ideal) ℓ)

/-- The bias as a row. -/
theorem entry_0 (c : Dev nD) (d : Fin 6144) : V m c main_v0 (ix2 0 d) = m ((c.tc : Thread nD τ).loc main_arg2) (ix1 d) := by
  unfold V
  simp only [hostOps0, List.flatten_cons, List.flatten_nil, List.append_nil, List.cons_append, List.nil_append]
  after_reads_at

/-- The vectors, whole at every step. -/
theorem read_0 (c : Dev nD) (t : Fin cfg0.N) (r : Fin 16) (k : Fin 1024) :
    iblk m c 0 t (ix2 r k) = m ((c.tc : Thread nD τ).loc main_arg0) (ix2 r k) := by
  have h := index_0 t
  refine Eq.trans ?_ (congrFun (V_main_arg0 m c) (ix2 r k))
  blk_ext [iblk, h]

/-- The columns of the weights that a step reads. -/
theorem read_1 (c : Dev nD) (t : Fin cfg0.N) (k d : Fin 1024) (e : Fin 6144) (he : e.val = 1024 * t.val + d.val) :
    iblk m c 1 t (ix2 k d) = m ((c.tc : Thread nD τ).loc main_arg1) (ix2 k e) := by
  have h := index_1 t
  refine Eq.trans ?_ (congrFun (V_main_arg1 m c) (ix2 k e))
  blk_ext [iblk, h]

/-- The part of the bias that a step reads. -/
theorem read_2 (c : Dev nD) (t : Fin cfg0.N) (d : Fin 1024) (e : Fin 6144) (he : e.val = 1024 * t.val + d.val) :
    iblk m c 2 t (ix2 0 d) = m ((c.tc : Thread nD τ).loc main_arg2) (ix1 e) := by
  have h := index_2 t
  refine Eq.trans ?_ (entry_0 m c e)
  blk_ext [iblk, h]

/-- The result: every vector's modulation row. -/
def rows (c : Dev nD) : Buf (Elt Ideal) ((c.tc : Thread nD τ).loc main_v1) :=
  fun y => row (m ((c.tc : Thread nD τ).loc main_arg0)) (m ((c.tc : Thread nD τ).loc main_arg1)) (m ((c.tc : Thread nD τ).loc main_arg2)) (y 0) (y 1)

/-- The blocks, one a step, cover the array. -/
theorem covers_3 : (cfg0.win 3).Covers := by
  refine ⟨by decide, fun β => ⟨⟨(β 1).val, (β 1).isLt⟩, flush0_3 _, fun a => ⟨?_, .inl rfl⟩⟩⟩
  show win0_3.index _ a = _
  rw [index_3]
  match a with
  | ⟨0, _⟩ => exact (Nat.lt_one_iff.mp (β 0).isLt).symm
  | ⟨1, _⟩ => rfl

/-- The array after the run, when vectors and weights are real. -/
theorem arr_3 (c : Dev nD) (hx : ∀ y : S16x1024.Idx, ∃ r : ℝ, @Eq EReal (m ((c.tc : Thread nD τ).loc main_arg0) y) r)
    (hw : ∀ y : S1024x6144.Idx, ∃ r : ℝ, @Eq EReal (m ((c.tc : Thread nD τ).loc main_arg1) y) r) :
    (dats m 0 c).arrAt 3 cfg0.N = rows m c := by
  refine (dats m 0 c).arrAt_eq_of_covers 3 _ covers_3 fun t _ y => ?_
  have hi := index_3 t
  have ht : t.val < 6 := t.isLt
  change S16x1024.Idx at y
  idx_vars y
  obtain ⟨e, he⟩ : ∃ e : Fin 6144, e.val = 1024 * t.val + y1.val := ⟨⟨1024 * t.val + y1.val, by omega⟩, rfl⟩
  have hb : ((cfg0.win 3).blk t).view.emb (ix2 y0 y1) = ix2 y0 e := by blk_ext [hi]
  rw [hb]
  show (dats m 0 c).after 3 t (ix2 y0 y1) = row _ _ _ y0 e
  rw [after0_3, block_3]
  simp only [read_0, read_1 m c t _ y1 e he, read_2 m c t y1 e he]
  unfold row
  exact congrArg (· + _) (Cert.Finite.split_sum _ _ (fun k => Cert.Finite.silu_real (hx _)) (fun k => hw _))

end Cert.Kernel5Ideal.Value

namespace Cert.Reference5Ideal.Read

open Cert.Reference5Ideal Cert.Reference5Ideal.Gen Idealize.ShloMosaic Idealize.ShloMosaic.TcCoe Idealize.SL.Sem Cert.Ada

/-- The reference's silu, entry by entry. -/
theorem silu_apply (x0 : (⟨S16x1024, .f32⟩ : BufTy).Contents (Elt Ideal)) (i : S16x1024.Idx) :
    val_main_v0 (F := Ideal) x0 i = x0 i * Ideal.logistic (x0 i) := by
  show (x0 i : EReal) * Ideal.div (Ideal.ofBits .f32 0x3F800000#32) (Ideal.ofBits .f32 0x3F800000#32 + Ideal.exp (-(x0 i))) = _
  rw [Cert.Finite.one_bits]
  rfl

/-- The reference's result at vector `r` and column `d`. -/
theorem rows_apply (x0 : (⟨S16x1024, .f32⟩ : BufTy).Contents (Elt Ideal)) (x1 : (⟨S1024x6144, .f32⟩ : BufTy).Contents (Elt Ideal)) (x2 : (⟨S6144, .f32⟩ : BufTy).Contents (Elt Ideal))
    (r : Fin 16) (d : Fin 6144) : val_main_v4 (F := Ideal) x0 x1 x2 (ix2 r d) = row x0 x1 x2 r d := by
  rw [val_main_v4_apply, val_main_v1_apply, val_main_v3_apply, val_main_v2_apply]
  simp only [silu_apply]
  have h0 : ∀ k : Fin 1024, lidx_main_v1 (ix2 r d) k = ix2 r k := fun k => by idx_ext
  have h1 : ∀ k : Fin 1024, ridx_main_v1 (ix2 r d) k = ix2 k d := fun k => by idx_ext
  have h2 : idx_main_v2 (idx_main_v3 (ix2 r d)) = ix1 d := by idx_ext
  simp only [h0, h1, h2]
  rfl

end Cert.Reference5Ideal.Read

end
-- ==== Proof.OutProj.lean ====
/- The output projection and what follows it up to the second modulated row, for each of the 12288 tokens (4096 of the
   prompt, then 8192 latents), as formulas over the extended reals. -/
module

public import proofs.«01_k».proof.Proof.Layer
public import Idealize.ShloMosaic.Lib.Pointwise

@[expose] public section

noncomputable section

namespace Cert.OutProj

open Idealize.ShloMosaic Cert.Layer

/-- The number of entries of a row of width 512, as the programs hold it. -/
def half : EReal := Ideal.ofBits .f32 1140850688#32

/-- The factor of the residual row, as the programs hold it (the float nearest to the fourth root of two). -/
def alpha : EReal := Ideal.ofBits .f32 1066940400#32

/-- Entry `k` of a row of width 512 divided by the root of its mean square. -/
def rms (y : Fin 512 → EReal) (k : Fin 512) : EReal := y k * Ideal.rsqrt (Ideal.div (∑ j, y j * y j) half + eps)

/-- The smooth gate in its hyperbolic-tangent form, with the programs' constants. -/
def gelu (y : EReal) : EReal :=
  y * (Ideal.ofBits .f32 1056964608#32 * (1 + Ideal.tanh (Ideal.ofBits .f32 1061962282#32 * (y + Ideal.ofBits .f32 1027024659#32 * (y * y * y)))))

/-- Entry `k` of the gated row: the smooth gate of the entry, times the logistic function of the row against the
    weights' column, plus the bias. -/
def glu (y : Fin 512 → EReal) (w : Fin 512 → Fin 512 → EReal) (b : Fin 512 → EReal) (k : Fin 512) : EReal :=
  gelu (y k) * Ideal.logistic (∑ x, y x * w x k + b k)

/-- Entry `k` of the projection of the two halves of a row, each normalised by its own mean square and scaled. -/
def mixed (u v : Fin 512 → EReal) (g : Fin 1024 → EReal) (w : Fin 1024 → Fin 1024 → EReal) (k : Fin 1024) : EReal :=
  ∑ x : Fin 512, rms u x * g ⟨x.val, by omega⟩ * w ⟨x.val, by omega⟩ k
    + ∑ x : Fin 512, rms v x * g ⟨512 + x.val, by omega⟩ * w ⟨512 + x.val, by omega⟩ k

/-- Entry `k` of the row after the residual: the normalised sum of the scaled row and the gated projection, with the
    normalisation's own scale and shift. -/
def settled (x o g lg lb : Fin 1024 → EReal) (k : Fin 1024) : EReal := norm (fun j => alpha * x j + g j * o j) k * lg k + lb k

/-- The token's row: the prompt's, or the latent's with its position code added. -/
def token (xp : (⟨3, ![16, 256, 1024]⟩ : Shape).Idx → EReal) (xs : (⟨3, ![8, 1024, 1024]⟩ : Shape).Idx → EReal)
    (pos : (⟨2, ![1024, 1024]⟩ : Shape).Idx → EReal) (t : Fin 12288) (k : Fin 1024) : EReal :=
  if h : t.val < 4096 then xp (ix3 ⟨t.val / 256, by omega⟩ ⟨t.val % 256, by omega⟩ k)
  else xs (ix3 ⟨(t.val - 4096) / 1024, by omega⟩ ⟨(t.val - 4096) % 1024, by omega⟩ k) + pos (ix2 ⟨(t.val - 4096) % 1024, by omega⟩ k)

/-- Row `t` of two arrays put one after the other. -/
def pick (a : (⟨2, ![4096, 512]⟩ : Shape).Idx → EReal) (b : (⟨2, ![8192, 512]⟩ : Shape).Idx → EReal) (t : Fin 12288) (k : Fin 512) : EReal :=
  if h : t.val < 4096 then a (ix2 ⟨t.val, by omega⟩ k) else b (ix2 ⟨t.val - 4096, by omega⟩ k)

/-- Entry `k` of the modulation row of token `t`: the first row for the prompt, one row per request for the latents. -/
def mods (m : (⟨2, ![16, 6144]⟩ : Shape).Idx → EReal) (t : Fin 12288) (k : Fin 6144) : EReal :=
  if h : t.val < 4096 then m (ix2 0 k) else m (ix2 ⟨1 + (t.val - 4096) / 1024, by omega⟩ k)

variable (xp : (⟨3, ![16, 256, 1024]⟩ : Shape).Idx → EReal) (xs : (⟨3, ![8, 1024, 1024]⟩ : Shape).Idx → EReal)
  (pos : (⟨2, ![1024, 1024]⟩ : Shape).Idx → EReal) (uc : (⟨2, ![4096, 512]⟩ : Shape).Idx → EReal) (ul : (⟨2, ![8192, 512]⟩ : Shape).Idx → EReal)
  (vc : (⟨2, ![4096, 512]⟩ : Shape).Idx → EReal) (vl : (⟨2, ![8192, 512]⟩ : Shape).Idx → EReal) (m : (⟨2, ![16, 6144]⟩ : Shape).Idx → EReal)
  (wg : (⟨2, ![512, 512]⟩ : Shape).Idx → EReal) (bg : (⟨1, ![512]⟩ : Shape).Idx → EReal) (g : (⟨1, ![1024]⟩ : Shape).Idx → EReal)
  (wo : (⟨2, ![1024, 1024]⟩ : Shape).Idx → EReal) (lg lb : (⟨1, ![1024]⟩ : Shape).Idx → EReal)

/-- Entry `k` of the output projection of token `t`. -/
def projected (t : Fin 12288) (k : Fin 1024) : EReal :=
  mixed (pick uc ul t) (glu (pick vc vl t) (fun x d => wg (ix2 x d)) (fun d => bg (ix1 d))) (fun d => g (ix1 d)) (fun x d => wo (ix2 x d)) k

/-- Entry `k` of token `t` after the first residual: the first result. -/
def first (t : Fin 12288) (k : Fin 1024) : EReal :=
  settled (token xp xs pos t) (projected uc ul vc vl wg bg g wo t) (fun d => mods m t ⟨2048 + d.val, by omega⟩)
    (fun d => lg (ix1 d)) (fun d => lb (ix1 d)) k

/-- Entry `k` of the second modulated row of token `t`: the second result. -/
def second (t : Fin 12288) (k : Fin 1024) : EReal :=
  modulated (first xp xs pos uc ul vc vl m wg bg g wo lg lb t) (fun d => mods m t ⟨4096 + d.val, by omega⟩) (fun d => mods m t ⟨3072 + d.val, by omega⟩) k

end Cert.OutProj

end
-- ==== Proof.OutProjKernel.lean ====
/- The output projection, the kernel's side: what a step leaves in its blocks, what it reads, and what the first two
   result arrays hold after the run, in the formulas of OutProj.lean. -/
module

public import proofs.«01_k».proof.Proof.Gen.Kernel3Ideal.Value
public import proofs.«01_k».proof.Proof.OutProj
public import Idealize.ShloMosaic.Lib.Pipeline.ValueKit
public import Idealize.ShloMosaic.Lib.StableHlo.ReadAt
public import Idealize.ShloMosaic.Lib.Pointwise

@[expose] public section

set_option maxRecDepth 16384

noncomputable section

namespace Cert.Kernel3Ideal.Value

open Cert.Kernel3Ideal Cert.Kernel3Ideal.Gen Cert.Layer Cert.OutProj
open Idealize.ShloMosaic Idealize.ShloMosaic.TcCoe Idealize.ShloMosaic.Tactic Idealize.SL.Sem

/-- The comparison of a step's number with eight, at the first eight steps. -/
theorem early_word : ∀ n : Fin 24, n.val < 8 → Scalar.cmpi .slt (BitVec.ofNat 32 n.val) 8#32 = 1#1 := by decide +kernel
/-- The comparison at the later steps. -/
theorem late_word : ∀ n : Fin 24, ¬ n.val < 8 → Scalar.cmpi .slt (BitVec.ofNat 32 n.val) 8#32 = 0#1 := by decide +kernel

/-- The first eight steps are the prompt's. -/
theorem early (i : grid0.Coords) (h : (i 0).val < 8) : Scalar.cmpi .slt (BitVec.ofNat 32 (i 0).val) 8#32 = 1#1 := early_word (i 0) h
/-- The other steps are the latents'. -/
theorem late (i : grid0.Coords) (h : ¬ (i 0).val < 8) : Scalar.cmpi .slt (BitVec.ofNat 32 (i 0).val) 8#32 = 0#1 := late_word (i 0) h

section Block

variable (i : grid0.Coords) (x0 x1 x2 : Vec Ideal S512x1024 .f32) (x3 x4 x5 x6 : Vec Ideal S512x512 .f32) (x7 : Vec Ideal S1x1x6144 .f32)
  (x8 : Vec Ideal S512x512 .bf16) (x9 : Vec Ideal S1x512 .f32) (x10 : Vec Ideal S1x1024 .f32) (x11 : Vec Ideal S1024x1024 .bf16)
  (x12 x13 : Vec Ideal S1x1024 .f32) (x14 x15 : Vec Ideal S1024x128 .bf16) (x16 : Vec Ideal S1x128 .f32)

/-- The kernel writes the cube the other way round. -/
theorem gelu_cube (y : EReal) :
    y * (Ideal.ofBits .f32 1056964608#32 * (1 + Ideal.tanh (Ideal.ofBits .f32 1061962282#32 * (y + Ideal.ofBits .f32 1027024659#32 * (y * (y * y))))))
      = gelu y := by
  rw [← mul_assoc y y y]
  rfl

/-- The gated row a step makes of a row of the state-space branch's block. -/
abbrev gated (y : Vec Ideal S512x512 .f32) (r : Fin 512) : Fin 512 → EReal :=
  glu (fun k => y (ix2 r k)) (fun x d => x8 (ix2 x d)) (fun d => x9 (ix2 0 d))

/-- The projection a step makes of a row of the two branches' blocks. -/
abbrev mixture (u v : Vec Ideal S512x512 .f32) (r : Fin 512) : Fin 1024 → EReal :=
  mixed (fun k => u (ix2 r k)) (gated x8 x9 v r) (fun d => x10 (ix2 0 d)) (fun x d => x11 (ix2 x d))

/-- The token's row: the prompt's block. -/
theorem token_early (h : (i 0).val < 8) (r : Fin 512) (k : Fin 1024) : k0_pay29 (F := Ideal) i x0 x1 x2 x3 x4 x5 x6 x7 x8 x9 x10 x11 x12 x13 x14 x15 x16 (ix2 r k) = x0 (ix2 r k) := by
  pointwise [k0_pay29, k0_pay2, early i h]

/-- The convolution branch's row: the prompt's block. -/
theorem branch_early (h : (i 0).val < 8) (u v : Vec Ideal S512x512 .f32) (r k : Fin 512) :
    k0_pay4 (F := Ideal) i u v (ix2 r k) = u (ix2 r k) := by
  pointwise [k0_pay4, early i h]

/-- The smooth gate: the prompt's block. -/
theorem gelu_early (h : (i 0).val < 8) (u v : Vec Ideal S512x512 .f32) (r k : Fin 512) :
    k0_pay5 (F := Ideal) i u v (ix2 r k) = gelu (u (ix2 r k)) := by
  refine Eq.trans ?_ (gelu_cube _)
  pointwise [k0_pay5, k0_pay3, early i h]

/-- The gate's other factor, before the logistic function: the prompt's block. -/
theorem linear_early (h : (i 0).val < 8) (u v : Vec Ideal S512x512 .f32) (w : Vec Ideal S512x512 .bf16) (b : Vec Ideal S1x512 .f32) (r k : Fin 512) :
    k0_pay6 (F := Ideal) i u v w b (ix2 r k) = ∑ x, u (ix2 r x) * w (ix2 x k) + b (ix2 0 k) := by
  pointwise [k0_pay6, k0_pay3, early i h]

/-- The projection: the prompt's block. -/
theorem mixture_early (h : (i 0).val < 8) (r : Fin 512) (k : Fin 1024) :
    k0_pay30 (F := Ideal) i x0 x1 x2 x3 x4 x5 x6 x7 x8 x9 x10 x11 x12 x13 x14 x15 x16 (ix2 r k) = mixture x8 x9 x10 x11 x3 x5 r k := by
  pointwise [k0_pay30, k0_pay7]
  simp only [branch_early i h, gelu_early i h, linear_early i h]
  pointwise []
  rfl

/-- The token's row: the latents' block and the position codes. -/
theorem token_late (h : ¬ (i 0).val < 8) (r : Fin 512) (k : Fin 1024) : k0_pay29 (F := Ideal) i x0 x1 x2 x3 x4 x5 x6 x7 x8 x9 x10 x11 x12 x13 x14 x15 x16 (ix2 r k) = x1 (ix2 r k) + x2 (ix2 r k) := by
  pointwise [k0_pay29, k0_pay2, late i h]

/-- The convolution branch's row: the latents' block. -/
theorem branch_late (h : ¬ (i 0).val < 8) (u v : Vec Ideal S512x512 .f32) (r k : Fin 512) :
    k0_pay4 (F := Ideal) i u v (ix2 r k) = v (ix2 r k) := by
  pointwise [k0_pay4, late i h]

/-- The smooth gate: the latents' block. -/
theorem gelu_late (h : ¬ (i 0).val < 8) (u v : Vec Ideal S512x512 .f32) (r k : Fin 512) :
    k0_pay5 (F := Ideal) i u v (ix2 r k) = gelu (v (ix2 r k)) := by
  refine Eq.trans ?_ (gelu_cube _)
  pointwise [k0_pay5, k0_pay3, late i h]

/-- The gate's other factor, before the logistic function: the latents' block. -/
theorem linear_late (h : ¬ (i 0).val < 8) (u v : Vec Ideal S512x512 .f32) (w : Vec Ideal S512x512 .bf16) (b : Vec Ideal S1x512 .f32) (r k : Fin 512) :
    k0_pay6 (F := Ideal) i u v w b (ix2 r k) = ∑ x, v (ix2 r x) * w (ix2 x k) + b (ix2 0 k) := by
  pointwise [k0_pay6, k0_pay3, late i h]

/-- The projection: the latents' block. -/
theorem mixture_late (h : ¬ (i 0).val < 8) (r : Fin 512) (k : Fin 1024) :
    k0_pay30 (F := Ideal) i x0 x1 x2 x3 x4 x5 x6 x7 x8 x9 x10 x11 x12 x13 x14 x15 x16 (ix2 r k) = mixture x8 x9 x10 x11 x4 x6 r k := by
  pointwise [k0_pay30, k0_pay7]
  simp only [branch_late i h, gelu_late i h, linear_late i h]
  pointwise []
  rfl

/-- The gate of the first residual. -/
theorem piece_2048 (k : Fin 1024) : k0_pay31 (F := Ideal) i x0 x1 x2 x3 x4 x5 x6 x7 x8 x9 x10 x11 x12 x13 x14 x15 x16 (ix2 0 k) = x7 (ix3 0 0 ⟨2048 + k.val, by omega⟩) := by
  pointwise [k0_pay31, k0_pay8]

/-- The shift of the second modulation. -/
theorem piece_3072 (k : Fin 1024) : k0_pay32 (F := Ideal) i x0 x1 x2 x3 x4 x5 x6 x7 x8 x9 x10 x11 x12 x13 x14 x15 x16 (ix2 0 k) = x7 (ix3 0 0 ⟨3072 + k.val, by omega⟩) := by
  pointwise [k0_pay32, k0_pay9]

/-- The scale of the second modulation. -/
theorem piece_4096 (k : Fin 1024) : k0_pay33 (F := Ideal) i x0 x1 x2 x3 x4 x5 x6 x7 x8 x9 x10 x11 x12 x13 x14 x15 x16 (ix2 0 k) = x7 (ix3 0 0 ⟨4096 + k.val, by omega⟩) := by
  pointwise [k0_pay33, k0_pay10]

/-- What one step leaves in its first output block, over the token's row and the projection. -/
theorem block_17 (r : Fin 512) (d : Fin 1024) :
    out0_17 (F := Ideal) i x0 x1 x2 x3 x4 x5 x6 x7 x8 x9 x10 x11 x12 x13 x14 x15 x16 (ix2 r d)
      = settled (fun k => k0_pay29 i x0 x1 x2 x3 x4 x5 x6 x7 x8 x9 x10 x11 x12 x13 x14 x15 x16 (ix2 r k)) (fun k => k0_pay30 i x0 x1 x2 x3 x4 x5 x6 x7 x8 x9 x10 x11 x12 x13 x14 x15 x16 (ix2 r k))
          (fun k => x7 (ix3 0 0 ⟨2048 + k.val, by omega⟩)) (fun k => x12 (ix2 0 k)) (fun k => x13 (ix2 0 k)) d := by
  frame_out
  pointwise [k0_pay11]
  simp only [piece_2048]
  rfl

/-- The same, named a second time in the step. -/
theorem again (r : Fin 512) (d : Fin 1024) :
    k0_pay34 (F := Ideal) i x0 x1 x2 x3 x4 x5 x6 x7 x8 x9 x10 x11 x12 x13 x14 x15 x16 (ix2 r d)
      = settled (fun k => k0_pay29 i x0 x1 x2 x3 x4 x5 x6 x7 x8 x9 x10 x11 x12 x13 x14 x15 x16 (ix2 r k)) (fun k => k0_pay30 i x0 x1 x2 x3 x4 x5 x6 x7 x8 x9 x10 x11 x12 x13 x14 x15 x16 (ix2 r k))
          (fun k => x7 (ix3 0 0 ⟨2048 + k.val, by omega⟩)) (fun k => x12 (ix2 0 k)) (fun k => x13 (ix2 0 k)) d := by
  pointwise [k0_pay34, k0_pay11]
  simp only [piece_2048]
  rfl

/-- The mean of that row. -/
theorem mean (r : Fin 512) (d : Fin 1024) :
    k0_pay35 (F := Ideal) i x0 x1 x2 x3 x4 x5 x6 x7 x8 x9 x10 x11 x12 x13 x14 x15 x16 (ix2 r d) = Ideal.div (∑ k, k0_pay34 i x0 x1 x2 x3 x4 x5 x6 x7 x8 x9 x10 x11 x12 x13 x14 x15 x16 (ix2 r k)) width := by
  pointwise [k0_pay35, k0_pay12, k0_pay34]
  rfl

/-- What one step leaves in its second output block. -/
theorem block_18 (r : Fin 512) (d : Fin 1024) :
    out0_18 (F := Ideal) i x0 x1 x2 x3 x4 x5 x6 x7 x8 x9 x10 x11 x12 x13 x14 x15 x16 (ix2 r d)
      = modulated (settled (fun k => k0_pay29 i x0 x1 x2 x3 x4 x5 x6 x7 x8 x9 x10 x11 x12 x13 x14 x15 x16 (ix2 r k)) (fun k => k0_pay30 i x0 x1 x2 x3 x4 x5 x6 x7 x8 x9 x10 x11 x12 x13 x14 x15 x16 (ix2 r k))
          (fun k => x7 (ix3 0 0 ⟨2048 + k.val, by omega⟩)) (fun k => x12 (ix2 0 k)) (fun k => x13 (ix2 0 k)))
          (fun k => x7 (ix3 0 0 ⟨4096 + k.val, by omega⟩)) (fun k => x7 (ix3 0 0 ⟨3072 + k.val, by omega⟩)) d := by
  frame_out
  pointwise [k0_pay13, k0_pay14]
  simp only [mean, piece_3072, piece_4096, again]
  rfl

end Block

/-! What step `t` reads and writes: the index of each window's block. -/

/-- A step's coordinate is its number. -/
theorem coord : ∀ t : Fin grid0.N, (grid0.coords t 0).val = t.val := by decide +kernel
/-- The prompt's tokens stay at their last block after step seven. -/
theorem index_0 : ∀ t : Fin grid0.N, win0_0.index t = ![min t.val 7, 0] := by decide +kernel
/-- The latents' tokens start at step eight. -/
theorem index_1 : ∀ t : Fin grid0.N, win0_1.index t = ![t.val - 8, 0] := by decide +kernel
/-- The position codes alternate between their two blocks. -/
theorem index_2 : ∀ t : Fin grid0.N, win0_2.index t = ![(t.val - 8) % 2, 0] := by decide +kernel
/-- The prompt's convolution rows go with the prompt's tokens. -/
theorem index_3 : ∀ t : Fin grid0.N, win0_3.index t = ![min t.val 7, 0] := by decide +kernel
/-- The latents' convolution rows go with the latents. -/
theorem index_4 : ∀ t : Fin grid0.N, win0_4.index t = ![t.val - 8, 0] := by decide +kernel
/-- The prompt's state-space rows go with the prompt's tokens. -/
theorem index_5 : ∀ t : Fin grid0.N, win0_5.index t = ![min t.val 7, 0] := by decide +kernel
/-- The latents' state-space rows go with the latents. -/
theorem index_6 : ∀ t : Fin grid0.N, win0_6.index t = ![t.val - 8, 0] := by decide +kernel
/-- The modulation rows: the first for the prompt, one per two steps for the latents. -/
theorem index_7 : ∀ t : Fin grid0.N, win0_7.index t = ![if t.val < 8 then 0 else 1 + (t.val - 8) / 2, 0, 0] := by decide +kernel
/-- One block. -/
theorem index_8 : ∀ t : Fin grid0.N, win0_8.index t = ![0, 0] := by decide +kernel
/-- One block. -/
theorem index_9 : ∀ t : Fin grid0.N, win0_9.index t = ![0, 0] := by decide +kernel
/-- One block. -/
theorem index_10 : ∀ t : Fin grid0.N, win0_10.index t = ![0, 0] := by decide +kernel
/-- One block. -/
theorem index_11 : ∀ t : Fin grid0.N, win0_11.index t = ![0, 0] := by decide +kernel
/-- One block. -/
theorem index_12 : ∀ t : Fin grid0.N, win0_12.index t = ![0, 0] := by decide +kernel
/-- One block. -/
theorem index_13 : ∀ t : Fin grid0.N, win0_13.index t = ![0, 0] := by decide +kernel
/-- The first result goes with the step. -/
theorem index_17 : ∀ t : Fin grid0.N, win0_17.index t = ![t.val, 0] := by decide +kernel
/-- The second result goes with the step. -/
theorem index_18 : ∀ t : Fin grid0.N, win0_18.index t = ![t.val, 0] := by decide +kernel

variable (m : (ℓ : Loc nD τ sig) → Buf (Elt Ideal) ℓ)

/-- The prompt's tokens as one array of rows. -/
theorem entry_12 (c : Dev nD) (q : Fin 4096) (k : Fin 1024) : V m c main_v12 (ix2 q k) = m ((c.tc : Thread nD τ).loc main_arg0) (ix3 ⟨q.val / 256, by omega⟩ ⟨q.val % 256, by omega⟩ k) := by
  unfold V
  simp only [hostOps0, hostOps0_1, hostOps0_2, hostOps0_3, hostOps0_4, List.flatten_cons, List.flatten_nil, List.append_nil, List.cons_append, List.nil_append]
  after_reads_at

/-- The latents' tokens as one array of rows. -/
theorem entry_13 (c : Dev nD) (q : Fin 8192) (k : Fin 1024) : V m c main_v13 (ix2 q k) = m ((c.tc : Thread nD τ).loc main_arg1) (ix3 ⟨q.val / 1024, by omega⟩ ⟨q.val % 1024, by omega⟩ k) := by
  unfold V
  simp only [hostOps0, hostOps0_1, hostOps0_2, hostOps0_3, hostOps0_4, List.flatten_cons, List.flatten_nil, List.append_nil, List.cons_append, List.nil_append]
  after_reads_at

/-- The gate's weights, cast. -/
theorem entry_14 (c : Dev nD) (x d : Fin 512) : V m c main_v14 (ix2 x d) = m ((c.tc : Thread nD τ).loc main_arg8) (ix2 x d) := by
  unfold V
  simp only [hostOps0, hostOps0_1, hostOps0_2, hostOps0_3, hostOps0_4, List.flatten_cons, List.flatten_nil, List.append_nil, List.cons_append, List.nil_append]
  after_reads_at

/-- The gate's bias as a row. -/
theorem entry_15 (c : Dev nD) (d : Fin 512) : V m c main_v15 (ix2 0 d) = m ((c.tc : Thread nD τ).loc main_arg9) (ix1 d) := by
  unfold V
  simp only [hostOps0, hostOps0_1, hostOps0_2, hostOps0_3, hostOps0_4, List.flatten_cons, List.flatten_nil, List.append_nil, List.cons_append, List.nil_append]
  after_reads_at

/-- The scales as a row. -/
theorem entry_16 (c : Dev nD) (d : Fin 1024) : V m c main_v16 (ix2 0 d) = m ((c.tc : Thread nD τ).loc main_arg10) (ix1 d) := by
  unfold V
  simp only [hostOps0, hostOps0_1, hostOps0_2, hostOps0_3, hostOps0_4, List.flatten_cons, List.flatten_nil, List.append_nil, List.cons_append, List.nil_append]
  after_reads_at

/-- The output weights, cast. -/
theorem entry_17 (c : Dev nD) (x d : Fin 1024) : V m c main_v17 (ix2 x d) = m ((c.tc : Thread nD τ).loc main_arg11) (ix2 x d) := by
  unfold V
  simp only [hostOps0, hostOps0_1, hostOps0_2, hostOps0_3, hostOps0_4, List.flatten_cons, List.flatten_nil, List.append_nil, List.cons_append, List.nil_append]
  after_reads_at

/-- The normalisation's scale as a row. -/
theorem entry_18 (c : Dev nD) (d : Fin 1024) : V m c main_v18 (ix2 0 d) = m ((c.tc : Thread nD τ).loc main_arg12) (ix1 d) := by
  unfold V
  simp only [hostOps0, hostOps0_1, hostOps0_2, hostOps0_3, hostOps0_4, List.flatten_cons, List.flatten_nil, List.append_nil, List.cons_append, List.nil_append]
  after_reads_at

/-- The normalisation's shift as a row. -/
theorem entry_19 (c : Dev nD) (d : Fin 1024) : V m c main_v19 (ix2 0 d) = m ((c.tc : Thread nD τ).loc main_arg13) (ix1 d) := by
  unfold V
  simp only [hostOps0, hostOps0_1, hostOps0_2, hostOps0_3, hostOps0_4, List.flatten_cons, List.flatten_nil, List.append_nil, List.cons_append, List.nil_append]
  after_reads_at

/-- The modulation rows, one block each. -/
theorem entry_20 (c : Dev nD) (b : Fin 16) (k : Fin 6144) : V m c main_v20 (ix3 b 0 k) = m ((c.tc : Thread nD τ).loc main_arg7) (ix2 b k) := by
  unfold V
  simp only [hostOps0, hostOps0_1, hostOps0_2, hostOps0_3, hostOps0_4, List.flatten_cons, List.flatten_nil, List.append_nil, List.cons_append, List.nil_append]
  after_reads_at

/-- The prompt's tokens that an early step reads. -/
theorem read_0 (c : Dev nD) (t : Fin cfg0.N) (h8 : t.val < 8) (r : Fin 512) (k : Fin 1024) (q : Fin 4096) (hq : q.val = 512 * t.val + r.val) :
    iblk m c 0 t (ix2 r k) = m ((c.tc : Thread nD τ).loc main_arg0) (ix3 ⟨q.val / 256, by omega⟩ ⟨q.val % 256, by omega⟩ k) := by
  have h := index_0 t
  have h7 : min t.val 7 = t.val := by omega
  rw [h7] at h
  refine Eq.trans ?_ (entry_12 m c q k)
  blk_ext [iblk, h]

/-- The latents' tokens that a later step reads. -/
theorem read_1 (c : Dev nD) (t : Fin cfg0.N) (r : Fin 512) (k : Fin 1024) (q : Fin 8192) (hq : q.val = 512 * (t.val - 8) + r.val) :
    iblk m c 1 t (ix2 r k) = m ((c.tc : Thread nD τ).loc main_arg1) (ix3 ⟨q.val / 1024, by omega⟩ ⟨q.val % 1024, by omega⟩ k) := by
  have h := index_1 t
  refine Eq.trans ?_ (entry_13 m c q k)
  blk_ext [iblk, h]

/-- The position codes that a later step reads. -/
theorem read_2 (c : Dev nD) (t : Fin cfg0.N) (r : Fin 512) (k : Fin 1024) (q : Fin 1024) (hq : q.val = 512 * ((t.val - 8) % 2) + r.val) :
    iblk m c 2 t (ix2 r k) = m ((c.tc : Thread nD τ).loc main_arg2) (ix2 q k) := by
  have h := index_2 t
  refine Eq.trans ?_ (congrFun (V_main_arg2 m c) (ix2 q k))
  blk_ext [iblk, h]

/-- The prompt's convolution rows that an early step reads. -/
theorem read_3 (c : Dev nD) (t : Fin cfg0.N) (h8 : t.val < 8) (r k : Fin 512) (q : Fin 4096) (hq : q.val = 512 * t.val + r.val) :
    iblk m c 3 t (ix2 r k) = m ((c.tc : Thread nD τ).loc main_arg3) (ix2 q k) := by
  have h := index_3 t
  have h7 : min t.val 7 = t.val := by omega
  rw [h7] at h
  refine Eq.trans ?_ (congrFun (V_main_arg3 m c) (ix2 q k))
  blk_ext [iblk, h]

/-- The latents' convolution rows that a later step reads. -/
theorem read_4 (c : Dev nD) (t : Fin cfg0.N) (r k : Fin 512) (q : Fin 8192) (hq : q.val = 512 * (t.val - 8) + r.val) :
    iblk m c 4 t (ix2 r k) = m ((c.tc : Thread nD τ).loc main_arg4) (ix2 q k) := by
  have h := index_4 t
  refine Eq.trans ?_ (congrFun (V_main_arg4 m c) (ix2 q k))
  blk_ext [iblk, h]

/-- The prompt's state-space rows that an early step reads. -/
theorem read_5 (c : Dev nD) (t : Fin cfg0.N) (h8 : t.val < 8) (r k : Fin 512) (q : Fin 4096) (hq : q.val = 512 * t.val + r.val) :
    iblk m c 5 t (ix2 r k) = m ((c.tc : Thread nD τ).loc main_arg5) (ix2 q k) := by
  have h := index_5 t
  have h7 : min t.val 7 = t.val := by omega
  rw [h7] at h
  refine Eq.trans ?_ (congrFun (V_main_arg5 m c) (ix2 q k))
  blk_ext [iblk, h]

/-- The latents' state-space rows that a later step reads. -/
theorem read_6 (c : Dev nD) (t : Fin cfg0.N) (r k : Fin 512) (q : Fin 8192) (hq : q.val = 512 * (t.val - 8) + r.val) :
    iblk m c 6 t (ix2 r k) = m ((c.tc : Thread nD τ).loc main_arg6) (ix2 q k) := by
  have h := index_6 t
  refine Eq.trans ?_ (congrFun (V_main_arg6 m c) (ix2 q k))
  blk_ext [iblk, h]

/-- The modulation row that a step reads. -/
theorem read_7 (c : Dev nD) (t : Fin cfg0.N) (n : Fin 12288) (r : Fin 512) (hn : n.val = 512 * t.val + r.val) (k : Fin 6144) :
    iblk m c 7 t (ix3 0 0 k) = mods (m ((c.tc : Thread nD τ).loc main_arg7)) n k := by
  have h := index_7 t
  unfold mods
  by_cases h8 : t.val < 8
  · rw [if_pos h8] at h
    rw [dif_pos (by omega)]
    refine Eq.trans ?_ (entry_20 m c 0 k)
    blk_ext [iblk, h]
  · rw [if_neg h8] at h
    rw [dif_neg (by omega)]
    refine Eq.trans ?_ (entry_20 m c _ k)
    blk_ext [iblk, h]

/-- The gate's weights, whole at every step. -/
theorem read_8 (c : Dev nD) (t : Fin cfg0.N) (x d : Fin 512) : iblk m c 8 t (ix2 x d) = m ((c.tc : Thread nD τ).loc main_arg8) (ix2 x d) := by
  have h := index_8 t
  refine Eq.trans ?_ (entry_14 m c x d)
  blk_ext [iblk, h]

/-- The gate's bias, whole at every step. -/
theorem read_9 (c : Dev nD) (t : Fin cfg0.N) (d : Fin 512) : iblk m c 9 t (ix2 0 d) = m ((c.tc : Thread nD τ).loc main_arg9) (ix1 d) := by
  have h := index_9 t
  refine Eq.trans ?_ (entry_15 m c d)
  blk_ext [iblk, h]

/-- The scales, whole at every step. -/
theorem read_10 (c : Dev nD) (t : Fin cfg0.N) (d : Fin 1024) : iblk m c 10 t (ix2 0 d) = m ((c.tc : Thread nD τ).loc main_arg10) (ix1 d) := by
  have h := index_10 t
  refine Eq.trans ?_ (entry_16 m c d)
  blk_ext [iblk, h]

/-- The output weights, whole at every step. -/
theorem read_11 (c : Dev nD) (t : Fin cfg0.N) (x d : Fin 1024) : iblk m c 11 t (ix2 x d) = m ((c.tc : Thread nD τ).loc main_arg11) (ix2 x d) := by
  have h := index_11 t
  refine Eq.trans ?_ (entry_17 m c x d)
  blk_ext [iblk, h]

/-- The normalisation's scale, whole at every step. -/
theorem read_12 (c : Dev nD) (t : Fin cfg0.N) (d : Fin 1024) : iblk m c 12 t (ix2 0 d) = m ((c.tc : Thread nD τ).loc main_arg12) (ix1 d) := by
  have h := index_12 t
  refine Eq.trans ?_ (entry_18 m c d)
  blk_ext [iblk, h]

/-- The normalisation's shift, whole at every step. -/
theorem read_13 (c : Dev nD) (t : Fin cfg0.N) (d : Fin 1024) : iblk m c 13 t (ix2 0 d) = m ((c.tc : Thread nD τ).loc main_arg13) (ix1 d) := by
  have h := index_13 t
  refine Eq.trans ?_ (entry_19 m c d)
  blk_ext [iblk, h]

/-- The token's row, as a step makes it. -/
theorem token_read (c : Dev nD) (t : Fin cfg0.N) (n : Fin 12288) (r : Fin 512) (hn : n.val = 512 * t.val + r.val) (k : Fin 1024) :
    k0_pay29 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (ix2 r k)
      = token (m ((c.tc : Thread nD τ).loc main_arg0)) (m ((c.tc : Thread nD τ).loc main_arg1)) (m ((c.tc : Thread nD τ).loc main_arg2)) n k := by
  have hc := coord t
  have ht := t.isLt
  unfold token
  by_cases h8 : t.val < 8
  · rw [dif_pos (by omega), token_early _ _ _ _ _ _ _ _ _ _ _ _ _ _ _ _ _ _ (by rw [hc]; exact h8)]
    exact read_0 m c t h8 r k ⟨n.val, by omega⟩ hn
  · rw [dif_neg (by omega), token_late _ _ _ _ _ _ _ _ _ _ _ _ _ _ _ _ _ _ (by rw [hc]; exact h8)]
    exact congrArg₂ (· + ·) (read_1 m c t r k ⟨n.val - 4096, by omega⟩ (by show n.val - 4096 = _; omega))
      (read_2 m c t r k ⟨(n.val - 4096) % 1024, by omega⟩ (by show (n.val - 4096) % 1024 = _; omega))

/-- The projection, as a step makes it. -/
theorem projected_read (c : Dev nD) (t : Fin cfg0.N) (n : Fin 12288) (r : Fin 512) (hn : n.val = 512 * t.val + r.val) (k : Fin 1024) :
    k0_pay30 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (ix2 r k)
      = projected (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg8)) (m ((c.tc : Thread nD τ).loc main_arg9)) (m ((c.tc : Thread nD τ).loc main_arg10)) (m ((c.tc : Thread nD τ).loc main_arg11)) n k := by
  have hc := coord t
  have ht := t.isLt
  unfold projected
  by_cases h8 : t.val < 8
  · rw [mixture_early _ _ _ _ _ _ _ _ _ _ _ _ _ _ _ _ _ _ (by rw [hc]; exact h8)]
    have hu : (fun k => iblk m c 3 t (ix2 r k)) = pick (m ((c.tc : Thread nD τ).loc main_arg3)) (m ((c.tc : Thread nD τ).loc main_arg4)) n := by
      funext k
      unfold pick
      rw [dif_pos (by omega)]
      exact read_3 m c t h8 r k ⟨n.val, by omega⟩ hn
    have hv : (fun k => iblk m c 5 t (ix2 r k)) = pick (m ((c.tc : Thread nD τ).loc main_arg5)) (m ((c.tc : Thread nD τ).loc main_arg6)) n := by
      funext k
      unfold pick
      rw [dif_pos (by omega)]
      exact read_5 m c t h8 r k ⟨n.val, by omega⟩ hn
    unfold mixture gated
    rw [hu, hv]
    simp only [read_8, read_9, read_10, read_11]
  · rw [mixture_late _ _ _ _ _ _ _ _ _ _ _ _ _ _ _ _ _ _ (by rw [hc]; exact h8)]
    have hu : (fun k => iblk m c 4 t (ix2 r k)) = pick (m ((c.tc : Thread nD τ).loc main_arg3)) (m ((c.tc : Thread nD τ).loc main_arg4)) n := by
      funext k
      unfold pick
      rw [dif_neg (by omega)]
      exact read_4 m c t r k ⟨n.val - 4096, by omega⟩ (by show n.val - 4096 = _; omega)
    have hv : (fun k => iblk m c 6 t (ix2 r k)) = pick (m ((c.tc : Thread nD τ).loc main_arg5)) (m ((c.tc : Thread nD τ).loc main_arg6)) n := by
      funext k
      unfold pick
      rw [dif_neg (by omega)]
      exact read_6 m c t r k ⟨n.val - 4096, by omega⟩ (by show n.val - 4096 = _; omega)
    unfold mixture gated
    rw [hu, hv]
    simp only [read_8, read_9, read_10, read_11]

/-- The first result: every token after the first residual. -/
def first_array (c : Dev nD) : Buf (Elt Ideal) ((c.tc : Thread nD τ).loc main_v21_0) :=
  fun y => first (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (y 0) (y 1)

/-- Its blocks, one a step, cover its array. -/
theorem covers_17 : (cfg0.win 17).Covers := by
  refine ⟨by decide, fun β => ⟨⟨(β 0).val, (β 0).isLt⟩, flush0_17 _, fun a => ⟨?_, .inl rfl⟩⟩⟩
  show win0_17.index _ a = _
  rw [index_17]
  match a with
  | ⟨0, _⟩ => rfl
  | ⟨1, _⟩ => exact (Nat.lt_one_iff.mp (β 1).isLt).symm

/-- Its array after the run. -/
theorem arr_17 (c : Dev nD) : (dats m 0 c).arrAt 17 cfg0.N = first_array m c := by
  refine (dats m 0 c).arrAt_eq_of_covers 17 _ covers_17 fun t _ y => ?_
  have hi := index_17 t
  have ht : t.val < 24 := t.isLt
  change S512x1024.Idx at y
  idx_vars y
  obtain ⟨n, hn⟩ : ∃ n : Fin 12288, n.val = 512 * t.val + y0.val := ⟨⟨512 * t.val + y0.val, by omega⟩, rfl⟩
  have he : ((cfg0.win 17).blk t).view.emb (ix2 y0 y1) = ix2 n y1 := by blk_ext [hi]
  rw [he]
  show (dats m 0 c).after 17 t (ix2 y0 y1) = first _ _ _ _ _ _ _ _ _ _ _ _ _ _ n y1
  rw [after0_17, block_17]
  simp only [token_read m c t n y0 hn, projected_read m c t n y0 hn, read_7 m c t n y0 hn, read_12, read_13]
  rfl

/-- The second result: every token's second modulated row. -/
def second_array (c : Dev nD) : Buf (Elt Ideal) ((c.tc : Thread nD τ).loc main_v21_1) :=
  fun y => second (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (y 0) (y 1)

/-- Its blocks, one a step, cover its array. -/
theorem covers_18 : (cfg0.win 18).Covers := by
  refine ⟨by decide, fun β => ⟨⟨(β 0).val, (β 0).isLt⟩, flush0_18 _, fun a => ⟨?_, .inl rfl⟩⟩⟩
  show win0_18.index _ a = _
  rw [index_18]
  match a with
  | ⟨0, _⟩ => rfl
  | ⟨1, _⟩ => exact (Nat.lt_one_iff.mp (β 1).isLt).symm

/-- Its array after the run. -/
theorem arr_18 (c : Dev nD) : (dats m 0 c).arrAt 18 cfg0.N = second_array m c := by
  refine (dats m 0 c).arrAt_eq_of_covers 18 _ covers_18 fun t _ y => ?_
  have hi := index_18 t
  have ht : t.val < 24 := t.isLt
  change S512x1024.Idx at y
  idx_vars y
  obtain ⟨n, hn⟩ : ∃ n : Fin 12288, n.val = 512 * t.val + y0.val := ⟨⟨512 * t.val + y0.val, by omega⟩, rfl⟩
  have he : ((cfg0.win 18).blk t).view.emb (ix2 y0 y1) = ix2 n y1 := by blk_ext [hi]
  rw [he]
  show (dats m 0 c).after 18 t (ix2 y0 y1) = second _ _ _ _ _ _ _ _ _ _ _ _ _ _ n y1
  rw [after0_18, block_18]
  simp only [token_read m c t n y0 hn, projected_read m c t n y0 hn, read_7 m c t n y0 hn, read_12, read_13]
  rfl

end Cert.Kernel3Ideal.Value

end
-- ==== Proof.OutProjReference.lean ====
/- What the reference of the output projection computes, stage by stage: the formulas of OutProj.lean. -/
module

public import proofs.«01_k».proof.Proof.Gen.Reference3Ideal.Run
public import proofs.«01_k».proof.Proof.Gen.Reference3Ideal.Read
public import proofs.«01_k».proof.Proof.OutProj
public import Idealize.ShloMosaic.Lib.Pointwise

@[expose] public section

set_option maxRecDepth 16384

noncomputable section

namespace Cert.Reference3Ideal.Read

open Cert.Reference3Ideal Cert.Reference3Ideal.Gen Cert.Layer Cert.OutProj
open Idealize.ShloMosaic Idealize.ShloMosaic.TcCoe

variable (x0 : (⟨S16x256x1024, .f32⟩ : BufTy).Contents (Elt Ideal)) (x1 : (⟨S8x1024x1024, .f32⟩ : BufTy).Contents (Elt Ideal)) (x2 : (⟨S1024x1024, .f32⟩ : BufTy).Contents (Elt Ideal)) (x3 : (⟨S4096x512, .f32⟩ : BufTy).Contents (Elt Ideal)) (x4 : (⟨S8192x512, .f32⟩ : BufTy).Contents (Elt Ideal)) (x5 : (⟨S4096x512, .f32⟩ : BufTy).Contents (Elt Ideal)) (x6 : (⟨S8192x512, .f32⟩ : BufTy).Contents (Elt Ideal)) (x7 : (⟨S16x6144, .f32⟩ : BufTy).Contents (Elt Ideal)) (x8 : (⟨S512x512, .f32⟩ : BufTy).Contents (Elt Ideal)) (x9 : (⟨S512, .f32⟩ : BufTy).Contents (Elt Ideal)) (x10 : (⟨S1024, .f32⟩ : BufTy).Contents (Elt Ideal)) (x11 : (⟨S1024x1024, .f32⟩ : BufTy).Contents (Elt Ideal)) (x12 : (⟨S1024, .f32⟩ : BufTy).Contents (Elt Ideal)) (x13 : (⟨S1024, .f32⟩ : BufTy).Contents (Elt Ideal))

/-- A row of the prompt's tokens. -/
theorem prompt_apply (t : Fin 4096) (k : Fin 1024) :
    val_main_v0 (F := Ideal) x0 (ix2 t k) = x0 (ix3 ⟨t.val / 256, by omega⟩ ⟨t.val % 256, by omega⟩ k) := by
  pointwise [val_main_v0]

/-- A row of the latents, with its position code. -/
theorem latent_apply (t : Fin 8192) (k : Fin 1024) :
    val_main_v4 (F := Ideal) x1 x2 (ix2 t k) = x1 (ix3 ⟨t.val / 1024, by omega⟩ ⟨t.val % 1024, by omega⟩ k) + x2 (ix2 ⟨t.val % 1024, by omega⟩ k) := by
  pointwise [val_main_v1, val_main_v2, val_main_v3, val_main_v4]

/-- The tokens' rows, the prompt's before the latents'. -/
theorem token_apply (t : Fin 12288) (k : Fin 1024) : val_main_v5 (F := Ideal) x0 x1 x2 (ix2 t k) = token x0 x1 x2 t k := by
  pointwise [val_main_v5]
  unfold token
  split
  · exact prompt_apply x0 _ k
  · exact latent_apply x1 x2 _ k

/-- The convolution branch's rows. -/
theorem branch_u_apply (t : Fin 12288) (k : Fin 512) : val_main_v6 (F := Ideal) x3 x4 (ix2 t k) = pick x3 x4 t k := by
  pointwise [val_main_v6]
  rfl

/-- The state-space branch's rows. -/
theorem branch_v_apply (t : Fin 12288) (k : Fin 512) : val_main_v7 (F := Ideal) x5 x6 (ix2 t k) = pick x5 x6 t k := by
  pointwise [val_main_v7]
  rfl

/-- The gate of the first residual. -/
theorem gate_apply (t : Fin 12288) (k : Fin 1024) :
    val_main_v16 (F := Ideal) x7 (ix2 t k) = mods x7 t ⟨2048 + k.val, by omega⟩ := by
  pointwise [val_main_v16, val_main_v8, val_main_v9, val_main_v10, val_main_v11, val_main_v12, val_main_v13]
  rfl

/-- The shift of the second modulation. -/
theorem shift_apply (t : Fin 12288) (k : Fin 1024) :
    val_main_v17 (F := Ideal) x7 (ix2 t k) = mods x7 t ⟨3072 + k.val, by omega⟩ := by
  pointwise [val_main_v17, val_main_v8, val_main_v9, val_main_v10, val_main_v11, val_main_v12, val_main_v13]
  rfl

/-- The scale of the second modulation. -/
theorem scale_apply (t : Fin 12288) (k : Fin 1024) :
    val_main_v18 (F := Ideal) x7 (ix2 t k) = mods x7 t ⟨4096 + k.val, by omega⟩ := by
  pointwise [val_main_v18, val_main_v8, val_main_v9, val_main_v10, val_main_v11, val_main_v12, val_main_v13]
  rfl

/-- The gated rows of the state-space branch. -/
theorem glu_apply (t : Fin 12288) (k : Fin 512) :
    val_main_v43 (F := Ideal) x5 x6 x8 x9 (ix2 t k) = glu (pick x5 x6 t) (fun x d => x8 (ix2 x d)) (fun d => x9 (ix1 d)) k := by
  pointwise [val_main_v20, val_main_v21, val_main_cst, val_main_v22, val_main_v23, val_main_v24, val_main_cst_0, val_main_v25, val_main_v26, val_main_v27, val_main_cst_1, val_main_v28, val_main_v29, val_main_cst_2, val_main_v30, val_main_v31, val_main_v32, val_main_v33, val_main_v34, val_main_v35, val_main_v36, val_main_v37, val_main_v38, val_main_cst_3, val_main_v39, val_main_v40, val_main_cst_4, val_main_v41, val_main_v42, val_main_v43]
  simp only [branch_v_apply]
  rfl

/-- The convolution branch's rows by their mean square. -/
theorem rms_u_apply (t : Fin 12288) (k : Fin 512) : val_main_v53 (F := Ideal) x3 x4 (ix2 t k) = rms (pick x3 x4 t) k := by
  pointwise [val_main_v44, val_main_cst_5, val_main_v45, val_main_v46, val_main_cst_6, val_main_v47, val_main_v48, val_main_cst_7, val_main_v49, val_main_v50, val_main_v51, val_main_v52, val_main_v53]
  simp only [branch_u_apply]
  rfl

/-- The gated rows by their mean square. -/
theorem rms_v_apply (t : Fin 12288) (k : Fin 512) :
    val_main_v63 (F := Ideal) x5 x6 x8 x9 (ix2 t k) = rms (glu (pick x5 x6 t) (fun x d => x8 (ix2 x d)) (fun d => x9 (ix1 d))) k := by
  pointwise [val_main_v54, val_main_cst_8, val_main_v55, val_main_v56, val_main_cst_9, val_main_v57, val_main_v58, val_main_cst_10, val_main_v59, val_main_v60, val_main_v61, val_main_v62, val_main_v63]
  simp only [glu_apply]
  rfl

/-- The projection. -/
theorem projected_apply (t : Fin 12288) (k : Fin 1024) :
    val_main_v68 (F := Ideal) x3 x4 x5 x6 x8 x9 x10 x11 (ix2 t k) = projected x3 x4 x5 x6 x8 x9 x10 x11 t k := by
  pointwise [val_main_v64, val_main_v65, val_main_v66, val_main_v67, val_main_v68]
  simp only [rms_u_apply, rms_v_apply]
  rfl

/-- The first result. -/
theorem first_apply (t : Fin 12288) (k : Fin 1024) :
    val_main_v94 (F := Ideal) x0 x1 x2 x3 x4 x5 x6 x7 x8 x9 x10 x11 x12 x13 (ix2 t k) = first x0 x1 x2 x3 x4 x5 x6 x7 x8 x9 x10 x11 x12 x13 t k := by
  pointwise [val_main_cst_11, val_main_v69, val_main_v70, val_main_v71, val_main_v72, val_main_cst_12, val_main_v73, val_main_v74, val_main_cst_13, val_main_v75, val_main_v76, val_main_v77, val_main_v78, val_main_v79, val_main_cst_14, val_main_v80, val_main_v81, val_main_cst_15, val_main_v82, val_main_v83, val_main_cst_16, val_main_v84, val_main_v85, val_main_v86, val_main_v87, val_main_v88, val_main_v89, val_main_v90, val_main_v91, val_main_v92, val_main_v93, val_main_v94]
  simp only [token_apply, gate_apply, projected_apply]
  rfl

/-- The second result. -/
theorem second_apply (t : Fin 12288) (k : Fin 1024) :
    val_main_v115 (F := Ideal) x0 x1 x2 x3 x4 x5 x6 x7 x8 x9 x10 x11 x12 x13 (ix2 t k) = second x0 x1 x2 x3 x4 x5 x6 x7 x8 x9 x10 x11 x12 x13 t k := by
  pointwise [val_main_cst_17, val_main_v95, val_main_v96, val_main_cst_18, val_main_v97, val_main_v98, val_main_v99, val_main_v100, val_main_v101, val_main_cst_19, val_main_v102, val_main_v103, val_main_cst_20, val_main_v104, val_main_v105, val_main_cst_21, val_main_v106, val_main_v107, val_main_v108, val_main_v109, val_main_v110, val_main_cst_22, val_main_v111, val_main_v112, val_main_v113, val_main_v114, val_main_v115]
  simp only [first_apply, shift_apply, scale_apply]
  rfl

end Cert.Reference3Ideal.Read

end
-- ==== Proof.RouteRow.lean ====
/- The routing, the part that goes before it: the token's row, the projection and the second modulated row as a step of
   this call makes them, in the formulas of OutProj.lean. The same steps as in OutProjKernel.lean, of this call's program. -/
module

public import proofs.«01_k».proof.Proof.Gen.Kernel6Ideal.Value
public import proofs.«01_k».proof.Proof.OutProj
public import Idealize.ShloMosaic.Lib.Pipeline.ValueKit
public import Idealize.ShloMosaic.Lib.StableHlo.ReadAt
public import Idealize.ShloMosaic.Lib.Pointwise

@[expose] public section

set_option maxRecDepth 16384

noncomputable section

namespace Cert.Kernel6Ideal.Value

open Cert.Kernel6Ideal Cert.Kernel6Ideal.Gen Cert.Layer Cert.OutProj
open Idealize.ShloMosaic Idealize.ShloMosaic.TcCoe Idealize.ShloMosaic.Tactic Idealize.SL.Sem

/-- The comparison of a step's number with eight, at the first eight steps. -/
theorem early_word : ∀ n : Fin 24, n.val < 8 → Scalar.cmpi .slt (BitVec.ofNat 32 n.val) 8#32 = 1#1 := by decide +kernel
/-- The comparison at the later steps. -/
theorem late_word : ∀ n : Fin 24, ¬ n.val < 8 → Scalar.cmpi .slt (BitVec.ofNat 32 n.val) 8#32 = 0#1 := by decide +kernel

/-- The first eight steps are the prompt's. -/
theorem early (i : grid0.Coords) (h : (i 0).val < 8) : Scalar.cmpi .slt (BitVec.ofNat 32 (i 0).val) 8#32 = 1#1 := early_word (i 0) h
/-- The other steps are the latents'. -/
theorem late (i : grid0.Coords) (h : ¬ (i 0).val < 8) : Scalar.cmpi .slt (BitVec.ofNat 32 (i 0).val) 8#32 = 0#1 := late_word (i 0) h

section Block

variable (i : grid0.Coords) (x0 x1 x2 : Vec Ideal S512x1024 .f32) (x3 x4 x5 x6 : Vec Ideal S512x512 .f32) (x7 : Vec Ideal S1x1x6144 .f32)
  (x8 : Vec Ideal S512x512 .bf16) (x9 : Vec Ideal S1x512 .f32) (x10 : Vec Ideal S1x1024 .f32) (x11 : Vec Ideal S1024x1024 .bf16)
  (x12 x13 : Vec Ideal S1x1024 .f32) (x14 x15 : Vec Ideal S1024x128 .bf16) (x16 : Vec Ideal S1x128 .f32)

/-- The kernel writes the cube the other way round. -/
theorem gelu_cube (y : EReal) :
    y * (Ideal.ofBits .f32 1056964608#32 * (1 + Ideal.tanh (Ideal.ofBits .f32 1061962282#32 * (y + Ideal.ofBits .f32 1027024659#32 * (y * (y * y))))))
      = gelu y := by
  rw [← mul_assoc y y y]
  rfl

/-- The gated row a step makes of a row of the state-space branch's block. -/
abbrev gated (y : Vec Ideal S512x512 .f32) (r : Fin 512) : Fin 512 → EReal :=
  glu (fun k => y (ix2 r k)) (fun x d => x8 (ix2 x d)) (fun d => x9 (ix2 0 d))

/-- The projection a step makes of a row of the two branches' blocks. -/
abbrev mixture (u v : Vec Ideal S512x512 .f32) (r : Fin 512) : Fin 1024 → EReal :=
  mixed (fun k => u (ix2 r k)) (gated x8 x9 v r) (fun d => x10 (ix2 0 d)) (fun x d => x11 (ix2 x d))

/-- The token's row: the prompt's block. -/
theorem token_early (h : (i 0).val < 8) (r : Fin 512) (k : Fin 1024) : k0_pay29 (F := Ideal) i x0 x1 x2 x3 x4 x5 x6 x7 x8 x9 x10 x11 x12 x13 x14 x15 x16 (ix2 r k) = x0 (ix2 r k) := by
  pointwise [k0_pay29, k0_pay2, early i h]

/-- The convolution branch's row: the prompt's block. -/
theorem branch_early (h : (i 0).val < 8) (u v : Vec Ideal S512x512 .f32) (r k : Fin 512) :
    k0_pay4 (F := Ideal) i u v (ix2 r k) = u (ix2 r k) := by
  pointwise [k0_pay4, early i h]

/-- The smooth gate: the prompt's block. -/
theorem gelu_early (h : (i 0).val < 8) (u v : Vec Ideal S512x512 .f32) (r k : Fin 512) :
    k0_pay5 (F := Ideal) i u v (ix2 r k) = gelu (u (ix2 r k)) := by
  refine Eq.trans ?_ (gelu_cube _)
  pointwise [k0_pay5, k0_pay3, early i h]

/-- The gate's other factor, before the logistic function: the prompt's block. -/
theorem linear_early (h : (i 0).val < 8) (u v : Vec Ideal S512x512 .f32) (w : Vec Ideal S512x512 .bf16) (b : Vec Ideal S1x512 .f32) (r k : Fin 512) :
    k0_pay6 (F := Ideal) i u v w b (ix2 r k) = ∑ x, u (ix2 r x) * w (ix2 x k) + b (ix2 0 k) := by
  pointwise [k0_pay6, k0_pay3, early i h]

/-- The projection: the prompt's block. -/
theorem mixture_early (h : (i 0).val < 8) (r : Fin 512) (k : Fin 1024) :
    k0_pay30 (F := Ideal) i x0 x1 x2 x3 x4 x5 x6 x7 x8 x9 x10 x11 x12 x13 x14 x15 x16 (ix2 r k) = mixture x8 x9 x10 x11 x3 x5 r k := by
  pointwise [k0_pay30, k0_pay7]
  simp only [branch_early i h, gelu_early i h, linear_early i h]
  pointwise []
  rfl

/-- The token's row: the latents' block and the position codes. -/
theorem token_late (h : ¬ (i 0).val < 8) (r : Fin 512) (k : Fin 1024) : k0_pay29 (F := Ideal) i x0 x1 x2 x3 x4 x5 x6 x7 x8 x9 x10 x11 x12 x13 x14 x15 x16 (ix2 r k) = x1 (ix2 r k) + x2 (ix2 r k) := by
  pointwise [k0_pay29, k0_pay2, late i h]

/-- The convolution branch's row: the latents' block. -/
theorem branch_late (h : ¬ (i 0).val < 8) (u v : Vec Ideal S512x512 .f32) (r k : Fin 512) :
    k0_pay4 (F := Ideal) i u v (ix2 r k) = v (ix2 r k) := by
  pointwise [k0_pay4, late i h]

/-- The smooth gate: the latents' block. -/
theorem gelu_late (h : ¬ (i 0).val < 8) (u v : Vec Ideal S512x512 .f32) (r k : Fin 512) :
    k0_pay5 (F := Ideal) i u v (ix2 r k) = gelu (v (ix2 r k)) := by
  refine Eq.trans ?_ (gelu_cube _)
  pointwise [k0_pay5, k0_pay3, late i h]

/-- The gate's other factor, before the logistic function: the latents' block. -/
theorem linear_late (h : ¬ (i 0).val < 8) (u v : Vec Ideal S512x512 .f32) (w : Vec Ideal S512x512 .bf16) (b : Vec Ideal S1x512 .f32) (r k : Fin 512) :
    k0_pay6 (F := Ideal) i u v w b (ix2 r k) = ∑ x, v (ix2 r x) * w (ix2 x k) + b (ix2 0 k) := by
  pointwise [k0_pay6, k0_pay3, late i h]

/-- The projection: the latents' block. -/
theorem mixture_late (h : ¬ (i 0).val < 8) (r : Fin 512) (k : Fin 1024) :
    k0_pay30 (F := Ideal) i x0 x1 x2 x3 x4 x5 x6 x7 x8 x9 x10 x11 x12 x13 x14 x15 x16 (ix2 r k) = mixture x8 x9 x10 x11 x4 x6 r k := by
  pointwise [k0_pay30, k0_pay7]
  simp only [branch_late i h, gelu_late i h, linear_late i h]
  pointwise []
  rfl

/-- The gate of the first residual. -/
theorem piece_2048 (k : Fin 1024) : k0_pay31 (F := Ideal) i x0 x1 x2 x3 x4 x5 x6 x7 x8 x9 x10 x11 x12 x13 x14 x15 x16 (ix2 0 k) = x7 (ix3 0 0 ⟨2048 + k.val, by omega⟩) := by
  pointwise [k0_pay31, k0_pay8]

/-- The shift of the second modulation. -/
theorem piece_3072 (k : Fin 1024) : k0_pay32 (F := Ideal) i x0 x1 x2 x3 x4 x5 x6 x7 x8 x9 x10 x11 x12 x13 x14 x15 x16 (ix2 0 k) = x7 (ix3 0 0 ⟨3072 + k.val, by omega⟩) := by
  pointwise [k0_pay32, k0_pay9]

/-- The scale of the second modulation. -/
theorem piece_4096 (k : Fin 1024) : k0_pay33 (F := Ideal) i x0 x1 x2 x3 x4 x5 x6 x7 x8 x9 x10 x11 x12 x13 x14 x15 x16 (ix2 0 k) = x7 (ix3 0 0 ⟨4096 + k.val, by omega⟩) := by
  pointwise [k0_pay33, k0_pay10]

/-- What one step leaves in its first output block, over the token's row and the projection. -/
theorem block_17 (r : Fin 512) (d : Fin 1024) :
    out0_17 (F := Ideal) i x0 x1 x2 x3 x4 x5 x6 x7 x8 x9 x10 x11 x12 x13 x14 x15 x16 (ix2 r d)
      = settled (fun k => k0_pay29 i x0 x1 x2 x3 x4 x5 x6 x7 x8 x9 x10 x11 x12 x13 x14 x15 x16 (ix2 r k)) (fun k => k0_pay30 i x0 x1 x2 x3 x4 x5 x6 x7 x8 x9 x10 x11 x12 x13 x14 x15 x16 (ix2 r k))
          (fun k => x7 (ix3 0 0 ⟨2048 + k.val, by omega⟩)) (fun k => x12 (ix2 0 k)) (fun k => x13 (ix2 0 k)) d := by
  frame_out
  pointwise [k0_pay11]
  simp only [piece_2048]
  rfl

/-- The same, named a second time in the step. -/
theorem again (r : Fin 512) (d : Fin 1024) :
    k0_pay34 (F := Ideal) i x0 x1 x2 x3 x4 x5 x6 x7 x8 x9 x10 x11 x12 x13 x14 x15 x16 (ix2 r d)
      = settled (fun k => k0_pay29 i x0 x1 x2 x3 x4 x5 x6 x7 x8 x9 x10 x11 x12 x13 x14 x15 x16 (ix2 r k)) (fun k => k0_pay30 i x0 x1 x2 x3 x4 x5 x6 x7 x8 x9 x10 x11 x12 x13 x14 x15 x16 (ix2 r k))
          (fun k => x7 (ix3 0 0 ⟨2048 + k.val, by omega⟩)) (fun k => x12 (ix2 0 k)) (fun k => x13 (ix2 0 k)) d := by
  pointwise [k0_pay34, k0_pay11]
  simp only [piece_2048]
  rfl

/-- The mean of that row. -/
theorem mean (r : Fin 512) (d : Fin 1024) :
    k0_pay35 (F := Ideal) i x0 x1 x2 x3 x4 x5 x6 x7 x8 x9 x10 x11 x12 x13 x14 x15 x16 (ix2 r d) = Ideal.div (∑ k, k0_pay34 i x0 x1 x2 x3 x4 x5 x6 x7 x8 x9 x10 x11 x12 x13 x14 x15 x16 (ix2 r k)) width := by
  pointwise [k0_pay35, k0_pay12, k0_pay34]
  rfl

/-- What one step leaves in its second output block. -/
theorem block_18 (r : Fin 512) (d : Fin 1024) :
    out0_18 (F := Ideal) i x0 x1 x2 x3 x4 x5 x6 x7 x8 x9 x10 x11 x12 x13 x14 x15 x16 (ix2 r d)
      = modulated (settled (fun k => k0_pay29 i x0 x1 x2 x3 x4 x5 x6 x7 x8 x9 x10 x11 x12 x13 x14 x15 x16 (ix2 r k)) (fun k => k0_pay30 i x0 x1 x2 x3 x4 x5 x6 x7 x8 x9 x10 x11 x12 x13 x14 x15 x16 (ix2 r k))
          (fun k => x7 (ix3 0 0 ⟨2048 + k.val, by omega⟩)) (fun k => x12 (ix2 0 k)) (fun k => x13 (ix2 0 k)))
          (fun k => x7 (ix3 0 0 ⟨4096 + k.val, by omega⟩)) (fun k => x7 (ix3 0 0 ⟨3072 + k.val, by omega⟩)) d := by
  frame_out
  pointwise [k0_pay13, k0_pay14]
  simp only [mean, piece_3072, piece_4096, again]
  rfl

end Block

/-! What step `t` reads and writes: the index of each window's block. -/

/-- A step's coordinate is its number. -/
theorem coord : ∀ t : Fin grid0.N, (grid0.coords t 0).val = t.val := by decide +kernel
/-- The prompt's tokens stay at their last block after step seven. -/
theorem index_0 : ∀ t : Fin grid0.N, win0_0.index t = ![min t.val 7, 0] := by decide +kernel
/-- The latents' tokens start at step eight. -/
theorem index_1 : ∀ t : Fin grid0.N, win0_1.index t = ![t.val - 8, 0] := by decide +kernel
/-- The position codes alternate between their two blocks. -/
theorem index_2 : ∀ t : Fin grid0.N, win0_2.index t = ![(t.val - 8) % 2, 0] := by decide +kernel
/-- The prompt's convolution rows go with the prompt's tokens. -/
theorem index_3 : ∀ t : Fin grid0.N, win0_3.index t = ![min t.val 7, 0] := by decide +kernel
/-- The latents' convolution rows go with the latents. -/
theorem index_4 : ∀ t : Fin grid0.N, win0_4.index t = ![t.val - 8, 0] := by decide +kernel
/-- The prompt's state-space rows go with the prompt's tokens. -/
theorem index_5 : ∀ t : Fin grid0.N, win0_5.index t = ![min t.val 7, 0] := by decide +kernel
/-- The latents' state-space rows go with the latents. -/
theorem index_6 : ∀ t : Fin grid0.N, win0_6.index t = ![t.val - 8, 0] := by decide +kernel
/-- The modulation rows: the first for the prompt, one per two steps for the latents. -/
theorem index_7 : ∀ t : Fin grid0.N, win0_7.index t = ![if t.val < 8 then 0 else 1 + (t.val - 8) / 2, 0, 0] := by decide +kernel
/-- One block. -/
theorem index_8 : ∀ t : Fin grid0.N, win0_8.index t = ![0, 0] := by decide +kernel
/-- One block. -/
theorem index_9 : ∀ t : Fin grid0.N, win0_9.index t = ![0, 0] := by decide +kernel
/-- One block. -/
theorem index_10 : ∀ t : Fin grid0.N, win0_10.index t = ![0, 0] := by decide +kernel
/-- One block. -/
theorem index_11 : ∀ t : Fin grid0.N, win0_11.index t = ![0, 0] := by decide +kernel
/-- One block. -/
theorem index_12 : ∀ t : Fin grid0.N, win0_12.index t = ![0, 0] := by decide +kernel
/-- One block. -/
theorem index_13 : ∀ t : Fin grid0.N, win0_13.index t = ![0, 0] := by decide +kernel
/-- The first result goes with the step. -/
theorem index_17 : ∀ t : Fin grid0.N, win0_17.index t = ![t.val, 0] := by decide +kernel
/-- The second result goes with the step. -/
theorem index_18 : ∀ t : Fin grid0.N, win0_18.index t = ![t.val, 0] := by decide +kernel

variable (m : (ℓ : Loc nD τ sig) → Buf (Elt Ideal) ℓ)

/-- The prompt's tokens as one array of rows. -/
theorem entry_12 (c : Dev nD) (q : Fin 4096) (k : Fin 1024) : V m c main_v12 (ix2 q k) = m ((c.tc : Thread nD τ).loc main_arg0) (ix3 ⟨q.val / 256, by omega⟩ ⟨q.val % 256, by omega⟩ k) := by
  unfold V
  simp only [hostOps0, hostOps0_1, hostOps0_2, hostOps0_3, hostOps0_4, List.flatten_cons, List.flatten_nil, List.append_nil, List.cons_append, List.nil_append]
  after_reads_at

/-- The latents' tokens as one array of rows. -/
theorem entry_13 (c : Dev nD) (q : Fin 8192) (k : Fin 1024) : V m c main_v13 (ix2 q k) = m ((c.tc : Thread nD τ).loc main_arg1) (ix3 ⟨q.val / 1024, by omega⟩ ⟨q.val % 1024, by omega⟩ k) := by
  unfold V
  simp only [hostOps0, hostOps0_1, hostOps0_2, hostOps0_3, hostOps0_4, List.flatten_cons, List.flatten_nil, List.append_nil, List.cons_append, List.nil_append]
  after_reads_at

/-- The gate's weights, cast. -/
theorem entry_14 (c : Dev nD) (x d : Fin 512) : V m c main_v14 (ix2 x d) = m ((c.tc : Thread nD τ).loc main_arg8) (ix2 x d) := by
  unfold V
  simp only [hostOps0, hostOps0_1, hostOps0_2, hostOps0_3, hostOps0_4, List.flatten_cons, List.flatten_nil, List.append_nil, List.cons_append, List.nil_append]
  after_reads_at

/-- The gate's bias as a row. -/
theorem entry_15 (c : Dev nD) (d : Fin 512) : V m c main_v15 (ix2 0 d) = m ((c.tc : Thread nD τ).loc main_arg9) (ix1 d) := by
  unfold V
  simp only [hostOps0, hostOps0_1, hostOps0_2, hostOps0_3, hostOps0_4, List.flatten_cons, List.flatten_nil, List.append_nil, List.cons_append, List.nil_append]
  after_reads_at

/-- The scales as a row. -/
theorem entry_16 (c : Dev nD) (d : Fin 1024) : V m c main_v16 (ix2 0 d) = m ((c.tc : Thread nD τ).loc main_arg10) (ix1 d) := by
  unfold V
  simp only [hostOps0, hostOps0_1, hostOps0_2, hostOps0_3, hostOps0_4, List.flatten_cons, List.flatten_nil, List.append_nil, List.cons_append, List.nil_append]
  after_reads_at

/-- The output weights, cast. -/
theorem entry_17 (c : Dev nD) (x d : Fin 1024) : V m c main_v17 (ix2 x d) = m ((c.tc : Thread nD τ).loc main_arg11) (ix2 x d) := by
  unfold V
  simp only [hostOps0, hostOps0_1, hostOps0_2, hostOps0_3, hostOps0_4, List.flatten_cons, List.flatten_nil, List.append_nil, List.cons_append, List.nil_append]
  after_reads_at

/-- The normalisation's scale as a row. -/
theorem entry_18 (c : Dev nD) (d : Fin 1024) : V m c main_v18 (ix2 0 d) = m ((c.tc : Thread nD τ).loc main_arg12) (ix1 d) := by
  unfold V
  simp only [hostOps0, hostOps0_1, hostOps0_2, hostOps0_3, hostOps0_4, List.flatten_cons, List.flatten_nil, List.append_nil, List.cons_append, List.nil_append]
  after_reads_at

/-- The normalisation's shift as a row. -/
theorem entry_19 (c : Dev nD) (d : Fin 1024) : V m c main_v19 (ix2 0 d) = m ((c.tc : Thread nD τ).loc main_arg13) (ix1 d) := by
  unfold V
  simp only [hostOps0, hostOps0_1, hostOps0_2, hostOps0_3, hostOps0_4, List.flatten_cons, List.flatten_nil, List.append_nil, List.cons_append, List.nil_append]
  after_reads_at

/-- The modulation rows, one block each. -/
theorem entry_20 (c : Dev nD) (b : Fin 16) (k : Fin 6144) : V m c main_v20 (ix3 b 0 k) = m ((c.tc : Thread nD τ).loc main_arg7) (ix2 b k) := by
  unfold V
  simp only [hostOps0, hostOps0_1, hostOps0_2, hostOps0_3, hostOps0_4, List.flatten_cons, List.flatten_nil, List.append_nil, List.cons_append, List.nil_append]
  after_reads_at

/-- The prompt's tokens that an early step reads. -/
theorem read_0 (c : Dev nD) (t : Fin cfg0.N) (h8 : t.val < 8) (r : Fin 512) (k : Fin 1024) (q : Fin 4096) (hq : q.val = 512 * t.val + r.val) :
    iblk m c 0 t (ix2 r k) = m ((c.tc : Thread nD τ).loc main_arg0) (ix3 ⟨q.val / 256, by omega⟩ ⟨q.val % 256, by omega⟩ k) := by
  have h := index_0 t
  have h7 : min t.val 7 = t.val := by omega
  rw [h7] at h
  refine Eq.trans ?_ (entry_12 m c q k)
  blk_ext [iblk, h]

/-- The latents' tokens that a later step reads. -/
theorem read_1 (c : Dev nD) (t : Fin cfg0.N) (r : Fin 512) (k : Fin 1024) (q : Fin 8192) (hq : q.val = 512 * (t.val - 8) + r.val) :
    iblk m c 1 t (ix2 r k) = m ((c.tc : Thread nD τ).loc main_arg1) (ix3 ⟨q.val / 1024, by omega⟩ ⟨q.val % 1024, by omega⟩ k) := by
  have h := index_1 t
  refine Eq.trans ?_ (entry_13 m c q k)
  blk_ext [iblk, h]

/-- The position codes that a later step reads. -/
theorem read_2 (c : Dev nD) (t : Fin cfg0.N) (r : Fin 512) (k : Fin 1024) (q : Fin 1024) (hq : q.val = 512 * ((t.val - 8) % 2) + r.val) :
    iblk m c 2 t (ix2 r k) = m ((c.tc : Thread nD τ).loc main_arg2) (ix2 q k) := by
  have h := index_2 t
  refine Eq.trans ?_ (congrFun (V_main_arg2 m c) (ix2 q k))
  blk_ext [iblk, h]

/-- The prompt's convolution rows that an early step reads. -/
theorem read_3 (c : Dev nD) (t : Fin cfg0.N) (h8 : t.val < 8) (r k : Fin 512) (q : Fin 4096) (hq : q.val = 512 * t.val + r.val) :
    iblk m c 3 t (ix2 r k) = m ((c.tc : Thread nD τ).loc main_arg3) (ix2 q k) := by
  have h := index_3 t
  have h7 : min t.val 7 = t.val := by omega
  rw [h7] at h
  refine Eq.trans ?_ (congrFun (V_main_arg3 m c) (ix2 q k))
  blk_ext [iblk, h]

/-- The latents' convolution rows that a later step reads. -/
theorem read_4 (c : Dev nD) (t : Fin cfg0.N) (r k : Fin 512) (q : Fin 8192) (hq : q.val = 512 * (t.val - 8) + r.val) :
    iblk m c 4 t (ix2 r k) = m ((c.tc : Thread nD τ).loc main_arg4) (ix2 q k) := by
  have h := index_4 t
  refine Eq.trans ?_ (congrFun (V_main_arg4 m c) (ix2 q k))
  blk_ext [iblk, h]

/-- The prompt's state-space rows that an early step reads. -/
theorem read_5 (c : Dev nD) (t : Fin cfg0.N) (h8 : t.val < 8) (r k : Fin 512) (q : Fin 4096) (hq : q.val = 512 * t.val + r.val) :
    iblk m c 5 t (ix2 r k) = m ((c.tc : Thread nD τ).loc main_arg5) (ix2 q k) := by
  have h := index_5 t
  have h7 : min t.val 7 = t.val := by omega
  rw [h7] at h
  refine Eq.trans ?_ (congrFun (V_main_arg5 m c) (ix2 q k))
  blk_ext [iblk, h]

/-- The latents' state-space rows that a later step reads. -/
theorem read_6 (c : Dev nD) (t : Fin cfg0.N) (r k : Fin 512) (q : Fin 8192) (hq : q.val = 512 * (t.val - 8) + r.val) :
    iblk m c 6 t (ix2 r k) = m ((c.tc : Thread nD τ).loc main_arg6) (ix2 q k) := by
  have h := index_6 t
  refine Eq.trans ?_ (congrFun (V_main_arg6 m c) (ix2 q k))
  blk_ext [iblk, h]

/-- The modulation row that a step reads. -/
theorem read_7 (c : Dev nD) (t : Fin cfg0.N) (n : Fin 12288) (r : Fin 512) (hn : n.val = 512 * t.val + r.val) (k : Fin 6144) :
    iblk m c 7 t (ix3 0 0 k) = mods (m ((c.tc : Thread nD τ).loc main_arg7)) n k := by
  have h := index_7 t
  unfold mods
  by_cases h8 : t.val < 8
  · rw [if_pos h8] at h
    rw [dif_pos (by omega)]
    refine Eq.trans ?_ (entry_20 m c 0 k)
    blk_ext [iblk, h]
  · rw [if_neg h8] at h
    rw [dif_neg (by omega)]
    refine Eq.trans ?_ (entry_20 m c _ k)
    blk_ext [iblk, h]

/-- The gate's weights, whole at every step. -/
theorem read_8 (c : Dev nD) (t : Fin cfg0.N) (x d : Fin 512) : iblk m c 8 t (ix2 x d) = m ((c.tc : Thread nD τ).loc main_arg8) (ix2 x d) := by
  have h := index_8 t
  refine Eq.trans ?_ (entry_14 m c x d)
  blk_ext [iblk, h]

/-- The gate's bias, whole at every step. -/
theorem read_9 (c : Dev nD) (t : Fin cfg0.N) (d : Fin 512) : iblk m c 9 t (ix2 0 d) = m ((c.tc : Thread nD τ).loc main_arg9) (ix1 d) := by
  have h := index_9 t
  refine Eq.trans ?_ (entry_15 m c d)
  blk_ext [iblk, h]

/-- The scales, whole at every step. -/
theorem read_10 (c : Dev nD) (t : Fin cfg0.N) (d : Fin 1024) : iblk m c 10 t (ix2 0 d) = m ((c.tc : Thread nD τ).loc main_arg10) (ix1 d) := by
  have h := index_10 t
  refine Eq.trans ?_ (entry_16 m c d)
  blk_ext [iblk, h]

/-- The output weights, whole at every step. -/
theorem read_11 (c : Dev nD) (t : Fin cfg0.N) (x d : Fin 1024) : iblk m c 11 t (ix2 x d) = m ((c.tc : Thread nD τ).loc main_arg11) (ix2 x d) := by
  have h := index_11 t
  refine Eq.trans ?_ (entry_17 m c x d)
  blk_ext [iblk, h]

/-- The normalisation's scale, whole at every step. -/
theorem read_12 (c : Dev nD) (t : Fin cfg0.N) (d : Fin 1024) : iblk m c 12 t (ix2 0 d) = m ((c.tc : Thread nD τ).loc main_arg12) (ix1 d) := by
  have h := index_12 t
  refine Eq.trans ?_ (entry_18 m c d)
  blk_ext [iblk, h]

/-- The normalisation's shift, whole at every step. -/
theorem read_13 (c : Dev nD) (t : Fin cfg0.N) (d : Fin 1024) : iblk m c 13 t (ix2 0 d) = m ((c.tc : Thread nD τ).loc main_arg13) (ix1 d) := by
  have h := index_13 t
  refine Eq.trans ?_ (entry_19 m c d)
  blk_ext [iblk, h]

/-- The token's row, as a step makes it. -/
theorem token_read (c : Dev nD) (t : Fin cfg0.N) (n : Fin 12288) (r : Fin 512) (hn : n.val = 512 * t.val + r.val) (k : Fin 1024) :
    k0_pay29 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (ix2 r k)
      = token (m ((c.tc : Thread nD τ).loc main_arg0)) (m ((c.tc : Thread nD τ).loc main_arg1)) (m ((c.tc : Thread nD τ).loc main_arg2)) n k := by
  have hc := coord t
  have ht := t.isLt
  unfold token
  by_cases h8 : t.val < 8
  · rw [dif_pos (by omega), token_early _ _ _ _ _ _ _ _ _ _ _ _ _ _ _ _ _ _ (by rw [hc]; exact h8)]
    exact read_0 m c t h8 r k ⟨n.val, by omega⟩ hn
  · rw [dif_neg (by omega), token_late _ _ _ _ _ _ _ _ _ _ _ _ _ _ _ _ _ _ (by rw [hc]; exact h8)]
    exact congrArg₂ (· + ·) (read_1 m c t r k ⟨n.val - 4096, by omega⟩ (by show n.val - 4096 = _; omega))
      (read_2 m c t r k ⟨(n.val - 4096) % 1024, by omega⟩ (by show (n.val - 4096) % 1024 = _; omega))

/-- The projection, as a step makes it. -/
theorem projected_read (c : Dev nD) (t : Fin cfg0.N) (n : Fin 12288) (r : Fin 512) (hn : n.val = 512 * t.val + r.val) (k : Fin 1024) :
    k0_pay30 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (ix2 r k)
      = projected (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg8)) (m ((c.tc : Thread nD τ).loc main_arg9)) (m ((c.tc : Thread nD τ).loc main_arg10)) (m ((c.tc : Thread nD τ).loc main_arg11)) n k := by
  have hc := coord t
  have ht := t.isLt
  unfold projected
  by_cases h8 : t.val < 8
  · rw [mixture_early _ _ _ _ _ _ _ _ _ _ _ _ _ _ _ _ _ _ (by rw [hc]; exact h8)]
    have hu : (fun k => iblk m c 3 t (ix2 r k)) = pick (m ((c.tc : Thread nD τ).loc main_arg3)) (m ((c.tc : Thread nD τ).loc main_arg4)) n := by
      funext k
      unfold pick
      rw [dif_pos (by omega)]
      exact read_3 m c t h8 r k ⟨n.val, by omega⟩ hn
    have hv : (fun k => iblk m c 5 t (ix2 r k)) = pick (m ((c.tc : Thread nD τ).loc main_arg5)) (m ((c.tc : Thread nD τ).loc main_arg6)) n := by
      funext k
      unfold pick
      rw [dif_pos (by omega)]
      exact read_5 m c t h8 r k ⟨n.val, by omega⟩ hn
    unfold mixture gated
    rw [hu, hv]
    simp only [read_8, read_9, read_10, read_11]
  · rw [mixture_late _ _ _ _ _ _ _ _ _ _ _ _ _ _ _ _ _ _ (by rw [hc]; exact h8)]
    have hu : (fun k => iblk m c 4 t (ix2 r k)) = pick (m ((c.tc : Thread nD τ).loc main_arg3)) (m ((c.tc : Thread nD τ).loc main_arg4)) n := by
      funext k
      unfold pick
      rw [dif_neg (by omega)]
      exact read_4 m c t r k ⟨n.val - 4096, by omega⟩ (by show n.val - 4096 = _; omega)
    have hv : (fun k => iblk m c 6 t (ix2 r k)) = pick (m ((c.tc : Thread nD τ).loc main_arg5)) (m ((c.tc : Thread nD τ).loc main_arg6)) n := by
      funext k
      unfold pick
      rw [dif_neg (by omega)]
      exact read_6 m c t r k ⟨n.val - 4096, by omega⟩ (by show n.val - 4096 = _; omega)
    unfold mixture gated
    rw [hu, hv]
    simp only [read_8, read_9, read_10, read_11]

end Cert.Kernel6Ideal.Value

end
-- ==== Proof.Route.lean ====
/- The choice of a token's group and of its two experts, as formulas over the extended reals: the first greatest of some
   entries, the two largest, and the gates made of them; and how a masked row of 128 lanes yields the same choice. -/
module

public import proofs.«01_k».proof.Proof.Finite
public import Idealize.ShloMosaic.Lib.Pointwise

@[expose] public section

noncomputable section

namespace Cert.Route

open Idealize.ShloMosaic

/-- Entry `g` is the first of the greatest entries. -/
def Best {n : ℕ} (f : Fin n → EReal) (g : Fin n) : Prop := ∀ j, (j < g → f j < f g) ∧ f j ≤ f g

/-- Entry `b` is the first of the greatest entries other than entry `a`. -/
def Next {n : ℕ} (f : Fin n → EReal) (a b : Fin n) : Prop := b ≠ a ∧ ∀ j, j ≠ a → (j < b → f j < f b) ∧ f j ≤ f b

/-- Among the entries of a nonempty set there is a first greatest one. -/
theorem exists_first {n : ℕ} (f : Fin n → EReal) (s : Finset (Fin n)) (hs : s.Nonempty) :
    ∃ g ∈ s, ∀ j ∈ s, (j < g → f j < f g) ∧ f j ≤ f g := by
  obtain ⟨g0, h0, hm⟩ := s.exists_max_image f hs
  obtain ⟨g, ⟨hg, hgm⟩, hmin⟩ := WellFounded.has_min (wellFounded_lt (α := Fin n)) {g | g ∈ s ∧ ∀ j ∈ s, f j ≤ f g} ⟨g0, h0, hm⟩
  refine ⟨g, hg, fun j hj => ⟨fun hlt => lt_of_le_of_ne (hgm j hj) fun e => hmin j ⟨hj, fun k hk => ?_⟩ hlt, hgm j hj⟩⟩
  rw [e]; exact hgm k hk

/-- Four entries have a first greatest one. -/
theorem exists_best (f : Fin 4 → EReal) : ∃ g, Best f g := by
  obtain ⟨g, -, h⟩ := exists_first f Finset.univ ⟨0, Finset.mem_univ _⟩
  exact ⟨g, fun j => h j (Finset.mem_univ _)⟩

/-- Four entries less one have a first greatest one. -/
theorem exists_next (f : Fin 4 → EReal) (a : Fin 4) : ∃ b, Next f a b := by
  obtain ⟨g, hg, h⟩ := exists_first f (Finset.univ.erase a) (by revert a; decide)
  exact ⟨g, (Finset.mem_erase.1 hg).1, fun j hj => h j (Finset.mem_erase.2 ⟨hj, Finset.mem_univ _⟩)⟩

/-- A lane's number as an entry. -/
def lane (j : Fin 128) : EReal := ((j.val : ℝ) : EReal)

/-- The lane's word converted to a float is its number. -/
theorem word_lane (j : Fin 128) : (FloatOps.sitofp .f32 (BitVec.ofNat 32 j.val) : Ideal .f32) = lane j := by
  change (((BitVec.ofNat 32 j.val).toInt : ℝ) : EReal) = ((j.val : ℝ) : EReal)
  have : (BitVec.ofNat 32 j.val).toInt = (j.val : ℤ) := by
    revert j; decide
  rw [this]; rfl

/-- The word of sixteen. -/
theorem bits_16 : Ideal.ofBits .f32 1098907648#32 = ((16 : ℝ) : EReal) := by simp [Ideal.ofBits, Ideal.ieee, -EReal.coe_mul]; norm_num
/-- The word of four. -/
theorem bits_4 : Ideal.ofBits .f32 1082130432#32 = ((4 : ℝ) : EReal) := by simp [Ideal.ofBits, Ideal.ieee, -EReal.coe_mul]; norm_num
/-- The word of one hundred and twenty-eight. -/
theorem bits_128 : Ideal.ofBits .f32 1124073472#32 = ((128 : ℝ) : EReal) := by simp [Ideal.ofBits, Ideal.ieee, -EReal.coe_mul]; norm_num
/-- The word of minus infinity. -/
theorem bits_bot : Ideal.ofBits .f32 4286578688#32 = ⊥ := by simp [Ideal.ofBits, Ideal.ieee]
/-- The word of plus infinity. -/
theorem bits_top : Ideal.ofBits .f32 2139095040#32 = ⊤ := by simp [Ideal.ofBits, Ideal.ieee]

/-- The greatest of a row's lanes is its first greatest one. -/
theorem fold_max_best {n : ℕ} (s : Fin n → EReal) (k : Fin n) (h : Best s k) : Finset.fold max ⊥ s Finset.univ = s k :=
  le_antisymm (Finset.fold_max_le _ |>.2 ⟨bot_le, fun j _ => (h j).2⟩) (Finset.le_fold_max _ |>.2 (Or.inr ⟨k, Finset.mem_univ _, le_rfl⟩))

/-- The least lane that holds the greatest entry is the first greatest one. -/
theorem fold_min_best (s : Fin 128 → EReal) (k : Fin 128) (h : Best s k) :
    Finset.fold min ⊤ (fun j => if s j = s k then lane j else ((128 : ℝ) : EReal)) Finset.univ = lane k := by
  refine le_antisymm (Finset.fold_min_le _ |>.2 (Or.inr ⟨k, Finset.mem_univ _, by simp⟩)) (Finset.le_fold_min _ |>.2 ⟨le_top, fun j _ => ?_⟩)
  split
  · rename_i e
    have : ¬ j < k := fun hlt => (ne_of_lt ((h j).1 hlt)) e
    exact EReal.coe_le_coe_iff.2 (by exact_mod_cast not_lt.1 this)
  · exact EReal.coe_le_coe_iff.2 (by exact_mod_cast k.isLt.le)

/-- The lanes of the groups' logits. -/
def groupLane (q : Fin 4) : Fin 128 := ⟨16 + q.val, by omega⟩

/-- The lane of expert `e` of group `g`. -/
def expertLane (g e : Fin 4) : Fin 128 := ⟨4 * g.val + e.val, by omega⟩

/-- A row with all but the groups' lanes at minus infinity. -/
def groups (z : Fin 128 → EReal) (j : Fin 128) : EReal := if 16 ≤ j.val ∧ j.val < 20 then z j else ⊥

/-- A row with all but one group's experts at minus infinity. -/
def experts (z : Fin 128 → EReal) (g : Fin 4) (j : Fin 128) : EReal := if 4 * g.val ≤ j.val ∧ j.val < 4 * g.val + 4 then z j else ⊥

/-- The group's first greatest entry is the masked row's. -/
theorem best_groups (z : Fin 128 → EReal) (g : Fin 4) (hb : Best (fun q => z (groupLane q)) g) (hz : z (groupLane g) ≠ ⊥) :
    Best (groups z) (groupLane g) := by
  have e : groups z (groupLane g) = z (groupLane g) := if_pos ⟨by simp [groupLane], by simp [groupLane]; omega⟩
  intro j
  rw [e]
  by_cases hj : 16 ≤ j.val ∧ j.val < 20
  · have ej : j = groupLane ⟨j.val - 16, by omega⟩ := Fin.ext (by simp [groupLane]; omega)
    have := hb ⟨j.val - 16, by omega⟩
    dsimp only at this
    rw [← ej] at this
    rw [groups, if_pos hj]
    exact ⟨fun hlt => this.1 (by rw [Fin.lt_def] at hlt ⊢; simp [groupLane] at hlt ⊢; omega), this.2⟩
  · rw [groups, if_neg hj]
    exact ⟨fun _ => bot_lt_iff_ne_bot.2 hz, bot_le⟩

/-- The first greatest of a group's experts is the masked row's. -/
theorem best_experts (z : Fin 128 → EReal) (g a : Fin 4) (hb : Best (fun e => z (expertLane g e)) a) (hz : z (expertLane g a) ≠ ⊥) :
    Best (experts z g) (expertLane g a) := by
  have e : experts z g (expertLane g a) = z (expertLane g a) := if_pos ⟨by simp [expertLane], by simp [expertLane]⟩
  intro j
  rw [e]
  by_cases hj : 4 * g.val ≤ j.val ∧ j.val < 4 * g.val + 4
  · have ej : j = expertLane g ⟨j.val - 4 * g.val, by omega⟩ := Fin.ext (by simp [expertLane]; omega)
    have := hb ⟨j.val - 4 * g.val, by omega⟩
    dsimp only at this
    rw [← ej] at this
    rw [experts, if_pos hj]
    exact ⟨fun hlt => this.1 (by rw [Fin.lt_def] at hlt ⊢; simp [expertLane] at hlt ⊢; omega), this.2⟩
  · rw [experts, if_neg hj]
    exact ⟨fun _ => bot_lt_iff_ne_bot.2 hz, bot_le⟩

/-- The second is the masked row's with the first taken out. -/
theorem best_rest (z : Fin 128 → EReal) (g a b : Fin 4) (hb : Next (fun e => z (expertLane g e)) a b) (hz : z (expertLane g b) ≠ ⊥) :
    Best (fun j => if j = expertLane g a then ⊥ else experts z g j) (expertLane g b) := by
  have e : experts z g (expertLane g b) = z (expertLane g b) := if_pos ⟨by simp [expertLane], by simp [expertLane]⟩
  have hne : expertLane g b ≠ expertLane g a := fun h => hb.1 (Fin.ext (by have := congrArg Fin.val h; simp [expertLane] at this; omega))
  intro j
  dsimp only
  rw [if_neg hne, e]
  by_cases hja : j = expertLane g a
  · rw [if_pos hja]
    exact ⟨fun _ => bot_lt_iff_ne_bot.2 hz, bot_le⟩
  rw [if_neg hja]
  by_cases hj : 4 * g.val ≤ j.val ∧ j.val < 4 * g.val + 4
  · have ej : j = expertLane g ⟨j.val - 4 * g.val, by omega⟩ := Fin.ext (by simp [expertLane]; omega)
    have := hb.2 ⟨j.val - 4 * g.val, by omega⟩ (fun h => hja (by rw [ej, h]))
    dsimp only at this
    rw [← ej] at this
    rw [experts, if_pos hj]
    exact ⟨fun hlt => this.1 (by rw [Fin.lt_def] at hlt ⊢; simp [expertLane] at hlt ⊢; omega), this.2⟩
  · rw [experts, if_neg hj]
    exact ⟨fun _ => bot_lt_iff_ne_bot.2 hz, bot_le⟩

/-- The sum over the groups' lanes alone. -/
theorem sum_groups (f : Fin 128 → EReal) : (∑ j : Fin 128, if 16 ≤ j.val ∧ j.val < 20 then f j else 0) = ∑ q, f (groupLane q) := by
  rw [← Finset.sum_filter]
  refine (Finset.sum_nbij' (fun q => groupLane q) (fun j => if h : 16 ≤ j.val ∧ j.val < 20 then ⟨j.val - 16, by omega⟩ else 0) ?_ ?_ ?_ ?_ ?_).symm
  · intro q _; simp [groupLane]; omega
  · intro j _; exact Finset.mem_univ _
  · intro q _; ext; simp [groupLane]; rw [if_pos (by omega)]
  · intro j hj
    have h := (Finset.mem_filter.1 hj).2
    rw [dif_pos h]; exact Fin.ext (by simp [groupLane]; omega)
  · intro q _; rfl

/-- The share of the chosen group: one over the sum of the groups' exponentials against the greatest. -/
def share (l : Fin 4 → EReal) (g : Fin 4) : EReal := Ideal.div 1 (∑ q, Ideal.exp (l q - l g))

/-- The exponential of the second expert's logit against the first's. -/
def second (l : Fin 4 → EReal) (a b : Fin 4) : EReal := Ideal.exp (l b - l a)

/-- Entry `k` of a token's row of gates: one at its group's lane, and the two experts' weights at theirs. -/
def gate (l : Fin 4 → EReal) (x : Fin 4 → Fin 4 → EReal) (g a b : Fin 4) (k : Fin 128) : EReal :=
  if k = groupLane g then 1
  else (if k = expertLane g a then Ideal.div 1 (1 + second (x g) a b) * share l g else 0)
    + (if k = expertLane g b then Ideal.div (second (x g) a b) (1 + second (x g) a b) * share l g else 0)

/-- The logit of group `q` of a token whose normalised row is `h`. -/
def groupLogit (h : Fin 1024 → EReal) (w : (⟨2, ![1024, 4]⟩ : Shape).Idx → EReal) (b : (⟨1, ![4]⟩ : Shape).Idx → EReal) (q : Fin 4) : EReal :=
  ∑ k, h k * w (ix2 k q) + b (ix1 q)

/-- The logit of expert `e` of group `g` of a token whose normalised row is `h`. -/
def expertLogit (h : Fin 1024 → EReal) (w : (⟨3, ![4, 1024, 4]⟩ : Shape).Idx → EReal) (b : (⟨2, ![4, 4]⟩ : Shape).Idx → EReal) (g e : Fin 4) : EReal :=
  ∑ k, h k * w (ix3 g k e) + b (ix2 g e)

/-- Entry of the router's weights as the kernel lays them out: the experts' columns, then the groups', then zeros. -/
def weight (w1 : (⟨2, ![1024, 4]⟩ : Shape).Idx → EReal) (w2 : (⟨3, ![4, 1024, 4]⟩ : Shape).Idx → EReal) (x : Fin 1024) (j : Fin 128) : EReal :=
  if h : j.val < 20 then
    if h' : j.val < 16 then w2 (ix3 ⟨j.val / 4, by omega⟩ x ⟨j.val % 4, by omega⟩) else w1 (ix2 x ⟨j.val - 16, by omega⟩)
  else 0

/-- Entry of the router's bias as the kernel lays it out. -/
def bias (b1 : (⟨1, ![4]⟩ : Shape).Idx → EReal) (b2 : (⟨2, ![4, 4]⟩ : Shape).Idx → EReal) (j : Fin 128) : EReal :=
  if h : j.val < 20 then
    if h' : j.val < 16 then b2 (ix2 ⟨j.val / 4, by omega⟩ ⟨j.val % 4, by omega⟩) else b1 (ix1 ⟨j.val - 16, by omega⟩)
  else 0

/-- A lane's logit. -/
def logit (h : Fin 1024 → EReal) (w1 : (⟨2, ![1024, 4]⟩ : Shape).Idx → EReal) (b1 : (⟨1, ![4]⟩ : Shape).Idx → EReal)
    (w2 : (⟨3, ![4, 1024, 4]⟩ : Shape).Idx → EReal) (b2 : (⟨2, ![4, 4]⟩ : Shape).Idx → EReal) (j : Fin 128) : EReal :=
  ∑ k, h k * weight w1 w2 k j + bias b1 b2 j

/-- The logit of a group's lane is the group's. -/
theorem logit_group (h : Fin 1024 → EReal) (w1 : (⟨2, ![1024, 4]⟩ : Shape).Idx → EReal) (b1 : (⟨1, ![4]⟩ : Shape).Idx → EReal)
    (w2 : (⟨3, ![4, 1024, 4]⟩ : Shape).Idx → EReal) (b2 : (⟨2, ![4, 4]⟩ : Shape).Idx → EReal) (q : Fin 4) :
    logit h w1 b1 w2 b2 (groupLane q) = groupLogit h w1 b1 q := by
  have hv : (groupLane q).val = 16 + q.val := rfl
  have h1 : ¬ (groupLane q).val < 16 := by omega
  have h2 : (groupLane q).val < 20 := by omega
  have e : (⟨(groupLane q).val - 16, by omega⟩ : Fin 4) = q := Fin.ext (by show (groupLane q).val - 16 = q.val; omega)
  unfold logit groupLogit weight bias
  simp only [dif_neg h1, dif_pos h2, e]

/-- The logit of an expert's lane is the expert's. -/
theorem logit_expert (h : Fin 1024 → EReal) (w1 : (⟨2, ![1024, 4]⟩ : Shape).Idx → EReal) (b1 : (⟨1, ![4]⟩ : Shape).Idx → EReal)
    (w2 : (⟨3, ![4, 1024, 4]⟩ : Shape).Idx → EReal) (b2 : (⟨2, ![4, 4]⟩ : Shape).Idx → EReal) (g e : Fin 4) :
    logit h w1 b1 w2 b2 (expertLane g e) = expertLogit h w2 b2 g e := by
  have hv : (expertLane g e).val = 4 * g.val + e.val := rfl
  have h1 : (expertLane g e).val < 16 := by omega
  have h2 : (expertLane g e).val < 20 := by omega
  have e1 : (⟨(expertLane g e).val / 4, by omega⟩ : Fin 4) = g := Fin.ext (by show (expertLane g e).val / 4 = g.val; omega)
  have e2 : (⟨(expertLane g e).val % 4, by omega⟩ : Fin 4) = e := Fin.ext (by show (expertLane g e).val % 4 = e.val; omega)
  unfold logit expertLogit weight bias
  simp only [dif_pos h1, dif_pos h2, e1, e2]

/-- The first greatest of four entries. -/
def best (f : Fin 4 → EReal) : Fin 4 := Classical.choose (exists_best f)

/-- It is that. -/
theorem best_spec (f : Fin 4 → EReal) : Best f (best f) := Classical.choose_spec (exists_best f)

/-- The first greatest of the other three entries. -/
def next (f : Fin 4 → EReal) (a : Fin 4) : Fin 4 := Classical.choose (exists_next f a)

/-- It is that. -/
theorem next_spec (f : Fin 4 → EReal) (a : Fin 4) : Next f a (next f a) := Classical.choose_spec (exists_next f a)

/-- A token's row of gates, from its logits. -/
def gates (l : Fin 4 → EReal) (x : Fin 4 → Fin 4 → EReal) (k : Fin 128) : EReal :=
  gate l x (best l) (best (x (best l))) (next (x (best l)) (best (x (best l)))) k

end Cert.Route

end
-- ==== Proof.RouteKernel.lean ====
/- The choice of the group and the experts, the kernel's side: what the masked rows of one step hold, in the formulas of
   Route.lean. -/
module

public import proofs.«01_k».proof.Proof.Gen.Kernel6Ideal.Value
public import proofs.«01_k».proof.Proof.Route
public import Idealize.ShloMosaic.Lib.Pipeline.ValueKit
public import Idealize.ShloMosaic.Lib.Pointwise

@[expose] public section

set_option maxRecDepth 16384

noncomputable section

namespace Cert.Kernel6Ideal.Value

open Cert.Kernel6Ideal Cert.Kernel6Ideal.Gen Cert.Route
open Idealize.ShloMosaic Idealize.ShloMosaic.TcCoe Idealize.ShloMosaic.Tactic Idealize.SL.Sem

/-- The lanes' numbers. -/
abbrev lanes : IVec S512x128 32 := iota .tc S512x128 32 [1] iota_S512x128_d1_w32

/-- The lanes of the groups, as the kernel's comparison of lane numbers picks them. -/
theorem groups_word : ∀ j : Fin 128, IntOp.andi (IntOp.cmpi CmpIPredicate.sge (BitVec.ofNat 32 j.val) 16#32)
    (IntOp.cmpi CmpIPredicate.slt (BitVec.ofNat 32 j.val) 20#32) = if 16 ≤ j.val ∧ j.val < 20 then 1#1 else 0#1 := by decide +kernel

/-- The mask of the groups' lanes. -/
theorem mask_groups (r : Fin 512) (j : Fin 128) : k0_pay18 lanes k0_pay17 (ix2 r j) = if 16 ≤ j.val ∧ j.val < 20 then 1#1 else 0#1 := by
  rw [← groups_word]
  pointwise [k0_pay18, k0_pay17]

/-- The lane numbers as floats. -/
theorem lane_apply (r : Fin 512) (j : Fin 128) : k0_pay16 (F := Ideal) (ix2 r j) = lane j := by
  rw [← word_lane]
  pointwise [k0_pay16]

variable (L : FVec Ideal S512x128 .f32) (r : Fin 512)

/-- The masked row of the groups. -/
theorem groups_apply (j : Fin 128) : k0_pay19 L lanes k0_pay17 (ix2 r j) = groups (fun j => L (ix2 r j)) j := by
  pointwise [k0_pay19]
  rw [mask_groups, bits_bot, groups]
  split <;> rfl

variable (g a b : Fin 4) (hz : ∀ j, ∃ x : ℝ, @Eq EReal (L (ix2 r j)) x)

include hz in
/-- A row of real entries holds no minus infinity. -/
theorem ne_bot (j : Fin 128) : @Ne EReal (L (ix2 r j)) ⊥ := by
  obtain ⟨x, h⟩ := hz j
  rw [h]; exact EReal.coe_ne_bot x

include hz

/-- The greatest logit of a group. -/
theorem top_apply (hg : Best (fun q => L (ix2 r (groupLane q))) g) : k0_pay20 L lanes k0_pay17 (ix2 r 0) = L (ix2 r (groupLane g)) := by
  pointwise [k0_pay20]
  simp only [groups_apply, bits_bot]
  rw [fold_max_best _ _ (best_groups _ g hg (ne_bot L r hz _)), groups, if_pos ⟨by simp [groupLane], by simp [groupLane]; omega⟩]

/-- The chosen group's number. -/
theorem group_apply (hg : Best (fun q => L (ix2 r (groupLane q))) g) : k0_pay21 L lanes k0_pay16 k0_pay17 (ix2 r 0) = (((g.val : ℝ)) : EReal) := by
  have hb := best_groups (fun j => L (ix2 r j)) g hg (ne_bot L r hz _)
  have e : L (ix2 r (groupLane g)) = groups (fun j => L (ix2 r j)) (groupLane g) := (if_pos ⟨by simp [groupLane], by simp [groupLane]; omega⟩).symm
  pointwise [k0_pay21]
  simp only [groups_apply, top_apply L r g hz hg, bits_top, bits_128, bits_16, lane_apply]
  rw [e, fold_min_best _ _ hb, lane, ← EReal.coe_sub]
  simp [groupLane]

/-- The chosen group's share. -/
theorem share_apply (hg : Best (fun q => L (ix2 r (groupLane q))) g) :
    k0_pay22 L lanes k0_pay17 (ix2 r 0) = share (fun q => L (ix2 r (groupLane q))) g := by
  pointwise [k0_pay22]
  simp only [top_apply L r g hz hg, mask_groups]
  rw [share, ← sum_groups (fun j => Ideal.exp (L (ix2 r j) - L (ix2 r (groupLane g))))]
  refine congrArg (Ideal.div 1) (Finset.sum_congr rfl fun j _ => ?_)
  split <;> rfl

omit hz in
/-- The comparisons that pick a group's experts, on the lanes' numbers. -/
theorem experts_cond (j : Fin 128) : (((g.val : ℝ) : EReal) * ((4 : ℝ) : EReal) ≤ lane j ↔ 4 * g.val ≤ j.val)
    ∧ (lane j < ((g.val : ℝ) : EReal) * ((4 : ℝ) : EReal) + ((4 : ℝ) : EReal) ↔ j.val < 4 * g.val + 4) := by
  rw [lane, ← EReal.coe_mul, ← EReal.coe_add, EReal.coe_le_coe_iff, EReal.coe_lt_coe_iff]
  constructor
  · rw [mul_comm]; exact_mod_cast Iff.rfl
  · rw [mul_comm]; exact_mod_cast Iff.rfl

/-- The masked row of the chosen group's experts. -/
theorem experts_apply (hg : Best (fun q => L (ix2 r (groupLane q))) g) (j : Fin 128) :
    k0_pay23 L lanes k0_pay16 k0_pay17 (ix2 r j) = experts (fun j => L (ix2 r j)) g j := by
  pointwise [k0_pay23]
  simp only [group_apply L r g hz hg, lane_apply, bits_4, bits_bot, (experts_cond g j).1, (experts_cond g j).2]
  rw [experts]
  by_cases h1 : 4 * g.val ≤ j.val <;> by_cases h2 : j.val < 4 * g.val + 4 <;> simp only [h1, h2] <;> rfl

variable (hg : Best (fun q => L (ix2 r (groupLane q))) g) (ha : Best (fun e => L (ix2 r (expertLane g e))) a)
include hg ha

/-- The greatest logit of the group's experts. -/
theorem first_apply : k0_pay24 L lanes k0_pay16 k0_pay17 (ix2 r 0) = L (ix2 r (expertLane g a)) := by
  pointwise [k0_pay24]
  simp only [experts_apply L r g hz hg, bits_bot]
  rw [fold_max_best _ _ (best_experts _ g a ha (ne_bot L r hz _)), experts, if_pos ⟨by simp [expertLane], by simp [expertLane]⟩]

/-- The first expert's lane. -/
theorem first_lane : k0_pay25 L lanes k0_pay16 k0_pay17 (ix2 r 0) = lane (expertLane g a) := by
  have hb := best_experts (fun j => L (ix2 r j)) g a ha (ne_bot L r hz _)
  have e : L (ix2 r (expertLane g a)) = experts (fun j => L (ix2 r j)) g (expertLane g a) := (if_pos ⟨by simp [expertLane], by simp [expertLane]⟩).symm
  pointwise [k0_pay25]
  simp only [experts_apply L r g hz hg, first_apply L r g a hz hg ha, bits_top, bits_128, lane_apply]
  rw [e, fold_min_best _ _ hb]

/-- The first expert's lane, repeated along the row. -/
theorem first_lane_row (j : Fin 128) : k0_pay26 L lanes k0_pay16 k0_pay17 (ix2 r j) = lane (expertLane g a) := by
  rw [← first_lane L r g a hz hg ha]
  pointwise [k0_pay26]

omit hz hg ha in
/-- Two lanes have the same number only if they are the same. -/
theorem lane_inj (i j : Fin 128) : lane i = lane j ↔ i = j := by
  rw [lane, lane, EReal.coe_eq_coe_iff, Nat.cast_inj, Fin.val_inj]

omit hz hg ha in
/-- The number of the group's lane. -/
theorem lane_group : ((g.val : ℝ) : EReal) + ((16 : ℝ) : EReal) = lane (groupLane g) := by
  rw [lane, ← EReal.coe_add]; simp [groupLane, add_comm]

omit hz hg ha in
/-- A row of the gates, over what the step holds before it. -/
theorem gate_form (G P V1 I1 : FVec Ideal S512x1 .f32) (S2 I1b : FVec Ideal S512x128 .f32) (s : Fin 128 → EReal) (p v : EReal) (u w : Fin 128) (hp : P (ix2 r 0) = p)
    (hG : G (ix2 r 0) = ((g.val : ℝ) : EReal)) (hS : ∀ j, S2 (ix2 r j) = s j) (hV : V1 (ix2 r 0) = v) (hI : I1 (ix2 r 0) = lane u)
    (hR : ∀ j, I1b (ix2 r j) = lane u) (hw : Best (fun j => if j = u then ⊥ else s j) w) (hne : w ≠ u) (j : Fin 128) :
    k0_pay27 k0_pay16 G P S2 V1 I1 I1b (ix2 r j)
      = if j = groupLane g then 1
        else (if j = u then Ideal.div 1 (1 + Ideal.exp (s w - v)) * p else 0)
          + (if j = w then Ideal.div (Ideal.exp (s w - v)) (1 + Ideal.exp (s w - v)) * p else 0) := by
  have hm := fold_max_best _ _ hw
  have hn := fold_min_best _ _ hw
  simp only [if_neg hne] at hm hn
  pointwise [k0_pay27]
  simp only [lane_apply, hG, hS, hV, hI, hR, hp]
  rw [bits_bot, bits_top, bits_128, bits_16, lane_group]
  simp only [lane_inj]
  rw [hm, hn]
  simp only [lane_inj]

/-- A row of the gates. -/
theorem gate_apply (hb : Next (fun e => L (ix2 r (expertLane g e))) a b) (j : Fin 128) :
    k0_pay27 k0_pay16 (k0_pay21 L lanes k0_pay16 k0_pay17) (k0_pay22 L lanes k0_pay17) (k0_pay23 L lanes k0_pay16 k0_pay17)
        (k0_pay24 L lanes k0_pay16 k0_pay17) (k0_pay25 L lanes k0_pay16 k0_pay17) (k0_pay26 L lanes k0_pay16 k0_pay17) (ix2 r j)
      = gate (fun q => L (ix2 r (groupLane q))) (fun q e => L (ix2 r (expertLane q e))) g a b j := by
  have hr := best_rest (fun j => L (ix2 r j)) g a b hb (ne_bot L r hz _)
  have hne : expertLane g b ≠ expertLane g a := fun h => hb.1 (Fin.ext (by have := congrArg Fin.val h; simp [expertLane] at this; omega))
  have ev : experts (fun j => L (ix2 r j)) g (expertLane g b) = L (ix2 r (expertLane g b)) := by
    rw [experts, if_pos ⟨by simp [expertLane], by simp [expertLane]⟩]
  rw [gate_form r g _ _ _ _ _ _ _ _ _ _ _ (share_apply L r g hz hg) (group_apply L r g hz hg) (experts_apply L r g hz hg)
    (first_apply L r g a hz hg ha) (first_lane L r g a hz hg ha) (first_lane_row L r g a hz hg ha) hr hne, ev]
  rfl

end Cert.Kernel6Ideal.Value

end
-- ==== Proof.RouteReal.lean ====
/- What stays real: the closure of the real entries under the programs' arithmetic, what the precondition of the routing
   says, and that a token's second modulated row is real when the arguments are. -/
module

public import proofs.«01_k».proof.Proof.Gen.Pre_all_finite
public import proofs.«01_k».proof.Proof.Finite
public import proofs.«01_k».proof.Proof.OutProj
public import proofs.«01_k».proof.Proof.Route

@[expose] public section

noncomputable section

namespace Cert.RealRow

open Idealize.ShloMosaic Cert.Layer Cert.OutProj

/-- An entry that is a real number. -/
def IsReal (x : EReal) : Prop := ∃ r : ℝ, x = r

/-- What one conjunct of the precondition says: every entry of the array is a real number. -/
theorem real_of_all {s t : Shape} {ds : List (Fin s.rank)} (x : FVec Ideal s .f32) (f : Fin t.rank → Fin s.rank) (hb : t.BroadcastsInDim s f) (hr : s.ReducesTo ds t) (h0 : 0 < t.numel)
    [Subsingleton t.Idx] (j : t.Idx)
    (h : Host.reduce IntOp.andi (cmpf .olt (Host.absf x) (broadcastInDim s f hb (constant (F := Ideal) t .f32 0x7F800000#32))) (constantI t 1 1#1) hr h0 j = 1#1) (y : s.Idx) :
    IsReal (x y) := by
  have g := Host.reduce_andi_all _ _ _ _ _ h y
  change BitVec.ofBool (decide (max (x y : EReal) (-(x y)) < Ideal.ofBits .f32 0x7F800000#32)) = 1#1 at g
  rw [Cert.Range.ofBool_eq_one, decide_eq_true_eq, Cert.Finite.top_bits] at g
  exact Cert.Finite.real_of_abs_lt g

/-- What the precondition says in words: every entry of every argument is a real number. -/
theorem reals [Pre_all_finite.Facts] (a0 : FVec Ideal Pre_all_finite.S16x256x1024 .f32) (a1 : FVec Ideal Pre_all_finite.S8x1024x1024 .f32) (a2 : FVec Ideal Pre_all_finite.S1024x1024 .f32) (a3 : FVec Ideal Pre_all_finite.S4096x512 .f32) (a4 : FVec Ideal Pre_all_finite.S8192x512 .f32) (a5 : FVec Ideal Pre_all_finite.S4096x512 .f32) (a6 : FVec Ideal Pre_all_finite.S8192x512 .f32) (a7 : FVec Ideal Pre_all_finite.S16x6144 .f32) (a8 : FVec Ideal Pre_all_finite.S512x512 .f32) (a9 : FVec Ideal Pre_all_finite.S512 .f32) (a10 : FVec Ideal Pre_all_finite.S1024 .f32) (a11 : FVec Ideal Pre_all_finite.S1024x1024 .f32) (a12 : FVec Ideal Pre_all_finite.S1024 .f32) (a13 : FVec Ideal Pre_all_finite.S1024 .f32) (a14 : FVec Ideal Pre_all_finite.S1024x4 .f32) (a15 : FVec Ideal Pre_all_finite.S4 .f32) (a16 : FVec Ideal Pre_all_finite.S4x1024x4 .f32) (a17 : FVec Ideal Pre_all_finite.S4x4 .f32)
    (h : Pre_all_finite.fn (F := Ideal) a0 a1 a2 a3 a4 a5 a6 a7 a8 a9 a10 a11 a12 a13 a14 a15 a16 a17 = fun _ => 1#1) :
    (∀ y, IsReal (a0 y))
      ∧ (∀ y, IsReal (a1 y))
      ∧ (∀ y, IsReal (a2 y))
      ∧ (∀ y, IsReal (a3 y))
      ∧ (∀ y, IsReal (a4 y))
      ∧ (∀ y, IsReal (a5 y))
      ∧ (∀ y, IsReal (a6 y))
      ∧ (∀ y, IsReal (a7 y))
      ∧ (∀ y, IsReal (a8 y))
      ∧ (∀ y, IsReal (a9 y))
      ∧ (∀ y, IsReal (a10 y))
      ∧ (∀ y, IsReal (a11 y))
      ∧ (∀ y, IsReal (a12 y))
      ∧ (∀ y, IsReal (a13 y))
      ∧ (∀ y, IsReal (a14 y))
      ∧ (∀ y, IsReal (a15 y))
      ∧ (∀ y, IsReal (a16 y))
      ∧ (∀ y, IsReal (a17 y)) := by
  have e := congrFun h (Shape.Idx.first (s := Pre_all_finite.S_) (by decide))
  simp only [Pre_all_finite.fn, Pre_all_finite.fn_part1, Pre_all_finite.fn_part2, Pre_all_finite.fn_part3, Pre_all_finite.fn_part4, Pre_all_finite.fn_part5, andi, Cert.Range.andi_eq_one] at e
  obtain ⟨⟨⟨⟨⟨⟨h0, h1⟩, h2⟩, ⟨⟨⟨h3, h4⟩, h5⟩, h6⟩⟩, ⟨⟨h7, h8⟩, h9⟩⟩, ⟨⟨⟨h10, h11⟩, h12⟩, h13⟩⟩, ⟨⟨⟨h14, h15⟩, h16⟩, h17⟩⟩ := e
  haveI : Subsingleton Pre_all_finite.S_.Idx := ⟨fun x y => funext fun a => a.elim0⟩
  exact ⟨real_of_all a0 _ _ _ _ _ h0, real_of_all a1 _ _ _ _ _ h1, real_of_all a2 _ _ _ _ _ h2, real_of_all a3 _ _ _ _ _ h3, real_of_all a4 _ _ _ _ _ h4, real_of_all a5 _ _ _ _ _ h5, real_of_all a6 _ _ _ _ _ h6, real_of_all a7 _ _ _ _ _ h7, real_of_all a8 _ _ _ _ _ h8, real_of_all a9 _ _ _ _ _ h9, real_of_all a10 _ _ _ _ _ h10, real_of_all a11 _ _ _ _ _ h11, real_of_all a12 _ _ _ _ _ h12, real_of_all a13 _ _ _ _ _ h13, real_of_all a14 _ _ _ _ _ h14, real_of_all a15 _ _ _ _ _ h15, real_of_all a16 _ _ _ _ _ h16, real_of_all a17 _ _ _ _ _ h17⟩

/-- A sum of two real entries. -/
theorem add {x y : EReal} (hx : IsReal x) (hy : IsReal y) : IsReal (x + y) := by
  obtain ⟨a, rfl⟩ := hx
  obtain ⟨b, rfl⟩ := hy
  exact ⟨a + b, (EReal.coe_add a b).symm⟩

/-- A product of two real entries. -/
theorem mul {x y : EReal} (hx : IsReal x) (hy : IsReal y) : IsReal (x * y) := by
  obtain ⟨a, rfl⟩ := hx
  obtain ⟨b, rfl⟩ := hy
  exact ⟨a * b, (EReal.coe_mul a b).symm⟩

/-- A difference of two real entries. -/
theorem sub {x y : EReal} (hx : IsReal x) (hy : IsReal y) : IsReal (x - y) := by
  obtain ⟨a, rfl⟩ := hx
  obtain ⟨b, rfl⟩ := hy
  exact ⟨a - b, (EReal.coe_sub a b).symm⟩

/-- Zero. -/
theorem zero : IsReal 0 := ⟨0, rfl⟩

/-- One. -/
theorem one : IsReal 1 := ⟨1, rfl⟩

/-- A sum of real entries. -/
theorem sum {n : ℕ} {f : Fin n → EReal} (h : ∀ k, IsReal (f k)) : IsReal (∑ k, f k) :=
  Finset.sum_induction f IsReal (fun _ _ => add) zero fun k _ => h k

/-- A real entry divided by a real number other than zero. -/
theorem div {x : EReal} {w : ℝ} (hx : IsReal x) (hw : w ≠ 0) : IsReal (Ideal.div x w) := by
  rw [Ideal.div_coe hw]
  exact mul hx ⟨_, rfl⟩

/-- The width of a row. -/
theorem width_eq : width = ((1024 : ℝ) : EReal) := by simp [width, Ideal.ofBits, Ideal.ieee, -EReal.coe_mul]; norm_num
/-- The width of half a row. -/
theorem half_eq : half = ((512 : ℝ) : EReal) := by simp [half, Ideal.ofBits, Ideal.ieee, -EReal.coe_mul]; norm_num
/-- The small number under the root. -/
theorem eps_eq : eps = ((10995116 / 2 ^ 40 : ℝ) : EReal) := by simp [eps, Ideal.ofBits, Ideal.ieee, -EReal.coe_mul]; norm_num
/-- The residual's factor. -/
theorem alpha_eq : alpha = ((9975792 / 2 ^ 23 : ℝ) : EReal) := by simp [alpha, Ideal.ofBits, Ideal.ieee, -EReal.coe_mul]; norm_num
/-- The smooth gate's first constant. -/
theorem gelu_half : Ideal.ofBits .f32 1056964608#32 = ((1 / 2 : ℝ) : EReal) := by simp [Ideal.ofBits, Ideal.ieee, -EReal.coe_mul]; norm_num
/-- The smooth gate's second constant. -/
theorem gelu_root : Ideal.ofBits .f32 1061962282#32 = ((13386282 / 2 ^ 24 : ℝ) : EReal) := by simp [Ideal.ofBits, Ideal.ieee, -EReal.coe_mul]; norm_num
/-- The smooth gate's third constant. -/
theorem gelu_cubic : Ideal.ofBits .f32 1027024659#32 = ((12003091 / 2 ^ 28 : ℝ) : EReal) := by simp [Ideal.ofBits, Ideal.ieee, -EReal.coe_mul]; norm_num

/-- The reciprocal root of a mean of squares of real entries, with the small number added, is real. -/
theorem root {n : ℕ} {f : Fin n → EReal} (h : ∀ k, IsReal (f k)) (w : ℝ) (hw : 0 < w) : IsReal (Ideal.rsqrt (Ideal.div (∑ k, f k * f k) w + eps)) := by
  obtain ⟨s, hs, e⟩ : ∃ s : ℝ, 0 ≤ s ∧ (∑ k, f k * f k) = (s : EReal) := by
    refine Finset.sum_induction (fun k => f k * f k) (fun x => ∃ s : ℝ, 0 ≤ s ∧ x = (s : EReal)) ?_ ⟨0, le_rfl, rfl⟩ fun k _ => ?_
    · rintro x y ⟨a, ha, rfl⟩ ⟨b, hb, rfl⟩
      exact ⟨a + b, add_nonneg ha hb, (EReal.coe_add a b).symm⟩
    · obtain ⟨a, ha⟩ := h k
      exact ⟨a * a, mul_self_nonneg a, by rw [ha, ← EReal.coe_mul]⟩
  have hp : 0 < s * (1 / w) + 10995116 / 2 ^ 40 := by positivity
  rw [e, Ideal.div_coe hw.ne', eps_eq, ← EReal.coe_mul, ← EReal.coe_add, Ideal.rsqrt_coe, if_neg (not_lt.2 hp.le), if_neg hp.ne']
  exact ⟨_, rfl⟩

/-- The normalised row. -/
theorem norm_real {x : Fin 1024 → EReal} (h : ∀ k, IsReal (x k)) (k : Fin 1024) : IsReal (Layer.norm x k) := by
  have hc : ∀ j, IsReal (centred x j) := fun j => by
    unfold centred
    rw [width_eq]
    exact sub (h j) (div (sum h) (by norm_num))
  unfold Layer.norm
  rw [width_eq]
  exact mul (hc k) (root hc 1024 (by norm_num))

/-- The modulated row. -/
theorem modulated_real {x sc sh : Fin 1024 → EReal} (h : ∀ k, IsReal (x k)) (hc : ∀ k, IsReal (sc k)) (hs : ∀ k, IsReal (sh k)) (k : Fin 1024) :
    IsReal (modulated x sc sh k) :=
  add (mul (norm_real h k) (add one (hc k))) (hs k)

/-- The row of width 512, divided by the root of its mean square. -/
theorem rms_real {y : Fin 512 → EReal} (h : ∀ k, IsReal (y k)) (k : Fin 512) : IsReal (rms y k) := by
  unfold rms
  rw [half_eq]
  exact mul (h k) (root h 512 (by norm_num))

/-- The smooth gate. -/
theorem gelu_real {y : EReal} (h : IsReal y) : IsReal (gelu y) := by
  have ht : ∀ {x : EReal}, IsReal x → IsReal (Ideal.tanh x) := by
    rintro _ ⟨a, rfl⟩
    exact ⟨_, Ideal.tanh_coe a⟩
  unfold gelu
  rw [gelu_half, gelu_root, gelu_cubic]
  exact mul h (mul ⟨_, rfl⟩ (add one (ht (mul ⟨_, rfl⟩ (add h (mul ⟨_, rfl⟩ (mul (mul h h) h)))))))

/-- The gated row. -/
theorem glu_real {y : Fin 512 → EReal} {w : Fin 512 → Fin 512 → EReal} {b : Fin 512 → EReal} (h : ∀ k, IsReal (y k)) (hw : ∀ x k, IsReal (w x k)) (hb : ∀ k, IsReal (b k))
    (k : Fin 512) : IsReal (glu y w b k) := by
  have hl : ∀ {x : EReal}, IsReal x → IsReal (Ideal.logistic x) := by
    rintro _ ⟨a, rfl⟩
    exact ⟨_, Ideal.logistic_coe a⟩
  exact mul (gelu_real (h k)) (hl (add (sum fun x => mul (h x) (hw x k)) (hb k)))

/-- The projection. -/
theorem mixed_real {u v : Fin 512 → EReal} {g : Fin 1024 → EReal} {w : Fin 1024 → Fin 1024 → EReal} (hu : ∀ k, IsReal (u k)) (hv : ∀ k, IsReal (v k))
    (hg : ∀ k, IsReal (g k)) (hw : ∀ x k, IsReal (w x k)) (k : Fin 1024) : IsReal (mixed u v g w k) :=
  add (sum fun x => mul (mul (rms_real hu x) (hg _)) (hw _ k)) (sum fun x => mul (mul (rms_real hv x) (hg _)) (hw _ k))

/-- The row after the residual. -/
theorem settled_real {x o g lg lb : Fin 1024 → EReal} (hx : ∀ k, IsReal (x k)) (ho : ∀ k, IsReal (o k)) (hg : ∀ k, IsReal (g k)) (hlg : ∀ k, IsReal (lg k)) (hlb : ∀ k, IsReal (lb k))
    (k : Fin 1024) : IsReal (settled x o g lg lb k) := by
  unfold settled
  rw [alpha_eq]
  exact add (mul (norm_real (fun j => add (mul ⟨_, rfl⟩ (hx j)) (mul (hg j) (ho j))) k) (hlg k)) (hlb k)

variable {xp : (⟨3, ![16, 256, 1024]⟩ : Shape).Idx → EReal} {xs : (⟨3, ![8, 1024, 1024]⟩ : Shape).Idx → EReal}
  {pos : (⟨2, ![1024, 1024]⟩ : Shape).Idx → EReal} {uc : (⟨2, ![4096, 512]⟩ : Shape).Idx → EReal} {ul : (⟨2, ![8192, 512]⟩ : Shape).Idx → EReal}
  {vc : (⟨2, ![4096, 512]⟩ : Shape).Idx → EReal} {vl : (⟨2, ![8192, 512]⟩ : Shape).Idx → EReal} {m : (⟨2, ![16, 6144]⟩ : Shape).Idx → EReal}
  {wg : (⟨2, ![512, 512]⟩ : Shape).Idx → EReal} {bg : (⟨1, ![512]⟩ : Shape).Idx → EReal} {g : (⟨1, ![1024]⟩ : Shape).Idx → EReal}
  {wo : (⟨2, ![1024, 1024]⟩ : Shape).Idx → EReal} {lg lb : (⟨1, ![1024]⟩ : Shape).Idx → EReal}

/-- The token's row. -/
theorem token_real (h0 : ∀ y, IsReal (xp y)) (h1 : ∀ y, IsReal (xs y)) (h2 : ∀ y, IsReal (pos y)) (t : Fin 12288) (k : Fin 1024) : IsReal (token xp xs pos t k) := by
  unfold token
  split
  · exact h0 _
  · exact add (h1 _) (h2 _)

/-- A row of two arrays put one after the other. -/
theorem pick_real {a : (⟨2, ![4096, 512]⟩ : Shape).Idx → EReal} {b : (⟨2, ![8192, 512]⟩ : Shape).Idx → EReal} (ha : ∀ y, IsReal (a y)) (hb : ∀ y, IsReal (b y)) (t : Fin 12288) (k : Fin 512) :
    IsReal (pick a b t k) := by
  unfold pick
  split
  · exact ha _
  · exact hb _

/-- A token's modulation row. -/
theorem mods_real (h : ∀ y, IsReal (m y)) (t : Fin 12288) (k : Fin 6144) : IsReal (mods m t k) := by
  unfold mods
  split
  · exact h _
  · exact h _

/-- A token's second modulated row is real when the arguments are. -/
theorem second_real (h0 : ∀ y, IsReal (xp y)) (h1 : ∀ y, IsReal (xs y)) (h2 : ∀ y, IsReal (pos y)) (h3 : ∀ y, IsReal (uc y)) (h4 : ∀ y, IsReal (ul y))
    (h5 : ∀ y, IsReal (vc y)) (h6 : ∀ y, IsReal (vl y)) (h7 : ∀ y, IsReal (m y)) (h8 : ∀ y, IsReal (wg y)) (h9 : ∀ y, IsReal (bg y)) (h10 : ∀ y, IsReal (g y))
    (h11 : ∀ y, IsReal (wo y)) (h12 : ∀ y, IsReal (lg y)) (h13 : ∀ y, IsReal (lb y)) (t : Fin 12288) (k : Fin 1024) :
    IsReal (second xp xs pos uc ul vc vl m wg bg g wo lg lb t k) :=
  modulated_real
    (fun k => settled_real (fun k => token_real h0 h1 h2 t k)
      (fun k => mixed_real (fun k => pick_real h3 h4 t k) (fun k => glu_real (fun k => pick_real h5 h6 t k) (fun _ _ => h8 _) (fun _ => h9 _) k) (fun _ => h10 _) (fun _ _ => h11 _) k)
      (fun _ => mods_real h7 t _) (fun _ => h12 _) (fun _ => h13 _) k)
    (fun _ => mods_real h7 t _) (fun _ => mods_real h7 t _) k

/-- The router's weights as laid out. -/
theorem weight_real {w1 : (⟨2, ![1024, 4]⟩ : Shape).Idx → EReal} {w2 : (⟨3, ![4, 1024, 4]⟩ : Shape).Idx → EReal} (h1 : ∀ y, IsReal (w1 y)) (h2 : ∀ y, IsReal (w2 y)) (x : Fin 1024) (j : Fin 128) :
    IsReal (Route.weight w1 w2 x j) := by
  unfold Route.weight
  split
  · split
    · exact h2 _
    · exact h1 _
  · exact zero

/-- The logits of a real row. -/
theorem logit_real {h : Fin 1024 → EReal} {w1 : (⟨2, ![1024, 4]⟩ : Shape).Idx → EReal} {b1 : (⟨1, ![4]⟩ : Shape).Idx → EReal} {w2 : (⟨3, ![4, 1024, 4]⟩ : Shape).Idx → EReal} {b2 : (⟨2, ![4, 4]⟩ : Shape).Idx → EReal}
    (hh : ∀ k, IsReal (h k)) (h1 : ∀ y, IsReal (w1 y)) (hb1 : ∀ y, IsReal (b1 y)) (h2 : ∀ y, IsReal (w2 y)) (hb2 : ∀ y, IsReal (b2 y)) (j : Fin 128) :
    IsReal (Route.logit h w1 b1 w2 b2 j) := by
  refine add (sum fun k => mul (hh k) (weight_real h1 h2 k j)) ?_
  unfold Route.bias
  split
  · split
    · exact hb2 _
    · exact hb1 _
  · exact zero

end Cert.RealRow

end
-- ==== Proof.RouteArrays.lean ====
/- The routing, the kernel's side: the logits a step makes, what its last two blocks hold, and the last two result arrays
   after the run, in the formulas of Route.lean. -/
module

public import proofs.«01_k».proof.Proof.RouteRow
public import proofs.«01_k».proof.Proof.RouteKernel
public import proofs.«01_k».proof.Proof.RouteReal
public import Idealize.ShloMosaic.Lib.Pipeline.ValueKit
public import Idealize.ShloMosaic.Lib.StableHlo.ReadAt
public import Idealize.ShloMosaic.Lib.Pointwise

@[expose] public section

set_option maxRecDepth 16384

noncomputable section

namespace Cert.Kernel6Ideal.Value

open Cert.Kernel6Ideal Cert.Kernel6Ideal.Gen Cert.Layer Cert.Route Cert.RealRow
open Idealize.ShloMosaic Idealize.ShloMosaic.TcCoe Idealize.ShloMosaic.Tactic Idealize.SL.Sem

section Block

variable (i : grid0.Coords) (x0 x1 x2 : Vec Ideal S512x1024 .f32) (x3 x4 x5 x6 : Vec Ideal S512x512 .f32) (x7 : Vec Ideal S1x1x6144 .f32)
  (x8 : Vec Ideal S512x512 .bf16) (x9 : Vec Ideal S1x512 .f32) (x10 : Vec Ideal S1x1024 .f32) (x11 : Vec Ideal S1024x1024 .bf16)
  (x12 x13 : Vec Ideal S1x1024 .f32) (x14 x15 : Vec Ideal S1024x128 .bf16) (x16 : Vec Ideal S1x128 .f32)

/-- The product in three parts, over any row: the row against the weights' high part, its own low part against the same,
    and the row against the weights' low part, plus the bias. -/
theorem three_parts (v77 v79 : FVec Ideal S1x1024 .f32) (v108 v114 : FVec Ideal S512x1024 .f32) (a b c : Vec Ideal S1024x128 .bf16) (d : Vec Ideal S1x128 .f32) (r : Fin 512) (j : Fin 128) :
    k0_pay15 v77 v79 v108 v114 a b c d (ix2 r j)
      = ∑ x : Fin 1024, k0_pay14 v77 v79 v108 v114 (ix2 r x) * a (ix2 x j) + ∑ x : Fin 1024, (k0_pay14 v77 v79 v108 v114 (ix2 r x) - k0_pay14 v77 v79 v108 v114 (ix2 r x)) * b (ix2 x j)
        + ∑ x : Fin 1024, k0_pay14 v77 v79 v108 v114 (ix2 r x) * c (ix2 x j) + d (ix2 0 j) := by
  have e : ∀ x : Fin 1024, k0_pay13 v77 v79 v108 v114 (ix2 r x) = k0_pay14 v77 v79 v108 v114 (ix2 r x) := fun x => by pointwise [k0_pay14]
  simp only [← e]
  pointwise [k0_pay15]

/-- The second output block is the row that the logits are made of. -/
theorem row_again (r : Fin 512) (k : Fin 1024) :
    k0_pay14 (k0_pay32 i x0 x1 x2 x3 x4 x5 x6 x7 x8 x9 x10 x11 x12 x13 x14 x15 x16) (k0_pay33 i x0 x1 x2 x3 x4 x5 x6 x7 x8 x9 x10 x11 x12 x13 x14 x15 x16) (k0_pay34 i x0 x1 x2 x3 x4 x5 x6 x7 x8 x9 x10 x11 x12 x13 x14 x15 x16) (k0_pay35 i x0 x1 x2 x3 x4 x5 x6 x7 x8 x9 x10 x11 x12 x13 x14 x15 x16) (ix2 r k) = out0_18 (F := Ideal) i x0 x1 x2 x3 x4 x5 x6 x7 x8 x9 x10 x11 x12 x13 x14 x15 x16 (ix2 r k) := by
  frame_out

/-- The logits, of the second output block. -/
theorem logits_apply (r : Fin 512) (j : Fin 128) :
    k0_pay37 (F := Ideal) i x0 x1 x2 x3 x4 x5 x6 x7 x8 x9 x10 x11 x12 x13 x14 x15 x16 (ix2 r j)
      = ∑ x : Fin 1024, out0_18 (F := Ideal) i x0 x1 x2 x3 x4 x5 x6 x7 x8 x9 x10 x11 x12 x13 x14 x15 x16 (ix2 r x) * x14 (ix2 x j) + ∑ x : Fin 1024, (out0_18 (F := Ideal) i x0 x1 x2 x3 x4 x5 x6 x7 x8 x9 x10 x11 x12 x13 x14 x15 x16 (ix2 r x) - out0_18 (F := Ideal) i x0 x1 x2 x3 x4 x5 x6 x7 x8 x9 x10 x11 x12 x13 x14 x15 x16 (ix2 r x)) * x14 (ix2 x j)
        + ∑ x : Fin 1024, out0_18 (F := Ideal) i x0 x1 x2 x3 x4 x5 x6 x7 x8 x9 x10 x11 x12 x13 x14 x15 x16 (ix2 r x) * x15 (ix2 x j) + x16 (ix2 0 j) := by
  unfold k0_pay37
  rw [three_parts]
  simp only [row_again]
  pointwise []

/-- The block of gates, of the logits. -/
theorem block_19 (r : Fin 512) (j : Fin 128) (hz : ∀ j, ∃ x : ℝ, @Eq EReal (k0_pay37 (F := Ideal) i x0 x1 x2 x3 x4 x5 x6 x7 x8 x9 x10 x11 x12 x13 x14 x15 x16 (ix2 r j)) x) :
    out0_19 (F := Ideal) i x0 x1 x2 x3 x4 x5 x6 x7 x8 x9 x10 x11 x12 x13 x14 x15 x16 (ix2 r j)
      = gates (fun q => k0_pay37 (F := Ideal) i x0 x1 x2 x3 x4 x5 x6 x7 x8 x9 x10 x11 x12 x13 x14 x15 x16 (ix2 r (groupLane q))) (fun q e => k0_pay37 (F := Ideal) i x0 x1 x2 x3 x4 x5 x6 x7 x8 x9 x10 x11 x12 x13 x14 x15 x16 (ix2 r (expertLane q e))) j := by
  refine Eq.trans ?_ (gate_apply (k0_pay37 (F := Ideal) i x0 x1 x2 x3 x4 x5 x6 x7 x8 x9 x10 x11 x12 x13 x14 x15 x16) r _ _ _ hz (best_spec _) (best_spec _) (next_spec _ _) j)
  frame_out
  rfl

/-- The block of counts: the sums of the block of gates. -/
theorem block_20 (j : Fin 128) :
    out0_20 (F := Ideal) i x0 x1 x2 x3 x4 x5 x6 x7 x8 x9 x10 x11 x12 x13 x14 x15 x16 (ix3 0 0 j) = ∑ r : Fin 512, out0_19 (F := Ideal) i x0 x1 x2 x3 x4 x5 x6 x7 x8 x9 x10 x11 x12 x13 x14 x15 x16 (ix2 r j) := by
  frame_out
  pointwise [k0_pay1, k0_pay28]

end Block

/-- One block. -/
theorem index_14 : ∀ t : Fin grid0.N, win0_14.index t = ![0, 0] := by decide +kernel
/-- One block. -/
theorem index_15 : ∀ t : Fin grid0.N, win0_15.index t = ![0, 0] := by decide +kernel
/-- One block. -/
theorem index_16 : ∀ t : Fin grid0.N, win0_16.index t = ![0, 0] := by decide +kernel
/-- The gates go with the step. -/
theorem index_19 : ∀ t : Fin grid0.N, win0_19.index t = ![t.val, 0] := by decide +kernel
/-- The counts go with the step. -/
theorem index_20 : ∀ t : Fin grid0.N, win0_20.index t = ![t.val, 0, 0] := by decide +kernel

variable (m : (ℓ : Loc nD τ sig) → Buf (Elt Ideal) ℓ)

/-- The word zero as a float. -/
theorem word_zero : (FloatOps.sitofp (F := Ideal) .f32 (0#32) : EReal) = 0 := by
  show (((0#32 : BitVec 32).toInt : ℝ) : EReal) = 0
  simp

/-- The router's weights, high part. -/
theorem entry_8 (c : Dev nD) (x : Fin 1024) (j : Fin 128) : V m c main_v8 (ix2 x j) = weight (m ((c.tc : Thread nD τ).loc main_arg14)) (m ((c.tc : Thread nD τ).loc main_arg16)) x j := by
  unfold V
  simp only [hostOps0, hostOps0_1, hostOps0_2, hostOps0_3, hostOps0_4, List.flatten_cons, List.flatten_nil, List.append_nil, List.cons_append, List.nil_append]
  after_reads_at
  after_reads_at
  rw [word_zero]
  rfl

/-- The router's weights, low part. -/
theorem entry_11 (c : Dev nD) (x : Fin 1024) (j : Fin 128) : V m c main_v11 (ix2 x j) = weight (m ((c.tc : Thread nD τ).loc main_arg14)) (m ((c.tc : Thread nD τ).loc main_arg16)) x j - weight (m ((c.tc : Thread nD τ).loc main_arg14)) (m ((c.tc : Thread nD τ).loc main_arg16)) x j := by
  unfold V
  simp only [hostOps0, hostOps0_1, hostOps0_2, hostOps0_3, hostOps0_4, List.flatten_cons, List.flatten_nil, List.append_nil, List.cons_append, List.nil_append]
  after_reads_at
  after_reads_at
  rw [word_zero]
  rfl

/-- The router's bias. -/
theorem entry_7 (c : Dev nD) (j : Fin 128) : V m c main_v7 (ix2 0 j) = bias (m ((c.tc : Thread nD τ).loc main_arg15)) (m ((c.tc : Thread nD τ).loc main_arg17)) j := by
  unfold V
  simp only [hostOps0, hostOps0_1, hostOps0_2, hostOps0_3, hostOps0_4, List.flatten_cons, List.flatten_nil, List.append_nil, List.cons_append, List.nil_append]
  after_reads_at
  after_reads_at
  rw [word_zero]
  rfl

/-- The router's weights, high part, whole at every step. -/
theorem read_14 (c : Dev nD) (t : Fin cfg0.N) (x : Fin 1024) (j : Fin 128) : iblk m c 14 t (ix2 x j) = weight (m ((c.tc : Thread nD τ).loc main_arg14)) (m ((c.tc : Thread nD τ).loc main_arg16)) x j := by
  have h := index_14 t
  refine Eq.trans ?_ (entry_8 m c x j)
  blk_ext [iblk, h]

/-- The router's weights, low part, whole at every step. -/
theorem read_15 (c : Dev nD) (t : Fin cfg0.N) (x : Fin 1024) (j : Fin 128) : iblk m c 15 t (ix2 x j) = weight (m ((c.tc : Thread nD τ).loc main_arg14)) (m ((c.tc : Thread nD τ).loc main_arg16)) x j - weight (m ((c.tc : Thread nD τ).loc main_arg14)) (m ((c.tc : Thread nD τ).loc main_arg16)) x j := by
  have h := index_15 t
  refine Eq.trans ?_ (entry_11 m c x j)
  blk_ext [iblk, h]

/-- The router's bias, whole at every step. -/
theorem read_16 (c : Dev nD) (t : Fin cfg0.N) (j : Fin 128) : iblk m c 16 t (ix2 0 j) = bias (m ((c.tc : Thread nD τ).loc main_arg15)) (m ((c.tc : Thread nD τ).loc main_arg17)) j := by
  have h := index_16 t
  refine Eq.trans ?_ (entry_7 m c j)
  blk_ext [iblk, h]

/-- A token's second modulated row, of the arguments in memory. -/
abbrev row (c : Dev nD) (n : Fin 12288) : Fin 1024 → EReal := OutProj.second (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) n

/-- The second output block, as a step makes it. -/
theorem row_read (c : Dev nD) (t : Fin cfg0.N) (n : Fin 12288) (r : Fin 512) (hn : n.val = 512 * t.val + r.val) (k : Fin 1024) :
    out0_18 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (ix2 r k) = row m c n k := by
  rw [block_18]
  simp only [token_read m c t n r hn, projected_read m c t n r hn, read_7 m c t n r hn, read_12, read_13]
  rfl

/-- The logits, as a step makes them, of real arguments. -/
theorem logits_read (c : Dev nD) (hrow : ∀ n k, IsReal (row m c n k)) (h14 : ∀ y, IsReal ((m ((c.tc : Thread nD τ).loc main_arg14)) y)) (h16 : ∀ y, IsReal ((m ((c.tc : Thread nD τ).loc main_arg16)) y))
    (t : Fin cfg0.N) (n : Fin 12288) (r : Fin 512) (hn : n.val = 512 * t.val + r.val) (j : Fin 128) :
    k0_pay37 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (ix2 r j) = logit (row m c n) (m ((c.tc : Thread nD τ).loc main_arg14)) (m ((c.tc : Thread nD τ).loc main_arg15)) (m ((c.tc : Thread nD τ).loc main_arg16)) (m ((c.tc : Thread nD τ).loc main_arg17)) j := by
  rw [logits_apply]
  simp only [row_read m c t n r hn, read_14, read_15, read_16]
  exact congrArg (· + _) (Cert.Finite.split_sum _ _ (hrow n) (fun k => weight_real h14 h16 k j))

/-- The third result: every token's row of gates. -/
def gates_array (c : Dev nD) : S12288x128.Idx → EReal :=
  fun y => gates (groupLogit (row m c (y 0)) (m ((c.tc : Thread nD τ).loc main_arg14)) (m ((c.tc : Thread nD τ).loc main_arg15))) (expertLogit (row m c (y 0)) (m ((c.tc : Thread nD τ).loc main_arg16)) (m ((c.tc : Thread nD τ).loc main_arg17))) (y 1)

/-- The fourth result: the sums of the gates of each step's tokens. -/
def counts_array (c : Dev nD) : S24x1x128.Idx → EReal :=
  fun y => ∑ r : Fin 512, gates_array m c (ix2 ⟨512 * (y 0).val + r.val, by have : (y 0).val < 24 := (y 0).isLt; omega⟩ (y 2))

/-- The gates' blocks, one a step, cover their array. -/
theorem covers_19 : (cfg0.win 19).Covers := by
  refine ⟨by decide, fun β => ⟨⟨(β 0).val, (β 0).isLt⟩, flush0_19 _, fun a => ⟨?_, .inl rfl⟩⟩⟩
  show win0_19.index _ a = _
  rw [index_19]
  match a with
  | ⟨0, _⟩ => rfl
  | ⟨1, _⟩ => exact (Nat.lt_one_iff.mp (β 1).isLt).symm

/-- The counts' blocks, one a step, cover their array. -/
theorem covers_20 : (cfg0.win 20).Covers := by
  refine ⟨by decide, fun β => ⟨⟨(β 0).val, (β 0).isLt⟩, flush0_20 _, fun a => ⟨?_, .inl rfl⟩⟩⟩
  show win0_20.index _ a = _
  rw [index_20]
  match a with
  | ⟨0, _⟩ => rfl
  | ⟨1, _⟩ => exact (Nat.lt_one_iff.mp (β 1).isLt).symm
  | ⟨2, _⟩ => exact (Nat.lt_one_iff.mp (β 2).isLt).symm

section Arrays

variable (c : Dev nD) (hrow : ∀ n k, IsReal (row m c n k)) (h14 : ∀ y, IsReal ((m ((c.tc : Thread nD τ).loc main_arg14)) y)) (h15 : ∀ y, IsReal ((m ((c.tc : Thread nD τ).loc main_arg15)) y)) (h16 : ∀ y, IsReal ((m ((c.tc : Thread nD τ).loc main_arg16)) y)) (h17 : ∀ y, IsReal ((m ((c.tc : Thread nD τ).loc main_arg17)) y))

include hrow h14 h15 h16 h17

/-- The block of gates, as a step makes it. -/
theorem gates_read (t : Fin cfg0.N) (n : Fin 12288) (r : Fin 512) (hn : n.val = 512 * t.val + r.val) (j : Fin 128) :
    out0_19 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (ix2 r j) = gates_array m c (ix2 n j) := by
  rw [block_19 _ _ _ _ _ _ _ _ _ _ _ _ _ _ _ _ _ _ r j fun j => by
    rw [logits_read m c hrow h14 h16 t n r hn j]
    exact logit_real (hrow n) h14 h15 h16 h17 j]
  simp only [logits_read m c hrow h14 h16 t n r hn, logit_group, logit_expert]
  rfl

/-- The gates' array after the run. -/
theorem arr_19 : (dats m 0 c).arrAt 19 cfg0.N = gates_array m c := by
  refine (dats m 0 c).arrAt_eq_of_covers 19 _ covers_19 fun t _ y => ?_
  have hi := index_19 t
  have ht : t.val < 24 := t.isLt
  change S512x128.Idx at y
  idx_vars y
  obtain ⟨n, hn⟩ : ∃ n : Fin 12288, n.val = 512 * t.val + y0.val := ⟨⟨512 * t.val + y0.val, by omega⟩, rfl⟩
  have he : ((cfg0.win 19).blk t).view.emb (ix2 y0 y1) = ix2 n y1 := by blk_ext [hi]
  rw [he]
  show (dats m 0 c).after 19 t (ix2 y0 y1) = _
  rw [after0_19]
  exact gates_read m c hrow h14 h15 h16 h17 t n y0 hn y1

/-- The counts' array after the run. -/
theorem arr_20 : (dats m 0 c).arrAt 20 cfg0.N = counts_array m c := by
  refine (dats m 0 c).arrAt_eq_of_covers 20 _ covers_20 fun t _ y => ?_
  have hi := index_20 t
  have ht : t.val < 24 := t.isLt
  change S1x1x128.Idx at y
  idx_vars y
  obtain rfl : y0 = 0 := Fin.ext (by omega)
  obtain rfl : y1 = 0 := Fin.ext (by omega)
  have he : ((cfg0.win 20).blk t).view.emb (ix3 0 0 y2) = ix3 (⟨t.val, ht⟩ : Fin 24) 0 y2 := by blk_ext [hi]
  rw [he]
  show (dats m 0 c).after 20 t (ix3 0 0 y2) = _
  rw [after0_20]
  refine (block_20 _ _ _ _ _ _ _ _ _ _ _ _ _ _ _ _ _ _ y2).trans ?_
  refine Eq.trans (?_ : _ = ∑ r : Fin 512, gates_array m c (ix2 ⟨512 * t.val + r.val, by omega⟩ y2)) rfl
  exact Finset.sum_congr rfl fun r _ => gates_read m c hrow h14 h15 h16 h17 t ⟨512 * t.val + r.val, by omega⟩ r rfl y2

end Arrays

end Cert.Kernel6Ideal.Value

end
-- ==== Proof.RouteHost.lean ====
/- How the reference's operations read at an index: the sort of four entries that `top_k` makes, and the two gathers by a
   pair of indices. -/
module

public import proofs.«01_k».proof.Proof.Route
public import Idealize.ShloMosaic.Lib.Pointwise
public import Idealize.ShloMosaic.Lib.ValueIdx
public import Idealize.ShloMosaic.Lib.SortFacts

@[expose] public section

noncomputable section

namespace Cert.Route

open Idealize.ShloMosaic

/-- The stable sort of an increasing list of positions puts the first greatest entry first and sorts the others. -/
theorem sort_first {n : ℕ} (f : Fin n → EReal) (bf : Fin n → Fin n → Bool) (hbf : ∀ i j, bf i j = decide (f j < f i)) (a : Fin n) :
    ∀ l : List (Fin n), l.Pairwise (· < ·) → a ∈ l → (∀ j ∈ l, j ≠ a → (j < a → f j < f a) ∧ f j ≤ f a) →
      stableSort bf l = a :: stableSort bf (l.erase a)
  | [], _, ha, _ => absurd ha List.not_mem_nil
  | x :: l, hp, ha, h => by
    rw [stableSort]
    by_cases hx : x = a
    · subst hx
      rw [List.erase_cons_head]
      have hall : ∀ y ∈ stableSort bf l, bf y x = false := by
        intro y hy
        have hy' : y ∈ l := (perm_stableSort bf l).mem_iff.1 hy
        have hlt : x < y := (List.pairwise_cons.1 hp).1 y hy'
        rw [hbf, decide_eq_false_iff_not, not_lt]
        exact (h y (List.mem_cons_of_mem _ hy') hlt.ne').2
      cases hs : stableSort bf l with
      | nil => rfl
      | cons b m => rw [insertBefore, if_neg (by rw [hall b (by rw [hs]; exact List.mem_cons_self)]; exact Bool.false_ne_true)]
    · have ha' : a ∈ l := (List.mem_cons.1 ha).resolve_left (fun e => hx e.symm)
      rw [sort_first f bf hbf a l (List.pairwise_cons.1 hp).2 ha' (fun j hj => h j (List.mem_cons_of_mem _ hj)),
        List.erase_cons_tail (by simpa using hx), stableSort, insertBefore, if_pos]
      rw [hbf, decide_eq_true_eq]
      exact (h x List.mem_cons_self hx).1 ((List.pairwise_cons.1 hp).1 a ha')

/-- The position of the first greatest of four entries comes first in the stable sort, the next greatest one's second. -/
theorem sorted_two (f : Fin 4 → EReal) (bf : Fin 4 → Fin 4 → Bool) (hbf : ∀ i j, bf i j = decide (f j < f i)) (a b : Fin 4) (ha : Best f a) (hb : Next f a b) :
    sortedFrom bf 0 = a ∧ sortedFrom bf 1 = b := by
  have e : ∀ k : Fin 4, ∀ l : List (Fin 4), ∀ hl : sortPositions 4 bf = l, ∀ h4 : l.length = 4, sortedFrom bf k = l.get (k.cast h4.symm) := by
    intro k l hl h4; subst hl; rfl
  have hp : (List.finRange 4).Pairwise (· < ·) := by decide
  have h1 := sort_first f bf hbf a _ hp (List.mem_finRange a) (fun j _ _ => ha j)
  have h2 := sort_first f bf hbf b ((List.finRange 4).erase a) (hp.sublist List.erase_sublist) ((List.mem_erase_of_ne hb.1).2 (List.mem_finRange b))
    (fun j hj _ => hb.2 j (((List.nodup_finRange 4).mem_erase_iff.1 hj).1))
  rw [h2] at h1
  have hl : (sortPositions 4 bf).length = 4 := length_sortPositions 4 bf
  have key : sortPositions 4 bf = a :: b :: stableSort bf (((List.finRange 4).erase a).erase b) := h1
  exact ⟨e 0 _ key (by rw [← key, hl]), e 1 _ key (by rw [← key, hl])⟩

/-- The order that `top_k` sorts by, as a comparison of entries. -/
theorem before_apply (u v : EReal) : (FloatOps.cmpfTotal (F := Ideal) (φ := .f32) .gt u v == 1#1) = decide (v < u) := by
  change (BitVec.ofBool (decide (v < u)) == 1#1) = decide (v < u)
  cases decide (v < u) <;> rfl

/-- A row's index moved along the row. -/
theorem along_row {n m : ℕ} (r : Fin n) (j k : Fin m) : Shape.Idx.along (s := ⟨2, ![n, m]⟩) (ix2 r j) 1 k = ix2 r k := by
  funext a
  match a with
  | ⟨0, _⟩ => rfl
  | ⟨1, _⟩ => rfl

/-- The places of a result of `top_k` are places of the row. -/
theorem place_lt {n k : ℕ} (h : (⟨2, ![n, 4]⟩ : Shape).Slices (fun _ => 0) ⟨2, ![n, k]⟩) (j : Fin k) : j.val < 4 := by
  have h1 := h.2 (1 : Fin 2)
  have h2 : 0 + k ≤ 4 := h1
  have := j.isLt
  omega

/-- `top_k` of four entries a row, read at a place: the value and the position that the stable sort puts there. -/
theorem topK_apply {n k : ℕ} (x : (⟨2, ![n, 4]⟩ : Shape).Idx → EReal) (h : (⟨2, ![n, 4]⟩ : Shape).Slices (fun _ => 0) ⟨2, ![n, k]⟩) (r : Fin n) (j : Fin k)
    (p : Fin 4) (hp : sortedFrom (fun i i' => decide (x (ix2 r i') < x (ix2 r i))) ⟨j.val, place_lt h j⟩ = p) :
    (Host.topK (s := ⟨2, ![n, 4]⟩) ⟨2, ![n, k]⟩ 1 (FloatOps.cmpfTotal (F := Ideal) (φ := .f32) .gt) x h).1 (ix2 r j) = x (ix2 r p)
      ∧ (Host.topK (s := ⟨2, ![n, 4]⟩) ⟨2, ![n, k]⟩ 1 (FloatOps.cmpfTotal (F := Ideal) (φ := .f32) .gt) x h).2 (ix2 r j) = BitVec.ofNat 32 p.val := by
  have hs : ∀ {α : Type} (y : (⟨2, ![n, 4]⟩ : Shape).Idx → α), extractStridedSlice ⟨2, ![n, k]⟩ (fun _ => 0) y h (ix2 r j) = y (ix2 r ⟨j.val, place_lt h j⟩) := by
    intro α y
    refine extractStridedSlice_apply _ y h _ _ fun a => ?_
    match a with
    | ⟨0, _⟩ => exact (Nat.zero_add _).symm
    | ⟨1, _⟩ => exact (Nat.zero_add _).symm
  have hb : ∀ q : Fin 4, sortedFrom (fun i i' => FloatOps.cmpfTotal (F := Ideal) (φ := .f32) .gt
      (x (Shape.Idx.along (s := ⟨2, ![n, 4]⟩) (ix2 r q) 1 i)) (x (Shape.Idx.along (s := ⟨2, ![n, 4]⟩) (ix2 r q) 1 i')) == 1#1)
      = sortedFrom (fun i i' => decide (x (ix2 r i') < x (ix2 r i))) := by
    intro q
    exact congrArg sortedFrom (funext fun i => funext fun i' => (before_apply _ _).trans
      (congrArg₂ (fun u v : EReal => decide (u < v)) (congrArg x (along_row r q i')) (congrArg x (along_row r q i))))
  have hlt : 1 < (⟨2, ![n, 4]⟩ : Shape).rank := Nat.lt_succ_self 1
  constructor
  · rw [Host.topK]
    dsimp only
    rw [hs, Host.sort2, dif_pos hlt]
    change x (Shape.Idx.along (s := ⟨2, ![n, 4]⟩) (ix2 r ⟨j.val, place_lt h j⟩) 1 (sortedFrom _ ⟨j.val, place_lt h j⟩)) = _
    refine (congrArg x (along_row r _ (sortedFrom _ _))).trans ?_
    exact congrArg (fun q => x (ix2 r q)) ((congrFun (hb _) _).trans hp)
  · rw [Host.topK]
    dsimp only
    rw [hs, Host.sort2, dif_pos hlt]
    dsimp only
    rw [dif_pos hlt]
    change BitVec.ofNat 32 (sortedFrom _ (⟨j.val, place_lt h j⟩ : Fin 4)).val = _
    exact congrArg (fun q : Fin 4 => BitVec.ofNat 32 q.val) ((congrFun (hb _) _).trans hp)

/-- A number below the row count, read back from its word. -/
theorem word_nat (m n : ℕ) (hm : m < n) (hn : n ≤ 12288) : min (BitVec.ofNat 32 m).toInt.toNat (n - 1) = m := by
  have h : (BitVec.ofNat 32 m).toInt = (m : ℤ) := by
    rw [BitVec.toInt_eq_toNat_of_lt (by rw [BitVec.toNat_ofNat, Nat.mod_eq_of_lt (by omega)]; omega), BitVec.toNat_ofNat, Nat.mod_eq_of_lt (by omega)]
  rw [h, Int.toNat_natCast]
  omega

/-- The gather of single entries at pairs of indices. -/
theorem gather_pair {α : Type} (wf : GatherDims.WF ⟨2, ![12288, 4]⟩ ⟨2, ![12288, 2]⟩ ⟨1, ![12288]⟩ [] [0, 1] [] [0, 1] [] 1 ![1, 1])
    (x : (⟨2, ![12288, 4]⟩ : Shape).Idx → α) (idx : IVec ⟨2, ![12288, 2]⟩ 32) (t u : Fin 12288) (g : Fin 4)
    (h0 : idx (ix2 t 0) = BitVec.ofNat 32 u.val) (h1 : idx (ix2 t 1) = BitVec.ofNat 32 g.val) :
    Host.gather (⟨[], [0, 1], [], [], [0, 1], 1, ![1, 1], wf⟩ : GatherDims ⟨2, ![12288, 4]⟩ ⟨2, ![12288, 2]⟩ ⟨1, ![12288]⟩) x idx (ix1 t) = x (ix2 u g) := by
  set d : GatherDims ⟨2, ![12288, 4]⟩ ⟨2, ![12288, 2]⟩ ⟨1, ![12288]⟩ := ⟨[], [0, 1], [], [], [0, 1], 1, ![1, 1], wf⟩ with hd
  unfold Host.gather
  congr 1
  funext a
  refine Fin.ext ?_
  show d.start (ix1 t) idx a + d.batchCoord (ix1 t) a + d.offCoord (ix1 t) a = _
  have h01 : a = 0 ∨ a = 1 := by
    match a with
    | ⟨0, _⟩ => exact Or.inl rfl
    | ⟨1, _⟩ => exact Or.inr rfl
  have hmem : a ∈ d.startIndexMap := by rcases h01 with rfl | rfl <;> simp [hd]
  rw [GatherDims.batchCoord_eq_zero _ _ _ (fun h => by simp [hd] at h), GatherDims.offCoord_eq_zero _ _ _ (fun h => ((GatherDims.mem_sKept _ _).mp h).1 hmem)]
  unfold GatherDims.start
  rw [dif_pos hmem]
  rcases h01 with rfl | rfl
  · have hsi : d.siIdx (ix1 t) ⟨List.idxOf (0 : Fin 2) d.startIndexMap, List.idxOf_lt_length_iff.2 hmem⟩ = ix2 t 0 := by
      funext b; refine Fin.ext ?_
      match b with
      | ⟨0, _⟩ => rfl
      | ⟨1, _⟩ => rfl
    rw [hsi, h0]
    exact word_nat u.val 12288 u.isLt le_rfl
  · have hsi : d.siIdx (ix1 t) ⟨List.idxOf (1 : Fin 2) d.startIndexMap, List.idxOf_lt_length_iff.2 hmem⟩ = ix2 t 1 := by
      funext b; refine Fin.ext ?_
      match b with
      | ⟨0, _⟩ => rfl
      | ⟨1, _⟩ => rfl
    rw [hsi, h1]
    exact word_nat g.val 4 g.isLt (by decide)

/-- The gather of rows of four at pairs of indices. -/
theorem gather_row {α : Type} (wf : GatherDims.WF ⟨3, ![12288, 4, 4]⟩ ⟨2, ![12288, 2]⟩ ⟨2, ![12288, 4]⟩ [1] [0, 1] [] [0, 1] [] 1 ![1, 1, 4])
    (x : (⟨3, ![12288, 4, 4]⟩ : Shape).Idx → α) (idx : IVec ⟨2, ![12288, 2]⟩ 32) (t u : Fin 12288) (g e : Fin 4)
    (h0 : idx (ix2 t 0) = BitVec.ofNat 32 u.val) (h1 : idx (ix2 t 1) = BitVec.ofNat 32 g.val) :
    Host.gather (⟨[1], [0, 1], [], [], [0, 1], 1, ![1, 1, 4], wf⟩ : GatherDims ⟨3, ![12288, 4, 4]⟩ ⟨2, ![12288, 2]⟩ ⟨2, ![12288, 4]⟩) x idx (ix2 t e) = x (ix3 u g e) := by
  set d : GatherDims ⟨3, ![12288, 4, 4]⟩ ⟨2, ![12288, 2]⟩ ⟨2, ![12288, 4]⟩ := ⟨[1], [0, 1], [], [], [0, 1], 1, ![1, 1, 4], wf⟩ with hd
  unfold Host.gather
  congr 1
  funext a
  refine Fin.ext ?_
  show d.start (ix2 t e) idx a + d.batchCoord (ix2 t e) a + d.offCoord (ix2 t e) a = _
  have h01 : a = 0 ∨ a = 1 ∨ a = 2 := by
    match a with
    | ⟨0, _⟩ => exact Or.inl rfl
    | ⟨1, _⟩ => exact Or.inr (Or.inl rfl)
    | ⟨2, _⟩ => exact Or.inr (Or.inr rfl)
  rw [GatherDims.batchCoord_eq_zero _ _ _ (fun h => by simp [hd] at h)]
  rcases h01 with rfl | rfl | rfl
  · have hmem : (0 : Fin 3) ∈ d.startIndexMap := by simp [hd]
    rw [GatherDims.offCoord_eq_zero _ _ _ (fun h => ((GatherDims.mem_sKept _ _).mp h).1 hmem)]
    unfold GatherDims.start
    rw [dif_pos hmem]
    have hsi : d.siIdx (ix2 t e) ⟨List.idxOf (0 : Fin 3) d.startIndexMap, List.idxOf_lt_length_iff.2 hmem⟩ = ix2 t 0 := by
      funext b; refine Fin.ext ?_
      match b with
      | ⟨0, _⟩ => rfl
      | ⟨1, _⟩ => rfl
    rw [hsi, h0]
    exact word_nat u.val 12288 u.isLt le_rfl
  · have hmem : (1 : Fin 3) ∈ d.startIndexMap := by simp [hd]
    rw [GatherDims.offCoord_eq_zero _ _ _ (fun h => ((GatherDims.mem_sKept _ _).mp h).1 hmem)]
    unfold GatherDims.start
    rw [dif_pos hmem]
    have hsi : d.siIdx (ix2 t e) ⟨List.idxOf (1 : Fin 3) d.startIndexMap, List.idxOf_lt_length_iff.2 hmem⟩ = ix2 t 1 := by
      funext b; refine Fin.ext ?_
      match b with
      | ⟨0, _⟩ => rfl
      | ⟨1, _⟩ => rfl
    rw [hsi, h1]
    exact word_nat g.val 4 g.isLt (by decide)
  · have hmem : (2 : Fin 3) ∉ d.startIndexMap := by simp [hd]
    have hk : (2 : Fin 3) ∈ d.sKept := (GatherDims.mem_sKept _ _).2 ⟨by simp [hd], by simp [hd]⟩
    unfold GatherDims.start GatherDims.offCoord
    rw [dif_neg hmem, dif_pos hk, Nat.add_zero, Nat.zero_add]
    rfl

end Cert.Route

end
-- ==== Proof.RouteReference.lean ====
/- What the reference of the routing computes, stage by stage: the logits, the group, the two experts and the table of
   gates, and the sums of the table's blocks of 512 tokens. -/
module

public import proofs.«01_k».proof.Proof.Gen.Reference6Ideal.Run
public import proofs.«01_k».proof.Proof.Gen.Reference6Ideal.Read
public import proofs.«01_k».proof.Proof.OutProjReference
public import proofs.«01_k».proof.Proof.RouteHost
public import proofs.«01_k».proof.Proof.Route
public import Idealize.ShloMosaic.Lib.Pointwise

@[expose] public section

set_option maxRecDepth 16384

noncomputable section

namespace Cert.Reference6Ideal.Read

open Cert.Reference6Ideal Cert.Reference6Ideal.Gen Cert.Route
open Idealize.ShloMosaic Idealize.ShloMosaic.TcCoe

variable (x0 : (⟨S16x256x1024, .f32⟩ : BufTy).Contents (Elt Ideal)) (x1 : (⟨S8x1024x1024, .f32⟩ : BufTy).Contents (Elt Ideal)) (x2 : (⟨S1024x1024, .f32⟩ : BufTy).Contents (Elt Ideal)) (x3 : (⟨S4096x512, .f32⟩ : BufTy).Contents (Elt Ideal)) (x4 : (⟨S8192x512, .f32⟩ : BufTy).Contents (Elt Ideal)) (x5 : (⟨S4096x512, .f32⟩ : BufTy).Contents (Elt Ideal)) (x6 : (⟨S8192x512, .f32⟩ : BufTy).Contents (Elt Ideal)) (x7 : (⟨S16x6144, .f32⟩ : BufTy).Contents (Elt Ideal)) (x8 : (⟨S512x512, .f32⟩ : BufTy).Contents (Elt Ideal)) (x9 : (⟨S512, .f32⟩ : BufTy).Contents (Elt Ideal)) (x10 : (⟨S1024, .f32⟩ : BufTy).Contents (Elt Ideal)) (x11 : (⟨S1024x1024, .f32⟩ : BufTy).Contents (Elt Ideal)) (x12 : (⟨S1024, .f32⟩ : BufTy).Contents (Elt Ideal)) (x13 : (⟨S1024, .f32⟩ : BufTy).Contents (Elt Ideal)) (x14 : (⟨S1024x4, .f32⟩ : BufTy).Contents (Elt Ideal)) (x15 : (⟨S4, .f32⟩ : BufTy).Contents (Elt Ideal)) (x16 : (⟨S4x1024x4, .f32⟩ : BufTy).Contents (Elt Ideal)) (x17 : (⟨S4x4, .f32⟩ : BufTy).Contents (Elt Ideal))

/-- The exponential of a real less itself. -/
theorem exp_self (x : ℝ) : Ideal.exp ((x : EReal) - (x : EReal)) = 1 := by
  rw [← EReal.coe_sub, sub_self]
  show ((Real.exp 0 : ℝ) : EReal) = 1
  rw [Real.exp_zero]; rfl

/-- The token's normalised and modulated row, as in the call that returns it. -/
theorem row_apply (t : Fin 12288) (k : Fin 1024) :
    val_main_v114 (F := Ideal) x0 x1 x2 x3 x4 x5 x6 x7 x8 x9 x10 x11 x12 x13 (ix2 t k) = OutProj.second x0 x1 x2 x3 x4 x5 x6 x7 x8 x9 x10 x11 x12 x13 t k :=
  Cert.Reference3Ideal.Read.second_apply x0 x1 x2 x3 x4 x5 x6 x7 x8 x9 x10 x11 x12 x13 t k

/-- The logits of the groups. -/
theorem group_logit (t : Fin 12288) (q : Fin 4) :
    val_main_v118 (F := Ideal) x0 x1 x2 x3 x4 x5 x6 x7 x8 x9 x10 x11 x12 x13 x14 x15 (ix2 t q) = groupLogit (OutProj.second x0 x1 x2 x3 x4 x5 x6 x7 x8 x9 x10 x11 x12 x13 t) x14 x15 q := by
  pointwise [val_main_v115, val_main_v116, val_main_v117, val_main_v118]
  simp only [row_apply]
  rfl

/-- The logits of the experts. -/
theorem expert_logit (t : Fin 12288) (g e : Fin 4) :
    val_main_v150 (F := Ideal) x0 x1 x2 x3 x4 x5 x6 x7 x8 x9 x10 x11 x12 x13 x16 x17 (ix3 t g e) = expertLogit (OutProj.second x0 x1 x2 x3 x4 x5 x6 x7 x8 x9 x10 x11 x12 x13 t) x16 x17 g e := by
  pointwise [val_main_v147, val_main_v148, val_main_v149, val_main_v150]
  simp only [row_apply]
  rfl

/-- The greatest of the groups' logits. -/
theorem group_top (t : Fin 12288) (g : Fin 4) (hg : Best (fun q => val_main_v118 (F := Ideal) x0 x1 x2 x3 x4 x5 x6 x7 x8 x9 x10 x11 x12 x13 x14 x15 (ix2 t q)) g) :
    val_main_v121 (F := Ideal) x0 x1 x2 x3 x4 x5 x6 x7 x8 x9 x10 x11 x12 x13 x14 x15 (ix1 t) = val_main_v118 (F := Ideal) x0 x1 x2 x3 x4 x5 x6 x7 x8 x9 x10 x11 x12 x13 x14 x15 (ix2 t g) := by
  pointwise [val_main_cst_23, val_main_v119, val_main_cst_24, val_main_v120, val_main_v121]
  rw [bits_bot, fold_max_best _ g hg]
  exact max_eq_right bot_le

/-- The softmax of the groups' logits. -/
theorem group_share (t : Fin 12288) (g q : Fin 4) (hg : Best (fun q => val_main_v118 (F := Ideal) x0 x1 x2 x3 x4 x5 x6 x7 x8 x9 x10 x11 x12 x13 x14 x15 (ix2 t q)) g) :
    val_main_v129 (F := Ideal) x0 x1 x2 x3 x4 x5 x6 x7 x8 x9 x10 x11 x12 x13 x14 x15 (ix2 t q) = Ideal.div (Ideal.exp (val_main_v118 (F := Ideal) x0 x1 x2 x3 x4 x5 x6 x7 x8 x9 x10 x11 x12 x13 x14 x15 (ix2 t q) - val_main_v118 (F := Ideal) x0 x1 x2 x3 x4 x5 x6 x7 x8 x9 x10 x11 x12 x13 x14 x15 (ix2 t g)))
      (∑ q', Ideal.exp (val_main_v118 (F := Ideal) x0 x1 x2 x3 x4 x5 x6 x7 x8 x9 x10 x11 x12 x13 x14 x15 (ix2 t q') - val_main_v118 (F := Ideal) x0 x1 x2 x3 x4 x5 x6 x7 x8 x9 x10 x11 x12 x13 x14 x15 (ix2 t g))) := by
  pointwise [val_main_v122, val_main_v123, val_main_v124, val_main_v125, val_main_cst_25, val_main_v126, val_main_v127, val_main_v128, val_main_v129]
  simp only [group_top x0 x1 x2 x3 x4 x5 x6 x7 x8 x9 x10 x11 x12 x13 x14 x15 t g hg]

/-- The group's number. -/
theorem group_word (t : Fin 12288) (g : Fin 4) (hg : Best (fun q => val_main_v118 (F := Ideal) x0 x1 x2 x3 x4 x5 x6 x7 x8 x9 x10 x11 x12 x13 x14 x15 (ix2 t q)) g) :
    val_main_v130 (F := Ideal) x0 x1 x2 x3 x4 x5 x6 x7 x8 x9 x10 x11 x12 x13 x14 x15 (ix1 t) = BitVec.ofNat 32 g.val := by
  have h1 : val_main_v130 (F := Ideal) x0 x1 x2 x3 x4 x5 x6 x7 x8 x9 x10 x11 x12 x13 x14 x15 (ix1 t) = val_main_indices (F := Ideal) x0 x1 x2 x3 x4 x5 x6 x7 x8 x9 x10 x11 x12 x13 x14 x15 (ix2 t 0) := by
    pointwise [val_main_v130]
  rw [h1]
  obtain ⟨b, hb⟩ := exists_next (fun q => val_main_v118 (F := Ideal) x0 x1 x2 x3 x4 x5 x6 x7 x8 x9 x10 x11 x12 x13 x14 x15 (ix2 t q)) g
  exact (topK_apply _ sliceFits_S12288x4_S12288x1 t 0 g (sorted_two _ _ (fun _ _ => rfl) g b hg hb).1).2

/-- A token's number is not below zero, so it stays. -/
theorem word_stays (t : Fin 12288) (y : BitVec 32) : Scalar.select (IntOp.cmpi .slt (BitVec.ofNat 32 t.val) 0#32) y (BitVec.ofNat 32 t.val) = BitVec.ofNat 32 t.val := by
  have h : (BitVec.ofNat 32 t.val).toInt = (t.val : ℤ) := by
    rw [BitVec.toInt_eq_toNat_of_lt (by rw [BitVec.toNat_ofNat, Nat.mod_eq_of_lt (by omega)]; omega), BitVec.toNat_ofNat, Nat.mod_eq_of_lt (by omega)]
  have h2 : IntOp.cmpi .slt (BitVec.ofNat 32 t.val) 0#32 = 0#1 := by
    show BitVec.ofBool ((BitVec.ofNat 32 t.val).slt 0#32) = 0#1
    have : (BitVec.ofNat 32 t.val).slt 0#32 = false := by
      unfold BitVec.slt
      rw [h]
      simp
    rw [this]; rfl
  rw [h2]; rfl

/-- A group's number is not below zero, so it stays. -/
theorem group_stays : ∀ (g : Fin 4) (y : BitVec 32), Scalar.select (IntOp.cmpi .slt (BitVec.ofNat 32 g.val) 0#32) y (BitVec.ofNat 32 g.val) = BitVec.ofNat 32 g.val := by
  intro g y
  exact word_stays ⟨g.val, by omega⟩ y

/-- The token's number beside its group's, for the softmax. -/
theorem pair_share (t : Fin 12288) (g : Fin 4) (hg : Best (fun q => val_main_v118 (F := Ideal) x0 x1 x2 x3 x4 x5 x6 x7 x8 x9 x10 x11 x12 x13 x14 x15 (ix2 t q)) g) :
    val_main_v144 (F := Ideal) x0 x1 x2 x3 x4 x5 x6 x7 x8 x9 x10 x11 x12 x13 x14 x15 (ix2 t 0) = BitVec.ofNat 32 t.val ∧ val_main_v144 (F := Ideal) x0 x1 x2 x3 x4 x5 x6 x7 x8 x9 x10 x11 x12 x13 x14 x15 (ix2 t 1) = BitVec.ofNat 32 g.val := by
  constructor
  · pointwise [val_main_v131, val_main_c, val_main_v132, val_main_v133, val_main_c_26, val_main_v134, val_main_v135, val_main_v136, val_main_v142, val_main_v144]
    exact word_stays t _
  · pointwise [val_main_c_27, val_main_v137, val_main_v138, val_main_c_28, val_main_v139, val_main_v140, val_main_v141, val_main_v143, val_main_v144]
    simp only [group_word x0 x1 x2 x3 x4 x5 x6 x7 x8 x9 x10 x11 x12 x13 x14 x15 t g hg]
    exact group_stays g _

/-- The token's number beside its group's, for the experts' logits. -/
theorem pair_expert (t : Fin 12288) (g : Fin 4) (hg : Best (fun q => val_main_v118 (F := Ideal) x0 x1 x2 x3 x4 x5 x6 x7 x8 x9 x10 x11 x12 x13 x14 x15 (ix2 t q)) g) :
    val_main_v163 (F := Ideal) x0 x1 x2 x3 x4 x5 x6 x7 x8 x9 x10 x11 x12 x13 x14 x15 (ix2 t 0) = BitVec.ofNat 32 t.val ∧ val_main_v163 (F := Ideal) x0 x1 x2 x3 x4 x5 x6 x7 x8 x9 x10 x11 x12 x13 x14 x15 (ix2 t 1) = BitVec.ofNat 32 g.val := by
  constructor
  · pointwise [val_main_v131, val_main_c_29, val_main_v151, val_main_v152, val_main_c_30, val_main_v153, val_main_v154, val_main_v155, val_main_v161, val_main_v163]
    exact word_stays t _
  · pointwise [val_main_c_31, val_main_v156, val_main_v157, val_main_c_32, val_main_v158, val_main_v159, val_main_v160, val_main_v162, val_main_v163]
    simp only [group_word x0 x1 x2 x3 x4 x5 x6 x7 x8 x9 x10 x11 x12 x13 x14 x15 t g hg]
    exact group_stays g _

/-- The group's share of the softmax. -/
theorem share_value (t : Fin 12288) (g : Fin 4) (hg : Best (fun q => val_main_v118 (F := Ideal) x0 x1 x2 x3 x4 x5 x6 x7 x8 x9 x10 x11 x12 x13 x14 x15 (ix2 t q)) g)
    (hl : ∃ x : ℝ, val_main_v118 (F := Ideal) x0 x1 x2 x3 x4 x5 x6 x7 x8 x9 x10 x11 x12 x13 x14 x15 (ix2 t g) = (x : EReal)) :
    val_main_v145 (F := Ideal) x0 x1 x2 x3 x4 x5 x6 x7 x8 x9 x10 x11 x12 x13 x14 x15 (ix1 t) = share (fun q => val_main_v118 (F := Ideal) x0 x1 x2 x3 x4 x5 x6 x7 x8 x9 x10 x11 x12 x13 x14 x15 (ix2 t q)) g := by
  refine (gather_pair _ _ _ t t g (pair_share x0 x1 x2 x3 x4 x5 x6 x7 x8 x9 x10 x11 x12 x13 x14 x15 t g hg).1 (pair_share x0 x1 x2 x3 x4 x5 x6 x7 x8 x9 x10 x11 x12 x13 x14 x15 t g hg).2).trans ?_
  rw [group_share x0 x1 x2 x3 x4 x5 x6 x7 x8 x9 x10 x11 x12 x13 x14 x15 t g g hg]
  obtain ⟨x, hx⟩ := hl
  have h1 : Ideal.exp ((x : EReal) - (x : EReal)) = 1 := exp_self x
  unfold share
  dsimp only
  rw [hx, h1]

/-- The logits of the experts of the token's group. -/
theorem chosen_logit (t : Fin 12288) (g e : Fin 4) (hg : Best (fun q => val_main_v118 (F := Ideal) x0 x1 x2 x3 x4 x5 x6 x7 x8 x9 x10 x11 x12 x13 x14 x15 (ix2 t q)) g) :
    val_main_v164 (F := Ideal) x0 x1 x2 x3 x4 x5 x6 x7 x8 x9 x10 x11 x12 x13 x14 x15 x16 x17 (ix2 t e) = val_main_v150 (F := Ideal) x0 x1 x2 x3 x4 x5 x6 x7 x8 x9 x10 x11 x12 x13 x16 x17 (ix3 t g e) :=
  gather_row _ _ _ t t g e (pair_expert x0 x1 x2 x3 x4 x5 x6 x7 x8 x9 x10 x11 x12 x13 x14 x15 t g hg).1 (pair_expert x0 x1 x2 x3 x4 x5 x6 x7 x8 x9 x10 x11 x12 x13 x14 x15 t g hg).2

/-- The two greatest of those logits, and the two experts' positions. -/
theorem top_two (t : Fin 12288) (g a b : Fin 4) (hg : Best (fun q => val_main_v118 (F := Ideal) x0 x1 x2 x3 x4 x5 x6 x7 x8 x9 x10 x11 x12 x13 x14 x15 (ix2 t q)) g)
    (ha : Best (fun e => val_main_v150 (F := Ideal) x0 x1 x2 x3 x4 x5 x6 x7 x8 x9 x10 x11 x12 x13 x16 x17 (ix3 t g e)) a) (hb : Next (fun e => val_main_v150 (F := Ideal) x0 x1 x2 x3 x4 x5 x6 x7 x8 x9 x10 x11 x12 x13 x16 x17 (ix3 t g e)) a b) :
    (val_main_values_33 (F := Ideal) x0 x1 x2 x3 x4 x5 x6 x7 x8 x9 x10 x11 x12 x13 x14 x15 x16 x17 (ix2 t 0) = val_main_v150 (F := Ideal) x0 x1 x2 x3 x4 x5 x6 x7 x8 x9 x10 x11 x12 x13 x16 x17 (ix3 t g a)
      ∧ val_main_indices_34 (F := Ideal) x0 x1 x2 x3 x4 x5 x6 x7 x8 x9 x10 x11 x12 x13 x14 x15 x16 x17 (ix2 t 0) = BitVec.ofNat 32 a.val)
    ∧ (val_main_values_33 (F := Ideal) x0 x1 x2 x3 x4 x5 x6 x7 x8 x9 x10 x11 x12 x13 x14 x15 x16 x17 (ix2 t 1) = val_main_v150 (F := Ideal) x0 x1 x2 x3 x4 x5 x6 x7 x8 x9 x10 x11 x12 x13 x16 x17 (ix3 t g b)
      ∧ val_main_indices_34 (F := Ideal) x0 x1 x2 x3 x4 x5 x6 x7 x8 x9 x10 x11 x12 x13 x14 x15 x16 x17 (ix2 t 1) = BitVec.ofNat 32 b.val) := by
  have e : (fun e => val_main_v164 (F := Ideal) x0 x1 x2 x3 x4 x5 x6 x7 x8 x9 x10 x11 x12 x13 x14 x15 x16 x17 (ix2 t e)) = fun e => val_main_v150 (F := Ideal) x0 x1 x2 x3 x4 x5 x6 x7 x8 x9 x10 x11 x12 x13 x16 x17 (ix3 t g e) :=
    funext fun e => chosen_logit x0 x1 x2 x3 x4 x5 x6 x7 x8 x9 x10 x11 x12 x13 x14 x15 x16 x17 t g e hg
  have hs := sorted_two (fun e => val_main_v164 (F := Ideal) x0 x1 x2 x3 x4 x5 x6 x7 x8 x9 x10 x11 x12 x13 x14 x15 x16 x17 (ix2 t e)) _ (fun _ _ => rfl) a b (by rw [e]; exact ha) (by rw [e]; exact hb)
  have h0 := topK_apply (val_main_v164 (F := Ideal) x0 x1 x2 x3 x4 x5 x6 x7 x8 x9 x10 x11 x12 x13 x14 x15 x16 x17) sliceFits_S12288x4_S12288x2 t 0 a hs.1
  have h1 := topK_apply (val_main_v164 (F := Ideal) x0 x1 x2 x3 x4 x5 x6 x7 x8 x9 x10 x11 x12 x13 x14 x15 x16 x17) sliceFits_S12288x4_S12288x2 t 1 b hs.2
  exact ⟨⟨h0.1.trans (congrFun e a), h0.2⟩, ⟨h1.1.trans (congrFun e b), h1.2⟩⟩

/-- The greatest of the two logits is the first expert's. -/
theorem expert_top (t : Fin 12288) (g a b : Fin 4) (hg : Best (fun q => val_main_v118 (F := Ideal) x0 x1 x2 x3 x4 x5 x6 x7 x8 x9 x10 x11 x12 x13 x14 x15 (ix2 t q)) g)
    (ha : Best (fun e => val_main_v150 (F := Ideal) x0 x1 x2 x3 x4 x5 x6 x7 x8 x9 x10 x11 x12 x13 x16 x17 (ix3 t g e)) a) (hb : Next (fun e => val_main_v150 (F := Ideal) x0 x1 x2 x3 x4 x5 x6 x7 x8 x9 x10 x11 x12 x13 x16 x17 (ix3 t g e)) a b) :
    val_main_v167 (F := Ideal) x0 x1 x2 x3 x4 x5 x6 x7 x8 x9 x10 x11 x12 x13 x14 x15 x16 x17 (ix1 t) = val_main_v150 (F := Ideal) x0 x1 x2 x3 x4 x5 x6 x7 x8 x9 x10 x11 x12 x13 x16 x17 (ix3 t g a) := by
  obtain ⟨⟨h0, -⟩, ⟨h1, -⟩⟩ := top_two x0 x1 x2 x3 x4 x5 x6 x7 x8 x9 x10 x11 x12 x13 x14 x15 x16 x17 t g a b hg ha hb
  have hle : val_main_v150 (F := Ideal) x0 x1 x2 x3 x4 x5 x6 x7 x8 x9 x10 x11 x12 x13 x16 x17 (ix3 t g b) ≤ val_main_v150 (F := Ideal) x0 x1 x2 x3 x4 x5 x6 x7 x8 x9 x10 x11 x12 x13 x16 x17 (ix3 t g a) := (ha b).2
  have hB : Best (fun j : Fin 2 => val_main_values_33 (F := Ideal) x0 x1 x2 x3 x4 x5 x6 x7 x8 x9 x10 x11 x12 x13 x14 x15 x16 x17 (ix2 t j)) 0 := by
    intro j
    match j with
    | ⟨0, _⟩ => exact ⟨fun h => absurd h (lt_irrefl _), le_rfl⟩
    | ⟨1, _⟩ => exact ⟨fun h => absurd h (Fin.not_lt_zero _), h1.trans_le (hle.trans h0.ge)⟩
  pointwise [val_main_cst_35, val_main_v165, val_main_cst_36, val_main_v166, val_main_v167]
  rw [bits_bot, fold_max_best _ 0 hB]
  exact (max_eq_right bot_le).trans h0

/-- The exponential of a logit of the two less the greatest. -/
theorem gap_apply (t : Fin 12288) (j : Fin 2) :
    val_main_v171 (F := Ideal) x0 x1 x2 x3 x4 x5 x6 x7 x8 x9 x10 x11 x12 x13 x14 x15 x16 x17 (ix2 t j) = Ideal.exp (val_main_values_33 (F := Ideal) x0 x1 x2 x3 x4 x5 x6 x7 x8 x9 x10 x11 x12 x13 x14 x15 x16 x17 (ix2 t j) - val_main_v167 (F := Ideal) x0 x1 x2 x3 x4 x5 x6 x7 x8 x9 x10 x11 x12 x13 x14 x15 x16 x17 (ix1 t)) := by
  pointwise [val_main_v168, val_main_v169, val_main_v170, val_main_v171]

/-- A weight of the two: its share of the exponentials, times the group's share. -/
theorem weight_apply (t : Fin 12288) (j : Fin 2) :
    val_main_v177 (F := Ideal) x0 x1 x2 x3 x4 x5 x6 x7 x8 x9 x10 x11 x12 x13 x14 x15 x16 x17 (ix2 t j)
      = Ideal.div (val_main_v171 (F := Ideal) x0 x1 x2 x3 x4 x5 x6 x7 x8 x9 x10 x11 x12 x13 x14 x15 x16 x17 (ix2 t j)) (val_main_v171 (F := Ideal) x0 x1 x2 x3 x4 x5 x6 x7 x8 x9 x10 x11 x12 x13 x14 x15 x16 x17 (ix2 t 0) + val_main_v171 (F := Ideal) x0 x1 x2 x3 x4 x5 x6 x7 x8 x9 x10 x11 x12 x13 x14 x15 x16 x17 (ix2 t 1)) * val_main_v145 (F := Ideal) x0 x1 x2 x3 x4 x5 x6 x7 x8 x9 x10 x11 x12 x13 x14 x15 (ix1 t) := by
  pointwise [val_main_cst_37, val_main_v172, val_main_v173, val_main_v174, val_main_v175, val_main_v146, val_main_v176, val_main_v177]
  rw [Fin.sum_univ_two]

/-- The two experts' weights. -/
theorem weights (t : Fin 12288) (g a b : Fin 4) (hg : Best (fun q => val_main_v118 (F := Ideal) x0 x1 x2 x3 x4 x5 x6 x7 x8 x9 x10 x11 x12 x13 x14 x15 (ix2 t q)) g)
    (ha : Best (fun e => val_main_v150 (F := Ideal) x0 x1 x2 x3 x4 x5 x6 x7 x8 x9 x10 x11 x12 x13 x16 x17 (ix3 t g e)) a) (hb : Next (fun e => val_main_v150 (F := Ideal) x0 x1 x2 x3 x4 x5 x6 x7 x8 x9 x10 x11 x12 x13 x16 x17 (ix3 t g e)) a b)
    (hl : ∃ x : ℝ, val_main_v118 (F := Ideal) x0 x1 x2 x3 x4 x5 x6 x7 x8 x9 x10 x11 x12 x13 x14 x15 (ix2 t g) = (x : EReal)) (hx : ∃ x : ℝ, val_main_v150 (F := Ideal) x0 x1 x2 x3 x4 x5 x6 x7 x8 x9 x10 x11 x12 x13 x16 x17 (ix3 t g a) = (x : EReal)) :
    val_main_v177 (F := Ideal) x0 x1 x2 x3 x4 x5 x6 x7 x8 x9 x10 x11 x12 x13 x14 x15 x16 x17 (ix2 t 0)
        = Ideal.div 1 (1 + Route.second (fun e => val_main_v150 (F := Ideal) x0 x1 x2 x3 x4 x5 x6 x7 x8 x9 x10 x11 x12 x13 x16 x17 (ix3 t g e)) a b) * share (fun q => val_main_v118 (F := Ideal) x0 x1 x2 x3 x4 x5 x6 x7 x8 x9 x10 x11 x12 x13 x14 x15 (ix2 t q)) g
      ∧ val_main_v177 (F := Ideal) x0 x1 x2 x3 x4 x5 x6 x7 x8 x9 x10 x11 x12 x13 x14 x15 x16 x17 (ix2 t 1)
        = Ideal.div (Route.second (fun e => val_main_v150 (F := Ideal) x0 x1 x2 x3 x4 x5 x6 x7 x8 x9 x10 x11 x12 x13 x16 x17 (ix3 t g e)) a b) (1 + Route.second (fun e => val_main_v150 (F := Ideal) x0 x1 x2 x3 x4 x5 x6 x7 x8 x9 x10 x11 x12 x13 x16 x17 (ix3 t g e)) a b)
          * share (fun q => val_main_v118 (F := Ideal) x0 x1 x2 x3 x4 x5 x6 x7 x8 x9 x10 x11 x12 x13 x14 x15 (ix2 t q)) g := by
  obtain ⟨⟨h0, -⟩, ⟨h1, -⟩⟩ := top_two x0 x1 x2 x3 x4 x5 x6 x7 x8 x9 x10 x11 x12 x13 x14 x15 x16 x17 t g a b hg ha hb
  have e0 : Ideal.exp (val_main_v150 (F := Ideal) x0 x1 x2 x3 x4 x5 x6 x7 x8 x9 x10 x11 x12 x13 x16 x17 (ix3 t g a) - val_main_v150 (F := Ideal) x0 x1 x2 x3 x4 x5 x6 x7 x8 x9 x10 x11 x12 x13 x16 x17 (ix3 t g a)) = 1 := by
    obtain ⟨x, hx⟩ := hx
    rw [hx]; exact exp_self x
  have t0 : val_main_v171 (F := Ideal) x0 x1 x2 x3 x4 x5 x6 x7 x8 x9 x10 x11 x12 x13 x14 x15 x16 x17 (ix2 t 0) = 1 := by rw [gap_apply, expert_top x0 x1 x2 x3 x4 x5 x6 x7 x8 x9 x10 x11 x12 x13 x14 x15 x16 x17 t g a b hg ha hb, h0, e0]
  have t1 : val_main_v171 (F := Ideal) x0 x1 x2 x3 x4 x5 x6 x7 x8 x9 x10 x11 x12 x13 x14 x15 x16 x17 (ix2 t 1) = Route.second (fun e => val_main_v150 (F := Ideal) x0 x1 x2 x3 x4 x5 x6 x7 x8 x9 x10 x11 x12 x13 x16 x17 (ix3 t g e)) a b := by
    rw [gap_apply, expert_top x0 x1 x2 x3 x4 x5 x6 x7 x8 x9 x10 x11 x12 x13 x14 x15 x16 x17 t g a b hg ha hb, h1]; rfl
  constructor
  · rw [weight_apply, share_value x0 x1 x2 x3 x4 x5 x6 x7 x8 x9 x10 x11 x12 x13 x14 x15 t g hg hl, t0, t1]
  · rw [weight_apply, share_value x0 x1 x2 x3 x4 x5 x6 x7 x8 x9 x10 x11 x12 x13 x14 x15 t g hg hl, t0, t1]

/-- The words of the two experts' numbers. -/
theorem expert_word (t : Fin 12288) (g a b : Fin 4) (hg : Best (fun q => val_main_v118 (F := Ideal) x0 x1 x2 x3 x4 x5 x6 x7 x8 x9 x10 x11 x12 x13 x14 x15 (ix2 t q)) g)
    (ha : Best (fun e => val_main_v150 (F := Ideal) x0 x1 x2 x3 x4 x5 x6 x7 x8 x9 x10 x11 x12 x13 x16 x17 (ix3 t g e)) a) (hb : Next (fun e => val_main_v150 (F := Ideal) x0 x1 x2 x3 x4 x5 x6 x7 x8 x9 x10 x11 x12 x13 x16 x17 (ix3 t g e)) a b) :
    val_main_v182 (F := Ideal) x0 x1 x2 x3 x4 x5 x6 x7 x8 x9 x10 x11 x12 x13 x14 x15 x16 x17 (ix2 t 0) = BitVec.ofNat 32 (4 * g.val + a.val)
      ∧ val_main_v182 (F := Ideal) x0 x1 x2 x3 x4 x5 x6 x7 x8 x9 x10 x11 x12 x13 x14 x15 x16 x17 (ix2 t 1) = BitVec.ofNat 32 (4 * g.val + b.val) := by
  obtain ⟨⟨-, h0⟩, ⟨-, h1⟩⟩ := top_two x0 x1 x2 x3 x4 x5 x6 x7 x8 x9 x10 x11 x12 x13 x14 x15 x16 x17 t g a b hg ha hb
  have hw : ∀ g e : Fin 4, IntOp.addi (IntOp.muli (BitVec.ofNat 32 g.val) 4#32) (BitVec.ofNat 32 e.val) = BitVec.ofNat 32 (4 * g.val + e.val) := by decide
  constructor <;>
  · pointwise [val_main_v178, val_main_c_38, val_main_v179, val_main_v180, val_main_v181, val_main_v182]
    simp only [group_word x0 x1 x2 x3 x4 x5 x6 x7 x8 x9 x10 x11 x12 x13 x14 x15 t g hg, h0, h1, hw]

/-- The comparison of two small words, as an entry. -/
theorem hot (x y : ℕ) (hx : x < 128) (hy : y < 128) :
    (FloatOps.uitofp .f32 (IntOp.cmpi .eq (BitVec.ofNat 32 x) (BitVec.ofNat 32 y)) : Ideal .f32) = if y = x then (1 : EReal) else 0 := by
  have h : ∀ x y : Fin 128, (IntOp.cmpi .eq (BitVec.ofNat 32 x.val) (BitVec.ofNat 32 y.val)) = if y = x then 1#1 else 0#1 := by decide +kernel
  rw [h ⟨x, hx⟩ ⟨y, hy⟩]
  by_cases e : y = x
  · rw [if_pos (Fin.ext e), if_pos e]
    show (((1#1 : BitVec 1).toNat : ℝ) : EReal) = 1
    simp
  · rw [if_neg (fun h => e (congrArg Fin.val h)), if_neg e]
    show (((0#1 : BitVec 1).toNat : ℝ) : EReal) = 0
    simp

/-- The experts' part of the table. -/
theorem expert_part (t : Fin 12288) (k : Fin 16) (g a b : Fin 4) (hg : Best (fun q => val_main_v118 (F := Ideal) x0 x1 x2 x3 x4 x5 x6 x7 x8 x9 x10 x11 x12 x13 x14 x15 (ix2 t q)) g)
    (ha : Best (fun e => val_main_v150 (F := Ideal) x0 x1 x2 x3 x4 x5 x6 x7 x8 x9 x10 x11 x12 x13 x16 x17 (ix3 t g e)) a) (hb : Next (fun e => val_main_v150 (F := Ideal) x0 x1 x2 x3 x4 x5 x6 x7 x8 x9 x10 x11 x12 x13 x16 x17 (ix3 t g e)) a b) :
    val_main_v187 (F := Ideal) x0 x1 x2 x3 x4 x5 x6 x7 x8 x9 x10 x11 x12 x13 x14 x15 x16 x17 (ix2 t k)
      = (if k.val = 4 * g.val + a.val then val_main_v177 (F := Ideal) x0 x1 x2 x3 x4 x5 x6 x7 x8 x9 x10 x11 x12 x13 x14 x15 x16 x17 (ix2 t 0) else 0)
        + (if k.val = 4 * g.val + b.val then val_main_v177 (F := Ideal) x0 x1 x2 x3 x4 x5 x6 x7 x8 x9 x10 x11 x12 x13 x14 x15 x16 x17 (ix2 t 1) else 0) := by
  pointwise [val_main_call0_v0, val_main_call0_v1, val_main_call0_v2, val_main_call0_v3, val_main_call0_v4, val_main_v183, val_main_v184, val_main_v185, val_main_v186, val_main_cst_39, val_main_v187]
  simp only [Fin.sum_univ_two, (expert_word x0 x1 x2 x3 x4 x5 x6 x7 x8 x9 x10 x11 x12 x13 x14 x15 x16 x17 t g a b hg ha hb).1, (expert_word x0 x1 x2 x3 x4 x5 x6 x7 x8 x9 x10 x11 x12 x13 x14 x15 x16 x17 t g a b hg ha hb).2]
  rw [hot _ _ (by omega) (by omega), hot _ _ (by omega) (by omega), ite_mul, ite_mul, one_mul, one_mul, zero_mul, zero_mul]

/-- The groups' part of the table. -/
theorem group_part (t : Fin 12288) (q g : Fin 4) (hg : Best (fun q => val_main_v118 (F := Ideal) x0 x1 x2 x3 x4 x5 x6 x7 x8 x9 x10 x11 x12 x13 x14 x15 (ix2 t q)) g) :
    val_main_v188 (F := Ideal) x0 x1 x2 x3 x4 x5 x6 x7 x8 x9 x10 x11 x12 x13 x14 x15 (ix2 t q) = if q.val = g.val then 1 else 0 := by
  pointwise [val_main_call1_v0, val_main_call1_v1, val_main_call1_v2, val_main_call1_v3, val_main_call1_v4, val_main_v188]
  simp only [group_word x0 x1 x2 x3 x4 x5 x6 x7 x8 x9 x10 x11 x12 x13 x14 x15 t g hg]
  exact hot _ _ (by omega) (by omega)

/-- The table's experts' columns. -/
theorem table_experts (t : Fin 12288) (k : Fin 128) (j : Fin 16) (hk : k.val = j.val) :
    val_main_v190 (F := Ideal) x0 x1 x2 x3 x4 x5 x6 x7 x8 x9 x10 x11 x12 x13 x14 x15 x16 x17 (ix2 t k) = val_main_v187 (F := Ideal) x0 x1 x2 x3 x4 x5 x6 x7 x8 x9 x10 x11 x12 x13 x14 x15 x16 x17 (ix2 t j) := by
  pointwise [val_main_v190]
  have hj : k.val < 16 := by omega
  rw [dif_pos hj]
  exact congrArg (fun j => val_main_v187 (F := Ideal) x0 x1 x2 x3 x4 x5 x6 x7 x8 x9 x10 x11 x12 x13 x14 x15 x16 x17 (ix2 t j)) (Fin.ext hk)

/-- The table's groups' columns. -/
theorem table_groups (t : Fin 12288) (k : Fin 128) (q : Fin 4) (hk : k.val = 16 + q.val) :
    val_main_v190 (F := Ideal) x0 x1 x2 x3 x4 x5 x6 x7 x8 x9 x10 x11 x12 x13 x14 x15 x16 x17 (ix2 t k) = val_main_v188 (F := Ideal) x0 x1 x2 x3 x4 x5 x6 x7 x8 x9 x10 x11 x12 x13 x14 x15 (ix2 t q) := by
  pointwise [val_main_v190]
  have h16 : ¬ k.val < 16 := by omega
  have h4 : k.val - 16 < 4 := by omega
  rw [dif_neg h16, dif_pos h4]
  exact congrArg (fun j => val_main_v188 (F := Ideal) x0 x1 x2 x3 x4 x5 x6 x7 x8 x9 x10 x11 x12 x13 x14 x15 (ix2 t j)) (Fin.ext (by show k.val - 16 = q.val; omega))

/-- The table's other columns. -/
theorem table_rest (t : Fin 12288) (k : Fin 128) (hk : 20 ≤ k.val) :
    val_main_v190 (F := Ideal) x0 x1 x2 x3 x4 x5 x6 x7 x8 x9 x10 x11 x12 x13 x14 x15 x16 x17 (ix2 t k) = 0 := by
  pointwise [val_main_v190, val_main_v189, val_main_cst_40]
  have h16 : ¬ k.val < 16 := by omega
  have h4 : ¬ k.val - 16 < 4 := by omega
  rw [dif_neg h16, dif_neg h4]

/-- The table of gates. -/
theorem table_apply (t : Fin 12288) (k : Fin 128) (g a b : Fin 4) (hg : Best (fun q => val_main_v118 (F := Ideal) x0 x1 x2 x3 x4 x5 x6 x7 x8 x9 x10 x11 x12 x13 x14 x15 (ix2 t q)) g)
    (ha : Best (fun e => val_main_v150 (F := Ideal) x0 x1 x2 x3 x4 x5 x6 x7 x8 x9 x10 x11 x12 x13 x16 x17 (ix3 t g e)) a) (hb : Next (fun e => val_main_v150 (F := Ideal) x0 x1 x2 x3 x4 x5 x6 x7 x8 x9 x10 x11 x12 x13 x16 x17 (ix3 t g e)) a b)
    (hl : ∃ x : ℝ, val_main_v118 (F := Ideal) x0 x1 x2 x3 x4 x5 x6 x7 x8 x9 x10 x11 x12 x13 x14 x15 (ix2 t g) = (x : EReal)) (hx : ∃ x : ℝ, val_main_v150 (F := Ideal) x0 x1 x2 x3 x4 x5 x6 x7 x8 x9 x10 x11 x12 x13 x16 x17 (ix3 t g a) = (x : EReal)) :
    val_main_v190 (F := Ideal) x0 x1 x2 x3 x4 x5 x6 x7 x8 x9 x10 x11 x12 x13 x14 x15 x16 x17 (ix2 t k)
      = gate (fun q => val_main_v118 (F := Ideal) x0 x1 x2 x3 x4 x5 x6 x7 x8 x9 x10 x11 x12 x13 x14 x15 (ix2 t q)) (fun g e => val_main_v150 (F := Ideal) x0 x1 x2 x3 x4 x5 x6 x7 x8 x9 x10 x11 x12 x13 x16 x17 (ix3 t g e)) g a b k := by
  unfold gate
  have hkg : k = groupLane g ↔ k.val = 16 + g.val := ⟨fun h => by rw [h]; rfl, fun h => Fin.ext h⟩
  have hke : ∀ e : Fin 4, k = expertLane g e ↔ k.val = 4 * g.val + e.val := fun e => ⟨fun h => by rw [h]; rfl, fun h => Fin.ext h⟩
  simp only [hkg, hke]
  by_cases h16 : k.val < 16
  · rw [table_experts x0 x1 x2 x3 x4 x5 x6 x7 x8 x9 x10 x11 x12 x13 x14 x15 x16 x17 t k ⟨k.val, h16⟩ rfl, expert_part x0 x1 x2 x3 x4 x5 x6 x7 x8 x9 x10 x11 x12 x13 x14 x15 x16 x17 t ⟨k.val, h16⟩ g a b hg ha hb,
      (weights x0 x1 x2 x3 x4 x5 x6 x7 x8 x9 x10 x11 x12 x13 x14 x15 x16 x17 t g a b hg ha hb hl hx).1, (weights x0 x1 x2 x3 x4 x5 x6 x7 x8 x9 x10 x11 x12 x13 x14 x15 x16 x17 t g a b hg ha hb hl hx).2, if_neg (show ¬ k.val = 16 + g.val by omega)]
  · rw [if_neg (show ¬ k.val = 4 * g.val + a.val by omega), if_neg (show ¬ k.val = 4 * g.val + b.val by omega), add_zero]
    by_cases h20 : k.val < 20
    · rw [table_groups x0 x1 x2 x3 x4 x5 x6 x7 x8 x9 x10 x11 x12 x13 x14 x15 x16 x17 t k ⟨k.val - 16, by omega⟩ (by show k.val = 16 + (k.val - 16); omega), group_part x0 x1 x2 x3 x4 x5 x6 x7 x8 x9 x10 x11 x12 x13 x14 x15 t _ g hg]
      refine if_congr ?_ rfl rfl
      show k.val - 16 = g.val ↔ _
      omega
    · rw [table_rest x0 x1 x2 x3 x4 x5 x6 x7 x8 x9 x10 x11 x12 x13 x14 x15 x16 x17 t k (by omega), if_neg (by omega)]

/-- The sums of the table's blocks of 512 tokens. -/
theorem total_apply (n : Fin 24) (k : Fin 128) :
    val_main_v192 (F := Ideal) x0 x1 x2 x3 x4 x5 x6 x7 x8 x9 x10 x11 x12 x13 x14 x15 x16 x17 (ix3 n 0 k) = ∑ r : Fin 512, val_main_v190 (F := Ideal) x0 x1 x2 x3 x4 x5 x6 x7 x8 x9 x10 x11 x12 x13 x14 x15 x16 x17 (ix2 ⟨512 * n.val + r.val, by omega⟩ k) := by
  pointwise [val_main_v191, val_main_cst_41, val_main_v192]
  refine Finset.sum_congr rfl fun r _ => ?_
  exact congrArg (fun n => val_main_v190 (F := Ideal) x0 x1 x2 x3 x4 x5 x6 x7 x8 x9 x10 x11 x12 x13 x14 x15 x16 x17 (ix2 n k)) (Fin.ext (by show n.val * 512 + r.val = 512 * n.val + r.val; omega))

/-- A token's row of the table, of its second modulated row, where its logits are real. -/
theorem gates_apply (t : Fin 12288) (k : Fin 128)
    (hl : ∀ q, ∃ x : ℝ, groupLogit (OutProj.second x0 x1 x2 x3 x4 x5 x6 x7 x8 x9 x10 x11 x12 x13 t) x14 x15 q = (x : EReal)) (hx : ∀ g e, ∃ x : ℝ, expertLogit (OutProj.second x0 x1 x2 x3 x4 x5 x6 x7 x8 x9 x10 x11 x12 x13 t) x16 x17 g e = (x : EReal)) :
    val_main_v190 (F := Ideal) x0 x1 x2 x3 x4 x5 x6 x7 x8 x9 x10 x11 x12 x13 x14 x15 x16 x17 (ix2 t k)
      = gates (groupLogit (OutProj.second x0 x1 x2 x3 x4 x5 x6 x7 x8 x9 x10 x11 x12 x13 t) x14 x15) (expertLogit (OutProj.second x0 x1 x2 x3 x4 x5 x6 x7 x8 x9 x10 x11 x12 x13 t) x16 x17) k := by
  have hL : (fun q => val_main_v118 (F := Ideal) x0 x1 x2 x3 x4 x5 x6 x7 x8 x9 x10 x11 x12 x13 x14 x15 (ix2 t q)) = groupLogit (OutProj.second x0 x1 x2 x3 x4 x5 x6 x7 x8 x9 x10 x11 x12 x13 t) x14 x15 :=
    funext fun q => group_logit x0 x1 x2 x3 x4 x5 x6 x7 x8 x9 x10 x11 x12 x13 x14 x15 t q
  have hX : (fun g e => val_main_v150 (F := Ideal) x0 x1 x2 x3 x4 x5 x6 x7 x8 x9 x10 x11 x12 x13 x16 x17 (ix3 t g e)) = expertLogit (OutProj.second x0 x1 x2 x3 x4 x5 x6 x7 x8 x9 x10 x11 x12 x13 t) x16 x17 :=
    funext fun g => funext fun e => expert_logit x0 x1 x2 x3 x4 x5 x6 x7 x8 x9 x10 x11 x12 x13 x16 x17 t g e
  have hXg : ∀ g, (fun e => val_main_v150 (F := Ideal) x0 x1 x2 x3 x4 x5 x6 x7 x8 x9 x10 x11 x12 x13 x16 x17 (ix3 t g e)) = expertLogit (OutProj.second x0 x1 x2 x3 x4 x5 x6 x7 x8 x9 x10 x11 x12 x13 t) x16 x17 g :=
    fun g => congrFun hX g
  have h := table_apply x0 x1 x2 x3 x4 x5 x6 x7 x8 x9 x10 x11 x12 x13 x14 x15 x16 x17 t k (best (groupLogit (OutProj.second x0 x1 x2 x3 x4 x5 x6 x7 x8 x9 x10 x11 x12 x13 t) x14 x15))
    (best (expertLogit (OutProj.second x0 x1 x2 x3 x4 x5 x6 x7 x8 x9 x10 x11 x12 x13 t) x16 x17 (best (groupLogit (OutProj.second x0 x1 x2 x3 x4 x5 x6 x7 x8 x9 x10 x11 x12 x13 t) x14 x15))))
    (next (expertLogit (OutProj.second x0 x1 x2 x3 x4 x5 x6 x7 x8 x9 x10 x11 x12 x13 t) x16 x17 (best (groupLogit (OutProj.second x0 x1 x2 x3 x4 x5 x6 x7 x8 x9 x10 x11 x12 x13 t) x14 x15)))
      (best (expertLogit (OutProj.second x0 x1 x2 x3 x4 x5 x6 x7 x8 x9 x10 x11 x12 x13 t) x16 x17 (best (groupLogit (OutProj.second x0 x1 x2 x3 x4 x5 x6 x7 x8 x9 x10 x11 x12 x13 t) x14 x15)))))
    (by rw [hL]; exact best_spec _) (by rw [hXg]; exact best_spec _) (by rw [hXg]; exact next_spec _ _)
    (by rw [group_logit]; exact hl _) (by rw [expert_logit]; exact hx _ _)
  rw [hL, hX] at h
  exact h

end Cert.Reference6Ideal.Read

end
-- ==== Proof.S5Power.lean ====
module
public import Idealize.ShloMosaic.Lib.Pipeline.ValueKit
public import Idealize.ShloMosaic.Lib.Pointwise
public import proofs.«01_k».proof.Proof.RouteReal

/-!
# Powers of a state's transition

A state's transition is the complex number of modulus `exp (x * exp z)` and angle `y * exp z`. The kernel raises it
to a power by one complex product after another; the reference takes the power in closed form. For rates that are
real numbers the two agree.
-/

@[expose] public section
noncomputable section
namespace Cert.S5Ops
open Idealize.ShloMosaic

/-- The powers of a complex number given by its parts, one product after another. -/
def pow (a b : EReal) : ℕ → EReal × EReal
  | 0 => (1, 0)
  | n + 1 => ((pow a b n).1 * a - (pow a b n).2 * b, (pow a b n).1 * b + (pow a b n).2 * a)

/-- The real part of a transition. -/
def are (x y z : EReal) : EReal := Ideal.exp (x * Ideal.exp z) * Ideal.cos (y * Ideal.exp z)

/-- The imaginary part of a transition. -/
def aim (x y z : EReal) : EReal := Ideal.exp (x * Ideal.exp z) * Ideal.sin (y * Ideal.exp z)

/-- The power a row of a chunk takes: forwards the first direction, backwards the second. -/
def step (s : ℕ) (l : Fin 128) : ℕ := if l.val < 64 then s + 1 else 16 - s

/-- The real part of an output weight times a power. -/
def out_re (c d : EReal) (p : EReal × EReal) : EReal := c * p.1 - d * p.2

/-- The imaginary part of an output weight times a power, negated. -/
def out_im (c d : EReal) (p : EReal × EReal) : EReal := 0 - (c * p.2 + d * p.1)

/-- The direction of a lane. -/
def half (l : Fin 128) : Fin 2 := ⟨l.val / 64, by omega⟩

/-- The state of a lane within its direction. -/
def place (l : Fin 128) : Fin 64 := ⟨l.val % 64, by omega⟩

/-- The lanes below 64 are the first direction's. -/
theorem half_lt {l : Fin 128} (h : l.val < 64) : half l = 0 := Fin.ext (by show l.val / 64 = 0; omega)

/-- The lanes from 64 on are the second direction's. -/
theorem half_ge {l : Fin 128} (h : ¬ l.val < 64) : half l = 1 := Fin.ext (by show l.val / 64 = 1; omega)

/-- A lane below 64 is its own place. -/
theorem place_lt {l : Fin 128} (h : l.val < 64) : place l = ⟨l.val, h⟩ := Fin.ext (by show l.val % 64 = l.val; omega)

/-- A lane from 64 on lies at its distance from 64. -/
theorem place_ge {l : Fin 128} (h : ¬ l.val < 64) : place l = ⟨l.val - 64, by omega⟩ := Fin.ext (by show l.val % 64 = l.val - 64; omega)

/-- A power of a lane's transition, of the arrays of rates. -/
def power (a0 a1 : (⟨3, ![2, 32, 64]⟩ : Shape).Idx → EReal) (a2 : (⟨2, ![2, 32]⟩ : Shape).Idx → EReal) (g : Fin 32) (l : Fin 128) (n : ℕ) : EReal × EReal :=
  pow (are (a0 (ix3 (half l) g (place l))) (a1 (ix3 (half l) g (place l))) (a2 (ix2 (half l) g)))
    (aim (a0 (ix3 (half l) g (place l))) (a1 (ix3 (half l) g (place l))) (a2 (ix2 (half l) g))) n

/-- The matrix that carries a group's entry state to the outputs of a chunk: row `16 * s + h` is channel `h` of step
    `s`; the first 128 columns meet the states' real parts, the others their imaginary parts. -/
def exit (a0 a1 : (⟨3, ![2, 32, 64]⟩ : Shape).Idx → EReal) (a2 : (⟨2, ![2, 32]⟩ : Shape).Idx → EReal) (c5 c6 : (⟨3, ![32, 16, 64]⟩ : Shape).Idx → EReal)
    (g : Fin 32) (r c : Fin 256) : EReal :=
  let h : Fin 16 := ⟨r.val % 16, by omega⟩
  let l : Fin 128 := ⟨c.val % 128, by omega⟩
  if c.val < 128 then out_re (c5 (ix3 g h (place l))) (c6 (ix3 g h (place l))) (power a0 a1 a2 g l (step (r.val / 16) l))
  else out_im (c5 (ix3 g h (place l))) (c6 (ix3 g h (place l))) (power a0 a1 a2 g l (step (r.val / 16) l))

/-- The closed form of a power of a transition. -/
def closed (n : ℕ) (x y z : EReal) : EReal × EReal :=
  (Ideal.exp (((n : ℝ) : EReal) * (x * Ideal.exp z)) * Ideal.cos (((n : ℝ) : EReal) * (y * Ideal.exp z)),
   Ideal.exp (((n : ℝ) : EReal) * (x * Ideal.exp z)) * Ideal.sin (((n : ℝ) : EReal) * (y * Ideal.exp z)))

/-- For real rates the closed form is the power: multiplying adds exponents and angles. -/
theorem pow_real (x y z : ℝ) : ∀ n : ℕ, pow (are x y z) (aim x y z) n
    = (((Real.exp (n * (x * Real.exp z)) * Real.cos (n * (y * Real.exp z)) : ℝ) : EReal), ((Real.exp (n * (x * Real.exp z)) * Real.sin (n * (y * Real.exp z)) : ℝ) : EReal))
  | 0 => by simp [pow]
  | n + 1 => by
    have hre : are x y z = ((Real.exp (x * Real.exp z) * Real.cos (y * Real.exp z) : ℝ) : EReal) := by
      unfold are
      rw [Ideal.exp_coe, ← EReal.coe_mul, ← EReal.coe_mul, Ideal.exp_coe, Ideal.cos_coe, ← EReal.coe_mul]
    have him : aim x y z = ((Real.exp (x * Real.exp z) * Real.sin (y * Real.exp z) : ℝ) : EReal) := by
      unfold aim
      rw [Ideal.exp_coe, ← EReal.coe_mul, ← EReal.coe_mul, Ideal.exp_coe, Ideal.sin_coe, ← EReal.coe_mul]
    have h := pow_real x y z n
    have e1 : ((n + 1 : ℕ) : ℝ) * (x * Real.exp z) = n * (x * Real.exp z) + x * Real.exp z := by push_cast; ring
    have e2 : ((n + 1 : ℕ) : ℝ) * (y * Real.exp z) = n * (y * Real.exp z) + y * Real.exp z := by push_cast; ring
    show ((pow (are x y z) (aim x y z) n).1 * are x y z - (pow (are x y z) (aim x y z) n).2 * aim x y z, (pow (are x y z) (aim x y z) n).1 * aim x y z + (pow (are x y z) (aim x y z) n).2 * are x y z) = _
    rw [h, hre, him, e1, e2, Real.exp_add, Real.cos_add, Real.sin_add]
    simp only [← EReal.coe_mul, ← EReal.coe_sub, ← EReal.coe_add]
    refine Prod.ext (congrArg _ ?_) (congrArg _ ?_) <;> ring_nf

/-- For rates that are real numbers the kernel's power is the closed form. -/
theorem pow_closed (n : ℕ) {x y z : EReal} (hx : ∃ r : ℝ, x = r) (hy : ∃ r : ℝ, y = r) (hz : ∃ r : ℝ, z = r) :
    pow (are x y z) (aim x y z) n = closed n x y z := by
  obtain ⟨x, rfl⟩ := hx
  obtain ⟨y, rfl⟩ := hy
  obtain ⟨z, rfl⟩ := hz
  rw [pow_real]
  unfold closed
  simp only [Ideal.exp_coe, ← EReal.coe_mul, Ideal.cos_coe, Ideal.sin_coe]

end Cert.S5Ops
end
-- ==== Proof.S5OpsKernel.lean ====
module
public import proofs.«01_k».proof.Proof.Gen.Kernel7Ideal.Value
public import Idealize.ShloMosaic.Lib.Pipeline.ValueKit
public import Idealize.ShloMosaic.Lib.Pipeline.ReadBack
public import Idealize.ShloMosaic.Lib.Pointwise
public import proofs.«01_k».proof.Proof.Finite
public import proofs.«01_k».proof.Proof.S5Power

/-!
# The state-space operators kernel's blocks

One step of the kernel makes the blocks of four groups. The values here are those of the step's third, fourth
and fifth output blocks: the matrix that carries a chunk's entry state to its outputs, and the sixteenth power of
the transition, real and imaginary part.
-/

@[expose] public section
set_option maxRecDepth 65536
noncomputable section
namespace Cert.Kernel7Ideal.Value
open Cert.Kernel7Ideal Cert.Kernel7Ideal.Gen Idealize.ShloMosaic Idealize.ShloMosaic.TcCoe Idealize.SL.Sem Cert.S5Ops
open Idealize.ShloMosaic.Pipeline (Dat)

/-- The real part of the sixteenth power of each state's transition, for one step's rates. -/
def last_re (x0 x1 x2 : S4x1x128.Idx → EReal) : S4x1x128.Idx → EReal :=
  fun y => (pow (are (x0 y) (x1 y) (x2 y)) (aim (x0 y) (x1 y) (x2 y)) 16).1

/-- The imaginary part of the sixteenth power of each state's transition, for one step's rates. -/
def last_im (x0 x1 x2 : S4x1x128.Idx → EReal) : S4x1x128.Idx → EReal :=
  fun y => (pow (are (x0 y) (x1 y) (x2 y)) (aim (x0 y) (x1 y) (x2 y)) 16).2

/-- The real part of a group's transitions, as the kernel computes them. -/
def vre (a b c : Vec Ideal S1x1x128 .f32) : FVec Ideal S1x128 .f32 := k0_pay6 a b c

/-- The imaginary part of a group's transitions, as the kernel computes them. -/
def vim (a b c : Vec Ideal S1x1x128 .f32) : FVec Ideal S1x128 .f32 := k0_pay7 a b c

/-- The powers of a group's transitions, as the kernel computes them: one complex product after another. -/
def vpow (a b : FVec Ideal S1x128 .f32) : ℕ → FVec Ideal S1x128 .f32 × FVec Ideal S1x128 .f32
  | 0 => (broadcast S1x128 (Scalar.ofBits .f32 0x3F800000#32), broadcast S1x128 (Scalar.ofBits .f32 0x00000000#32))
  | n + 1 => (subf (mulf (vpow a b n).1 a) (mulf (vpow a b n).2 b), addf (mulf (vpow a b n).1 b) (mulf (vpow a b n).2 a))

/-- The kernel's test for a lane of the forward direction, lane by lane. -/
theorem fwd_word : ∀ l : Fin 128, IntOp.cmpi CmpIPredicate.slt (BitVec.ofNat 32 l.val) 64#32 = BitVec.ofBool (decide (l.val < 64)) := by decide +kernel

/-- Selecting by the lane's direction is choosing by whether the lane lies below 64. -/
theorem fwd_select (l : Fin 128) (u v : EReal) : Scalar.select (IntOp.cmpi CmpIPredicate.slt (BitVec.ofNat 32 l.val) 64#32) u v = if l.val < 64 then u else v := by
  rw [fwd_word]
  by_cases h : l.val < 64 <;> simp [h, Scalar.select]

/-- A lane of a vector power is the power of that lane. -/
theorem vpow_apply (a b : FVec Ideal S1x128 .f32) (j : S1x128.Idx) : ∀ n, (vpow a b n).1 j = (pow (a j) (b j) n).1 ∧ (vpow a b n).2 j = (pow (a j) (b j) n).2
  | 0 => ⟨Cert.Finite.one_bits, Ideal.ofBits_zero_f32⟩
  | n + 1 => by
    obtain ⟨h, k⟩ := vpow_apply a b j n
    constructor
    · show (vpow a b n).1 j * a j - (vpow a b n).2 j * b j = _
      rw [h, k]; rfl
    · show (vpow a b n).1 j * b j + (vpow a b n).2 j * a j = _
      rw [h, k]; rfl

/-- A lane of the transition's real part. -/
theorem vre_apply (a b c : Vec Ideal S1x1x128 .f32) (l : Fin 128) : vre a b c (ix2 0 l) = are (a (ix3 0 0 l)) (b (ix3 0 0 l)) (c (ix3 0 0 l)) := by
  unfold vre are
  pointwise [k0_pay6, k0_pay5, k0_pay4, k0_pay3, k0_pay2]

/-- A lane of the transition's imaginary part. -/
theorem vim_apply (a b c : Vec Ideal S1x1x128 .f32) (l : Fin 128) : vim a b c (ix2 0 l) = aim (a (ix3 0 0 l)) (b (ix3 0 0 l)) (c (ix3 0 0 l)) := by
  unfold vim aim
  pointwise [k0_pay7, k0_pay5, k0_pay4, k0_pay3, k0_pay2]

/-- The kernel's expression for the transition's real part has a name. -/
theorem fold_re (a b c : Vec Ideal S1x1x128 .f32) : mulf (exp (mulf (shapeCast S1x128 a shapeCasts_S1x1x128_S1x128) (exp (shapeCast S1x128 c shapeCasts_S1x1x128_S1x128)))) (cos (mulf (shapeCast S1x128 b shapeCasts_S1x1x128_S1x128) (exp (shapeCast S1x128 c shapeCasts_S1x1x128_S1x128)))) = vre a b c := rfl

/-- The kernel's expression for the transition's imaginary part has a name. -/
theorem fold_im (a b c : Vec Ideal S1x1x128 .f32) : mulf (exp (mulf (shapeCast S1x128 a shapeCasts_S1x1x128_S1x128) (exp (shapeCast S1x128 c shapeCasts_S1x1x128_S1x128)))) (sin (mulf (shapeCast S1x128 b shapeCasts_S1x1x128_S1x128) (exp (shapeCast S1x128 c shapeCasts_S1x1x128_S1x128)))) = vim a b c := rfl

/-- The first product of the kernel is the first power, real part. -/
theorem pow_one_re (a b : FVec Ideal S1x128 .f32) : subf (mulf (broadcast S1x128 (Scalar.ofBits .f32 0x3F800000#32)) a) (mulf (broadcast S1x128 (Scalar.ofBits .f32 0x00000000#32)) b) = (vpow a b 1).1 := rfl

/-- The first product of the kernel is the first power, imaginary part. -/
theorem pow_one_im (a b : FVec Ideal S1x128 .f32) : addf (mulf (broadcast S1x128 (Scalar.ofBits .f32 0x3F800000#32)) b) (mulf (broadcast S1x128 (Scalar.ofBits .f32 0x00000000#32)) a) = (vpow a b 1).2 := rfl

/-- Each further product of the kernel is the next power, real part. -/
theorem pow_succ_re (a b : FVec Ideal S1x128 .f32) (n : ℕ) : subf (mulf (vpow a b n).1 a) (mulf (vpow a b n).2 b) = (vpow a b (n + 1)).1 := rfl

/-- Each further product of the kernel is the next power, imaginary part. -/
theorem pow_succ_im (a b : FVec Ideal S1x128 .f32) (n : ℕ) : addf (mulf (vpow a b n).1 b) (mulf (vpow a b n).2 a) = (vpow a b (n + 1)).2 := rfl

/-- One step's block of the matrix that carries a chunk's entry state to its outputs. -/
def leave (x0 x1 x2 : S4x1x128.Idx → EReal) (x5 x6 : S4x128x128.Idx → EReal) : S4x256x256.Idx → EReal := fun y =>
  let g : Fin 4 := y 0
  let h : Fin 128 := ⟨(y 1).val % 16, by omega⟩
  let l : Fin 128 := ⟨(y 2).val % 128, Nat.mod_lt _ (by decide)⟩
  let p := pow (are (x0 (ix3 g 0 l)) (x1 (ix3 g 0 l)) (x2 (ix3 g 0 l))) (aim (x0 (ix3 g 0 l)) (x1 (ix3 g 0 l)) (x2 (ix3 g 0 l))) (step ((y 1).val / 16) l)
  if (y 2).val < 128 then out_re (x5 (ix3 g h l)) (x6 (ix3 g h l)) p else out_im (x5 (ix3 g h l)) (x6 (ix3 g h l)) p

/-- The kernel's mask of the lanes of the forward direction. -/
abbrev fwd : IVec S1x128 1 := cmpi CmpIPredicate.slt (iota Kind.tc S1x128 32 [1] iota_S1x128_d1_w32) (broadcast S1x128 64#32)

/-- One stored piece of the real half, entry by entry. -/
theorem leave_re (a b c : Vec Ideal S1x1x128 .f32) (A B : Vec Ideal S1x16x128 .f32) (n k : ℕ) (z : Fin 1) (h : Fin 16) (l : Fin 128) :
    shapeCast S1x16x128 (truncf FTy.bf16 (subf (mulf (shapeCast S16x128 A shapeCasts_S1x16x128_S16x128) (broadcastTo S16x128 (select fwd (vpow (vre a b c) (vim a b c) n).1 (vpow (vre a b c) (vim a b c) k).1) broadcasts_S1x128_S16x128)) (mulf (shapeCast S16x128 B shapeCasts_S1x16x128_S16x128) (broadcastTo S16x128 (select fwd (vpow (vre a b c) (vim a b c) n).2 (vpow (vre a b c) (vim a b c) k).2) broadcasts_S1x128_S16x128))) bitsLt_bf16_f32) shapeCasts_S16x128_S1x16x128 (ix3 z h l)
    = out_re (A (ix3 0 h l)) (B (ix3 0 h l)) (pow (are (a (ix3 0 0 l)) (b (ix3 0 0 l)) (c (ix3 0 0 l))) (aim (a (ix3 0 0 l)) (b (ix3 0 0 l)) (c (ix3 0 0 l))) (if l.val < 64 then n else k)) := by
  pointwise []
  rw [(vpow_apply _ _ _ n).1, (vpow_apply _ _ _ n).2, (vpow_apply _ _ _ k).1, (vpow_apply _ _ _ k).2, vre_apply, vim_apply]
  simp only [fwd_select]
  unfold out_re
  by_cases hl : l.val < 64
  · simp only [hl, if_true]; try rfl
  · simp only [hl, if_false]; try rfl

/-- An entry of the real half of the block, by its row and lane. -/
theorem leave_at_re (x0 x1 x2 : S4x1x128.Idx → EReal) (x5 x6 : S4x128x128.Idx → EReal) (g : Fin 4) (y1 y2 : Fin 256) (h l : Fin 128) (n k : ℕ)
    (hl : y2.val = l.val) (hh : y1.val % 16 = h.val) (hn : y1.val / 16 + 1 = n) (hk : 16 - y1.val / 16 = k) :
    out_re (x5 (ix3 g h l)) (x6 (ix3 g h l)) (pow (are (x0 (ix3 g 0 l)) (x1 (ix3 g 0 l)) (x2 (ix3 g 0 l))) (aim (x0 (ix3 g 0 l)) (x1 (ix3 g 0 l)) (x2 (ix3 g 0 l))) (if l.val < 64 then n else k))
      = leave x0 x1 x2 x5 x6 (ix3 g y1 y2) := by
  subst hn hk
  obtain rfl : h = ⟨y1.val % 16, lt_of_lt_of_le (Nat.mod_lt _ (by decide)) (by decide : (16 : ℕ) ≤ 128)⟩ := Fin.ext hh.symm
  obtain rfl : l = ⟨y2.val % 128, Nat.mod_lt _ (by decide)⟩ := Fin.ext (by show l.val = y2.val % 128; omega)
  exact (if_pos (show y2.val < 128 by omega)).symm

/-- One stored piece of the imaginary half, entry by entry. -/
theorem leave_im (a b c : Vec Ideal S1x1x128 .f32) (A B : Vec Ideal S1x16x128 .f32) (n k : ℕ) (z : Fin 1) (h : Fin 16) (l : Fin 128) :
    shapeCast S1x16x128 (truncf FTy.bf16 (subf (broadcast S16x128 (FloatOps.ofBits FTy.f32 0#32)) (addf (mulf (shapeCast S16x128 A shapeCasts_S1x16x128_S16x128) (broadcastTo S16x128 (select fwd (vpow (vre a b c) (vim a b c) n).2 (vpow (vre a b c) (vim a b c) k).2) broadcasts_S1x128_S16x128)) (mulf (shapeCast S16x128 B shapeCasts_S1x16x128_S16x128) (broadcastTo S16x128 (select fwd (vpow (vre a b c) (vim a b c) n).1 (vpow (vre a b c) (vim a b c) k).1) broadcasts_S1x128_S16x128)))) bitsLt_bf16_f32) shapeCasts_S16x128_S1x16x128 (ix3 z h l)
    = out_im (A (ix3 0 h l)) (B (ix3 0 h l)) (pow (are (a (ix3 0 0 l)) (b (ix3 0 0 l)) (c (ix3 0 0 l))) (aim (a (ix3 0 0 l)) (b (ix3 0 0 l)) (c (ix3 0 0 l))) (if l.val < 64 then n else k)) := by
  pointwise []
  rw [(vpow_apply _ _ _ n).1, (vpow_apply _ _ _ n).2, (vpow_apply _ _ _ k).1, (vpow_apply _ _ _ k).2, vre_apply, vim_apply]
  simp only [fwd_select]
  unfold out_im
  by_cases hl : l.val < 64
  · simp only [hl, if_true]; try rfl
  · simp only [hl, if_false]; try rfl

/-- An entry of the imaginary half of the block, by its row and lane. -/
theorem leave_at_im (x0 x1 x2 : S4x1x128.Idx → EReal) (x5 x6 : S4x128x128.Idx → EReal) (g : Fin 4) (y1 y2 : Fin 256) (h l : Fin 128) (n k : ℕ)
    (hl : y2.val = 128 + l.val) (hh : y1.val % 16 = h.val) (hn : y1.val / 16 + 1 = n) (hk : 16 - y1.val / 16 = k) :
    out_im (x5 (ix3 g h l)) (x6 (ix3 g h l)) (pow (are (x0 (ix3 g 0 l)) (x1 (ix3 g 0 l)) (x2 (ix3 g 0 l))) (aim (x0 (ix3 g 0 l)) (x1 (ix3 g 0 l)) (x2 (ix3 g 0 l))) (if l.val < 64 then n else k))
      = leave x0 x1 x2 x5 x6 (ix3 g y1 y2) := by
  subst hn hk
  obtain rfl : h = ⟨y1.val % 16, lt_of_lt_of_le (Nat.mod_lt _ (by decide)) (by decide : (16 : ℕ) ≤ 128)⟩ := Fin.ext hh.symm
  obtain rfl : l = ⟨y2.val % 128, Nat.mod_lt _ (by decide)⟩ := Fin.ext (by show l.val = y2.val % 128; omega)
  exact (if_neg (show ¬ y2.val < 128 by omega)).symm

/-- Reading one group's lanes of a block of rates. -/
theorem ld_vec (x : Vec Ideal S4x1x128 .f32) (g : ℕ) (hg : g < 4) (inb : ∀ a, (![g, 0, 0] : Fin 3 → ℕ) a + (![1, 1, 128] : Fin 3 → ℕ) a ≤ S4x1x128.size a) (l : Fin 128) :
    View.ld (Val := Elt Ideal) (e' := .f32) x (Rect.unit (s := S4x1x128) ![g, 0, 0] ![1, 1, 128] inb) (ix3 0 0 l) = x (ix3 ⟨g, hg⟩ 0 l) := by
  refine congrArg x (funext fun a => Fin.ext ?_)
  match a with
  | ⟨0, _⟩ => exact Nat.add_zero _
  | ⟨1, _⟩ => rfl
  | ⟨2, _⟩ => exact (Nat.zero_add _).trans (Nat.one_mul _)

/-- Reading one group's sixteen rows of a block of output weights. -/
theorem ld_out (x : Vec Ideal S4x128x128 .f32) (g : ℕ) (hg : g < 4) (inb : ∀ a, (![g, 0, 0] : Fin 3 → ℕ) a + (![1, 16, 128] : Fin 3 → ℕ) a ≤ S4x128x128.size a) (h : Fin 16) (l : Fin 128) :
    View.ld (Val := Elt Ideal) (e' := .f32) x (Rect.unit (s := S4x128x128) ![g, 0, 0] ![1, 16, 128] inb) (ix3 0 h l) = x (ix3 ⟨g, hg⟩ ⟨h.val, by omega⟩ l) := by
  refine congrArg x (funext fun a => Fin.ext ?_)
  match a with
  | ⟨0, _⟩ => exact Nat.add_zero _
  | ⟨1, _⟩ => exact (Nat.zero_add _).trans (Nat.one_mul _)
  | ⟨2, _⟩ => exact (Nat.zero_add _).trans (Nat.one_mul _)

/-- A stored piece of the real half is the block at that piece's place. -/
theorem piece_re (x0 x1 x2 : Vec Ideal S4x1x128 .f32) (x5 x6 : Vec Ideal S4x128x128 .f32) (g r n k : ℕ)
    (i0 : ∀ a, (![g, 0, 0] : Fin 3 → ℕ) a + (![1, 1, 128] : Fin 3 → ℕ) a ≤ S4x1x128.size a)
    (i5 : ∀ a, (![g, 0, 0] : Fin 3 → ℕ) a + (![1, 16, 128] : Fin 3 → ℕ) a ≤ S4x128x128.size a)
    (io : ∀ a, (![g, r, 0] : Fin 3 → ℕ) a + (![1, 16, 128] : Fin 3 → ℕ) a ≤ S4x256x256.size a)
    (h0 : r % 16 = 0) (hn : r / 16 + 1 = n) (hk : 16 - r / 16 = k) (x : S1x16x128.Idx) :
    shapeCast S1x16x128 (truncf FTy.bf16 (subf (mulf (shapeCast S16x128 (View.ld x5 (Rect.unit (s := S4x128x128) ![g, 0, 0] ![1, 16, 128] i5)) shapeCasts_S1x16x128_S16x128) (broadcastTo S16x128 (select fwd (vpow (vre (View.ld x0 (Rect.unit (s := S4x1x128) ![g, 0, 0] ![1, 1, 128] i0)) (View.ld x1 (Rect.unit (s := S4x1x128) ![g, 0, 0] ![1, 1, 128] i0)) (View.ld x2 (Rect.unit (s := S4x1x128) ![g, 0, 0] ![1, 1, 128] i0))) (vim (View.ld x0 (Rect.unit (s := S4x1x128) ![g, 0, 0] ![1, 1, 128] i0)) (View.ld x1 (Rect.unit (s := S4x1x128) ![g, 0, 0] ![1, 1, 128] i0)) (View.ld x2 (Rect.unit (s := S4x1x128) ![g, 0, 0] ![1, 1, 128] i0))) n).1 (vpow (vre (View.ld x0 (Rect.unit (s := S4x1x128) ![g, 0, 0] ![1, 1, 128] i0)) (View.ld x1 (Rect.unit (s := S4x1x128) ![g, 0, 0] ![1, 1, 128] i0)) (View.ld x2 (Rect.unit (s := S4x1x128) ![g, 0, 0] ![1, 1, 128] i0))) (vim (View.ld x0 (Rect.unit (s := S4x1x128) ![g, 0, 0] ![1, 1, 128] i0)) (View.ld x1 (Rect.unit (s := S4x1x128) ![g, 0, 0] ![1, 1, 128] i0)) (View.ld x2 (Rect.unit (s := S4x1x128) ![g, 0, 0] ![1, 1, 128] i0))) k).1) broadcasts_S1x128_S16x128)) (mulf (shapeCast S16x128 (View.ld x6 (Rect.unit (s := S4x128x128) ![g, 0, 0] ![1, 16, 128] i5)) shapeCasts_S1x16x128_S16x128) (broadcastTo S16x128 (select fwd (vpow (vre (View.ld x0 (Rect.unit (s := S4x1x128) ![g, 0, 0] ![1, 1, 128] i0)) (View.ld x1 (Rect.unit (s := S4x1x128) ![g, 0, 0] ![1, 1, 128] i0)) (View.ld x2 (Rect.unit (s := S4x1x128) ![g, 0, 0] ![1, 1, 128] i0))) (vim (View.ld x0 (Rect.unit (s := S4x1x128) ![g, 0, 0] ![1, 1, 128] i0)) (View.ld x1 (Rect.unit (s := S4x1x128) ![g, 0, 0] ![1, 1, 128] i0)) (View.ld x2 (Rect.unit (s := S4x1x128) ![g, 0, 0] ![1, 1, 128] i0))) n).2 (vpow (vre (View.ld x0 (Rect.unit (s := S4x1x128) ![g, 0, 0] ![1, 1, 128] i0)) (View.ld x1 (Rect.unit (s := S4x1x128) ![g, 0, 0] ![1, 1, 128] i0)) (View.ld x2 (Rect.unit (s := S4x1x128) ![g, 0, 0] ![1, 1, 128] i0))) (vim (View.ld x0 (Rect.unit (s := S4x1x128) ![g, 0, 0] ![1, 1, 128] i0)) (View.ld x1 (Rect.unit (s := S4x1x128) ![g, 0, 0] ![1, 1, 128] i0)) (View.ld x2 (Rect.unit (s := S4x1x128) ![g, 0, 0] ![1, 1, 128] i0))) k).2) broadcasts_S1x128_S16x128))) bitsLt_bf16_f32) shapeCasts_S16x128_S1x16x128 x
      = leave x0 x1 x2 x5 x6 ((Rect.unit (s := S4x256x256) ![g, r, 0] ![1, 16, 128] io).emb x) := by
  have hg : g < 4 := Nat.lt_of_succ_le (io 0)
  have hr : r + 16 ≤ 256 := io 1
  obtain ⟨z, h, l, rfl⟩ : ∃ (z : Fin 1) (h : Fin 16) (l : Fin 128), x = ix3 z h l := ⟨x 0, x 1, x 2, by funext a; match a with | ⟨0, _⟩ => rfl | ⟨1, _⟩ => rfl | ⟨2, _⟩ => rfl⟩
  refine (leave_re _ _ _ _ _ _ _ z h l).trans ?_
  have e : (Rect.unit (s := S4x256x256) ![g, r, 0] ![1, 16, 128] io).emb (ix3 z h l) = ix3 ⟨g, hg⟩ ⟨r + h.val, by omega⟩ ⟨0 + l.val, by omega⟩ := by
    funext a
    refine Fin.ext ?_
    match a with
    | ⟨0, _⟩ => show g + 1 * z.val = g; omega
    | ⟨1, _⟩ => show r + 1 * h.val = r + h.val; omega
    | ⟨2, _⟩ => show 0 + 1 * l.val = 0 + l.val; omega
  rw [e]
  rw [ld_vec _ g hg, ld_vec _ g hg, ld_vec _ g hg, ld_out _ g hg, ld_out _ g hg]
  exact leave_at_re _ _ _ _ _ _ _ _ _ _ _ _ (by show 0 + l.val = l.val; omega) (by show (r + h.val) % 16 = h.val; omega) (by show (r + h.val) / 16 + 1 = n; omega) (by show 16 - (r + h.val) / 16 = k; omega)

/-- A stored piece of the imaginary half is the block at that piece's place. -/
theorem piece_im (x0 x1 x2 : Vec Ideal S4x1x128 .f32) (x5 x6 : Vec Ideal S4x128x128 .f32) (g r n k : ℕ)
    (i0 : ∀ a, (![g, 0, 0] : Fin 3 → ℕ) a + (![1, 1, 128] : Fin 3 → ℕ) a ≤ S4x1x128.size a)
    (i5 : ∀ a, (![g, 0, 0] : Fin 3 → ℕ) a + (![1, 16, 128] : Fin 3 → ℕ) a ≤ S4x128x128.size a)
    (io : ∀ a, (![g, r, 128] : Fin 3 → ℕ) a + (![1, 16, 128] : Fin 3 → ℕ) a ≤ S4x256x256.size a)
    (h0 : r % 16 = 0) (hn : r / 16 + 1 = n) (hk : 16 - r / 16 = k) (x : S1x16x128.Idx) :
    shapeCast S1x16x128 (truncf FTy.bf16 (subf (broadcast S16x128 (FloatOps.ofBits FTy.f32 0#32)) (addf (mulf (shapeCast S16x128 (View.ld x5 (Rect.unit (s := S4x128x128) ![g, 0, 0] ![1, 16, 128] i5)) shapeCasts_S1x16x128_S16x128) (broadcastTo S16x128 (select fwd (vpow (vre (View.ld x0 (Rect.unit (s := S4x1x128) ![g, 0, 0] ![1, 1, 128] i0)) (View.ld x1 (Rect.unit (s := S4x1x128) ![g, 0, 0] ![1, 1, 128] i0)) (View.ld x2 (Rect.unit (s := S4x1x128) ![g, 0, 0] ![1, 1, 128] i0))) (vim (View.ld x0 (Rect.unit (s := S4x1x128) ![g, 0, 0] ![1, 1, 128] i0)) (View.ld x1 (Rect.unit (s := S4x1x128) ![g, 0, 0] ![1, 1, 128] i0)) (View.ld x2 (Rect.unit (s := S4x1x128) ![g, 0, 0] ![1, 1, 128] i0))) n).2 (vpow (vre (View.ld x0 (Rect.unit (s := S4x1x128) ![g, 0, 0] ![1, 1, 128] i0)) (View.ld x1 (Rect.unit (s := S4x1x128) ![g, 0, 0] ![1, 1, 128] i0)) (View.ld x2 (Rect.unit (s := S4x1x128) ![g, 0, 0] ![1, 1, 128] i0))) (vim (View.ld x0 (Rect.unit (s := S4x1x128) ![g, 0, 0] ![1, 1, 128] i0)) (View.ld x1 (Rect.unit (s := S4x1x128) ![g, 0, 0] ![1, 1, 128] i0)) (View.ld x2 (Rect.unit (s := S4x1x128) ![g, 0, 0] ![1, 1, 128] i0))) k).2) broadcasts_S1x128_S16x128)) (mulf (shapeCast S16x128 (View.ld x6 (Rect.unit (s := S4x128x128) ![g, 0, 0] ![1, 16, 128] i5)) shapeCasts_S1x16x128_S16x128) (broadcastTo S16x128 (select fwd (vpow (vre (View.ld x0 (Rect.unit (s := S4x1x128) ![g, 0, 0] ![1, 1, 128] i0)) (View.ld x1 (Rect.unit (s := S4x1x128) ![g, 0, 0] ![1, 1, 128] i0)) (View.ld x2 (Rect.unit (s := S4x1x128) ![g, 0, 0] ![1, 1, 128] i0))) (vim (View.ld x0 (Rect.unit (s := S4x1x128) ![g, 0, 0] ![1, 1, 128] i0)) (View.ld x1 (Rect.unit (s := S4x1x128) ![g, 0, 0] ![1, 1, 128] i0)) (View.ld x2 (Rect.unit (s := S4x1x128) ![g, 0, 0] ![1, 1, 128] i0))) n).1 (vpow (vre (View.ld x0 (Rect.unit (s := S4x1x128) ![g, 0, 0] ![1, 1, 128] i0)) (View.ld x1 (Rect.unit (s := S4x1x128) ![g, 0, 0] ![1, 1, 128] i0)) (View.ld x2 (Rect.unit (s := S4x1x128) ![g, 0, 0] ![1, 1, 128] i0))) (vim (View.ld x0 (Rect.unit (s := S4x1x128) ![g, 0, 0] ![1, 1, 128] i0)) (View.ld x1 (Rect.unit (s := S4x1x128) ![g, 0, 0] ![1, 1, 128] i0)) (View.ld x2 (Rect.unit (s := S4x1x128) ![g, 0, 0] ![1, 1, 128] i0))) k).1) broadcasts_S1x128_S16x128)))) bitsLt_bf16_f32) shapeCasts_S16x128_S1x16x128 x
      = leave x0 x1 x2 x5 x6 ((Rect.unit (s := S4x256x256) ![g, r, 128] ![1, 16, 128] io).emb x) := by
  have hg : g < 4 := Nat.lt_of_succ_le (io 0)
  have hr : r + 16 ≤ 256 := io 1
  obtain ⟨z, h, l, rfl⟩ : ∃ (z : Fin 1) (h : Fin 16) (l : Fin 128), x = ix3 z h l := ⟨x 0, x 1, x 2, by funext a; match a with | ⟨0, _⟩ => rfl | ⟨1, _⟩ => rfl | ⟨2, _⟩ => rfl⟩
  refine (leave_im _ _ _ _ _ _ _ z h l).trans ?_
  have e : (Rect.unit (s := S4x256x256) ![g, r, 128] ![1, 16, 128] io).emb (ix3 z h l) = ix3 ⟨g, hg⟩ ⟨r + h.val, by omega⟩ ⟨128 + l.val, by omega⟩ := by
    funext a
    refine Fin.ext ?_
    match a with
    | ⟨0, _⟩ => show g + 1 * z.val = g; omega
    | ⟨1, _⟩ => show r + 1 * h.val = r + h.val; omega
    | ⟨2, _⟩ => show 128 + 1 * l.val = 128 + l.val; omega
  rw [e]
  rw [ld_vec _ g hg, ld_vec _ g hg, ld_vec _ g hg, ld_out _ g hg, ld_out _ g hg]
  exact leave_at_im _ _ _ _ _ _ _ _ _ _ _ _ (by show 128 + l.val = 128 + l.val; omega) (by show (r + h.val) % 16 = h.val; omega) (by show (r + h.val) / 16 + 1 = n; omega) (by show 16 - (r + h.val) / 16 = k; omega)

/-- A stored row of the last powers' real part is the block at that row's place. -/
theorem piece_last_re (x0 x1 x2 : Vec Ideal S4x1x128 .f32) (g : ℕ)
    (i0 : ∀ a, (![g, 0, 0] : Fin 3 → ℕ) a + (![1, 1, 128] : Fin 3 → ℕ) a ≤ S4x1x128.size a) (x : S1x1x128.Idx) :
    shapeCast S1x1x128 (vpow (vre (View.ld x0 (Rect.unit (s := S4x1x128) ![g, 0, 0] ![1, 1, 128] i0)) (View.ld x1 (Rect.unit (s := S4x1x128) ![g, 0, 0] ![1, 1, 128] i0)) (View.ld x2 (Rect.unit (s := S4x1x128) ![g, 0, 0] ![1, 1, 128] i0))) (vim (View.ld x0 (Rect.unit (s := S4x1x128) ![g, 0, 0] ![1, 1, 128] i0)) (View.ld x1 (Rect.unit (s := S4x1x128) ![g, 0, 0] ![1, 1, 128] i0)) (View.ld x2 (Rect.unit (s := S4x1x128) ![g, 0, 0] ![1, 1, 128] i0))) 16).1 shapeCasts_S1x128_S1x1x128 x
      = last_re x0 x1 x2 ((Rect.unit (s := S4x1x128) ![g, 0, 0] ![1, 1, 128] i0).emb x) := by
  have hg : g < 4 := Nat.lt_of_succ_le (i0 0)
  obtain ⟨l, rfl⟩ : ∃ l : Fin 128, x = ix3 0 0 l := ⟨x 2, by funext a; match a with | ⟨0, _⟩ => exact Fin.ext (by have := (x 0).isLt; change (x 0).val < 1 at this; show (x 0).val = 0; omega) | ⟨1, _⟩ => exact Fin.ext (by have := (x 1).isLt; change (x 1).val < 1 at this; show (x 1).val = 0; omega) | ⟨2, _⟩ => rfl⟩
  have e : (Rect.unit (s := S4x1x128) ![g, 0, 0] ![1, 1, 128] i0).emb (ix3 0 0 l) = ix3 ⟨g, hg⟩ 0 l := by
    funext a
    refine Fin.ext ?_
    match a with
    | ⟨0, _⟩ => show g + 1 * 0 = g; omega
    | ⟨1, _⟩ => rfl
    | ⟨2, _⟩ => show 0 + 1 * l.val = l.val; omega
  rw [e]
  pointwise []
  rw [(vpow_apply _ _ _ 16).1, vre_apply, vim_apply, ld_vec _ g hg, ld_vec _ g hg, ld_vec _ g hg]
  rfl

/-- A stored row of the last powers' imaginary part is the block at that row's place. -/
theorem piece_last_im (x0 x1 x2 : Vec Ideal S4x1x128 .f32) (g : ℕ)
    (i0 : ∀ a, (![g, 0, 0] : Fin 3 → ℕ) a + (![1, 1, 128] : Fin 3 → ℕ) a ≤ S4x1x128.size a) (x : S1x1x128.Idx) :
    shapeCast S1x1x128 (vpow (vre (View.ld x0 (Rect.unit (s := S4x1x128) ![g, 0, 0] ![1, 1, 128] i0)) (View.ld x1 (Rect.unit (s := S4x1x128) ![g, 0, 0] ![1, 1, 128] i0)) (View.ld x2 (Rect.unit (s := S4x1x128) ![g, 0, 0] ![1, 1, 128] i0))) (vim (View.ld x0 (Rect.unit (s := S4x1x128) ![g, 0, 0] ![1, 1, 128] i0)) (View.ld x1 (Rect.unit (s := S4x1x128) ![g, 0, 0] ![1, 1, 128] i0)) (View.ld x2 (Rect.unit (s := S4x1x128) ![g, 0, 0] ![1, 1, 128] i0))) 16).2 shapeCasts_S1x128_S1x1x128 x
      = last_im x0 x1 x2 ((Rect.unit (s := S4x1x128) ![g, 0, 0] ![1, 1, 128] i0).emb x) := by
  have hg : g < 4 := Nat.lt_of_succ_le (i0 0)
  obtain ⟨l, rfl⟩ : ∃ l : Fin 128, x = ix3 0 0 l := ⟨x 2, by funext a; match a with | ⟨0, _⟩ => exact Fin.ext (by have := (x 0).isLt; change (x 0).val < 1 at this; show (x 0).val = 0; omega) | ⟨1, _⟩ => exact Fin.ext (by have := (x 1).isLt; change (x 1).val < 1 at this; show (x 1).val = 0; omega) | ⟨2, _⟩ => rfl⟩
  have e : (Rect.unit (s := S4x1x128) ![g, 0, 0] ![1, 1, 128] i0).emb (ix3 0 0 l) = ix3 ⟨g, hg⟩ 0 l := by
    funext a
    refine Fin.ext ?_
    match a with
    | ⟨0, _⟩ => show g + 1 * 0 = g; omega
    | ⟨1, _⟩ => rfl
    | ⟨2, _⟩ => show 0 + 1 * l.val = l.val; omega
  rw [e]
  pointwise []
  rw [(vpow_apply _ _ _ 16).2, vre_apply, vim_apply, ld_vec _ g hg, ld_vec _ g hg, ld_vec _ g hg]
  rfl
variable (m : (ℓ : Loc nD τ sig) → Buf (Elt Ideal) ℓ)
set_option maxHeartbeats 1000000 in

/-- The step's third output block. -/
theorem after_10 (c : Dev nD) (t : Fin cfg0.N) (y : S4x256x256.Idx) : (dats m 0 c).after 10 t y = leave (iblk m c 0 t) (iblk m c 1 t) (iblk m c 2 t) (iblk m c 5 t) (iblk m c 6 t) y := by
  rw [after0_10]
  frame_out
  try generalize iblk m c 0 t = x0; try generalize iblk m c 1 t = x1; try generalize iblk m c 2 t = x2; try generalize iblk m c 5 t = x5; try generalize iblk m c 6 t = x6
  simp only [pow_one_re, pow_one_im, pow_succ_re, pow_succ_im, Nat.reduceAdd, fold_re, fold_im,
    k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389, k0_pay390, k0_pay391, k0_pay392, k0_pay393, k0_pay394, k0_pay395, k0_pay396, k0_pay397, k0_pay398, k0_pay399, k0_pay400, k0_pay401, k0_pay402, k0_pay403, k0_pay404, k0_pay405, k0_pay406, k0_pay407, k0_pay408, k0_pay409, k0_pay410, k0_pay411, k0_pay412, k0_pay413, k0_pay414, k0_pay415, k0_pay416, k0_pay417, k0_pay418, k0_pay419, k0_pay420, k0_pay421, k0_pay422, k0_pay423, k0_pay424, k0_pay425, k0_pay426, k0_pay427, k0_pay428, k0_pay429, k0_pay430, k0_pay431, k0_pay432, k0_pay433, k0_pay434, k0_pay435, k0_pay436, k0_pay437, k0_pay438, k0_pay439, k0_pay440, k0_pay441, k0_pay442, k0_pay443, k0_pay444, k0_pay445, k0_pay446, k0_pay447, k0_pay448, k0_pay449, k0_pay450, k0_pay451, k0_pay452, k0_pay453, k0_pay454, k0_pay455, k0_pay456, k0_pay457, k0_pay458, k0_pay459, k0_pay460, k0_pay461, k0_pay462, k0_pay463, k0_pay464, k0_pay465, k0_pay466, k0_pay467, k0_pay468, k0_pay469, k0_pay470, k0_pay471, k0_pay472, k0_pay473, k0_pay474, k0_pay475, k0_pay476, k0_pay477, k0_pay478, k0_pay479, k0_pay480, k0_pay481, k0_pay482, k0_pay483, k0_pay484, k0_pay485, k0_pay486, k0_pay487, k0_pay488, k0_pay489, k0_pay490, k0_pay491, k0_pay492, k0_pay493, k0_pay494, k0_pay495, k0_pay496, k0_pay497, k0_pay498, k0_pay499, k0_pay500, k0_pay501, k0_pay502, k0_pay503, k0_pay504, k0_pay505, k0_pay506, k0_pay507, k0_pay508, k0_pay509, k0_pay510, k0_pay511, k0_pay512, k0_pay513, k0_pay514, k0_pay515, k0_pay516, k0_pay517, k0_pay518, k0_pay519, k0_pay520, k0_pay521, k0_pay522, k0_pay523, k0_pay524, k0_pay525, k0_pay526, k0_pay527, k0_pay528, k0_pay529, k0_pay530, k0_pay531, k0_pay532, k0_pay533, k0_pay534, k0_pay535, k0_pay536, k0_pay537, k0_pay538, k0_pay539, k0_pay540, k0_pay541, k0_pay542, k0_pay543, k0_pay544, k0_pay545, k0_pay546, k0_pay547, k0_pay548, k0_pay549, k0_pay550, k0_pay551, k0_pay552, k0_pay553, k0_pay554, k0_pay555, k0_pay556, k0_pay557, k0_pay558, k0_pay559, k0_pay560, k0_pay561, k0_pay562, k0_pay563, k0_pay564, k0_pay565, k0_pay566, k0_pay567, k0_pay568, k0_pay569, k0_pay570, k0_pay571, k0_pay572, k0_pay573, k0_pay574, k0_pay575, k0_pay576, k0_pay577, k0_pay578, k0_pay579, k0_pay580, k0_pay581, k0_pay582, k0_pay583, k0_pay584, k0_pay585, k0_pay586, k0_pay587, k0_pay588, k0_pay589, k0_pay590, k0_pay591, k0_pay592, k0_pay593, k0_pay594, k0_pay595, k0_pay596, k0_pay597, k0_pay598, k0_pay599, k0_pay600, k0_pay601, k0_pay602, k0_pay603, k0_pay604, k0_pay605, k0_pay606, k0_pay607, k0_pay608, k0_pay609, k0_pay610, k0_pay611, k0_pay612, k0_pay613, k0_pay614, k0_pay615, k0_pay616, k0_pay617, k0_pay618, k0_pay619, k0_pay620, k0_pay621, k0_pay622, k0_pay623, k0_pay624, k0_pay625, k0_pay626, k0_pay627, k0_pay628, k0_pay629, k0_pay630, k0_pay631, k0_pay632, k0_pay633, k0_pay634, k0_pay635, k0_pay636, k0_pay637, k0_pay638, k0_pay639, k0_pay640, k0_pay641, k0_pay642, k0_pay643, k0_pay644, k0_pay645, k0_pay646, k0_pay647, k0_pay648, k0_pay649, k0_pay650, k0_pay651, k0_pay652, k0_pay653, k0_pay654, k0_pay655, k0_pay656, k0_pay657, k0_pay658, k0_pay659, k0_pay660, k0_pay661, k0_pay662, k0_pay663, k0_pay664, k0_pay665, k0_pay666, k0_pay667, k0_pay668, k0_pay669, k0_pay670, k0_pay671, k0_pay672, k0_pay673, k0_pay674, k0_pay675, k0_pay676, k0_pay677, k0_pay678, k0_pay679, k0_pay680, k0_pay681, k0_pay682, k0_pay683, k0_pay684, k0_pay685, k0_pay686, k0_pay687, k0_pay688, k0_pay689, k0_pay690, k0_pay691, k0_pay692, k0_pay693, k0_pay694, k0_pay695, k0_pay696, k0_pay697, k0_pay698, k0_pay699, k0_pay700, k0_pay701, k0_pay702, k0_pay703, k0_pay704, k0_pay705, k0_pay706, k0_pay707, k0_pay708, k0_pay709, k0_pay710, k0_pay711, k0_pay712, k0_pay713, k0_pay714, k0_pay715, k0_pay716, k0_pay717, k0_pay718, k0_pay719, k0_pay720, k0_pay721, k0_pay722, k0_pay723, k0_pay724, k0_pay725, k0_pay726, k0_pay727, k0_pay728, k0_pay729, k0_pay730, k0_pay731, k0_pay732, k0_pay733, k0_pay734, k0_pay735, k0_pay736, k0_pay737, k0_pay738, k0_pay739, k0_pay740, k0_pay741, k0_pay742, k0_pay743, k0_pay744, k0_pay745, k0_pay746, k0_pay747, k0_pay748, k0_pay749, k0_pay750, k0_pay751, k0_pay752, k0_pay753, k0_pay754, k0_pay755, k0_pay756, k0_pay757, k0_pay758, k0_pay759, k0_pay760, k0_pay761, k0_pay762, k0_pay763, k0_pay764, k0_pay765, k0_pay766, k0_pay767, k0_pay768, k0_pay769, k0_pay770, k0_pay771, k0_pay772, k0_pay773, k0_pay774, k0_pay775, k0_pay776, k0_pay777, k0_pay778, k0_pay779, k0_pay780, k0_pay781, k0_pay782, k0_pay783, k0_pay784, k0_pay785, k0_pay786, k0_pay787, k0_pay788, k0_pay789, k0_pay790, k0_pay791, k0_pay792, k0_pay793, k0_pay794, k0_pay795, k0_pay796, k0_pay797, k0_pay798, k0_pay799, k0_pay800, k0_pay801, k0_pay802, k0_pay803, k0_pay804, k0_pay805, k0_pay806, k0_pay807, k0_pay808, k0_pay809, k0_pay810, k0_pay811, k0_pay812, k0_pay813, k0_pay814, k0_pay815, k0_pay816, k0_pay817, k0_pay818, k0_pay819, k0_pay820, k0_pay821, k0_pay822, k0_pay823, k0_pay824, k0_pay825, k0_pay826, k0_pay827, k0_pay828, k0_pay829, k0_pay830, k0_pay831, k0_pay832, k0_pay833, k0_pay834, k0_pay835, k0_pay836, k0_pay837, k0_pay838, k0_pay839, k0_pay840, k0_pay841, k0_pay842, k0_pay843, k0_pay844, k0_pay845, k0_pay846, k0_pay847, k0_pay848, k0_pay849, k0_pay850, k0_pay851, k0_pay852, k0_pay853, k0_pay854, k0_pay855, k0_pay856, k0_pay857, k0_pay858, k0_pay859, k0_pay860, k0_pay861, k0_pay862, k0_pay863, k0_pay864, k0_pay865, k0_pay866, k0_pay867, k0_pay868, k0_pay869, k0_pay870, k0_pay871, k0_pay872, k0_pay873, k0_pay874, k0_pay875, k0_pay876, k0_pay877, k0_pay878, k0_pay879, k0_pay880, k0_pay881, k0_pay882, k0_pay883, k0_pay884, k0_pay885, k0_pay886, k0_pay887, k0_pay888, k0_pay889, k0_pay890, k0_pay891, k0_pay892, k0_pay893, k0_pay894, k0_pay895, k0_pay896, k0_pay897, k0_pay898, k0_pay899, k0_pay900, k0_pay901, k0_pay902, k0_pay903, k0_pay904, k0_pay905, k0_pay906, k0_pay907, k0_pay908, k0_pay909, k0_pay910, k0_pay911, k0_pay912, k0_pay913, k0_pay914, k0_pay915, k0_pay916, k0_pay917, k0_pay918, k0_pay919, k0_pay920, k0_pay921, k0_pay922, k0_pay923, k0_pay924, k0_pay925, k0_pay926, k0_pay927, k0_pay928, k0_pay929, k0_pay930, k0_pay931, k0_pay932, k0_pay933, k0_pay934, k0_pay935, k0_pay936, k0_pay937, k0_pay938, k0_pay939, k0_pay940, k0_pay941, k0_pay942, k0_pay943, k0_pay944, k0_pay945, k0_pay946, k0_pay947, k0_pay948, k0_pay949, k0_pay950, k0_pay951, k0_pay952, k0_pay953, k0_pay954, k0_pay955, k0_pay956, k0_pay957, k0_pay958, k0_pay959, k0_pay960, k0_pay961, k0_pay962, k0_pay963, k0_pay964, k0_pay965, k0_pay966, k0_pay967, k0_pay968, k0_pay969, k0_pay970, k0_pay971, k0_pay972, k0_pay973, k0_pay974, k0_pay975, k0_pay976, k0_pay977, k0_pay978, k0_pay979, k0_pay980, k0_pay981, k0_pay982, k0_pay983, k0_pay984, k0_pay985, k0_pay986, k0_pay987, k0_pay988, k0_pay989, k0_pay990, k0_pay991, k0_pay992, k0_pay993, k0_pay994, k0_pay995, k0_pay996, k0_pay997, k0_pay998, k0_pay999, k0_pay1000, k0_pay1001, k0_pay1002, k0_pay1003, k0_pay1004, k0_pay1005, k0_pay1006, k0_pay1007, k0_pay1008, k0_pay1009, k0_pay1010, k0_pay1011, k0_pay1012, k0_pay1013, k0_pay1014, k0_pay1015, k0_pay1016, k0_pay1017, k0_pay1018, k0_pay1019, k0_pay1020, k0_pay1021, k0_pay1022, k0_pay1023, k0_pay1024, k0_pay1025, k0_pay1026, k0_pay1027, k0_pay1028, k0_pay1029, k0_pay1030, k0_pay1031, k0_pay1032, k0_pay1033, k0_pay1034, k0_pay1035, k0_pay1036, k0_pay1037, k0_pay1038, k0_pay1039, k0_pay1040, k0_pay1041, k0_pay1042, k0_pay1043, k0_pay1044, k0_pay1045, k0_pay1046, k0_pay1047, k0_pay1048, k0_pay1049, k0_pay1050, k0_pay1051, k0_pay1052, k0_pay1053, k0_pay1054, k0_pay1055, k0_pay1056, k0_pay1057, k0_pay1058, k0_pay1059, k0_pay1060, k0_pay1061, k0_pay1062, k0_pay1063, k0_pay1064, k0_pay1065, k0_pay1066, k0_pay1067, k0_pay1068, k0_pay1069, k0_pay1070, k0_pay1071, k0_pay1072, k0_pay1073, k0_pay1074, k0_pay1075, k0_pay1076, k0_pay1077, k0_pay1078, k0_pay1079, k0_pay1080, k0_pay1081, k0_pay1082, k0_pay1083, k0_pay1084, k0_pay1085, k0_pay1086, k0_pay1087, k0_pay1088, k0_pay1089, k0_pay1090, k0_pay1091, k0_pay1092, k0_pay1093, k0_pay1094, k0_pay1095, k0_pay1096, k0_pay1097, k0_pay1098, k0_pay1099, k0_pay1100, k0_pay1101, k0_pay1102, k0_pay1103, k0_pay1104, k0_pay1105, k0_pay1106, k0_pay1107, k0_pay1108, k0_pay1109, k0_pay1110, k0_pay1111, k0_pay1112, k0_pay1113, k0_pay1114, k0_pay1115, k0_pay1116, k0_pay1117, k0_pay1118, k0_pay1119, k0_pay1120, k0_pay1121, k0_pay1122, k0_pay1123, k0_pay1124, k0_pay1125, k0_pay1126, k0_pay1127, k0_pay1128, k0_pay1129, k0_pay1130, k0_pay1131, k0_pay1132, k0_pay1133, k0_pay1134, k0_pay1135, k0_pay1136, k0_pay1137, k0_pay1138, k0_pay1139, k0_pay1140, k0_pay1141, k0_pay1142, k0_pay1143, k0_pay1144, k0_pay1145, k0_pay1146, k0_pay1147, k0_pay1148, k0_pay1149, k0_pay1150, k0_pay1151, k0_pay1152, k0_pay1153, k0_pay1154, k0_pay1155, k0_pay1156, k0_pay1157, k0_pay1158, k0_pay1159, k0_pay1160, k0_pay1161, k0_pay1162, k0_pay1163, k0_pay1164, k0_pay1165, k0_pay1166, k0_pay1167, k0_pay1168, k0_pay1169, k0_pay1170, k0_pay1171, k0_pay1172, k0_pay1173, k0_pay1174, k0_pay1175, k0_pay1176, k0_pay1177, k0_pay1178, k0_pay1179, k0_pay1180, k0_pay1181, k0_pay1182, k0_pay1183, k0_pay1184, k0_pay1185, k0_pay1186, k0_pay1187, k0_pay1188, k0_pay1189, k0_pay1190, k0_pay1191, k0_pay1192, k0_pay1193, k0_pay1194, k0_pay1195, k0_pay1196, k0_pay1197, k0_pay1198, k0_pay1199, k0_pay1200, k0_pay1201, k0_pay1202, k0_pay1203, k0_pay1204, k0_pay1205, k0_pay1206, k0_pay1207, k0_pay1208, k0_pay1209, k0_pay1210, k0_pay1211, k0_pay1212, k0_pay1213, k0_pay1214, k0_pay1215, k0_pay1216, k0_pay1217, k0_pay1218, k0_pay1219, k0_pay1220, k0_pay1221, k0_pay1222, k0_pay1223, k0_pay1224, k0_pay1225, k0_pay1226, k0_pay1227, k0_pay1228, k0_pay1229, k0_pay1230, k0_pay1231, k0_pay1232, k0_pay1233, k0_pay1234, k0_pay1235, k0_pay1236, k0_pay1237, k0_pay1238, k0_pay1239, k0_pay1240, k0_pay1241, k0_pay1242, k0_pay1243, k0_pay1244, k0_pay1245, k0_pay1246, k0_pay1247]
  refine View.canon_apply_of_pieces (S := S4x256x256) (Val := Elt Ideal) (e := .bf16) (leave x0 x1 x2 x5 x6) _ ?_ y ?_
  case refine_2 => exact View.cover_of_tiledL (s := S4x256x256) _ S1x16x128.size (by sl_kernel_rfl) y
  refine View.PiecesOf.mem ?_
  iterate 64
    refine ⟨fun x => piece_im x0 x1 x2 x5 x6 _ _ _ _ _ _ (by decide) (by decide) (by decide) (by decide) x, ?_⟩
    refine ⟨fun x => piece_re x0 x1 x2 x5 x6 _ _ _ _ _ _ (by decide) (by decide) (by decide) (by decide) x, ?_⟩
  exact trivial

/-- The step's fourth output block. -/
theorem after_11 (c : Dev nD) (t : Fin cfg0.N) (y : S4x1x128.Idx) : (dats m 0 c).after 11 t y = last_re (iblk m c 0 t) (iblk m c 1 t) (iblk m c 2 t) y := by
  rw [after0_11]
  frame_out
  generalize iblk m c 0 t = x0
  generalize iblk m c 1 t = x1
  generalize iblk m c 2 t = x2
  simp only [pow_one_re, pow_one_im, pow_succ_re, pow_succ_im, Nat.reduceAdd, fold_re, fold_im,
    k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389, k0_pay390, k0_pay391, k0_pay392, k0_pay393, k0_pay394, k0_pay395, k0_pay396, k0_pay397, k0_pay398, k0_pay399, k0_pay400, k0_pay401, k0_pay402, k0_pay403, k0_pay404, k0_pay405, k0_pay406, k0_pay407, k0_pay408, k0_pay409, k0_pay410, k0_pay411, k0_pay412, k0_pay413, k0_pay414, k0_pay415, k0_pay416, k0_pay417, k0_pay418, k0_pay419, k0_pay420, k0_pay421, k0_pay422, k0_pay423, k0_pay424, k0_pay425, k0_pay426, k0_pay427, k0_pay428, k0_pay429, k0_pay430, k0_pay431, k0_pay432, k0_pay433, k0_pay434, k0_pay435, k0_pay436, k0_pay437, k0_pay438, k0_pay439, k0_pay440, k0_pay441, k0_pay442, k0_pay443, k0_pay444, k0_pay445, k0_pay446, k0_pay447, k0_pay448, k0_pay449, k0_pay450, k0_pay451, k0_pay452, k0_pay453, k0_pay454, k0_pay455, k0_pay456, k0_pay457, k0_pay458, k0_pay459, k0_pay460, k0_pay461, k0_pay462, k0_pay463, k0_pay464, k0_pay465, k0_pay466, k0_pay467, k0_pay468, k0_pay469, k0_pay470, k0_pay471, k0_pay472, k0_pay473, k0_pay474, k0_pay475, k0_pay476, k0_pay477, k0_pay478, k0_pay479, k0_pay480, k0_pay481, k0_pay482, k0_pay483, k0_pay484, k0_pay485, k0_pay486, k0_pay487, k0_pay488, k0_pay489, k0_pay490, k0_pay491, k0_pay492, k0_pay493, k0_pay494, k0_pay495, k0_pay496, k0_pay497, k0_pay498, k0_pay499, k0_pay500, k0_pay501, k0_pay502, k0_pay503, k0_pay504, k0_pay505, k0_pay506, k0_pay507, k0_pay508, k0_pay509, k0_pay510, k0_pay511, k0_pay512, k0_pay513, k0_pay514, k0_pay515, k0_pay516, k0_pay517, k0_pay518, k0_pay519, k0_pay520, k0_pay521, k0_pay522, k0_pay523, k0_pay524, k0_pay525, k0_pay526, k0_pay527, k0_pay528, k0_pay529, k0_pay530, k0_pay531, k0_pay532, k0_pay533, k0_pay534, k0_pay535, k0_pay536, k0_pay537, k0_pay538, k0_pay539, k0_pay540, k0_pay541, k0_pay542, k0_pay543, k0_pay544, k0_pay545, k0_pay546, k0_pay547, k0_pay548, k0_pay549, k0_pay550, k0_pay551, k0_pay552, k0_pay553, k0_pay554, k0_pay555, k0_pay556, k0_pay557, k0_pay558, k0_pay559, k0_pay560, k0_pay561, k0_pay562, k0_pay563, k0_pay564, k0_pay565, k0_pay566, k0_pay567, k0_pay568, k0_pay569, k0_pay570, k0_pay571, k0_pay572, k0_pay573, k0_pay574, k0_pay575, k0_pay576, k0_pay577, k0_pay578, k0_pay579, k0_pay580, k0_pay581, k0_pay582, k0_pay583, k0_pay584, k0_pay585, k0_pay586, k0_pay587, k0_pay588, k0_pay589, k0_pay590, k0_pay591, k0_pay592, k0_pay593, k0_pay594, k0_pay595, k0_pay596, k0_pay597, k0_pay598, k0_pay599, k0_pay600, k0_pay601, k0_pay602, k0_pay603, k0_pay604, k0_pay605, k0_pay606, k0_pay607, k0_pay608, k0_pay609, k0_pay610, k0_pay611, k0_pay612, k0_pay613, k0_pay614, k0_pay615, k0_pay616, k0_pay617, k0_pay618, k0_pay619, k0_pay620, k0_pay621, k0_pay622, k0_pay623, k0_pay624, k0_pay625, k0_pay626, k0_pay627, k0_pay628, k0_pay629, k0_pay630, k0_pay631, k0_pay632, k0_pay633, k0_pay634, k0_pay635, k0_pay636, k0_pay637, k0_pay638, k0_pay639, k0_pay640, k0_pay641, k0_pay642, k0_pay643, k0_pay644, k0_pay645, k0_pay646, k0_pay647, k0_pay648, k0_pay649, k0_pay650, k0_pay651, k0_pay652, k0_pay653, k0_pay654, k0_pay655, k0_pay656, k0_pay657, k0_pay658, k0_pay659, k0_pay660, k0_pay661, k0_pay662, k0_pay663, k0_pay664, k0_pay665, k0_pay666, k0_pay667, k0_pay668, k0_pay669, k0_pay670, k0_pay671, k0_pay672, k0_pay673, k0_pay674, k0_pay675, k0_pay676, k0_pay677, k0_pay678, k0_pay679, k0_pay680, k0_pay681, k0_pay682, k0_pay683, k0_pay684, k0_pay685, k0_pay686, k0_pay687, k0_pay688, k0_pay689, k0_pay690, k0_pay691, k0_pay692, k0_pay693, k0_pay694, k0_pay695, k0_pay696, k0_pay697, k0_pay698, k0_pay699, k0_pay700, k0_pay701, k0_pay702, k0_pay703, k0_pay704, k0_pay705, k0_pay706, k0_pay707, k0_pay708, k0_pay709, k0_pay710, k0_pay711, k0_pay712, k0_pay713, k0_pay714, k0_pay715, k0_pay716, k0_pay717, k0_pay718, k0_pay719, k0_pay720, k0_pay721, k0_pay722, k0_pay723, k0_pay724, k0_pay725, k0_pay726, k0_pay727, k0_pay728, k0_pay729, k0_pay730, k0_pay731, k0_pay732, k0_pay733, k0_pay734, k0_pay735, k0_pay736, k0_pay737, k0_pay738, k0_pay739, k0_pay740, k0_pay741, k0_pay742, k0_pay743, k0_pay744, k0_pay745, k0_pay746, k0_pay747, k0_pay748, k0_pay749, k0_pay750, k0_pay751, k0_pay752, k0_pay753, k0_pay754, k0_pay755, k0_pay756, k0_pay757, k0_pay758, k0_pay759, k0_pay760, k0_pay761, k0_pay762, k0_pay763, k0_pay764, k0_pay765, k0_pay766, k0_pay767, k0_pay768, k0_pay769, k0_pay770, k0_pay771, k0_pay772, k0_pay773, k0_pay774, k0_pay775, k0_pay776, k0_pay777, k0_pay778, k0_pay779, k0_pay780, k0_pay781, k0_pay782, k0_pay783, k0_pay784, k0_pay785, k0_pay786, k0_pay787, k0_pay788, k0_pay789, k0_pay790, k0_pay791, k0_pay792, k0_pay793, k0_pay794, k0_pay795, k0_pay796, k0_pay797, k0_pay798, k0_pay799, k0_pay800, k0_pay801, k0_pay802, k0_pay803, k0_pay804, k0_pay805, k0_pay806, k0_pay807, k0_pay808, k0_pay809, k0_pay810, k0_pay811, k0_pay812, k0_pay813, k0_pay814, k0_pay815, k0_pay816, k0_pay817, k0_pay818, k0_pay819, k0_pay820, k0_pay821, k0_pay822, k0_pay823, k0_pay824, k0_pay825, k0_pay826, k0_pay827, k0_pay828, k0_pay829, k0_pay830, k0_pay831, k0_pay832, k0_pay833, k0_pay834, k0_pay835, k0_pay836, k0_pay837, k0_pay838, k0_pay839, k0_pay840, k0_pay841, k0_pay842, k0_pay843, k0_pay844, k0_pay845, k0_pay846, k0_pay847, k0_pay848, k0_pay849, k0_pay850, k0_pay851, k0_pay852, k0_pay853, k0_pay854, k0_pay855, k0_pay856, k0_pay857, k0_pay858, k0_pay859, k0_pay860, k0_pay861, k0_pay862, k0_pay863, k0_pay864, k0_pay865, k0_pay866, k0_pay867, k0_pay868, k0_pay869, k0_pay870, k0_pay871, k0_pay872, k0_pay873, k0_pay874, k0_pay875, k0_pay876, k0_pay877, k0_pay878, k0_pay879, k0_pay880, k0_pay881, k0_pay882, k0_pay883, k0_pay884, k0_pay885, k0_pay886, k0_pay887, k0_pay888, k0_pay889, k0_pay890, k0_pay891, k0_pay892, k0_pay893, k0_pay894, k0_pay895, k0_pay896, k0_pay897, k0_pay898, k0_pay899, k0_pay900, k0_pay901, k0_pay902, k0_pay903, k0_pay904, k0_pay905, k0_pay906, k0_pay907, k0_pay908, k0_pay909, k0_pay910, k0_pay911, k0_pay912, k0_pay913, k0_pay914, k0_pay915, k0_pay916, k0_pay917, k0_pay918, k0_pay919, k0_pay920, k0_pay921, k0_pay922, k0_pay923, k0_pay924, k0_pay925, k0_pay926, k0_pay927, k0_pay928, k0_pay929, k0_pay930, k0_pay931, k0_pay932, k0_pay933, k0_pay934, k0_pay935, k0_pay936, k0_pay937, k0_pay938, k0_pay939, k0_pay940, k0_pay941, k0_pay942, k0_pay943, k0_pay944, k0_pay945, k0_pay946, k0_pay947, k0_pay948, k0_pay949, k0_pay950, k0_pay951, k0_pay952, k0_pay953, k0_pay954, k0_pay955, k0_pay956, k0_pay957, k0_pay958, k0_pay959, k0_pay960, k0_pay961, k0_pay962, k0_pay963, k0_pay964, k0_pay965, k0_pay966, k0_pay967, k0_pay968, k0_pay969, k0_pay970, k0_pay971, k0_pay972, k0_pay973, k0_pay974, k0_pay975, k0_pay976, k0_pay977, k0_pay978, k0_pay979, k0_pay980, k0_pay981, k0_pay982, k0_pay983, k0_pay984, k0_pay985, k0_pay986, k0_pay987, k0_pay988, k0_pay989, k0_pay990, k0_pay991, k0_pay992, k0_pay993, k0_pay994, k0_pay995, k0_pay996, k0_pay997, k0_pay998, k0_pay999, k0_pay1000, k0_pay1001, k0_pay1002, k0_pay1003, k0_pay1004, k0_pay1005, k0_pay1006, k0_pay1007, k0_pay1008, k0_pay1009, k0_pay1010, k0_pay1011, k0_pay1012, k0_pay1013, k0_pay1014, k0_pay1015, k0_pay1016, k0_pay1017, k0_pay1018, k0_pay1019, k0_pay1020, k0_pay1021, k0_pay1022, k0_pay1023, k0_pay1024, k0_pay1025, k0_pay1026, k0_pay1027, k0_pay1028, k0_pay1029, k0_pay1030, k0_pay1031, k0_pay1032, k0_pay1033, k0_pay1034, k0_pay1035, k0_pay1036, k0_pay1037, k0_pay1038, k0_pay1039, k0_pay1040, k0_pay1041, k0_pay1042, k0_pay1043, k0_pay1044, k0_pay1045, k0_pay1046, k0_pay1047, k0_pay1048, k0_pay1049, k0_pay1050, k0_pay1051, k0_pay1052, k0_pay1053, k0_pay1054, k0_pay1055, k0_pay1056, k0_pay1057, k0_pay1058, k0_pay1059, k0_pay1060, k0_pay1061, k0_pay1062, k0_pay1063, k0_pay1064, k0_pay1065, k0_pay1066, k0_pay1067, k0_pay1068, k0_pay1069, k0_pay1070, k0_pay1071, k0_pay1072, k0_pay1073, k0_pay1074, k0_pay1075, k0_pay1076, k0_pay1077, k0_pay1078, k0_pay1079, k0_pay1080, k0_pay1081, k0_pay1082, k0_pay1083, k0_pay1084, k0_pay1085, k0_pay1086, k0_pay1087, k0_pay1088, k0_pay1089, k0_pay1090, k0_pay1091, k0_pay1092, k0_pay1093, k0_pay1094, k0_pay1095, k0_pay1096, k0_pay1097, k0_pay1098, k0_pay1099, k0_pay1100, k0_pay1101, k0_pay1102, k0_pay1103, k0_pay1104, k0_pay1105, k0_pay1106, k0_pay1107, k0_pay1108, k0_pay1109, k0_pay1110, k0_pay1111, k0_pay1112, k0_pay1113, k0_pay1114, k0_pay1115, k0_pay1116, k0_pay1117, k0_pay1118, k0_pay1119, k0_pay1120, k0_pay1121, k0_pay1122, k0_pay1123, k0_pay1124, k0_pay1125, k0_pay1126, k0_pay1127, k0_pay1128, k0_pay1129, k0_pay1130, k0_pay1131, k0_pay1132, k0_pay1133, k0_pay1134, k0_pay1135, k0_pay1136, k0_pay1137, k0_pay1138, k0_pay1139, k0_pay1140, k0_pay1141, k0_pay1142, k0_pay1143, k0_pay1144, k0_pay1145, k0_pay1146, k0_pay1147, k0_pay1148, k0_pay1149, k0_pay1150, k0_pay1151, k0_pay1152, k0_pay1153, k0_pay1154, k0_pay1155, k0_pay1156, k0_pay1157, k0_pay1158, k0_pay1159, k0_pay1160, k0_pay1161, k0_pay1162, k0_pay1163, k0_pay1164, k0_pay1165, k0_pay1166, k0_pay1167, k0_pay1168, k0_pay1169, k0_pay1170, k0_pay1171, k0_pay1172, k0_pay1173, k0_pay1174, k0_pay1175, k0_pay1176, k0_pay1177, k0_pay1178, k0_pay1179, k0_pay1180, k0_pay1181, k0_pay1182, k0_pay1183, k0_pay1184, k0_pay1185, k0_pay1186, k0_pay1187, k0_pay1188, k0_pay1189, k0_pay1190, k0_pay1191, k0_pay1192, k0_pay1193, k0_pay1194, k0_pay1195, k0_pay1196, k0_pay1197, k0_pay1198, k0_pay1199, k0_pay1200, k0_pay1201, k0_pay1202, k0_pay1203, k0_pay1204, k0_pay1205, k0_pay1206, k0_pay1207, k0_pay1208, k0_pay1209, k0_pay1210, k0_pay1211, k0_pay1212, k0_pay1213, k0_pay1214, k0_pay1215, k0_pay1216, k0_pay1217, k0_pay1218, k0_pay1219, k0_pay1220, k0_pay1221, k0_pay1222, k0_pay1223, k0_pay1224, k0_pay1225, k0_pay1226, k0_pay1227, k0_pay1228, k0_pay1229, k0_pay1230, k0_pay1231, k0_pay1232, k0_pay1233, k0_pay1234, k0_pay1235, k0_pay1236, k0_pay1237, k0_pay1238, k0_pay1239, k0_pay1240, k0_pay1241, k0_pay1242, k0_pay1243, k0_pay1244, k0_pay1245, k0_pay1246, k0_pay1247]
  refine View.canon_apply_of_pieces (S := S4x1x128) (Val := Elt Ideal) (e := .f32) (last_re x0 x1 x2) _ ?_ y ?_
  case refine_2 => exact View.cover_of_tiledL (s := S4x1x128) _ S1x1x128.size (by sl_kernel_rfl) y
  refine View.PiecesOf.mem ?_
  iterate 4
    refine ⟨fun x => piece_last_re x0 x1 x2 _ (by decide) x, ?_⟩
  exact trivial

/-- The step's fifth output block. -/
theorem after_12 (c : Dev nD) (t : Fin cfg0.N) (y : S4x1x128.Idx) : (dats m 0 c).after 12 t y = last_im (iblk m c 0 t) (iblk m c 1 t) (iblk m c 2 t) y := by
  rw [after0_12]
  frame_out
  generalize iblk m c 0 t = x0
  generalize iblk m c 1 t = x1
  generalize iblk m c 2 t = x2
  simp only [pow_one_re, pow_one_im, pow_succ_re, pow_succ_im, Nat.reduceAdd, fold_re, fold_im,
    k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389, k0_pay390, k0_pay391, k0_pay392, k0_pay393, k0_pay394, k0_pay395, k0_pay396, k0_pay397, k0_pay398, k0_pay399, k0_pay400, k0_pay401, k0_pay402, k0_pay403, k0_pay404, k0_pay405, k0_pay406, k0_pay407, k0_pay408, k0_pay409, k0_pay410, k0_pay411, k0_pay412, k0_pay413, k0_pay414, k0_pay415, k0_pay416, k0_pay417, k0_pay418, k0_pay419, k0_pay420, k0_pay421, k0_pay422, k0_pay423, k0_pay424, k0_pay425, k0_pay426, k0_pay427, k0_pay428, k0_pay429, k0_pay430, k0_pay431, k0_pay432, k0_pay433, k0_pay434, k0_pay435, k0_pay436, k0_pay437, k0_pay438, k0_pay439, k0_pay440, k0_pay441, k0_pay442, k0_pay443, k0_pay444, k0_pay445, k0_pay446, k0_pay447, k0_pay448, k0_pay449, k0_pay450, k0_pay451, k0_pay452, k0_pay453, k0_pay454, k0_pay455, k0_pay456, k0_pay457, k0_pay458, k0_pay459, k0_pay460, k0_pay461, k0_pay462, k0_pay463, k0_pay464, k0_pay465, k0_pay466, k0_pay467, k0_pay468, k0_pay469, k0_pay470, k0_pay471, k0_pay472, k0_pay473, k0_pay474, k0_pay475, k0_pay476, k0_pay477, k0_pay478, k0_pay479, k0_pay480, k0_pay481, k0_pay482, k0_pay483, k0_pay484, k0_pay485, k0_pay486, k0_pay487, k0_pay488, k0_pay489, k0_pay490, k0_pay491, k0_pay492, k0_pay493, k0_pay494, k0_pay495, k0_pay496, k0_pay497, k0_pay498, k0_pay499, k0_pay500, k0_pay501, k0_pay502, k0_pay503, k0_pay504, k0_pay505, k0_pay506, k0_pay507, k0_pay508, k0_pay509, k0_pay510, k0_pay511, k0_pay512, k0_pay513, k0_pay514, k0_pay515, k0_pay516, k0_pay517, k0_pay518, k0_pay519, k0_pay520, k0_pay521, k0_pay522, k0_pay523, k0_pay524, k0_pay525, k0_pay526, k0_pay527, k0_pay528, k0_pay529, k0_pay530, k0_pay531, k0_pay532, k0_pay533, k0_pay534, k0_pay535, k0_pay536, k0_pay537, k0_pay538, k0_pay539, k0_pay540, k0_pay541, k0_pay542, k0_pay543, k0_pay544, k0_pay545, k0_pay546, k0_pay547, k0_pay548, k0_pay549, k0_pay550, k0_pay551, k0_pay552, k0_pay553, k0_pay554, k0_pay555, k0_pay556, k0_pay557, k0_pay558, k0_pay559, k0_pay560, k0_pay561, k0_pay562, k0_pay563, k0_pay564, k0_pay565, k0_pay566, k0_pay567, k0_pay568, k0_pay569, k0_pay570, k0_pay571, k0_pay572, k0_pay573, k0_pay574, k0_pay575, k0_pay576, k0_pay577, k0_pay578, k0_pay579, k0_pay580, k0_pay581, k0_pay582, k0_pay583, k0_pay584, k0_pay585, k0_pay586, k0_pay587, k0_pay588, k0_pay589, k0_pay590, k0_pay591, k0_pay592, k0_pay593, k0_pay594, k0_pay595, k0_pay596, k0_pay597, k0_pay598, k0_pay599, k0_pay600, k0_pay601, k0_pay602, k0_pay603, k0_pay604, k0_pay605, k0_pay606, k0_pay607, k0_pay608, k0_pay609, k0_pay610, k0_pay611, k0_pay612, k0_pay613, k0_pay614, k0_pay615, k0_pay616, k0_pay617, k0_pay618, k0_pay619, k0_pay620, k0_pay621, k0_pay622, k0_pay623, k0_pay624, k0_pay625, k0_pay626, k0_pay627, k0_pay628, k0_pay629, k0_pay630, k0_pay631, k0_pay632, k0_pay633, k0_pay634, k0_pay635, k0_pay636, k0_pay637, k0_pay638, k0_pay639, k0_pay640, k0_pay641, k0_pay642, k0_pay643, k0_pay644, k0_pay645, k0_pay646, k0_pay647, k0_pay648, k0_pay649, k0_pay650, k0_pay651, k0_pay652, k0_pay653, k0_pay654, k0_pay655, k0_pay656, k0_pay657, k0_pay658, k0_pay659, k0_pay660, k0_pay661, k0_pay662, k0_pay663, k0_pay664, k0_pay665, k0_pay666, k0_pay667, k0_pay668, k0_pay669, k0_pay670, k0_pay671, k0_pay672, k0_pay673, k0_pay674, k0_pay675, k0_pay676, k0_pay677, k0_pay678, k0_pay679, k0_pay680, k0_pay681, k0_pay682, k0_pay683, k0_pay684, k0_pay685, k0_pay686, k0_pay687, k0_pay688, k0_pay689, k0_pay690, k0_pay691, k0_pay692, k0_pay693, k0_pay694, k0_pay695, k0_pay696, k0_pay697, k0_pay698, k0_pay699, k0_pay700, k0_pay701, k0_pay702, k0_pay703, k0_pay704, k0_pay705, k0_pay706, k0_pay707, k0_pay708, k0_pay709, k0_pay710, k0_pay711, k0_pay712, k0_pay713, k0_pay714, k0_pay715, k0_pay716, k0_pay717, k0_pay718, k0_pay719, k0_pay720, k0_pay721, k0_pay722, k0_pay723, k0_pay724, k0_pay725, k0_pay726, k0_pay727, k0_pay728, k0_pay729, k0_pay730, k0_pay731, k0_pay732, k0_pay733, k0_pay734, k0_pay735, k0_pay736, k0_pay737, k0_pay738, k0_pay739, k0_pay740, k0_pay741, k0_pay742, k0_pay743, k0_pay744, k0_pay745, k0_pay746, k0_pay747, k0_pay748, k0_pay749, k0_pay750, k0_pay751, k0_pay752, k0_pay753, k0_pay754, k0_pay755, k0_pay756, k0_pay757, k0_pay758, k0_pay759, k0_pay760, k0_pay761, k0_pay762, k0_pay763, k0_pay764, k0_pay765, k0_pay766, k0_pay767, k0_pay768, k0_pay769, k0_pay770, k0_pay771, k0_pay772, k0_pay773, k0_pay774, k0_pay775, k0_pay776, k0_pay777, k0_pay778, k0_pay779, k0_pay780, k0_pay781, k0_pay782, k0_pay783, k0_pay784, k0_pay785, k0_pay786, k0_pay787, k0_pay788, k0_pay789, k0_pay790, k0_pay791, k0_pay792, k0_pay793, k0_pay794, k0_pay795, k0_pay796, k0_pay797, k0_pay798, k0_pay799, k0_pay800, k0_pay801, k0_pay802, k0_pay803, k0_pay804, k0_pay805, k0_pay806, k0_pay807, k0_pay808, k0_pay809, k0_pay810, k0_pay811, k0_pay812, k0_pay813, k0_pay814, k0_pay815, k0_pay816, k0_pay817, k0_pay818, k0_pay819, k0_pay820, k0_pay821, k0_pay822, k0_pay823, k0_pay824, k0_pay825, k0_pay826, k0_pay827, k0_pay828, k0_pay829, k0_pay830, k0_pay831, k0_pay832, k0_pay833, k0_pay834, k0_pay835, k0_pay836, k0_pay837, k0_pay838, k0_pay839, k0_pay840, k0_pay841, k0_pay842, k0_pay843, k0_pay844, k0_pay845, k0_pay846, k0_pay847, k0_pay848, k0_pay849, k0_pay850, k0_pay851, k0_pay852, k0_pay853, k0_pay854, k0_pay855, k0_pay856, k0_pay857, k0_pay858, k0_pay859, k0_pay860, k0_pay861, k0_pay862, k0_pay863, k0_pay864, k0_pay865, k0_pay866, k0_pay867, k0_pay868, k0_pay869, k0_pay870, k0_pay871, k0_pay872, k0_pay873, k0_pay874, k0_pay875, k0_pay876, k0_pay877, k0_pay878, k0_pay879, k0_pay880, k0_pay881, k0_pay882, k0_pay883, k0_pay884, k0_pay885, k0_pay886, k0_pay887, k0_pay888, k0_pay889, k0_pay890, k0_pay891, k0_pay892, k0_pay893, k0_pay894, k0_pay895, k0_pay896, k0_pay897, k0_pay898, k0_pay899, k0_pay900, k0_pay901, k0_pay902, k0_pay903, k0_pay904, k0_pay905, k0_pay906, k0_pay907, k0_pay908, k0_pay909, k0_pay910, k0_pay911, k0_pay912, k0_pay913, k0_pay914, k0_pay915, k0_pay916, k0_pay917, k0_pay918, k0_pay919, k0_pay920, k0_pay921, k0_pay922, k0_pay923, k0_pay924, k0_pay925, k0_pay926, k0_pay927, k0_pay928, k0_pay929, k0_pay930, k0_pay931, k0_pay932, k0_pay933, k0_pay934, k0_pay935, k0_pay936, k0_pay937, k0_pay938, k0_pay939, k0_pay940, k0_pay941, k0_pay942, k0_pay943, k0_pay944, k0_pay945, k0_pay946, k0_pay947, k0_pay948, k0_pay949, k0_pay950, k0_pay951, k0_pay952, k0_pay953, k0_pay954, k0_pay955, k0_pay956, k0_pay957, k0_pay958, k0_pay959, k0_pay960, k0_pay961, k0_pay962, k0_pay963, k0_pay964, k0_pay965, k0_pay966, k0_pay967, k0_pay968, k0_pay969, k0_pay970, k0_pay971, k0_pay972, k0_pay973, k0_pay974, k0_pay975, k0_pay976, k0_pay977, k0_pay978, k0_pay979, k0_pay980, k0_pay981, k0_pay982, k0_pay983, k0_pay984, k0_pay985, k0_pay986, k0_pay987, k0_pay988, k0_pay989, k0_pay990, k0_pay991, k0_pay992, k0_pay993, k0_pay994, k0_pay995, k0_pay996, k0_pay997, k0_pay998, k0_pay999, k0_pay1000, k0_pay1001, k0_pay1002, k0_pay1003, k0_pay1004, k0_pay1005, k0_pay1006, k0_pay1007, k0_pay1008, k0_pay1009, k0_pay1010, k0_pay1011, k0_pay1012, k0_pay1013, k0_pay1014, k0_pay1015, k0_pay1016, k0_pay1017, k0_pay1018, k0_pay1019, k0_pay1020, k0_pay1021, k0_pay1022, k0_pay1023, k0_pay1024, k0_pay1025, k0_pay1026, k0_pay1027, k0_pay1028, k0_pay1029, k0_pay1030, k0_pay1031, k0_pay1032, k0_pay1033, k0_pay1034, k0_pay1035, k0_pay1036, k0_pay1037, k0_pay1038, k0_pay1039, k0_pay1040, k0_pay1041, k0_pay1042, k0_pay1043, k0_pay1044, k0_pay1045, k0_pay1046, k0_pay1047, k0_pay1048, k0_pay1049, k0_pay1050, k0_pay1051, k0_pay1052, k0_pay1053, k0_pay1054, k0_pay1055, k0_pay1056, k0_pay1057, k0_pay1058, k0_pay1059, k0_pay1060, k0_pay1061, k0_pay1062, k0_pay1063, k0_pay1064, k0_pay1065, k0_pay1066, k0_pay1067, k0_pay1068, k0_pay1069, k0_pay1070, k0_pay1071, k0_pay1072, k0_pay1073, k0_pay1074, k0_pay1075, k0_pay1076, k0_pay1077, k0_pay1078, k0_pay1079, k0_pay1080, k0_pay1081, k0_pay1082, k0_pay1083, k0_pay1084, k0_pay1085, k0_pay1086, k0_pay1087, k0_pay1088, k0_pay1089, k0_pay1090, k0_pay1091, k0_pay1092, k0_pay1093, k0_pay1094, k0_pay1095, k0_pay1096, k0_pay1097, k0_pay1098, k0_pay1099, k0_pay1100, k0_pay1101, k0_pay1102, k0_pay1103, k0_pay1104, k0_pay1105, k0_pay1106, k0_pay1107, k0_pay1108, k0_pay1109, k0_pay1110, k0_pay1111, k0_pay1112, k0_pay1113, k0_pay1114, k0_pay1115, k0_pay1116, k0_pay1117, k0_pay1118, k0_pay1119, k0_pay1120, k0_pay1121, k0_pay1122, k0_pay1123, k0_pay1124, k0_pay1125, k0_pay1126, k0_pay1127, k0_pay1128, k0_pay1129, k0_pay1130, k0_pay1131, k0_pay1132, k0_pay1133, k0_pay1134, k0_pay1135, k0_pay1136, k0_pay1137, k0_pay1138, k0_pay1139, k0_pay1140, k0_pay1141, k0_pay1142, k0_pay1143, k0_pay1144, k0_pay1145, k0_pay1146, k0_pay1147, k0_pay1148, k0_pay1149, k0_pay1150, k0_pay1151, k0_pay1152, k0_pay1153, k0_pay1154, k0_pay1155, k0_pay1156, k0_pay1157, k0_pay1158, k0_pay1159, k0_pay1160, k0_pay1161, k0_pay1162, k0_pay1163, k0_pay1164, k0_pay1165, k0_pay1166, k0_pay1167, k0_pay1168, k0_pay1169, k0_pay1170, k0_pay1171, k0_pay1172, k0_pay1173, k0_pay1174, k0_pay1175, k0_pay1176, k0_pay1177, k0_pay1178, k0_pay1179, k0_pay1180, k0_pay1181, k0_pay1182, k0_pay1183, k0_pay1184, k0_pay1185, k0_pay1186, k0_pay1187, k0_pay1188, k0_pay1189, k0_pay1190, k0_pay1191, k0_pay1192, k0_pay1193, k0_pay1194, k0_pay1195, k0_pay1196, k0_pay1197, k0_pay1198, k0_pay1199, k0_pay1200, k0_pay1201, k0_pay1202, k0_pay1203, k0_pay1204, k0_pay1205, k0_pay1206, k0_pay1207, k0_pay1208, k0_pay1209, k0_pay1210, k0_pay1211, k0_pay1212, k0_pay1213, k0_pay1214, k0_pay1215, k0_pay1216, k0_pay1217, k0_pay1218, k0_pay1219, k0_pay1220, k0_pay1221, k0_pay1222, k0_pay1223, k0_pay1224, k0_pay1225, k0_pay1226, k0_pay1227, k0_pay1228, k0_pay1229, k0_pay1230, k0_pay1231, k0_pay1232, k0_pay1233, k0_pay1234, k0_pay1235, k0_pay1236, k0_pay1237, k0_pay1238, k0_pay1239, k0_pay1240, k0_pay1241, k0_pay1242, k0_pay1243, k0_pay1244, k0_pay1245, k0_pay1246, k0_pay1247]
  refine View.canon_apply_of_pieces (S := S4x1x128) (Val := Elt Ideal) (e := .f32) (last_im x0 x1 x2) _ ?_ y ?_
  case refine_2 => exact View.cover_of_tiledL (s := S4x1x128) _ S1x1x128.size (by sl_kernel_rfl) y
  refine View.PiecesOf.mem ?_
  iterate 4
    refine ⟨fun x => piece_last_im x0 x1 x2 _ (by decide) x, ?_⟩
  exact trivial
end Cert.Kernel7Ideal.Value
end
-- ==== Proof.S5OpsArrays.lean ====
module
public import proofs.«01_k».proof.Proof.S5OpsKernel
public import Idealize.ShloMosaic.Lib.StableHlo.ReadAt

/-!
# The state-space operators kernel's arrays

Each of the eight steps makes the blocks of four groups, and the blocks cover the arrays. Here are the arrays the run
leaves, as functions of the arguments.
-/

@[expose] public section
set_option maxRecDepth 65536
noncomputable section
namespace Cert.Kernel7Ideal.Value
open Cert.Kernel7Ideal Cert.Kernel7Ideal.Gen Idealize.ShloMosaic Idealize.ShloMosaic.TcCoe Idealize.SL.Sem Cert.S5Ops
open Idealize.ShloMosaic.Pipeline (Dat)

/-- The real rates go with the step. -/
theorem index_0 : ∀ t : Fin grid0.N, win0_0.index t = ![t.val, 0, 0] := by decide +kernel

/-- The imaginary rates go with the step. -/
theorem index_1 : ∀ t : Fin grid0.N, win0_1.index t = ![t.val, 0, 0] := by decide +kernel

/-- The time steps go with the step. -/
theorem index_2 : ∀ t : Fin grid0.N, win0_2.index t = ![t.val, 0, 0] := by decide +kernel

/-- The output weights' real parts go with the step. -/
theorem index_5 : ∀ t : Fin grid0.N, win0_5.index t = ![t.val, 0, 0] := by decide +kernel

/-- The output weights' imaginary parts go with the step. -/
theorem index_6 : ∀ t : Fin grid0.N, win0_6.index t = ![t.val, 0, 0] := by decide +kernel

/-- The third result goes with the step. -/
theorem index_10 : ∀ t : Fin grid0.N, win0_10.index t = ![t.val, 0, 0] := by decide +kernel

/-- The fourth result goes with the step. -/
theorem index_11 : ∀ t : Fin grid0.N, win0_11.index t = ![t.val, 0, 0] := by decide +kernel

/-- The fifth result goes with the step. -/
theorem index_12 : ∀ t : Fin grid0.N, win0_12.index t = ![t.val, 0, 0] := by decide +kernel

variable (m : (ℓ : Loc nD τ sig) → Buf (Elt Ideal) ℓ)

/-- The real rates, both directions side by side. -/
theorem entry_5 (c : Dev nD) (g : Fin 32) (l : Fin 128) : V m c main_v5 (ix3 g 0 l) = m ((c.tc : Thread nD τ).loc main_arg0) (ix3 (half l) g (place l)) := by
  unfold V
  simp only [hostOps0, hostOps0_1, hostOps0_2, hostOps0_3, hostOps0_4, hostOps0_5, List.flatten_cons, List.flatten_nil, List.append_nil, List.cons_append, List.nil_append]
  after_reads_at
  after_reads_at
  by_cases hl : l.val < 64
  · rw [dif_pos hl, half_lt hl, place_lt hl]
  · rw [dif_neg hl, half_ge hl, place_ge hl]

/-- The imaginary rates, both directions side by side. -/
theorem entry_11 (c : Dev nD) (g : Fin 32) (l : Fin 128) : V m c main_v11 (ix3 g 0 l) = m ((c.tc : Thread nD τ).loc main_arg1) (ix3 (half l) g (place l)) := by
  unfold V
  simp only [hostOps0, hostOps0_1, hostOps0_2, hostOps0_3, hostOps0_4, hostOps0_5, List.flatten_cons, List.flatten_nil, List.append_nil, List.cons_append, List.nil_append]
  after_reads_at
  after_reads_at
  by_cases hl : l.val < 64
  · rw [dif_pos hl, half_lt hl, place_lt hl]
  · rw [dif_neg hl, half_ge hl, place_ge hl]

/-- The time steps, both directions side by side. -/
theorem entry_19 (c : Dev nD) (g : Fin 32) (l : Fin 128) : V m c main_v19 (ix3 g 0 l) = m ((c.tc : Thread nD τ).loc main_arg2) (ix2 (half l) g) := by
  unfold V
  simp only [hostOps0, hostOps0_1, hostOps0_2, hostOps0_3, hostOps0_4, hostOps0_5, List.flatten_cons, List.flatten_nil, List.append_nil, List.cons_append, List.nil_append]
  after_reads_at
  after_reads_at
  by_cases hl : l.val < 64
  · rw [dif_pos hl, half_lt hl]
  · rw [dif_neg hl, half_ge hl]

/-- The output weights' real parts, once for each direction. -/
theorem entry_33 (c : Dev nD) (g : Fin 32) (h : Fin 16) (l : Fin 128) : V m c main_v33 (ix3 g ⟨h.val, by omega⟩ l) = m ((c.tc : Thread nD τ).loc main_arg5) (ix3 g h (place l)) := by
  unfold V
  simp only [hostOps0, hostOps0_1, hostOps0_2, hostOps0_3, hostOps0_4, hostOps0_5, List.flatten_cons, List.flatten_nil, List.append_nil, List.cons_append, List.nil_append]
  after_reads_at
  after_reads_at
  by_cases hl : l.val < 64
  · rw [dif_pos hl, place_lt hl]
  · rw [dif_neg hl, place_ge hl]

/-- The output weights' imaginary parts, once for each direction. -/
theorem entry_35 (c : Dev nD) (g : Fin 32) (h : Fin 16) (l : Fin 128) : V m c main_v35 (ix3 g ⟨h.val, by omega⟩ l) = m ((c.tc : Thread nD τ).loc main_arg6) (ix3 g h (place l)) := by
  unfold V
  simp only [hostOps0, hostOps0_1, hostOps0_2, hostOps0_3, hostOps0_4, hostOps0_5, List.flatten_cons, List.flatten_nil, List.append_nil, List.cons_append, List.nil_append]
  after_reads_at
  after_reads_at
  by_cases hl : l.val < 64
  · rw [dif_pos hl, place_lt hl]
  · rw [dif_neg hl, place_ge hl]

/-- The real rates that a step reads. -/
theorem read_0 (c : Dev nD) (t : Fin cfg0.N) (g : Fin 4) (l : Fin 128) (e : Fin 32) (he : e.val = 4 * t.val + g.val) :
    iblk m c 0 t (ix3 g 0 l) = m ((c.tc : Thread nD τ).loc main_arg0) (ix3 (half l) e (place l)) := by
  have h := index_0 t
  refine Eq.trans ?_ (entry_5 m c e l)
  blk_ext [iblk, h]

/-- The imaginary rates that a step reads. -/
theorem read_1 (c : Dev nD) (t : Fin cfg0.N) (g : Fin 4) (l : Fin 128) (e : Fin 32) (he : e.val = 4 * t.val + g.val) :
    iblk m c 1 t (ix3 g 0 l) = m ((c.tc : Thread nD τ).loc main_arg1) (ix3 (half l) e (place l)) := by
  have h := index_1 t
  refine Eq.trans ?_ (entry_11 m c e l)
  blk_ext [iblk, h]

/-- The time steps that a step reads. -/
theorem read_2 (c : Dev nD) (t : Fin cfg0.N) (g : Fin 4) (l : Fin 128) (e : Fin 32) (he : e.val = 4 * t.val + g.val) :
    iblk m c 2 t (ix3 g 0 l) = m ((c.tc : Thread nD τ).loc main_arg2) (ix2 (half l) e) := by
  have h := index_2 t
  refine Eq.trans ?_ (entry_19 m c e l)
  blk_ext [iblk, h]

/-- The output weights' real parts that a step reads. -/
theorem read_5 (c : Dev nD) (t : Fin cfg0.N) (g : Fin 4) (h : Fin 16) (l : Fin 128) (e : Fin 32) (he : e.val = 4 * t.val + g.val) :
    iblk m c 5 t (ix3 g ⟨h.val, by omega⟩ l) = m ((c.tc : Thread nD τ).loc main_arg5) (ix3 e h (place l)) := by
  have hi := index_5 t
  refine Eq.trans ?_ (entry_33 m c e h l)
  blk_ext [iblk, hi]

/-- The output weights' imaginary parts that a step reads. -/
theorem read_6 (c : Dev nD) (t : Fin cfg0.N) (g : Fin 4) (h : Fin 16) (l : Fin 128) (e : Fin 32) (he : e.val = 4 * t.val + g.val) :
    iblk m c 6 t (ix3 g ⟨h.val, by omega⟩ l) = m ((c.tc : Thread nD τ).loc main_arg6) (ix3 e h (place l)) := by
  have hi := index_6 t
  refine Eq.trans ?_ (entry_35 m c e h l)
  blk_ext [iblk, hi]

/-- The third result: every group's exit matrix. -/
def exits (c : Dev nD) : Buf (Elt Ideal) ((c.tc : Thread nD τ).loc main_v38_2) :=
  fun y => exit (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (y 0) (y 1) (y 2)

/-- The fourth result: the real part of every state's sixteenth power. -/
def lasts_re (c : Dev nD) : Buf (Elt Ideal) ((c.tc : Thread nD τ).loc main_v38_3) :=
  fun y => (power (m ((c.tc : Thread nD τ).loc main_arg0)) (m ((c.tc : Thread nD τ).loc main_arg1)) (m ((c.tc : Thread nD τ).loc main_arg2)) (y 0) (y 2) 16).1

/-- The fifth result: the imaginary part of every state's sixteenth power. -/
def lasts_im (c : Dev nD) : Buf (Elt Ideal) ((c.tc : Thread nD τ).loc main_v38_4) :=
  fun y => (power (m ((c.tc : Thread nD τ).loc main_arg0)) (m ((c.tc : Thread nD τ).loc main_arg1)) (m ((c.tc : Thread nD τ).loc main_arg2)) (y 0) (y 2) 16).2

/-- The blocks, one a step, cover the array. -/
theorem covers_10 : (cfg0.win 10).Covers := by
  refine ⟨by decide, fun β => ⟨⟨(β 0).val, (β 0).isLt⟩, flush0_10 _, fun a => ⟨?_, .inl rfl⟩⟩⟩
  show win0_10.index _ a = _
  rw [index_10]
  match a with
  | ⟨0, _⟩ => rfl
  | ⟨1, _⟩ => exact (Nat.lt_one_iff.mp (β 1).isLt).symm
  | ⟨2, _⟩ => exact (Nat.lt_one_iff.mp (β 2).isLt).symm

/-- The blocks, one a step, cover the array. -/
theorem covers_11 : (cfg0.win 11).Covers := by
  refine ⟨by decide, fun β => ⟨⟨(β 0).val, (β 0).isLt⟩, flush0_11 _, fun a => ⟨?_, .inl rfl⟩⟩⟩
  show win0_11.index _ a = _
  rw [index_11]
  match a with
  | ⟨0, _⟩ => rfl
  | ⟨1, _⟩ => exact (Nat.lt_one_iff.mp (β 1).isLt).symm
  | ⟨2, _⟩ => exact (Nat.lt_one_iff.mp (β 2).isLt).symm

/-- The blocks, one a step, cover the array. -/
theorem covers_12 : (cfg0.win 12).Covers := by
  refine ⟨by decide, fun β => ⟨⟨(β 0).val, (β 0).isLt⟩, flush0_12 _, fun a => ⟨?_, .inl rfl⟩⟩⟩
  show win0_12.index _ a = _
  rw [index_12]
  match a with
  | ⟨0, _⟩ => rfl
  | ⟨1, _⟩ => exact (Nat.lt_one_iff.mp (β 1).isLt).symm
  | ⟨2, _⟩ => exact (Nat.lt_one_iff.mp (β 2).isLt).symm

/-- The third array after the run. -/
theorem arr_10 (c : Dev nD) : (dats m 0 c).arrAt 10 cfg0.N = exits m c := by
  refine (dats m 0 c).arrAt_eq_of_covers 10 _ covers_10 fun t _ y => ?_
  have hi := index_10 t
  have ht : t.val < 8 := t.isLt
  change S4x256x256.Idx at y
  idx_vars y
  obtain ⟨e, he⟩ : ∃ e : Fin 32, e.val = 4 * t.val + y0.val := ⟨⟨4 * t.val + y0.val, by omega⟩, rfl⟩
  have hb : ((cfg0.win 10).blk t).view.emb (ix3 y0 y1 y2) = ix3 e y1 y2 := by blk_ext [hi]
  rw [hb]
  show (dats m 0 c).after 10 t (ix3 y0 y1 y2) = exit _ _ _ _ _ e y1 y2
  rw [after_10]
  have h5 := read_5 m c t y0 ⟨y1.val % 16, by omega⟩ ⟨y2.val % 128, by omega⟩ e he
  have h6 := read_6 m c t y0 ⟨y1.val % 16, by omega⟩ ⟨y2.val % 128, by omega⟩ e he
  have h0 := read_0 m c t y0 ⟨y2.val % 128, by omega⟩ e he
  have h1 := read_1 m c t y0 ⟨y2.val % 128, by omega⟩ e he
  have h2 := read_2 m c t y0 ⟨y2.val % 128, by omega⟩ e he
  unfold exit power leave
  simp only [← h0, ← h1, ← h2, ← h5, ← h6]
  rfl

/-- The fourth array after the run. -/
theorem arr_11 (c : Dev nD) : (dats m 0 c).arrAt 11 cfg0.N = lasts_re m c := by
  refine (dats m 0 c).arrAt_eq_of_covers 11 _ covers_11 fun t _ y => ?_
  have hi := index_11 t
  have ht : t.val < 8 := t.isLt
  change S4x1x128.Idx at y
  idx_vars y
  obtain rfl : y1 = 0 := Subsingleton.elim _ _
  obtain ⟨e, he⟩ : ∃ e : Fin 32, e.val = 4 * t.val + y0.val := ⟨⟨4 * t.val + y0.val, by omega⟩, rfl⟩
  have hb : ((cfg0.win 11).blk t).view.emb (ix3 y0 0 y2) = ix3 e 0 y2 := by blk_ext [hi]
  rw [hb]
  show (dats m 0 c).after 11 t (ix3 y0 0 y2) = (power _ _ _ e y2 16).1
  rw [after_11]
  unfold last_re power
  rw [read_0 m c t y0 y2 e he, read_1 m c t y0 y2 e he, read_2 m c t y0 y2 e he]

/-- The fifth array after the run. -/
theorem arr_12 (c : Dev nD) : (dats m 0 c).arrAt 12 cfg0.N = lasts_im m c := by
  refine (dats m 0 c).arrAt_eq_of_covers 12 _ covers_12 fun t _ y => ?_
  have hi := index_12 t
  have ht : t.val < 8 := t.isLt
  change S4x1x128.Idx at y
  idx_vars y
  obtain rfl : y1 = 0 := Subsingleton.elim _ _
  obtain ⟨e, he⟩ : ∃ e : Fin 32, e.val = 4 * t.val + y0.val := ⟨⟨4 * t.val + y0.val, by omega⟩, rfl⟩
  have hb : ((cfg0.win 12).blk t).view.emb (ix3 y0 0 y2) = ix3 e 0 y2 := by blk_ext [hi]
  rw [hb]
  show (dats m 0 c).after 12 t (ix3 y0 0 y2) = (power _ _ _ e y2 16).2
  rw [after_12]
  unfold last_im power
  rw [read_0 m c t y0 y2 e he, read_1 m c t y0 y2 e he, read_2 m c t y0 y2 e he]

end Cert.Kernel7Ideal.Value
end
-- ==== Proof.S5OpsReference.lean ====
module
public import proofs.«01_k».proof.Proof.Gen.Reference7Ideal.Run
public import proofs.«01_k».proof.Proof.Gen.Reference7Ideal.Read
public import proofs.«01_k».proof.Proof.S5Power
public import proofs.«01_k».proof.Proof.Finite
public import Idealize.ShloMosaic.Lib.Pointwise

/-!
# What the reference of the state-space operators computes

Entry by entry: the closed form of the powers, the exit matrix and the last powers.
-/

@[expose] public section
set_option maxRecDepth 16384
noncomputable section
namespace Cert.Reference7Ideal.Read
open Cert.Reference7Ideal Cert.Reference7Ideal.Gen Cert.S5Ops
open Idealize.ShloMosaic Idealize.ShloMosaic.TcCoe

variable (x0 x1 : (⟨S2x32x64, .f32⟩ : BufTy).Contents (Elt Ideal)) (x2 : (⟨S2x32, .f32⟩ : BufTy).Contents (Elt Ideal)) (x5 x6 : (⟨S32x16x64, .f32⟩ : BufTy).Contents (Elt Ideal))

/-- The words of the sixteen steps denote their numbers. -/
theorem step_word : ∀ s : Fin 16, (BitVec.ofNat 32 s.val).toInt = s.val := by decide

/-- The exponent of a step is one more than the step. -/
theorem exponent (s : Fin 16) : (FloatOps.sitofp (F := Ideal) FTy.f32 (BitVec.ofNat 32 s.val) : EReal) + 1 = (((s.val + 1 : ℕ) : ℝ) : EReal) := by
  show ((((BitVec.ofNat 32 s.val).toInt : ℤ) : ℝ) : EReal) + 1 = _
  rw [step_word, ← EReal.coe_one, ← EReal.coe_add]
  push_cast
  rfl

/-- The real part of a power, in closed form. -/
theorem power_re (s : Fin 16) (d : Fin 2) (g : Fin 32) (p : Fin 64) :
    val_main_v20 (F := Ideal) x0 x1 x2 (ix4 s d g p) = (closed (s.val + 1) (x0 (ix3 d g p)) (x1 (ix3 d g p)) (x2 (ix2 d g))).1 := by
  pointwise [val_main_v0, val_main_v1, val_main_v2, val_main_v3, val_main_v4, val_main_v5, val_main_cst, val_main_v6, val_main_v7, val_main_v8, val_main_v9, val_main_v10, val_main_v11, val_main_v12, val_main_v13, val_main_v14, val_main_v15, val_main_v16, val_main_v17, val_main_v18, val_main_v19, val_main_v20]
  rw [exponent]
  rfl

/-- The imaginary part of a power, in closed form. -/
theorem power_im (s : Fin 16) (d : Fin 2) (g : Fin 32) (p : Fin 64) :
    val_main_v28 (F := Ideal) x0 x1 x2 (ix4 s d g p) = (closed (s.val + 1) (x0 (ix3 d g p)) (x1 (ix3 d g p)) (x2 (ix2 d g))).2 := by
  pointwise [val_main_v0, val_main_v1, val_main_v2, val_main_v3, val_main_v4, val_main_v5, val_main_cst, val_main_v6, val_main_v7, val_main_v8, val_main_v9, val_main_v10, val_main_v11, val_main_v12, val_main_v21, val_main_v22, val_main_v23, val_main_v24, val_main_v25, val_main_v26, val_main_v27, val_main_v28]
  rw [exponent]
  rfl

/-- The powers of a lane's transition, of real rates, in closed form. -/
theorem power_closed (h0 : ∀ y, ∃ r : ℝ, (x0 y : EReal) = r) (h1 : ∀ y, ∃ r : ℝ, (x1 y : EReal) = r) (h2 : ∀ y, ∃ r : ℝ, (x2 y : EReal) = r) (g : Fin 32) (l : Fin 128) (n : ℕ) :
    power x0 x1 x2 g l n = closed n (x0 (ix3 (half l) g (place l))) (x1 (ix3 (half l) g (place l))) (x2 (ix2 (half l) g)) :=
  pow_closed n (h0 _) (h1 _) (h2 _)

/-- An output weight times a power, real part. -/
theorem product_re (s : Fin 16) (d : Fin 2) (g : Fin 32) (h : Fin 16) (p : Fin 64) :
    val_main_v39 (F := Ideal) x0 x1 x2 x5 x6 (ix5 s d g h p)
      = x5 (ix3 g h p) * (closed (s.val + 1) (x0 (ix3 d g p)) (x1 (ix3 d g p)) (x2 (ix2 d g))).1
        - x6 (ix3 g h p) * (closed (s.val + 1) (x0 (ix3 d g p)) (x1 (ix3 d g p)) (x2 (ix2 d g))).2 := by
  pointwise [val_main_v29, val_main_v30, val_main_v31, val_main_v32, val_main_v33, val_main_v34, val_main_v35, val_main_v36, val_main_v37, val_main_v38, val_main_v39]
  simp only [power_re, power_im]

/-- An output weight times a power, imaginary part. -/
theorem product_im (s : Fin 16) (d : Fin 2) (g : Fin 32) (h : Fin 16) (p : Fin 64) :
    val_main_v48 (F := Ideal) x0 x1 x2 x5 x6 (ix5 s d g h p)
      = x5 (ix3 g h p) * (closed (s.val + 1) (x0 (ix3 d g p)) (x1 (ix3 d g p)) (x2 (ix2 d g))).2
        + x6 (ix3 g h p) * (closed (s.val + 1) (x0 (ix3 d g p)) (x1 (ix3 d g p)) (x2 (ix2 d g))).1 := by
  pointwise [val_main_v29, val_main_v30, val_main_v40, val_main_v41, val_main_v42, val_main_v43, val_main_v44, val_main_v45, val_main_v46, val_main_v47, val_main_v48]
  simp only [power_re, power_im]

/-- An entry of the exit matrix by step and channel, real part. -/
theorem leave_re (h0 : ∀ y, ∃ r : ℝ, (x0 y : EReal) = r) (h1 : ∀ y, ∃ r : ℝ, (x1 y : EReal) = r) (h2 : ∀ y, ∃ r : ℝ, (x2 y : EReal) = r) (s : Fin 16) (g : Fin 32) (h : Fin 16) (l : Fin 128) :
    val_main_v54 (F := Ideal) x0 x1 x2 x5 x6 (ix4 s g h l)
      = x5 (ix3 g h (place l)) * (power x0 x1 x2 g l (step s.val l)).1 - x6 (ix3 g h (place l)) * (power x0 x1 x2 g l (step s.val l)).2 := by
  pointwise [val_main_v49, val_main_v50, val_main_v51, val_main_v52, val_main_v53, val_main_v54]
  rw [power_closed x0 x1 x2 h0 h1 h2]
  by_cases hl : l.val < 64
  · rw [dif_pos hl, product_re, half_lt hl, place_lt hl, show step s.val l = s.val + 1 from if_pos hl]
  · rw [dif_neg hl]
    refine (product_re x0 x1 x2 x5 x6 s.rev 1 g h ⟨l.val - 64, by omega⟩).trans ?_
    rw [half_ge hl, place_ge hl, show step s.val l = s.rev.val + 1 from (if_neg hl).trans (by rw [Fin.val_rev]; omega)]

/-- An entry of the exit matrix by step and channel, imaginary part. -/
theorem leave_im (h0 : ∀ y, ∃ r : ℝ, (x0 y : EReal) = r) (h1 : ∀ y, ∃ r : ℝ, (x1 y : EReal) = r) (h2 : ∀ y, ∃ r : ℝ, (x2 y : EReal) = r) (s : Fin 16) (g : Fin 32) (h : Fin 16) (l : Fin 128) :
    val_main_v62 (F := Ideal) x0 x1 x2 x5 x6 (ix4 s g h l)
      = x5 (ix3 g h (place l)) * (power x0 x1 x2 g l (step s.val l)).2 + x6 (ix3 g h (place l)) * (power x0 x1 x2 g l (step s.val l)).1 := by
  pointwise [val_main_v57, val_main_v58, val_main_v59, val_main_v60, val_main_v61, val_main_v62]
  rw [power_closed x0 x1 x2 h0 h1 h2]
  by_cases hl : l.val < 64
  · rw [dif_pos hl, product_im, half_lt hl, place_lt hl, show step s.val l = s.val + 1 from if_pos hl]
  · rw [dif_neg hl]
    refine (product_im x0 x1 x2 x5 x6 s.rev 1 g h ⟨l.val - 64, by omega⟩).trans ?_
    rw [half_ge hl, place_ge hl, show step s.val l = s.rev.val + 1 from (if_neg hl).trans (by rw [Fin.val_rev]; omega)]

/-- The exit matrix. -/
theorem exit_apply (h0 : ∀ y, ∃ r : ℝ, (x0 y : EReal) = r) (h1 : ∀ y, ∃ r : ℝ, (x1 y : EReal) = r) (h2 : ∀ y, ∃ r : ℝ, (x2 y : EReal) = r) (g : Fin 32) (r c : Fin 256) :
    val_main_v67 (F := Ideal) x0 x1 x2 x5 x6 (ix3 g r c) = exit x0 x1 x2 x5 x6 g r c := by
  pointwise [val_main_v55, val_main_v56, val_main_v63, val_main_v64, val_main_v65, val_main_v66, val_main_v67]
  unfold exit
  by_cases hc : c.val < 128
  · rw [dif_pos hc, leave_re x0 x1 x2 x5 x6 h0 h1 h2, if_pos hc]
    have e : (⟨c.val, hc⟩ : Fin 128) = ⟨c.val % 128, by omega⟩ := Fin.ext (by show c.val = c.val % 128; omega)
    rw [e]
    rfl
  · rw [dif_neg hc, leave_im x0 x1 x2 x5 x6 h0 h1 h2, if_neg hc]
    have e : (⟨c.val - 128, by omega⟩ : Fin 128) = ⟨c.val % 128, by omega⟩ := Fin.ext (by show c.val - 128 = c.val % 128; omega)
    rw [e]
    exact (zero_sub _).symm

/-- The sixteenth powers, real part. -/
theorem last_re (h0 : ∀ y, ∃ r : ℝ, (x0 y : EReal) = r) (h1 : ∀ y, ∃ r : ℝ, (x1 y : EReal) = r) (h2 : ∀ y, ∃ r : ℝ, (x2 y : EReal) = r) (g : Fin 32) (l : Fin 128) :
    val_main_v73 (F := Ideal) x0 x1 x2 (ix3 g 0 l) = (power x0 x1 x2 g l 16).1 := by
  pointwise [val_main_v68, val_main_v69, val_main_v70, val_main_v71, val_main_v72, val_main_v73]
  rw [power_closed x0 x1 x2 h0 h1 h2]
  by_cases hl : l.val < 64
  · rw [dif_pos hl, power_re, half_lt hl, place_lt hl]
    rfl
  · rw [dif_neg hl, power_re, half_ge hl, place_ge hl]
    rfl

/-- The sixteenth powers, imaginary part. -/
theorem last_im (h0 : ∀ y, ∃ r : ℝ, (x0 y : EReal) = r) (h1 : ∀ y, ∃ r : ℝ, (x1 y : EReal) = r) (h2 : ∀ y, ∃ r : ℝ, (x2 y : EReal) = r) (g : Fin 32) (l : Fin 128) :
    val_main_v79 (F := Ideal) x0 x1 x2 (ix3 g 0 l) = (power x0 x1 x2 g l 16).2 := by
  pointwise [val_main_v74, val_main_v75, val_main_v76, val_main_v77, val_main_v78, val_main_v79]
  rw [power_closed x0 x1 x2 h0 h1 h2]
  by_cases hl : l.val < 64
  · rw [dif_pos hl, power_im, half_lt hl, place_lt hl]
    rfl
  · rw [dif_neg hl, power_im, half_ge hl, place_ge hl]
    rfl

end Cert.Reference7Ideal.Read
end
-- ==== Proof.S5Finite.lean ====
module
public import proofs.«01_k».proof.Proof.Gen.Pre_finite_rates
public import proofs.«01_k».proof.Proof.Finite

/-!
# What the precondition on the rates says

Every entry of the two arrays of rates and of the time steps is a real number.
-/

@[expose] public section
noncomputable section
namespace Cert.S5Ops
open Idealize.ShloMosaic

/-- What the precondition says in words: the rates and the time steps are real numbers. -/
theorem reals [Pre_finite_rates.Facts] (a0 a1 : FVec Ideal Pre_finite_rates.S2x32x64 .f32) (a2 : FVec Ideal Pre_finite_rates.S2x32 .f32)
    (a3 a4 : FVec Ideal Pre_finite_rates.S2x32x64x16 .f32) (a5 a6 : FVec Ideal Pre_finite_rates.S32x16x64 .f32) (a7 : FVec Ideal Pre_finite_rates.S512 .f32)
    (h : Pre_finite_rates.fn (F := Ideal) a0 a1 a2 a3 a4 a5 a6 a7 = fun _ => 1#1) :
    (∀ y, ∃ r : ℝ, (a0 y : EReal) = r) ∧ (∀ y, ∃ r : ℝ, (a1 y : EReal) = r) ∧ ∀ y, ∃ r : ℝ, (a2 y : EReal) = r := by
  have e := congrFun h (Shape.Idx.first (s := Pre_finite_rates.S_) (by decide))
  simp only [Pre_finite_rates.fn, andi, Cert.Range.andi_eq_one] at e
  obtain ⟨⟨h1, h2⟩, h3⟩ := e
  haveI : Subsingleton Pre_finite_rates.S_.Idx := ⟨fun x y => funext fun a => a.elim0⟩
  refine ⟨fun y => ?_, fun y => ?_, fun y => ?_⟩
  · have g := Host.reduce_andi_all _ _ _ _ _ h1 y
    change BitVec.ofBool (decide (max (a0 y : EReal) (-(a0 y)) < Ideal.ofBits .f32 0x7F800000#32)) = 1#1 at g
    rw [Cert.Range.ofBool_eq_one, decide_eq_true_eq, Cert.Finite.top_bits] at g
    exact Cert.Finite.real_of_abs_lt g
  · have g := Host.reduce_andi_all _ _ _ _ _ h2 y
    change BitVec.ofBool (decide (max (a1 y : EReal) (-(a1 y)) < Ideal.ofBits .f32 0x7F800000#32)) = 1#1 at g
    rw [Cert.Range.ofBool_eq_one, decide_eq_true_eq, Cert.Finite.top_bits] at g
    exact Cert.Finite.real_of_abs_lt g
  · have g := Host.reduce_andi_all _ _ _ _ _ h3 y
    change BitVec.ofBool (decide (max (a2 y : EReal) (-(a2 y)) < Ideal.ofBits .f32 0x7F800000#32)) = 1#1 at g
    rw [Cert.Range.ofBool_eq_one, decide_eq_true_eq, Cert.Finite.top_bits] at g
    exact Cert.Finite.real_of_abs_lt g

end Cert.S5Ops
end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Pre_finite
public import proofs.«01_k».proof.Proof.Gen.Pre_in_range
public import proofs.«01_k».proof.Proof.Gen.Pre_all_finite
public import proofs.«01_k».proof.Proof.Gen.Pre_finite_rates
public import proofs.«01_k».proof.Proof.KernelFrame
public import proofs.«01_k».proof.Proof.KernelOk
public import proofs.«01_k».proof.Proof.KernelIdealValue
public import proofs.«01_k».proof.Proof.ReferenceValue
public import proofs.«01_k».proof.Proof.InProj
public import proofs.«01_k».proof.Proof.InProjPrompt
public import proofs.«01_k».proof.Proof.Ada
public import proofs.«01_k».proof.Proof.OutProjKernel
public import proofs.«01_k».proof.Proof.OutProjReference
public import proofs.«01_k».proof.Proof.RouteArrays
public import proofs.«01_k».proof.Proof.RouteReference
public import proofs.«01_k».proof.Proof.S5OpsArrays
public import proofs.«01_k».proof.Proof.S5OpsReference
public import proofs.«01_k».proof.Proof.S5Finite
public import Idealize.ShloMosaic.Lib.Quiescent

@[expose] public section

noncomputable section

namespace Cert.Proof

open Idealize.ShloMosaic Idealize.ShloMosaic.TcCoe Idealize.SL.Sem

/-- The kernel runs without fault, leaves its arguments as they were and every counter at zero (bit-exact reading). -/
theorem frame_kernel : Cert.quiescent_Kernel := fun m ρ h => Cert.Kernel.Moe.frame m ρ (Cert.Kernel.Moe.ok_of_pre m h)

/-- The same of the kernel read over the extended reals. -/
theorem frame_kernelIdeal : Cert.quiescent_KernelIdeal := fun m ρ h => Cert.KernelIdeal.Moe.frame m ρ (Cert.KernelIdeal.Moe.ok_of_pre m h)

/-- The same of the reference, which declares no semaphore. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From equal arguments the kernel and the reference end with equal results: both hold, at each row and column, the
    contribution of the row's group of four experts. -/
theorem value : Cert.algebraic_KernelIdeal_ReferenceIdeal := by
  intro m g m' g' hpre hagree
  have hb := fun c => Cert.Range.bounds _ _ _ _ _ _ _ (hpre c)
  refine ⟨fun c => Cert.KernelIdeal.Moe.experts m c (hb c).1, Cert.KernelIdeal.Moe.run_experts m g (fun c => (hb c).1) (fun c => (hb c).2), ?_⟩
  refine (θ_run Cert.ReferenceIdeal.defs _ _).mono (fun r h c => ⟨(h c).1.trans ?_, (h c).2⟩) (Cert.ReferenceIdeal.Value.run (F := Ideal) m' g')
  obtain ⟨a0, a1, a2, a3, a4, a5, a6⟩ := hagree c
  rw [a0, a1, a2, a3, a4, a5, a6]
  refine (Cert.ReferenceIdeal.Read.val_main_v28_eq (F := Ideal) _ _ _ _ _ _ _).trans ?_
  funext y
  change Cert.ReferenceIdeal.S15872x1024.Idx at y
  idx_vars y
  exact Cert.ReferenceIdeal.Read.out_apply _ _ _ _ _ _ _ y0 y1 ((hb c).1 _) ((hb c).2 _).2

/-- The input projection's kernel runs without fault, leaves its arguments and counters as they were (bit-exact reading). -/
theorem frame_kernel2 : Cert.quiescent_Kernel2 := fun m ρ _ => Cert.Kernel2.Gen.frame m ρ

/-- The same over the extended reals. -/
theorem frame_kernel2Ideal : Cert.quiescent_Kernel2Ideal := fun m ρ _ => Cert.Kernel2Ideal.Gen.frame m ρ

/-- The same of its reference, which declares no semaphore. -/
theorem frame_reference2Ideal : Cert.quiescent_Reference2Ideal := fun m ρ _ =>
  (θ_run Cert.Reference2Ideal.defs _ _).mono (fun r h => ⟨fun c => (h c).2.2, sem_eq_zero_of_no_sems (by decide) r.2⟩)
    (Cert.Reference2Ideal.Value.run (F := Ideal) m ρ)

/-- The output projection's kernel runs without fault, leaves its arguments and counters as they were (bit-exact reading). -/
theorem frame_kernel3 : Cert.quiescent_Kernel3 := fun m ρ _ => Cert.Kernel3.Gen.frame m ρ

/-- The same over the extended reals. -/
theorem frame_kernel3Ideal : Cert.quiescent_Kernel3Ideal := fun m ρ _ => Cert.Kernel3Ideal.Gen.frame m ρ

/-- The same of its reference, which declares no semaphore. -/
theorem frame_reference3Ideal : Cert.quiescent_Reference3Ideal := fun m ρ _ =>
  (θ_run Cert.Reference3Ideal.defs _ _).mono (fun r h => ⟨fun c => (h c).2.2, sem_eq_zero_of_no_sems (by decide) r.2⟩)
    (Cert.Reference3Ideal.Value.run (F := Ideal) m ρ)

/-- The input projection: from equal arguments kernel and reference end with equal results, the two parts of every token's
    projected row. -/
theorem value2 : Cert.algebraic_Kernel2Ideal_Reference2Ideal := by
  intro m g m' g' _ hagree
  refine ⟨fun c => Cert.Kernel2Ideal.Value.first m c, fun c => Cert.Kernel2Ideal.Value.second m c, ?_, ?_⟩
  · refine (θ_run Cert.Kernel2Ideal.defs _ _).mono (fun r h c => ?_) (Cert.Kernel2Ideal.Value.run_blocks (F := Ideal) m g)
    have h := h c
    exact ⟨h.1.trans (Cert.Kernel2Ideal.Value.arr_4 m c), h.2.1.trans (Cert.Kernel2Ideal.Value.arr_5 m c), h.2.2⟩
  · refine (θ_run Cert.Reference2Ideal.defs _ _).mono (fun r h c => ⟨(h c).1.trans ?_, (h c).2.1.trans ?_, (h c).2.2⟩) (Cert.Reference2Ideal.Value.run (F := Ideal) m' g')
    · obtain ⟨a0, a1, a2, a3⟩ := hagree c
      rw [a0, a1, a2, a3]
      refine (Cert.Reference2Ideal.Read.val_main_v32_eq (F := Ideal) _ _ _ _).trans ?_
      funext y
      change Cert.Reference2Ideal.S8x1024x1536.Idx at y
      idx_vars y
      exact Cert.Reference2Ideal.Read.first_apply _ _ _ _ y0 y1 y2
    · obtain ⟨a0, a1, a2, a3⟩ := hagree c
      rw [a0, a1, a2, a3]
      refine (Cert.Reference2Ideal.Read.val_main_v33_eq (F := Ideal) _ _ _ _).trans ?_
      funext y
      change Cert.Reference2Ideal.S8x1024x512.Idx at y
      idx_vars y
      exact Cert.Reference2Ideal.Read.second_apply _ _ _ _ y0 y1 y2

/-- The output projection: from equal arguments kernel and reference end with equal results, every token after the first
    residual and its second modulated row. -/
theorem value3 : Cert.algebraic_Kernel3Ideal_Reference3Ideal := by
  intro m g m' g' _ hagree
  refine ⟨fun c => Cert.Kernel3Ideal.Value.first_array m c, fun c => Cert.Kernel3Ideal.Value.second_array m c, ?_, ?_⟩
  · refine (θ_run Cert.Kernel3Ideal.defs _ _).mono (fun r h c => ?_) (Cert.Kernel3Ideal.Value.run_blocks (F := Ideal) m g)
    have h := h c
    exact ⟨h.1.trans (Cert.Kernel3Ideal.Value.arr_17 m c), h.2.1.trans (Cert.Kernel3Ideal.Value.arr_18 m c), h.2.2.2.2⟩
  · refine (θ_run Cert.Reference3Ideal.defs _ _).mono (fun r h c => ⟨(h c).1.trans ?_, (h c).2.1.trans ?_, (h c).2.2⟩) (Cert.Reference3Ideal.Value.run (F := Ideal) m' g')
    · obtain ⟨a0, a1, a2, a3, a4, a5, a6, a7, a8, a9, a10, a11, a12, a13, a14, a15, a16, a17⟩ := hagree c
      refine (Cert.Reference3Ideal.Read.val_main_v94_eq (F := Ideal) _).trans ?_
      funext y
      change Cert.Reference3Ideal.S12288x1024.Idx at y
      idx_vars y
      refine (Cert.Reference3Ideal.Read.first_apply _ _ _ _ _ _ _ _ _ _ _ _ _ _ y0 y1).trans ?_
      simp only [StableHlo.launchContents_devRef, a0, a1, a2, a3, a4, a5, a6, a7, a8, a9, a10, a11, a12, a13]
      rfl
    · obtain ⟨a0, a1, a2, a3, a4, a5, a6, a7, a8, a9, a10, a11, a12, a13, a14, a15, a16, a17⟩ := hagree c
      refine (Cert.Reference3Ideal.Read.val_main_v115_eq (F := Ideal) _).trans ?_
      funext y
      change Cert.Reference3Ideal.S12288x1024.Idx at y
      idx_vars y
      refine (Cert.Reference3Ideal.Read.second_apply _ _ _ _ _ _ _ _ _ _ _ _ _ _ y0 y1).trans ?_
      simp only [StableHlo.launchContents_devRef, a0, a1, a2, a3, a4, a5, a6, a7, a8, a9, a10, a11, a12, a13]
      rfl

/-- The input projection's kernel for the prompt runs without fault, leaves its arguments and counters as they were (bit-exact reading). -/
theorem frame_kernel4 : Cert.quiescent_Kernel4 := fun m ρ _ => Cert.Kernel4.Gen.frame m ρ

/-- The same over the extended reals. -/
theorem frame_kernel4Ideal : Cert.quiescent_Kernel4Ideal := fun m ρ _ => Cert.Kernel4Ideal.Gen.frame m ρ

/-- The same of its reference, which declares no semaphore. -/
theorem frame_reference4Ideal : Cert.quiescent_Reference4Ideal := fun m ρ _ =>
  (θ_run Cert.Reference4Ideal.defs _ _).mono (fun r h => ⟨fun c => (h c).2.2, sem_eq_zero_of_no_sems (by decide) r.2⟩)
    (Cert.Reference4Ideal.Value.run (F := Ideal) m ρ)

/-- The input projection of the prompt: from equal arguments kernel and reference end with equal results, the two parts of every token's
    projected row. -/
theorem value4 : Cert.algebraic_Kernel4Ideal_Reference4Ideal := by
  intro m g m' g' _ hagree
  refine ⟨fun c => Cert.Kernel4Ideal.Value.first m c, fun c => Cert.Kernel4Ideal.Value.second m c, ?_, ?_⟩
  · refine (θ_run Cert.Kernel4Ideal.defs _ _).mono (fun r h c => ?_) (Cert.Kernel4Ideal.Value.run_blocks (F := Ideal) m g)
    have h := h c
    exact ⟨h.1.trans (Cert.Kernel4Ideal.Value.arr_3 m c), h.2.1.trans (Cert.Kernel4Ideal.Value.arr_4 m c), h.2.2⟩
  · refine (θ_run Cert.Reference4Ideal.defs _ _).mono (fun r h c => ⟨(h c).1.trans ?_, (h c).2.1.trans ?_, (h c).2.2⟩) (Cert.Reference4Ideal.Value.run (F := Ideal) m' g')
    · obtain ⟨a0, a1, a2⟩ := hagree c
      rw [a0, a1, a2]
      refine (Cert.Reference4Ideal.Read.val_main_v29_eq (F := Ideal) _ _ _).trans ?_
      funext y
      change Cert.Reference4Ideal.S1x4096x1536.Idx at y
      idx_vars y
      obtain rfl : y0 = 0 := Subsingleton.elim _ _
      exact Cert.Reference4Ideal.Read.first_apply _ _ _ y1 y2
    · obtain ⟨a0, a1, a2⟩ := hagree c
      rw [a0, a1, a2]
      refine (Cert.Reference4Ideal.Read.val_main_v30_eq (F := Ideal) _ _ _).trans ?_
      funext y
      change Cert.Reference4Ideal.S1x4096x512.Idx at y
      idx_vars y
      obtain rfl : y0 = 0 := Subsingleton.elim _ _
      exact Cert.Reference4Ideal.Read.second_apply _ _ _ y1 y2

/-- The modulation rows' kernel runs without fault, leaves its arguments and counters as they were (bit-exact reading). -/
theorem frame_kernel5 : Cert.quiescent_Kernel5 := fun m ρ _ => Cert.Kernel5.Gen.frame m ρ

/-- The same over the extended reals. -/
theorem frame_kernel5Ideal : Cert.quiescent_Kernel5Ideal := fun m ρ _ => Cert.Kernel5Ideal.Gen.frame m ρ

/-- The same under the value claim's precondition. -/
theorem frame_kernel5Ideal_finite : Cert.quiescent_Kernel5Ideal_pre_finite := fun m ρ _ => Cert.Kernel5Ideal.Gen.frame m ρ

/-- The same of its reference, which declares no semaphore. -/
theorem frame_reference5Ideal : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- The same under the value claim's precondition. -/
theorem frame_reference5Ideal_finite : Cert.quiescent_Reference5Ideal_pre_finite := fun m ρ _ =>
  (θ_run Cert.Reference5Ideal.defs _ _).mono (fun r h => ⟨fun c => (h c).2, sem_eq_zero_of_no_sems (by decide) r.2⟩)
    (Cert.Reference5Ideal.Value.run (F := Ideal) m ρ)

/-- The modulation rows: from equal arguments, the vectors and the weights real, kernel and reference end with equal
    results, every vector's modulation row. -/
theorem value5 : Cert.algebraic_Kernel5Ideal_Reference5Ideal_pre_finite := by
  intro m g m' g' hpre hagree
  have hr := fun c => Cert.Finite.reals _ _ _ (hpre c)
  refine ⟨fun c => Cert.Kernel5Ideal.Value.rows m c, ?_, ?_⟩
  · refine (θ_run Cert.Kernel5Ideal.defs _ _).mono (fun r h c => ?_) (Cert.Kernel5Ideal.Value.run_blocks (F := Ideal) m g)
    have h := h c
    exact ⟨h.1.trans (Cert.Kernel5Ideal.Value.arr_3 m c (hr c).1 (hr c).2), h.2⟩
  · refine (θ_run Cert.Reference5Ideal.defs _ _).mono (fun r h c => ⟨(h c).1.trans ?_, (h c).2⟩) (Cert.Reference5Ideal.Value.run (F := Ideal) m' g')
    obtain ⟨a0, a1, a2⟩ := hagree c
    rw [a0, a1, a2]
    refine (Cert.Reference5Ideal.Read.val_main_v4_eq (F := Ideal) _ _ _).trans ?_
    funext y
    change Cert.Reference5Ideal.S16x6144.Idx at y
    idx_vars y
    exact Cert.Reference5Ideal.Read.rows_apply _ _ _ y0 y1

/-- The routing's kernel runs without fault, leaves its arguments and counters as they were (bit-exact reading). -/
theorem frame_kernel6 : Cert.quiescent_Kernel6 := fun m ρ _ => Cert.Kernel6.Gen.frame m ρ

/-- The same over the extended reals. -/
theorem frame_kernel6Ideal : Cert.quiescent_Kernel6Ideal := fun m ρ _ => Cert.Kernel6Ideal.Gen.frame m ρ

/-- The same under the value claim's precondition. -/
theorem frame_kernel6Ideal_all_finite : Cert.quiescent_Kernel6Ideal_pre_all_finite := fun m ρ _ => Cert.Kernel6Ideal.Gen.frame m ρ

/-- The same of its reference, which declares no semaphore. -/
theorem frame_reference6Ideal : Cert.quiescent_Reference6Ideal := fun m ρ _ =>
  (θ_run Cert.Reference6Ideal.defs _ _).mono (fun r h => ⟨fun c => (h c).2.2, sem_eq_zero_of_no_sems (by decide) r.2⟩)
    (Cert.Reference6Ideal.Value.run (F := Ideal) m ρ)

/-- The same under the value claim's precondition. -/
theorem frame_reference6Ideal_all_finite : Cert.quiescent_Reference6Ideal_pre_all_finite := fun m ρ _ =>
  (θ_run Cert.Reference6Ideal.defs _ _).mono (fun r h => ⟨fun c => (h c).2.2, sem_eq_zero_of_no_sems (by decide) r.2⟩)
    (Cert.Reference6Ideal.Value.run (F := Ideal) m ρ)

/-- The routing's reference ends, of real arguments equal to the kernel's, with the kernel's row of gates. -/
theorem reference6_gates (m : (ℓ : Loc Cert.Kernel6Ideal.nD Cert.Kernel6Ideal.τ Cert.Kernel6Ideal.sig) → Buf (Elt Ideal) ℓ) (c : Dev Cert.Kernel6Ideal.nD) (hpre : Cert.Pre_Kernel6Ideal_all_finite m) (t : Fin 12288) (k : Fin 128) :
    Cert.Reference6Ideal.Read.val_main_v190 (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9)) (m ((c.tc : Thread Cert.Kernel6Ideal.nD Cert.Kernel6Ideal.τ).loc Cert.Kernel6Ideal.main_arg10)) (m ((c.tc : Thread Cert.Kernel6Ideal.nD Cert.Kernel6Ideal.τ).loc Cert.Kernel6Ideal.main_arg11)) (m ((c.tc : Thread Cert.Kernel6Ideal.nD Cert.Kernel6Ideal.τ).loc Cert.Kernel6Ideal.main_arg12)) (m ((c.tc : Thread Cert.Kernel6Ideal.nD Cert.Kernel6Ideal.τ).loc Cert.Kernel6Ideal.main_arg13)) (m ((c.tc : Thread Cert.Kernel6Ideal.nD Cert.Kernel6Ideal.τ).loc Cert.Kernel6Ideal.main_arg14)) (m ((c.tc : Thread Cert.Kernel6Ideal.nD Cert.Kernel6Ideal.τ).loc Cert.Kernel6Ideal.main_arg15)) (m ((c.tc : Thread Cert.Kernel6Ideal.nD Cert.Kernel6Ideal.τ).loc Cert.Kernel6Ideal.main_arg16)) (m ((c.tc : Thread Cert.Kernel6Ideal.nD Cert.Kernel6Ideal.τ).loc Cert.Kernel6Ideal.main_arg17)) (ix2 t k)
      = Cert.Kernel6Ideal.Value.gates_array m c (ix2 t k) := by
  obtain ⟨h0, h1, h2, h3, h4, h5, h6, h7, h8, h9, h10, h11, h12, h13, h14, h15, h16, h17⟩ := Cert.RealRow.reals _ _ _ _ _ _ _ _ _ _ _ _ _ _ _ _ _ _ (hpre c)
  have hrow := fun n k => Cert.RealRow.second_real h0 h1 h2 h3 h4 h5 h6 h7 h8 h9 h10 h11 h12 h13 n k
  exact Cert.Reference6Ideal.Read.gates_apply _ _ _ _ _ _ _ _ _ _ _ _ _ _ _ _ _ _ t k
    (fun q => by rw [← Cert.Route.logit_group _ _ _ (m ((c.tc : Thread Cert.Kernel6Ideal.nD Cert.Kernel6Ideal.τ).loc Cert.Kernel6Ideal.main_arg16)) (m ((c.tc : Thread Cert.Kernel6Ideal.nD Cert.Kernel6Ideal.τ).loc Cert.Kernel6Ideal.main_arg17))]; exact Cert.RealRow.logit_real (hrow t) h14 h15 h16 h17 _)
    (fun g e => by rw [← Cert.Route.logit_expert _ (m ((c.tc : Thread Cert.Kernel6Ideal.nD Cert.Kernel6Ideal.τ).loc Cert.Kernel6Ideal.main_arg14)) (m ((c.tc : Thread Cert.Kernel6Ideal.nD Cert.Kernel6Ideal.τ).loc Cert.Kernel6Ideal.main_arg15))]; exact Cert.RealRow.logit_real (hrow t) h14 h15 h16 h17 _)

/-- The routing: from equal real arguments kernel and reference end with equal results, every token's row of gates and
    the sums of the rows of each block of 512 tokens. -/
theorem value6 : Cert.algebraic_Kernel6Ideal_Reference6Ideal_pre_all_finite := by
  intro m g m' g' hpre hagree
  refine ⟨fun c => Cert.Kernel6Ideal.Value.gates_array m c, fun c => Cert.Kernel6Ideal.Value.counts_array m c, ?_, ?_⟩
  · refine (θ_run Cert.Kernel6Ideal.defs _ _).mono (fun r h c => ?_) (Cert.Kernel6Ideal.Value.run_blocks (F := Ideal) m g)
    have h := h c
    obtain ⟨h0, h1, h2, h3, h4, h5, h6, h7, h8, h9, h10, h11, h12, h13, h14, h15, h16, h17⟩ := Cert.RealRow.reals _ _ _ _ _ _ _ _ _ _ _ _ _ _ _ _ _ _ (hpre c)
    have hrow := fun n k => Cert.RealRow.second_real h0 h1 h2 h3 h4 h5 h6 h7 h8 h9 h10 h11 h12 h13 n k
    exact ⟨h.2.2.1.trans (Cert.Kernel6Ideal.Value.arr_19 m c hrow h14 h15 h16 h17), h.2.2.2.1.trans (Cert.Kernel6Ideal.Value.arr_20 m c hrow h14 h15 h16 h17), h.2.2.2.2⟩
  · refine (θ_run Cert.Reference6Ideal.defs _ _).mono (fun r h c => ⟨(h c).1.trans ?_, (h c).2.1.trans ?_, (h c).2.2⟩) (Cert.Reference6Ideal.Value.run (F := Ideal) m' g')
    · obtain ⟨a0, a1, a2, a3, a4, a5, a6, a7, a8, a9, a10, a11, a12, a13, a14, a15, a16, a17⟩ := hagree c
      refine (Cert.Reference6Ideal.Read.val_main_v190_eq (F := Ideal) _).trans ?_
      simp only [StableHlo.launchContents_devRef, a0, a1, a2, a3, a4, a5, a6, a7, a8, a9, a10, a11, a12, a13, a14, a15, a16, a17]
      funext y
      change Cert.Reference6Ideal.S12288x128.Idx at y
      idx_vars y
      exact reference6_gates m c hpre y0 y1
    · obtain ⟨a0, a1, a2, a3, a4, a5, a6, a7, a8, a9, a10, a11, a12, a13, a14, a15, a16, a17⟩ := hagree c
      refine (Cert.Reference6Ideal.Read.val_main_v192_eq (F := Ideal) _).trans ?_
      simp only [StableHlo.launchContents_devRef, a0, a1, a2, a3, a4, a5, a6, a7, a8, a9, a10, a11, a12, a13, a14, a15, a16, a17]
      funext y
      change Cert.Reference6Ideal.S24x1x128.Idx at y
      idx_vars y
      obtain rfl : y1 = 0 := Subsingleton.elim _ _
      refine (Cert.Reference6Ideal.Read.total_apply _ _ _ _ _ _ _ _ _ _ _ _ _ _ _ _ _ _ y0 y2).trans ?_
      exact Finset.sum_congr rfl fun r _ => reference6_gates m c hpre ⟨512 * y0.val + r.val, by omega⟩ y2

/-- The frame of the state-space operators kernel. -/
theorem frame_kernel7 : Cert.quiescent_Kernel7 := fun m ρ _ => Cert.Kernel7.Gen.frame m ρ

/-- The same over the extended reals. -/
theorem frame_kernel7Ideal : Cert.quiescent_Kernel7Ideal := fun m ρ _ => Cert.Kernel7Ideal.Gen.frame m ρ

/-- The same under the value claim's precondition. -/
theorem frame_kernel7Ideal_finite_rates : Cert.quiescent_Kernel7Ideal_pre_finite_rates := fun m ρ _ => Cert.Kernel7Ideal.Gen.frame m ρ

/-- The same of its reference, which declares no semaphore. -/
theorem frame_reference7Ideal : Cert.quiescent_Reference7Ideal := fun m ρ _ =>
  (θ_run Cert.Reference7Ideal.defs _ _).mono (fun r h => ⟨fun c => (h c).2.2.2, sem_eq_zero_of_no_sems (by decide) r.2⟩)
    (Cert.Reference7Ideal.Value.run (F := Ideal) m ρ)

/-- The same under the value claim's precondition. -/
theorem frame_reference7Ideal_finite_rates : Cert.quiescent_Reference7Ideal_pre_finite_rates := fun m ρ _ =>
  (θ_run Cert.Reference7Ideal.defs _ _).mono (fun r h => ⟨fun c => (h c).2.2.2, sem_eq_zero_of_no_sems (by decide) r.2⟩)
    (Cert.Reference7Ideal.Value.run (F := Ideal) m ρ)

/-- The state-space operators kernel and its reference end, of real rates, with equal results: the exit matrices and
    the two parts of the sixteenth powers. -/
theorem value7 : Cert.algebraic_Kernel7Ideal_Reference7Ideal_pre_finite_rates := by
  intro m g m' g' hpre hagree
  refine ⟨fun c => Cert.Kernel7Ideal.Value.exits m c, fun c => Cert.Kernel7Ideal.Value.lasts_re m c, fun c => Cert.Kernel7Ideal.Value.lasts_im m c, ?_, ?_⟩
  · refine (θ_run Cert.Kernel7Ideal.defs _ _).mono (fun r h c => ?_) (Cert.Kernel7Ideal.Value.run_blocks (F := Ideal) m g)
    have h := h c
    exact ⟨h.2.2.1.trans (Cert.Kernel7Ideal.Value.arr_10 m c), h.2.2.2.1.trans (Cert.Kernel7Ideal.Value.arr_11 m c), h.2.2.2.2.1.trans (Cert.Kernel7Ideal.Value.arr_12 m c), h.2.2.2.2.2⟩
  · refine (θ_run Cert.Reference7Ideal.defs _ _).mono (fun r h c => ⟨(h c).1.trans ?_, (h c).2.1.trans ?_, (h c).2.2.1.trans ?_, (h c).2.2.2⟩) (Cert.Reference7Ideal.Value.run (F := Ideal) m' g')
    · obtain ⟨a0, a1, a2, a3, a4, a5, a6, a7⟩ := hagree c
      obtain ⟨h0, h1, h2⟩ := Cert.S5Ops.reals _ _ _ _ _ _ _ _ (hpre c)
      refine (Cert.Reference7Ideal.Read.val_main_v67_eq (F := Ideal) _ _).trans ?_
      simp only [StableHlo.launchContents_devRef, a0, a1, a2, a3, a4, a5, a6, a7]
      funext y
      change Cert.Reference7Ideal.S32x256x256.Idx at y
      idx_vars y
      exact Cert.Reference7Ideal.Read.exit_apply _ _ _ _ _ h0 h1 h2 y0 y1 y2
    · obtain ⟨a0, a1, a2, a3, a4, a5, a6, a7⟩ := hagree c
      obtain ⟨h0, h1, h2⟩ := Cert.S5Ops.reals _ _ _ _ _ _ _ _ (hpre c)
      refine (Cert.Reference7Ideal.Read.val_main_v73_eq (F := Ideal) _ _ _).trans ?_
      simp only [StableHlo.launchContents_devRef, a0, a1, a2, a3, a4, a5, a6, a7]
      funext y
      change Cert.Reference7Ideal.S32x1x128.Idx at y
      idx_vars y
      obtain rfl : y1 = 0 := Subsingleton.elim _ _
      exact Cert.Reference7Ideal.Read.last_re _ _ _ h0 h1 h2 y0 y2
    · obtain ⟨a0, a1, a2, a3, a4, a5, a6, a7⟩ := hagree c
      obtain ⟨h0, h1, h2⟩ := Cert.S5Ops.reals _ _ _ _ _ _ _ _ (hpre c)
      refine (Cert.Reference7Ideal.Read.val_main_v79_eq (F := Ideal) _ _ _).trans ?_
      simp only [StableHlo.launchContents_devRef, a0, a1, a2, a3, a4, a5, a6, a7]
      funext y
      change Cert.Reference7Ideal.S32x1x128.Idx at y
      idx_vars y
      obtain rfl : y1 = 0 := Subsingleton.elim _ _
      exact Cert.Reference7Ideal.Read.last_im _ _ _ h0 h1 h2 y0 y2

/-- The certificate: the facts about the programs, the frames of the seven calls, and for each call the (empty) list of
    rewrites and the value claim. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Pre_in_range.Gen.facts, Cert.Pre_finite.Gen.facts, Cert.Pre_all_finite.Gen.facts, Cert.Pre_finite_rates.Gen.facts,
  frame_kernel, frame_kernelIdeal, frame_referenceIdeal, frame_kernel2, frame_kernel2Ideal, frame_reference2Ideal,
  frame_kernel3, frame_kernel3Ideal, frame_reference3Ideal, frame_kernel4, frame_kernel4Ideal, frame_reference4Ideal,
  frame_kernel5, frame_kernel5Ideal, frame_kernel5Ideal_finite, frame_reference5Ideal, frame_reference5Ideal_finite,
  frame_kernel6, frame_kernel6Ideal, frame_kernel6Ideal_all_finite, frame_reference6Ideal, frame_reference6Ideal_all_finite,
  frame_kernel7, frame_kernel7Ideal, frame_kernel7Ideal_finite_rates, frame_reference7Ideal, frame_reference7Ideal_finite_rates, trivial, value, trivial, value2, trivial, value3, trivial, value4, trivial, value5, trivial, value6, trivial, value7⟩

end Cert.Proof

end
